-- ==== Defs.lean ====
def Pre_InProjBwd (m : (ℓ : Loc Cert.InProjBwd.nD Cert.InProjBwd.τ Cert.InProjBwd.sig) → Buf (Elt Bits) ℓ) : Prop :=
  True

def Pre_InProjBwdIdeal (m : (ℓ : Loc Cert.InProjBwdIdeal.nD Cert.InProjBwdIdeal.τ Cert.InProjBwdIdeal.sig) → Buf (Elt Ideal) ℓ) : Prop :=
  True

def Pre_InProjBwdIdeal_in_proj_bwd_finite [hPre_in_proj_bwd_finite : Cert.Pre_in_proj_bwd_finite.Facts] (m : (ℓ : Loc Cert.InProjBwdIdeal.nD Cert.InProjBwdIdeal.τ Cert.InProjBwdIdeal.sig) → Buf (Elt Ideal) ℓ) : Prop :=
  ∀ c : Dev Cert.InProjBwdIdeal.nD,
    (Cert.Pre_in_proj_bwd_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4))).1 = (fun _ => 1#1)
    ∧ (Cert.Pre_in_proj_bwd_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4))).2.1 = (fun _ => 1#1)
    ∧ (Cert.Pre_in_proj_bwd_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4))).2.2.1 = (fun _ => 1#1)
    ∧ (Cert.Pre_in_proj_bwd_finite.fn (F := Ideal) (m ((c.tc : Thread Cert.InProjBwdIdeal.nD Cert.InProjBwdIdeal.τ).loc Cert.InProjBwdIdeal.main_arg0)) (m ((c.tc : Thread Cert.InProjBwdIdeal.nD Cert.InProjBwdIdeal.τ).loc Cert.InProjBwdIdeal.main_arg1)) (m ((c.tc : Thread Cert.InProjBwdIdeal.nD Cert.InProjBwdIdeal.τ).loc Cert.InProjBwdIdeal.main_arg2)) (m ((c.tc : Thread Cert.InProjBwdIdeal.nD Cert.InProjBwdIdeal.τ).loc Cert.InProjBwdIdeal.main_arg3)) (m ((c.tc : Thread Cert.InProjBwdIdeal.nD Cert.InProjBwdIdeal.τ).loc Cert.InProjBwdIdeal.main_arg4))).2.2.2 = (fun _ => 1#1)

def Pre_InProjBwdRefIdeal (m : (ℓ : Loc Cert.InProjBwdRefIdeal.nD Cert.InProjBwdRefIdeal.τ Cert.InProjBwdRefIdeal.sig) → Buf (Elt Ideal) ℓ) : Prop :=
  True

def Pre_InProjBwdRefIdeal_in_proj_bwd_finite [hPre_in_proj_bwd_finite : Cert.Pre_in_proj_bwd_finite.Facts] (m : (ℓ : Loc Cert.InProjBwdRefIdeal.nD Cert.InProjBwdRefIdeal.τ Cert.InProjBwdRefIdeal.sig) → Buf (Elt Ideal) ℓ) : Prop :=
  ∀ c : Dev Cert.InProjBwdRefIdeal.nD,
    (Cert.Pre_in_proj_bwd_finite.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4))).1 = (fun _ => 1#1)
    ∧ (Cert.Pre_in_proj_bwd_finite.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4))).2.1 = (fun _ => 1#1)
    ∧ (Cert.Pre_in_proj_bwd_finite.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4))).2.2.1 = (fun _ => 1#1)
    ∧ (Cert.Pre_in_proj_bwd_finite.fn (F := Ideal) (m ((c.tc : Thread Cert.InProjBwdRefIdeal.nD Cert.InProjBwdRefIdeal.τ).loc Cert.InProjBwdRefIdeal.main_arg0)) (m ((c.tc : Thread Cert.InProjBwdRefIdeal.nD Cert.InProjBwdRefIdeal.τ).loc Cert.InProjBwdRefIdeal.main_arg1)) (m ((c.tc : Thread Cert.InProjBwdRefIdeal.nD Cert.InProjBwdRefIdeal.τ).loc Cert.InProjBwdRefIdeal.main_arg2)) (m ((c.tc : Thread Cert.InProjBwdRefIdeal.nD Cert.InProjBwdRefIdeal.τ).loc Cert.InProjBwdRefIdeal.main_arg3)) (m ((c.tc : Thread Cert.InProjBwdRefIdeal.nD Cert.InProjBwdRefIdeal.τ).loc Cert.InProjBwdRefIdeal.main_arg4))).2.2.2 = (fun _ => 1#1)

def Pre_Mlp (m : (ℓ : Loc Cert.Mlp.nD Cert.Mlp.τ Cert.Mlp.sig) → Buf (Elt Bits) ℓ) : Prop :=
  True

def Pre_MlpIdeal (m : (ℓ : Loc Cert.MlpIdeal.nD Cert.MlpIdeal.τ Cert.MlpIdeal.sig) → Buf (Elt Ideal) ℓ) : Prop :=
  True

def Pre_MlpIdeal_mlp_finite [hPre_mlp_finite : Cert.Pre_mlp_finite.Facts] (m : (ℓ : Loc Cert.MlpIdeal.nD Cert.MlpIdeal.τ Cert.MlpIdeal.sig) → Buf (Elt Ideal) ℓ) : Prop :=
  ∀ c : Dev Cert.MlpIdeal.nD,
    (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))).1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))).2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))).2.2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))).2.2.2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))).2.2.2.2.1 = (fun _ => 1#1)
    ∧ (Cert.Pre_mlp_finite.fn (F := Ideal) (m ((c.tc : Thread Cert.MlpIdeal.nD Cert.MlpIdeal.τ).loc Cert.MlpIdeal.main_arg0)) (m ((c.tc : Thread Cert.MlpIdeal.nD Cert.MlpIdeal.τ).loc Cert.MlpIdeal.main_arg1)) (m ((c.tc : Thread Cert.MlpIdeal.nD Cert.MlpIdeal.τ).loc Cert.MlpIdeal.main_arg2)) (m ((c.tc : Thread Cert.MlpIdeal.nD Cert.MlpIdeal.τ).loc Cert.MlpIdeal.main_arg3)) (m ((c.tc : Thread Cert.MlpIdeal.nD Cert.MlpIdeal.τ).loc Cert.MlpIdeal.main_arg4)) (m ((c.tc : Thread Cert.MlpIdeal.nD Cert.MlpIdeal.τ).loc Cert.MlpIdeal.main_arg5))).2.2.2.2.2 = (fun _ => 1#1)

def Pre_MlpRefIdeal (m : (ℓ : Loc Cert.MlpRefIdeal.nD Cert.MlpRefIdeal.τ Cert.MlpRefIdeal.sig) → Buf (Elt Ideal) ℓ) : Prop :=
  True

def Pre_MlpRefIdeal_mlp_finite [hPre_mlp_finite : Cert.Pre_mlp_finite.Facts] (m : (ℓ : Loc Cert.MlpRefIdeal.nD Cert.MlpRefIdeal.τ Cert.MlpRefIdeal.sig) → Buf (Elt Ideal) ℓ) : Prop :=
  ∀ c : Dev Cert.MlpRefIdeal.nD,
    (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).2.2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).2.2.2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).2.2.2.2.1 = (fun _ => 1#1)
    ∧ (Cert.Pre_mlp_finite.fn (F := Ideal) (m ((c.tc : Thread Cert.MlpRefIdeal.nD Cert.MlpRefIdeal.τ).loc Cert.MlpRefIdeal.main_arg0)) (m ((c.tc : Thread Cert.MlpRefIdeal.nD Cert.MlpRefIdeal.τ).loc Cert.MlpRefIdeal.main_arg1)) (m ((c.tc : Thread Cert.MlpRefIdeal.nD Cert.MlpRefIdeal.τ).loc Cert.MlpRefIdeal.main_arg2)) (m ((c.tc : Thread Cert.MlpRefIdeal.nD Cert.MlpRefIdeal.τ).loc Cert.MlpRefIdeal.main_arg3)) (m ((c.tc : Thread Cert.MlpRefIdeal.nD Cert.MlpRefIdeal.τ).loc Cert.MlpRefIdeal.main_arg4)) (m ((c.tc : Thread Cert.MlpRefIdeal.nD Cert.MlpRefIdeal.τ).loc Cert.MlpRefIdeal.main_arg5))).2.2.2.2.2 = (fun _ => 1#1)

def Pre_MergeBwd (m : (ℓ : Loc Cert.MergeBwd.nD Cert.MergeBwd.τ Cert.MergeBwd.sig) → Buf (Elt Bits) ℓ) : Prop :=
  True

def Pre_MergeBwdIdeal (m : (ℓ : Loc Cert.MergeBwdIdeal.nD Cert.MergeBwdIdeal.τ Cert.MergeBwdIdeal.sig) → Buf (Elt Ideal) ℓ) : Prop :=
  True

def Pre_MergeBwdIdeal_merge_bwd_finite [hPre_merge_bwd_finite : Cert.Pre_merge_bwd_finite.Facts] (m : (ℓ : Loc Cert.MergeBwdIdeal.nD Cert.MergeBwdIdeal.τ Cert.MergeBwdIdeal.sig) → Buf (Elt Ideal) ℓ) : Prop :=
  ∀ c : Dev Cert.MergeBwdIdeal.nD,
    (Cert.Pre_merge_bwd_finite.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5)) (m ((c.tc : Thread Cert.MergeBwdIdeal.nD Cert.MergeBwdIdeal.τ).loc Cert.MergeBwdIdeal.main_arg6)) (m ((c.tc : Thread Cert.MergeBwdIdeal.nD Cert.MergeBwdIdeal.τ).loc Cert.MergeBwdIdeal.main_arg7)) (m ((c.tc : Thread Cert.MergeBwdIdeal.nD Cert.MergeBwdIdeal.τ).loc Cert.MergeBwdIdeal.main_arg8))).1 = (fun _ => 1#1)
    ∧ (Cert.Pre_merge_bwd_finite.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5)) (m ((c.tc : Thread Cert.MergeBwdIdeal.nD Cert.MergeBwdIdeal.τ).loc Cert.MergeBwdIdeal.main_arg6)) (m ((c.tc : Thread Cert.MergeBwdIdeal.nD Cert.MergeBwdIdeal.τ).loc Cert.MergeBwdIdeal.main_arg7)) (m ((c.tc : Thread Cert.MergeBwdIdeal.nD Cert.MergeBwdIdeal.τ).loc Cert.MergeBwdIdeal.main_arg8))).2.1 = (fun _ => 1#1)
    ∧ (Cert.Pre_merge_bwd_finite.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5)) (m ((c.tc : Thread Cert.MergeBwdIdeal.nD Cert.MergeBwdIdeal.τ).loc Cert.MergeBwdIdeal.main_arg6)) (m ((c.tc : Thread Cert.MergeBwdIdeal.nD Cert.MergeBwdIdeal.τ).loc Cert.MergeBwdIdeal.main_arg7)) (m ((c.tc : Thread Cert.MergeBwdIdeal.nD Cert.MergeBwdIdeal.τ).loc Cert.MergeBwdIdeal.main_arg8))).2.2.1 = (fun _ => 1#1)
    ∧ (Cert.Pre_merge_bwd_finite.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5)) (m ((c.tc : Thread Cert.MergeBwdIdeal.nD Cert.MergeBwdIdeal.τ).loc Cert.MergeBwdIdeal.main_arg6)) (m ((c.tc : Thread Cert.MergeBwdIdeal.nD Cert.MergeBwdIdeal.τ).loc Cert.MergeBwdIdeal.main_arg7)) (m ((c.tc : Thread Cert.MergeBwdIdeal.nD Cert.MergeBwdIdeal.τ).loc Cert.MergeBwdIdeal.main_arg8))).2.2.2.1 = (fun _ => 1#1)
    ∧ (Cert.Pre_merge_bwd_finite.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5)) (m ((c.tc : Thread Cert.MergeBwdIdeal.nD Cert.MergeBwdIdeal.τ).loc Cert.MergeBwdIdeal.main_arg6)) (m ((c.tc : Thread Cert.MergeBwdIdeal.nD Cert.MergeBwdIdeal.τ).loc Cert.MergeBwdIdeal.main_arg7)) (m ((c.tc : Thread Cert.MergeBwdIdeal.nD Cert.MergeBwdIdeal.τ).loc Cert.MergeBwdIdeal.main_arg8))).2.2.2.2.1 = (fun _ => 1#1)
    ∧ (Cert.Pre_merge_bwd_finite.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5)) (m ((c.tc : Thread Cert.MergeBwdIdeal.nD Cert.MergeBwdIdeal.τ).loc Cert.MergeBwdIdeal.main_arg6)) (m ((c.tc : Thread Cert.MergeBwdIdeal.nD Cert.MergeBwdIdeal.τ).loc Cert.MergeBwdIdeal.main_arg7)) (m ((c.tc : Thread Cert.MergeBwdIdeal.nD Cert.MergeBwdIdeal.τ).loc Cert.MergeBwdIdeal.main_arg8))).2.2.2.2.2.1 = (fun _ => 1#1)
    ∧ (Cert.Pre_merge_bwd_finite.fn (F := Ideal) (m ((c.tc : Thread Cert.MergeBwdIdeal.nD Cert.MergeBwdIdeal.τ).loc Cert.MergeBwdIdeal.main_arg0)) (m ((c.tc : Thread Cert.MergeBwdIdeal.nD Cert.MergeBwdIdeal.τ).loc Cert.MergeBwdIdeal.main_arg1)) (m ((c.tc : Thread Cert.MergeBwdIdeal.nD Cert.MergeBwdIdeal.τ).loc Cert.MergeBwdIdeal.main_arg2)) (m ((c.tc : Thread Cert.MergeBwdIdeal.nD Cert.MergeBwdIdeal.τ).loc Cert.MergeBwdIdeal.main_arg3)) (m ((c.tc : Thread Cert.MergeBwdIdeal.nD Cert.MergeBwdIdeal.τ).loc Cert.MergeBwdIdeal.main_arg4)) (m ((c.tc : Thread Cert.MergeBwdIdeal.nD Cert.MergeBwdIdeal.τ).loc Cert.MergeBwdIdeal.main_arg5)) (m ((c.tc : Thread Cert.MergeBwdIdeal.nD Cert.MergeBwdIdeal.τ).loc Cert.MergeBwdIdeal.main_arg6)) (m ((c.tc : Thread Cert.MergeBwdIdeal.nD Cert.MergeBwdIdeal.τ).loc Cert.MergeBwdIdeal.main_arg7)) (m ((c.tc : Thread Cert.MergeBwdIdeal.nD Cert.MergeBwdIdeal.τ).loc Cert.MergeBwdIdeal.main_arg8))).2.2.2.2.2.2 = (fun _ => 1#1)

def Pre_MergeBwdRefIdeal (m : (ℓ : Loc Cert.MergeBwdRefIdeal.nD Cert.MergeBwdRefIdeal.τ Cert.MergeBwdRefIdeal.sig) → Buf (Elt Ideal) ℓ) : Prop :=
  True

def Pre_MergeBwdRefIdeal_merge_bwd_finite [hPre_merge_bwd_finite : Cert.Pre_merge_bwd_finite.Facts] (m : (ℓ : Loc Cert.MergeBwdRefIdeal.nD Cert.MergeBwdRefIdeal.τ Cert.MergeBwdRefIdeal.sig) → Buf (Elt Ideal) ℓ) : Prop :=
  ∀ c : Dev Cert.MergeBwdRefIdeal.nD,
    (Cert.Pre_merge_bwd_finite.fn (F := Ideal) (m ((c.tc : Thread Cert.MergeBwdRefIdeal.nD Cert.MergeBwdRefIdeal.τ).loc Cert.MergeBwdRefIdeal.main_arg0)) (m ((c.tc : Thread Cert.MergeBwdRefIdeal.nD Cert.MergeBwdRefIdeal.τ).loc Cert.MergeBwdRefIdeal.main_arg1)) (m ((c.tc : Thread Cert.MergeBwdRefIdeal.nD Cert.MergeBwdRefIdeal.τ).loc Cert.MergeBwdRefIdeal.main_arg2)) (m ((c.tc : Thread Cert.MergeBwdRefIdeal.nD Cert.MergeBwdRefIdeal.τ).loc Cert.MergeBwdRefIdeal.main_arg3)) (m ((c.tc : Thread Cert.MergeBwdRefIdeal.nD Cert.MergeBwdRefIdeal.τ).loc Cert.MergeBwdRefIdeal.main_arg4)) (m ((c.tc : Thread Cert.MergeBwdRefIdeal.nD Cert.MergeBwdRefIdeal.τ).loc Cert.MergeBwdRefIdeal.main_arg5)) (m ((c.tc : Thread Cert.MergeBwdRefIdeal.nD Cert.MergeBwdRefIdeal.τ).loc Cert.MergeBwdRefIdeal.main_arg6)) (m ((c.tc : Thread Cert.MergeBwdRefIdeal.nD Cert.MergeBwdRefIdeal.τ).loc Cert.MergeBwdRefIdeal.main_arg7)) (m ((c.tc : Thread Cert.MergeBwdRefIdeal.nD Cert.MergeBwdRefIdeal.τ).loc Cert.MergeBwdRefIdeal.main_arg8))).1 = (fun _ => 1#1)
    ∧ (Cert.Pre_merge_bwd_finite.fn (F := Ideal) (m ((c.tc : Thread Cert.MergeBwdRefIdeal.nD Cert.MergeBwdRefIdeal.τ).loc Cert.MergeBwdRefIdeal.main_arg0)) (m ((c.tc : Thread Cert.MergeBwdRefIdeal.nD Cert.MergeBwdRefIdeal.τ).loc Cert.MergeBwdRefIdeal.main_arg1)) (m ((c.tc : Thread Cert.MergeBwdRefIdeal.nD Cert.MergeBwdRefIdeal.τ).loc Cert.MergeBwdRefIdeal.main_arg2)) (m ((c.tc : Thread Cert.MergeBwdRefIdeal.nD Cert.MergeBwdRefIdeal.τ).loc Cert.MergeBwdRefIdeal.main_arg3)) (m ((c.tc : Thread Cert.MergeBwdRefIdeal.nD Cert.MergeBwdRefIdeal.τ).loc Cert.MergeBwdRefIdeal.main_arg4)) (m ((c.tc : Thread Cert.MergeBwdRefIdeal.nD Cert.MergeBwdRefIdeal.τ).loc Cert.MergeBwdRefIdeal.main_arg5)) (m ((c.tc : Thread Cert.MergeBwdRefIdeal.nD Cert.MergeBwdRefIdeal.τ).loc Cert.MergeBwdRefIdeal.main_arg6)) (m ((c.tc : Thread Cert.MergeBwdRefIdeal.nD Cert.MergeBwdRefIdeal.τ).loc Cert.MergeBwdRefIdeal.main_arg7)) (m ((c.tc : Thread Cert.MergeBwdRefIdeal.nD Cert.MergeBwdRefIdeal.τ).loc Cert.MergeBwdRefIdeal.main_arg8))).2.1 = (fun _ => 1#1)
    ∧ (Cert.Pre_merge_bwd_finite.fn (F := Ideal) (m ((c.tc : Thread Cert.MergeBwdRefIdeal.nD Cert.MergeBwdRefIdeal.τ).loc Cert.MergeBwdRefIdeal.main_arg0)) (m ((c.tc : Thread Cert.MergeBwdRefIdeal.nD Cert.MergeBwdRefIdeal.τ).loc Cert.MergeBwdRefIdeal.main_arg1)) (m ((c.tc : Thread Cert.MergeBwdRefIdeal.nD Cert.MergeBwdRefIdeal.τ).loc Cert.MergeBwdRefIdeal.main_arg2)) (m ((c.tc : Thread Cert.MergeBwdRefIdeal.nD Cert.MergeBwdRefIdeal.τ).loc Cert.MergeBwdRefIdeal.main_arg3)) (m ((c.tc : Thread Cert.MergeBwdRefIdeal.nD Cert.MergeBwdRefIdeal.τ).loc Cert.MergeBwdRefIdeal.main_arg4)) (m ((c.tc : Thread Cert.MergeBwdRefIdeal.nD Cert.MergeBwdRefIdeal.τ).loc Cert.MergeBwdRefIdeal.main_arg5)) (m ((c.tc : Thread Cert.MergeBwdRefIdeal.nD Cert.MergeBwdRefIdeal.τ).loc Cert.MergeBwdRefIdeal.main_arg6)) (m ((c.tc : Thread Cert.MergeBwdRefIdeal.nD Cert.MergeBwdRefIdeal.τ).loc Cert.MergeBwdRefIdeal.main_arg7)) (m ((c.tc : Thread Cert.MergeBwdRefIdeal.nD Cert.MergeBwdRefIdeal.τ).loc Cert.MergeBwdRefIdeal.main_arg8))).2.2.1 = (fun _ => 1#1)
    ∧ (Cert.Pre_merge_bwd_finite.fn (F := Ideal) (m ((c.tc : Thread Cert.MergeBwdRefIdeal.nD Cert.MergeBwdRefIdeal.τ).loc Cert.MergeBwdRefIdeal.main_arg0)) (m ((c.tc : Thread Cert.MergeBwdRefIdeal.nD Cert.MergeBwdRefIdeal.τ).loc Cert.MergeBwdRefIdeal.main_arg1)) (m ((c.tc : Thread Cert.MergeBwdRefIdeal.nD Cert.MergeBwdRefIdeal.τ).loc Cert.MergeBwdRefIdeal.main_arg2)) (m ((c.tc : Thread Cert.MergeBwdRefIdeal.nD Cert.MergeBwdRefIdeal.τ).loc Cert.MergeBwdRefIdeal.main_arg3)) (m ((c.tc : Thread Cert.MergeBwdRefIdeal.nD Cert.MergeBwdRefIdeal.τ).loc Cert.MergeBwdRefIdeal.main_arg4)) (m ((c.tc : Thread Cert.MergeBwdRefIdeal.nD Cert.MergeBwdRefIdeal.τ).loc Cert.MergeBwdRefIdeal.main_arg5)) (m ((c.tc : Thread Cert.MergeBwdRefIdeal.nD Cert.MergeBwdRefIdeal.τ).loc Cert.MergeBwdRefIdeal.main_arg6)) (m ((c.tc : Thread Cert.MergeBwdRefIdeal.nD Cert.MergeBwdRefIdeal.τ).loc Cert.MergeBwdRefIdeal.main_arg7)) (m ((c.tc : Thread Cert.MergeBwdRefIdeal.nD Cert.MergeBwdRefIdeal.τ).loc Cert.MergeBwdRefIdeal.main_arg8))).2.2.2.1 = (fun _ => 1#1)
    ∧ (Cert.Pre_merge_bwd_finite.fn (F := Ideal) (m ((c.tc : Thread Cert.MergeBwdRefIdeal.nD Cert.MergeBwdRefIdeal.τ).loc Cert.MergeBwdRefIdeal.main_arg0)) (m ((c.tc : Thread Cert.MergeBwdRefIdeal.nD Cert.MergeBwdRefIdeal.τ).loc Cert.MergeBwdRefIdeal.main_arg1)) (m ((c.tc : Thread Cert.MergeBwdRefIdeal.nD Cert.MergeBwdRefIdeal.τ).loc Cert.MergeBwdRefIdeal.main_arg2)) (m ((c.tc : Thread Cert.MergeBwdRefIdeal.nD Cert.MergeBwdRefIdeal.τ).loc Cert.MergeBwdRefIdeal.main_arg3)) (m ((c.tc : Thread Cert.MergeBwdRefIdeal.nD Cert.MergeBwdRefIdeal.τ).loc Cert.MergeBwdRefIdeal.main_arg4)) (m ((c.tc : Thread Cert.MergeBwdRefIdeal.nD Cert.MergeBwdRefIdeal.τ).loc Cert.MergeBwdRefIdeal.main_arg5)) (m ((c.tc : Thread Cert.MergeBwdRefIdeal.nD Cert.MergeBwdRefIdeal.τ).loc Cert.MergeBwdRefIdeal.main_arg6)) (m ((c.tc : Thread Cert.MergeBwdRefIdeal.nD Cert.MergeBwdRefIdeal.τ).loc Cert.MergeBwdRefIdeal.main_arg7)) (m ((c.tc : Thread Cert.MergeBwdRefIdeal.nD Cert.MergeBwdRefIdeal.τ).loc Cert.MergeBwdRefIdeal.main_arg8))).2.2.2.2.1 = (fun _ => 1#1)
    ∧ (Cert.Pre_merge_bwd_finite.fn (F := Ideal) (m ((c.tc : Thread Cert.MergeBwdRefIdeal.nD Cert.MergeBwdRefIdeal.τ).loc Cert.MergeBwdRefIdeal.main_arg0)) (m ((c.tc : Thread Cert.MergeBwdRefIdeal.nD Cert.MergeBwdRefIdeal.τ).loc Cert.MergeBwdRefIdeal.main_arg1)) (m ((c.tc : Thread Cert.MergeBwdRefIdeal.nD Cert.MergeBwdRefIdeal.τ).loc Cert.MergeBwdRefIdeal.main_arg2)) (m ((c.tc : Thread Cert.MergeBwdRefIdeal.nD Cert.MergeBwdRefIdeal.τ).loc Cert.MergeBwdRefIdeal.main_arg3)) (m ((c.tc : Thread Cert.MergeBwdRefIdeal.nD Cert.MergeBwdRefIdeal.τ).loc Cert.MergeBwdRefIdeal.main_arg4)) (m ((c.tc : Thread Cert.MergeBwdRefIdeal.nD Cert.MergeBwdRefIdeal.τ).loc Cert.MergeBwdRefIdeal.main_arg5)) (m ((c.tc : Thread Cert.MergeBwdRefIdeal.nD Cert.MergeBwdRefIdeal.τ).loc Cert.MergeBwdRefIdeal.main_arg6)) (m ((c.tc : Thread Cert.MergeBwdRefIdeal.nD Cert.MergeBwdRefIdeal.τ).loc Cert.MergeBwdRefIdeal.main_arg7)) (m ((c.tc : Thread Cert.MergeBwdRefIdeal.nD Cert.MergeBwdRefIdeal.τ).loc Cert.MergeBwdRefIdeal.main_arg8))).2.2.2.2.2.1 = (fun _ => 1#1)
    ∧ (Cert.Pre_merge_bwd_finite.fn (F := Ideal) (m ((c.tc : Thread Cert.MergeBwdRefIdeal.nD Cert.MergeBwdRefIdeal.τ).loc Cert.MergeBwdRefIdeal.main_arg0)) (m ((c.tc : Thread Cert.MergeBwdRefIdeal.nD Cert.MergeBwdRefIdeal.τ).loc Cert.MergeBwdRefIdeal.main_arg1)) (m ((c.tc : Thread Cert.MergeBwdRefIdeal.nD Cert.MergeBwdRefIdeal.τ).loc Cert.MergeBwdRefIdeal.main_arg2)) (m ((c.tc : Thread Cert.MergeBwdRefIdeal.nD Cert.MergeBwdRefIdeal.τ).loc Cert.MergeBwdRefIdeal.main_arg3)) (m ((c.tc : Thread Cert.MergeBwdRefIdeal.nD Cert.MergeBwdRefIdeal.τ).loc Cert.MergeBwdRefIdeal.main_arg4)) (m ((c.tc : Thread Cert.MergeBwdRefIdeal.nD Cert.MergeBwdRefIdeal.τ).loc Cert.MergeBwdRefIdeal.main_arg5)) (m ((c.tc : Thread Cert.MergeBwdRefIdeal.nD Cert.MergeBwdRefIdeal.τ).loc Cert.MergeBwdRefIdeal.main_arg6)) (m ((c.tc : Thread Cert.MergeBwdRefIdeal.nD Cert.MergeBwdRefIdeal.τ).loc Cert.MergeBwdRefIdeal.main_arg7)) (m ((c.tc : Thread Cert.MergeBwdRefIdeal.nD Cert.MergeBwdRefIdeal.τ).loc Cert.MergeBwdRefIdeal.main_arg8))).2.2.2.2.2.2 = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpRefIdeal (m : (ℓ : Loc Cert.DwUpRefIdeal.nD Cert.DwUpRefIdeal.τ Cert.DwUpRefIdeal.sig) → Buf (Elt Ideal) ℓ) : Prop :=
  True

def Pre_AdamwBig (m : (ℓ : Loc Cert.AdamwBig.nD Cert.AdamwBig.τ Cert.AdamwBig.sig) → Buf (Elt Bits) ℓ) : Prop :=
  True

def Pre_AdamwBigIdeal (m : (ℓ : Loc Cert.AdamwBigIdeal.nD Cert.AdamwBigIdeal.τ Cert.AdamwBigIdeal.sig) → Buf (Elt Ideal) ℓ) : Prop :=
  True

def Pre_AdamwBigRefIdeal (m : (ℓ : Loc Cert.AdamwBigRefIdeal.nD Cert.AdamwBigRefIdeal.τ Cert.AdamwBigRefIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallRefIdeal (m : (ℓ : Loc Cert.AdamwSmallRefIdeal.nD Cert.AdamwSmallRefIdeal.τ Cert.AdamwSmallRefIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInRefIdeal (m : (ℓ : Loc Cert.DwInRefIdeal.nD Cert.DwInRefIdeal.τ Cert.DwInRefIdeal.sig) → Buf (Elt Ideal) ℓ) : Prop :=
  True

def Pre_MixerFwd (m : (ℓ : Loc Cert.MixerFwd.nD Cert.MixerFwd.τ Cert.MixerFwd.sig) → Buf (Elt Bits) ℓ) : Prop :=
  True

def Pre_MixerFwdIdeal (m : (ℓ : Loc Cert.MixerFwdIdeal.nD Cert.MixerFwdIdeal.τ Cert.MixerFwdIdeal.sig) → Buf (Elt Ideal) ℓ) : Prop :=
  True

def quiescent_InProjBwd [hInProjBwd : Cert.InProjBwd.Facts] : Prop :=
  ∀ (m : (ℓ : Loc Cert.InProjBwd.nD Cert.InProjBwd.τ Cert.InProjBwd.sig) → Buf (Elt Bits) ℓ) (g : Dev Cert.InProjBwd.nD → PrngReg), Pre_InProjBwd m →
    θ_run (Cert.InProjBwd.defs (F := Bits)) (onTc (τ := Cert.InProjBwd.τ) (Cert.InProjBwd.main (F := Bits))) ⟨m, fun _ => 0, g⟩ (fun r => (∀ c : Dev Cert.InProjBwd.nD,
      r.2.mem ((c.tc : Thread Cert.InProjBwd.nD Cert.InProjBwd.τ).loc Cert.InProjBwd.main_arg0) = m ((c.tc : Thread Cert.InProjBwd.nD Cert.InProjBwd.τ).loc Cert.InProjBwd.main_arg0)
      ∧ r.2.mem ((c.tc : Thread Cert.InProjBwd.nD Cert.InProjBwd.τ).loc Cert.InProjBwd.main_arg1) = m ((c.tc : Thread Cert.InProjBwd.nD Cert.InProjBwd.τ).loc Cert.InProjBwd.main_arg1)
      ∧ r.2.mem ((c.tc : Thread Cert.InProjBwd.nD Cert.InProjBwd.τ).loc Cert.InProjBwd.main_arg2) = m ((c.tc : Thread Cert.InProjBwd.nD Cert.InProjBwd.τ).loc Cert.InProjBwd.main_arg2)
      ∧ r.2.mem ((c.tc : Thread Cert.InProjBwd.nD Cert.InProjBwd.τ).loc Cert.InProjBwd.main_arg3) = m ((c.tc : Thread Cert.InProjBwd.nD Cert.InProjBwd.τ).loc Cert.InProjBwd.main_arg3)
      ∧ r.2.mem ((c.tc : Thread Cert.InProjBwd.nD Cert.InProjBwd.τ).loc Cert.InProjBwd.main_arg4) = m ((c.tc : Thread Cert.InProjBwd.nD Cert.InProjBwd.τ).loc Cert.InProjBwd.main_arg4))
      ∧ r.2.sem = fun _ => 0)

def quiescent_InProjBwdIdeal [hInProjBwdIdeal : Cert.InProjBwdIdeal.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg), Pre_InProjBwdIdeal m →
    θ_run (Cert.InProjBwdIdeal.defs (F := Ideal)) (onTc (τ := Cert.InProjBwdIdeal.τ) (Cert.InProjBwdIdeal.main (F := Ideal))) ⟨m, fun _ => 0, g⟩ (fun r => (∀ c : Dev Cert.InProjBwdIdeal.nD,
      r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
      ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
      ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
      ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
      ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4))
      ∧ r.2.sem = fun _ => 0)

def quiescent_InProjBwdIdeal_pre_in_proj_bwd_finite [hInProjBwdIdeal : Cert.InProjBwdIdeal.Facts] [hPre_in_proj_bwd_finite : Cert.Pre_in_proj_bwd_finite.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg), Pre_InProjBwdIdeal_in_proj_bwd_finite m →
    θ_run (Cert.InProjBwdIdeal.defs (F := Ideal)) (onTc (τ := Cert.InProjBwdIdeal.τ) (Cert.InProjBwdIdeal.main (F := Ideal))) ⟨m, fun _ => 0, g⟩ (fun r => (∀ c : Dev Cert.InProjBwdIdeal.nD,
      r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
      ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
      ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
      ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
      ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4))
      ∧ r.2.sem = fun _ => 0)

def quiescent_InProjBwdRefIdeal [hInProjBwdRefIdeal : Cert.InProjBwdRefIdeal.Facts] : Prop :=
  ∀ (m : (ℓ : Loc Cert.InProjBwdRefIdeal.nD Cert.InProjBwdRefIdeal.τ Cert.InProjBwdRefIdeal.sig) → Buf (Elt Ideal) ℓ) (g : Dev Cert.InProjBwdRefIdeal.nD → PrngReg), Pre_InProjBwdRefIdeal m →
    θ_run (Cert.InProjBwdRefIdeal.defs (F := Ideal)) (onTc (τ := Cert.InProjBwdRefIdeal.τ) (Cert.InProjBwdRefIdeal.main (F := Ideal))) ⟨m, fun _ => 0, g⟩ (fun r => (∀ c : Dev Cert.InProjBwdRefIdeal.nD,
      r.2.mem ((c.tc : Thread Cert.InProjBwdRefIdeal.nD Cert.InProjBwdRefIdeal.τ).loc Cert.InProjBwdRefIdeal.main_arg0) = m ((c.tc : Thread Cert.InProjBwdRefIdeal.nD Cert.InProjBwdRefIdeal.τ).loc Cert.InProjBwdRefIdeal.main_arg0)
      ∧ r.2.mem ((c.tc : Thread Cert.InProjBwdRefIdeal.nD Cert.InProjBwdRefIdeal.τ).loc Cert.InProjBwdRefIdeal.main_arg1) = m ((c.tc : Thread Cert.InProjBwdRefIdeal.nD Cert.InProjBwdRefIdeal.τ).loc Cert.InProjBwdRefIdeal.main_arg1)
      ∧ r.2.mem ((c.tc : Thread Cert.InProjBwdRefIdeal.nD Cert.InProjBwdRefIdeal.τ).loc Cert.InProjBwdRefIdeal.main_arg2) = m ((c.tc : Thread Cert.InProjBwdRefIdeal.nD Cert.InProjBwdRefIdeal.τ).loc Cert.InProjBwdRefIdeal.main_arg2)
      ∧ r.2.mem ((c.tc : Thread Cert.InProjBwdRefIdeal.nD Cert.InProjBwdRefIdeal.τ).loc Cert.InProjBwdRefIdeal.main_arg3) = m ((c.tc : Thread Cert.InProjBwdRefIdeal.nD Cert.InProjBwdRefIdeal.τ).loc Cert.InProjBwdRefIdeal.main_arg3)
      ∧ r.2.mem ((c.tc : Thread Cert.InProjBwdRefIdeal.nD Cert.InProjBwdRefIdeal.τ).loc Cert.InProjBwdRefIdeal.main_arg4) = m ((c.tc : Thread Cert.InProjBwdRefIdeal.nD Cert.InProjBwdRefIdeal.τ).loc Cert.InProjBwdRefIdeal.main_arg4))
      ∧ r.2.sem = fun _ => 0)

def quiescent_InProjBwdRefIdeal_pre_in_proj_bwd_finite [hInProjBwdRefIdeal : Cert.InProjBwdRefIdeal.Facts] [hPre_in_proj_bwd_finite : Cert.Pre_in_proj_bwd_finite.Facts] : Prop :=
  ∀ (m : (ℓ : Loc Cert.InProjBwdRefIdeal.nD Cert.InProjBwdRefIdeal.τ Cert.InProjBwdRefIdeal.sig) → Buf (Elt Ideal) ℓ) (g : Dev Cert.InProjBwdRefIdeal.nD → PrngReg), Pre_InProjBwdRefIdeal_in_proj_bwd_finite m →
    θ_run (Cert.InProjBwdRefIdeal.defs (F := Ideal)) (onTc (τ := Cert.InProjBwdRefIdeal.τ) (Cert.InProjBwdRefIdeal.main (F := Ideal))) ⟨m, fun _ => 0, g⟩ (fun r => (∀ c : Dev Cert.InProjBwdRefIdeal.nD,
      r.2.mem ((c.tc : Thread Cert.InProjBwdRefIdeal.nD Cert.InProjBwdRefIdeal.τ).loc Cert.InProjBwdRefIdeal.main_arg0) = m ((c.tc : Thread Cert.InProjBwdRefIdeal.nD Cert.InProjBwdRefIdeal.τ).loc Cert.InProjBwdRefIdeal.main_arg0)
      ∧ r.2.mem ((c.tc : Thread Cert.InProjBwdRefIdeal.nD Cert.InProjBwdRefIdeal.τ).loc Cert.InProjBwdRefIdeal.main_arg1) = m ((c.tc : Thread Cert.InProjBwdRefIdeal.nD Cert.InProjBwdRefIdeal.τ).loc Cert.InProjBwdRefIdeal.main_arg1)
      ∧ r.2.mem ((c.tc : Thread Cert.InProjBwdRefIdeal.nD Cert.InProjBwdRefIdeal.τ).loc Cert.InProjBwdRefIdeal.main_arg2) = m ((c.tc : Thread Cert.InProjBwdRefIdeal.nD Cert.InProjBwdRefIdeal.τ).loc Cert.InProjBwdRefIdeal.main_arg2)
      ∧ r.2.mem ((c.tc : Thread Cert.InProjBwdRefIdeal.nD Cert.InProjBwdRefIdeal.τ).loc Cert.InProjBwdRefIdeal.main_arg3) = m ((c.tc : Thread Cert.InProjBwdRefIdeal.nD Cert.InProjBwdRefIdeal.τ).loc Cert.InProjBwdRefIdeal.main_arg3)
      ∧ r.2.mem ((c.tc : Thread Cert.InProjBwdRefIdeal.nD Cert.InProjBwdRefIdeal.τ).loc Cert.InProjBwdRefIdeal.main_arg4) = m ((c.tc : Thread Cert.InProjBwdRefIdeal.nD Cert.InProjBwdRefIdeal.τ).loc Cert.InProjBwdRefIdeal.main_arg4))
      ∧ r.2.sem = fun _ => 0)

def quiescent_Mlp [hMlp : Cert.Mlp.Facts] : Prop :=
  ∀ (m : (ℓ : Loc Cert.Mlp.nD Cert.Mlp.τ Cert.Mlp.sig) → Buf (Elt Bits) ℓ) (g : Dev Cert.Mlp.nD → PrngReg), Pre_Mlp m →
    θ_run (Cert.Mlp.defs (F := Bits)) (onTc (τ := Cert.Mlp.τ) (Cert.Mlp.main (F := Bits))) ⟨m, fun _ => 0, g⟩ (fun r => (∀ c : Dev Cert.Mlp.nD,
      r.2.mem ((c.tc : Thread Cert.Mlp.nD Cert.Mlp.τ).loc Cert.Mlp.main_arg0) = m ((c.tc : Thread Cert.Mlp.nD Cert.Mlp.τ).loc Cert.Mlp.main_arg0)
      ∧ r.2.mem ((c.tc : Thread Cert.Mlp.nD Cert.Mlp.τ).loc Cert.Mlp.main_arg1) = m ((c.tc : Thread Cert.Mlp.nD Cert.Mlp.τ).loc Cert.Mlp.main_arg1)
      ∧ r.2.mem ((c.tc : Thread Cert.Mlp.nD Cert.Mlp.τ).loc Cert.Mlp.main_arg2) = m ((c.tc : Thread Cert.Mlp.nD Cert.Mlp.τ).loc Cert.Mlp.main_arg2)
      ∧ r.2.mem ((c.tc : Thread Cert.Mlp.nD Cert.Mlp.τ).loc Cert.Mlp.main_arg3) = m ((c.tc : Thread Cert.Mlp.nD Cert.Mlp.τ).loc Cert.Mlp.main_arg3)
      ∧ r.2.mem ((c.tc : Thread Cert.Mlp.nD Cert.Mlp.τ).loc Cert.Mlp.main_arg4) = m ((c.tc : Thread Cert.Mlp.nD Cert.Mlp.τ).loc Cert.Mlp.main_arg4)
      ∧ r.2.mem ((c.tc : Thread Cert.Mlp.nD Cert.Mlp.τ).loc Cert.Mlp.main_arg5) = m ((c.tc : Thread Cert.Mlp.nD Cert.Mlp.τ).loc Cert.Mlp.main_arg5))
      ∧ r.2.sem = fun _ => 0)

def quiescent_MlpIdeal [hMlpIdeal : Cert.MlpIdeal.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpIdeal_pre_mlp_finite [hMlpIdeal : Cert.MlpIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg), Pre_MlpIdeal_mlp_finite m →
    θ_run (Cert.MlpIdeal.defs (F := Ideal)) (onTc (τ := Cert.MlpIdeal.τ) (Cert.MlpIdeal.main (F := Ideal))) ⟨m, fun _ => 0, g⟩ (fun r => (∀ c : Dev Cert.MlpIdeal.nD,
      r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
      ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
      ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
      ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
      ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
      ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ r.2.sem = fun _ => 0)

def quiescent_MlpRefIdeal [hMlpRefIdeal : Cert.MlpRefIdeal.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_MlpRefIdeal_pre_mlp_finite [hMlpRefIdeal : Cert.MlpRefIdeal.Facts] [hPre_mlp_finite : Cert.Pre_mlp_finite.Facts] : Prop :=
  ∀ (m : (ℓ : Loc Cert.MlpRefIdeal.nD Cert.MlpRefIdeal.τ Cert.MlpRefIdeal.sig) → Buf (Elt Ideal) ℓ) (g : Dev Cert.MlpRefIdeal.nD → PrngReg), Pre_MlpRefIdeal_mlp_finite m →
    θ_run (Cert.MlpRefIdeal.defs (F := Ideal)) (onTc (τ := Cert.MlpRefIdeal.τ) (Cert.MlpRefIdeal.main (F := Ideal))) ⟨m, fun _ => 0, g⟩ (fun r => (∀ c : Dev Cert.MlpRefIdeal.nD,
      r.2.mem ((c.tc : Thread Cert.MlpRefIdeal.nD Cert.MlpRefIdeal.τ).loc Cert.MlpRefIdeal.main_arg0) = m ((c.tc : Thread Cert.MlpRefIdeal.nD Cert.MlpRefIdeal.τ).loc Cert.MlpRefIdeal.main_arg0)
      ∧ r.2.mem ((c.tc : Thread Cert.MlpRefIdeal.nD Cert.MlpRefIdeal.τ).loc Cert.MlpRefIdeal.main_arg1) = m ((c.tc : Thread Cert.MlpRefIdeal.nD Cert.MlpRefIdeal.τ).loc Cert.MlpRefIdeal.main_arg1)
      ∧ r.2.mem ((c.tc : Thread Cert.MlpRefIdeal.nD Cert.MlpRefIdeal.τ).loc Cert.MlpRefIdeal.main_arg2) = m ((c.tc : Thread Cert.MlpRefIdeal.nD Cert.MlpRefIdeal.τ).loc Cert.MlpRefIdeal.main_arg2)
      ∧ r.2.mem ((c.tc : Thread Cert.MlpRefIdeal.nD Cert.MlpRefIdeal.τ).loc Cert.MlpRefIdeal.main_arg3) = m ((c.tc : Thread Cert.MlpRefIdeal.nD Cert.MlpRefIdeal.τ).loc Cert.MlpRefIdeal.main_arg3)
      ∧ r.2.mem ((c.tc : Thread Cert.MlpRefIdeal.nD Cert.MlpRefIdeal.τ).loc Cert.MlpRefIdeal.main_arg4) = m ((c.tc : Thread Cert.MlpRefIdeal.nD Cert.MlpRefIdeal.τ).loc Cert.MlpRefIdeal.main_arg4)
      ∧ r.2.mem ((c.tc : Thread Cert.MlpRefIdeal.nD Cert.MlpRefIdeal.τ).loc Cert.MlpRefIdeal.main_arg5) = m ((c.tc : Thread Cert.MlpRefIdeal.nD Cert.MlpRefIdeal.τ).loc Cert.MlpRefIdeal.main_arg5))
      ∧ r.2.sem = fun _ => 0)

def quiescent_MergeBwd [hMergeBwd : Cert.MergeBwd.Facts] : Prop :=
  ∀ (m : (ℓ : Loc Cert.MergeBwd.nD Cert.MergeBwd.τ Cert.MergeBwd.sig) → Buf (Elt Bits) ℓ) (g : Dev Cert.MergeBwd.nD → PrngReg), Pre_MergeBwd m →
    θ_run (Cert.MergeBwd.defs (F := Bits)) (onTc (τ := Cert.MergeBwd.τ) (Cert.MergeBwd.main (F := Bits))) ⟨m, fun _ => 0, g⟩ (fun r => (∀ c : Dev Cert.MergeBwd.nD,
      r.2.mem ((c.tc : Thread Cert.MergeBwd.nD Cert.MergeBwd.τ).loc Cert.MergeBwd.main_arg0) = m ((c.tc : Thread Cert.MergeBwd.nD Cert.MergeBwd.τ).loc Cert.MergeBwd.main_arg0)
      ∧ r.2.mem ((c.tc : Thread Cert.MergeBwd.nD Cert.MergeBwd.τ).loc Cert.MergeBwd.main_arg1) = m ((c.tc : Thread Cert.MergeBwd.nD Cert.MergeBwd.τ).loc Cert.MergeBwd.main_arg1)
      ∧ r.2.mem ((c.tc : Thread Cert.MergeBwd.nD Cert.MergeBwd.τ).loc Cert.MergeBwd.main_arg2) = m ((c.tc : Thread Cert.MergeBwd.nD Cert.MergeBwd.τ).loc Cert.MergeBwd.main_arg2)
      ∧ r.2.mem ((c.tc : Thread Cert.MergeBwd.nD Cert.MergeBwd.τ).loc Cert.MergeBwd.main_arg3) = m ((c.tc : Thread Cert.MergeBwd.nD Cert.MergeBwd.τ).loc Cert.MergeBwd.main_arg3)
      ∧ r.2.mem ((c.tc : Thread Cert.MergeBwd.nD Cert.MergeBwd.τ).loc Cert.MergeBwd.main_arg4) = m ((c.tc : Thread Cert.MergeBwd.nD Cert.MergeBwd.τ).loc Cert.MergeBwd.main_arg4)
      ∧ r.2.mem ((c.tc : Thread Cert.MergeBwd.nD Cert.MergeBwd.τ).loc Cert.MergeBwd.main_arg5) = m ((c.tc : Thread Cert.MergeBwd.nD Cert.MergeBwd.τ).loc Cert.MergeBwd.main_arg5)
      ∧ r.2.mem ((c.tc : Thread Cert.MergeBwd.nD Cert.MergeBwd.τ).loc Cert.MergeBwd.main_arg6) = m ((c.tc : Thread Cert.MergeBwd.nD Cert.MergeBwd.τ).loc Cert.MergeBwd.main_arg6)
      ∧ r.2.mem ((c.tc : Thread Cert.MergeBwd.nD Cert.MergeBwd.τ).loc Cert.MergeBwd.main_arg7) = m ((c.tc : Thread Cert.MergeBwd.nD Cert.MergeBwd.τ).loc Cert.MergeBwd.main_arg7)
      ∧ r.2.mem ((c.tc : Thread Cert.MergeBwd.nD Cert.MergeBwd.τ).loc Cert.MergeBwd.main_arg8) = m ((c.tc : Thread Cert.MergeBwd.nD Cert.MergeBwd.τ).loc Cert.MergeBwd.main_arg8))
      ∧ r.2.sem = fun _ => 0)

def quiescent_MergeBwdIdeal [hMergeBwdIdeal : Cert.MergeBwdIdeal.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
      ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7)
      ∧ r.2.mem ((c.tc : Thread Cert.MergeBwdIdeal.nD Cert.MergeBwdIdeal.τ).loc Cert.MergeBwdIdeal.main_arg8) = m ((c.tc : Thread Cert.MergeBwdIdeal.nD Cert.MergeBwdIdeal.τ).loc Cert.MergeBwdIdeal.main_arg8))
      ∧ r.2.sem = fun _ => 0)

def quiescent_MergeBwdIdeal_pre_merge_bwd_finite [hMergeBwdIdeal : Cert.MergeBwdIdeal.Facts] [hPre_merge_bwd_finite : Cert.Pre_merge_bwd_finite.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg), Pre_MergeBwdIdeal_merge_bwd_finite m →
    θ_run (Cert.MergeBwdIdeal.defs (F := Ideal)) (onTc (τ := Cert.MergeBwdIdeal.τ) (Cert.MergeBwdIdeal.main (F := Ideal))) ⟨m, fun _ => 0, g⟩ (fun r => (∀ c : Dev Cert.MergeBwdIdeal.nD,
      r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
      ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
      ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
      ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
      ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
      ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
      ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
      ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7)
      ∧ r.2.mem ((c.tc : Thread Cert.MergeBwdIdeal.nD Cert.MergeBwdIdeal.τ).loc Cert.MergeBwdIdeal.main_arg8) = m ((c.tc : Thread Cert.MergeBwdIdeal.nD Cert.MergeBwdIdeal.τ).loc Cert.MergeBwdIdeal.main_arg8))
      ∧ r.2.sem = fun _ => 0)

def quiescent_MergeBwdRefIdeal [hMergeBwdRefIdeal : Cert.MergeBwdRefIdeal.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5)
      ∧ r.2.mem ((c.tc : Thread Cert.MergeBwdRefIdeal.nD Cert.MergeBwdRefIdeal.τ).loc Cert.MergeBwdRefIdeal.main_arg6) = m ((c.tc : Thread Cert.MergeBwdRefIdeal.nD Cert.MergeBwdRefIdeal.τ).loc Cert.MergeBwdRefIdeal.main_arg6)
      ∧ r.2.mem ((c.tc : Thread Cert.MergeBwdRefIdeal.nD Cert.MergeBwdRefIdeal.τ).loc Cert.MergeBwdRefIdeal.main_arg7) = m ((c.tc : Thread Cert.MergeBwdRefIdeal.nD Cert.MergeBwdRefIdeal.τ).loc Cert.MergeBwdRefIdeal.main_arg7)
      ∧ r.2.mem ((c.tc : Thread Cert.MergeBwdRefIdeal.nD Cert.MergeBwdRefIdeal.τ).loc Cert.MergeBwdRefIdeal.main_arg8) = m ((c.tc : Thread Cert.MergeBwdRefIdeal.nD Cert.MergeBwdRefIdeal.τ).loc Cert.MergeBwdRefIdeal.main_arg8))
      ∧ r.2.sem = fun _ => 0)

def quiescent_MergeBwdRefIdeal_pre_merge_bwd_finite [hMergeBwdRefIdeal : Cert.MergeBwdRefIdeal.Facts] [hPre_merge_bwd_finite : Cert.Pre_merge_bwd_finite.Facts] : Prop :=
  ∀ (m : (ℓ : Loc Cert.MergeBwdRefIdeal.nD Cert.MergeBwdRefIdeal.τ Cert.MergeBwdRefIdeal.sig) → Buf (Elt Ideal) ℓ) (g : Dev Cert.MergeBwdRefIdeal.nD → PrngReg), Pre_MergeBwdRefIdeal_merge_bwd_finite m →
    θ_run (Cert.MergeBwdRefIdeal.defs (F := Ideal)) (onTc (τ := Cert.MergeBwdRefIdeal.τ) (Cert.MergeBwdRefIdeal.main (F := Ideal))) ⟨m, fun _ => 0, g⟩ (fun r => (∀ c : Dev Cert.MergeBwdRefIdeal.nD,
      r.2.mem ((c.tc : Thread Cert.MergeBwdRefIdeal.nD Cert.MergeBwdRefIdeal.τ).loc Cert.MergeBwdRefIdeal.main_arg0) = m ((c.tc : Thread Cert.MergeBwdRefIdeal.nD Cert.MergeBwdRefIdeal.τ).loc Cert.MergeBwdRefIdeal.main_arg0)
      ∧ r.2.mem ((c.tc : Thread Cert.MergeBwdRefIdeal.nD Cert.MergeBwdRefIdeal.τ).loc Cert.MergeBwdRefIdeal.main_arg1) = m ((c.tc : Thread Cert.MergeBwdRefIdeal.nD Cert.MergeBwdRefIdeal.τ).loc Cert.MergeBwdRefIdeal.main_arg1)
      ∧ r.2.mem ((c.tc : Thread Cert.MergeBwdRefIdeal.nD Cert.MergeBwdRefIdeal.τ).loc Cert.MergeBwdRefIdeal.main_arg2) = m ((c.tc : Thread Cert.MergeBwdRefIdeal.nD Cert.MergeBwdRefIdeal.τ).loc Cert.MergeBwdRefIdeal.main_arg2)
      ∧ r.2.mem ((c.tc : Thread Cert.MergeBwdRefIdeal.nD Cert.MergeBwdRefIdeal.τ).loc Cert.MergeBwdRefIdeal.main_arg3) = m ((c.tc : Thread Cert.MergeBwdRefIdeal.nD Cert.MergeBwdRefIdeal.τ).loc Cert.MergeBwdRefIdeal.main_arg3)
      ∧ r.2.mem ((c.tc : Thread Cert.MergeBwdRefIdeal.nD Cert.MergeBwdRefIdeal.τ).loc Cert.MergeBwdRefIdeal.main_arg4) = m ((c.tc : Thread Cert.MergeBwdRefIdeal.nD Cert.MergeBwdRefIdeal.τ).loc Cert.MergeBwdRefIdeal.main_arg4)
      ∧ r.2.mem ((c.tc : Thread Cert.MergeBwdRefIdeal.nD Cert.MergeBwdRefIdeal.τ).loc Cert.MergeBwdRefIdeal.main_arg5) = m ((c.tc : Thread Cert.MergeBwdRefIdeal.nD Cert.MergeBwdRefIdeal.τ).loc Cert.MergeBwdRefIdeal.main_arg5)
      ∧ r.2.mem ((c.tc : Thread Cert.MergeBwdRefIdeal.nD Cert.MergeBwdRefIdeal.τ).loc Cert.MergeBwdRefIdeal.main_arg6) = m ((c.tc : Thread Cert.MergeBwdRefIdeal.nD Cert.MergeBwdRefIdeal.τ).loc Cert.MergeBwdRefIdeal.main_arg6)
      ∧ r.2.mem ((c.tc : Thread Cert.MergeBwdRefIdeal.nD Cert.MergeBwdRefIdeal.τ).loc Cert.MergeBwdRefIdeal.main_arg7) = m ((c.tc : Thread Cert.MergeBwdRefIdeal.nD Cert.MergeBwdRefIdeal.τ).loc Cert.MergeBwdRefIdeal.main_arg7)
      ∧ r.2.mem ((c.tc : Thread Cert.MergeBwdRefIdeal.nD Cert.MergeBwdRefIdeal.τ).loc Cert.MergeBwdRefIdeal.main_arg8) = m ((c.tc : Thread Cert.MergeBwdRefIdeal.nD Cert.MergeBwdRefIdeal.τ).loc Cert.MergeBwdRefIdeal.main_arg8))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ r.2.sem = fun _ => 0)

def quiescent_DwUpRefIdeal [hDwUpRefIdeal : Cert.DwUpRefIdeal.Facts] : Prop :=
  ∀ (m : (ℓ : Loc Cert.DwUpRefIdeal.nD Cert.DwUpRefIdeal.τ Cert.DwUpRefIdeal.sig) → Buf (Elt Ideal) ℓ) (g : Dev Cert.DwUpRefIdeal.nD → PrngReg), Pre_DwUpRefIdeal m →
    θ_run (Cert.DwUpRefIdeal.defs (F := Ideal)) (onTc (τ := Cert.DwUpRefIdeal.τ) (Cert.DwUpRefIdeal.main (F := Ideal))) ⟨m, fun _ => 0, g⟩ (fun r => (∀ c : Dev Cert.DwUpRefIdeal.nD,
      r.2.mem ((c.tc : Thread Cert.DwUpRefIdeal.nD Cert.DwUpRefIdeal.τ).loc Cert.DwUpRefIdeal.main_arg0) = m ((c.tc : Thread Cert.DwUpRefIdeal.nD Cert.DwUpRefIdeal.τ).loc Cert.DwUpRefIdeal.main_arg0)
      ∧ r.2.mem ((c.tc : Thread Cert.DwUpRefIdeal.nD Cert.DwUpRefIdeal.τ).loc Cert.DwUpRefIdeal.main_arg1) = m ((c.tc : Thread Cert.DwUpRefIdeal.nD Cert.DwUpRefIdeal.τ).loc Cert.DwUpRefIdeal.main_arg1))
      ∧ r.2.sem = fun _ => 0)

def quiescent_AdamwBig [hAdamwBig : Cert.AdamwBig.Facts] : Prop :=
  ∀ (m : (ℓ : Loc Cert.AdamwBig.nD Cert.AdamwBig.τ Cert.AdamwBig.sig) → Buf (Elt Bits) ℓ) (g : Dev Cert.AdamwBig.nD → PrngReg), Pre_AdamwBig m →
    θ_run (Cert.AdamwBig.defs (F := Bits)) (onTc (τ := Cert.AdamwBig.τ) (Cert.AdamwBig.main (F := Bits))) ⟨m, fun _ => 0, g⟩ (fun r => (∀ c : Dev Cert.AdamwBig.nD,
      r.2.mem ((c.tc : Thread Cert.AdamwBig.nD Cert.AdamwBig.τ).loc Cert.AdamwBig.main_arg0) = m ((c.tc : Thread Cert.AdamwBig.nD Cert.AdamwBig.τ).loc Cert.AdamwBig.main_arg0)
      ∧ r.2.mem ((c.tc : Thread Cert.AdamwBig.nD Cert.AdamwBig.τ).loc Cert.AdamwBig.main_arg1) = m ((c.tc : Thread Cert.AdamwBig.nD Cert.AdamwBig.τ).loc Cert.AdamwBig.main_arg1)
      ∧ r.2.mem ((c.tc : Thread Cert.AdamwBig.nD Cert.AdamwBig.τ).loc Cert.AdamwBig.main_arg2) = m ((c.tc : Thread Cert.AdamwBig.nD Cert.AdamwBig.τ).loc Cert.AdamwBig.main_arg2)
      ∧ r.2.mem ((c.tc : Thread Cert.AdamwBig.nD Cert.AdamwBig.τ).loc Cert.AdamwBig.main_arg3) = m ((c.tc : Thread Cert.AdamwBig.nD Cert.AdamwBig.τ).loc Cert.AdamwBig.main_arg3)
      ∧ r.2.mem ((c.tc : Thread Cert.AdamwBig.nD Cert.AdamwBig.τ).loc Cert.AdamwBig.main_arg4) = m ((c.tc : Thread Cert.AdamwBig.nD Cert.AdamwBig.τ).loc Cert.AdamwBig.main_arg4)
      ∧ r.2.mem ((c.tc : Thread Cert.AdamwBig.nD Cert.AdamwBig.τ).loc Cert.AdamwBig.main_arg5) = m ((c.tc : Thread Cert.AdamwBig.nD Cert.AdamwBig.τ).loc Cert.AdamwBig.main_arg5)
      ∧ r.2.mem ((c.tc : Thread Cert.AdamwBig.nD Cert.AdamwBig.τ).loc Cert.AdamwBig.main_arg6) = m ((c.tc : Thread Cert.AdamwBig.nD Cert.AdamwBig.τ).loc Cert.AdamwBig.main_arg6)
      ∧ r.2.mem ((c.tc : Thread Cert.AdamwBig.nD Cert.AdamwBig.τ).loc Cert.AdamwBig.main_arg7) = m ((c.tc : Thread Cert.AdamwBig.nD Cert.AdamwBig.τ).loc Cert.AdamwBig.main_arg7)
      ∧ r.2.mem ((c.tc : Thread Cert.AdamwBig.nD Cert.AdamwBig.τ).loc Cert.AdamwBig.main_arg8) = m ((c.tc : Thread Cert.AdamwBig.nD Cert.AdamwBig.τ).loc Cert.AdamwBig.main_arg8)
      ∧ r.2.mem ((c.tc : Thread Cert.AdamwBig.nD Cert.AdamwBig.τ).loc Cert.AdamwBig.main_arg9) = m ((c.tc : Thread Cert.AdamwBig.nD Cert.AdamwBig.τ).loc Cert.AdamwBig.main_arg9)
      ∧ r.2.mem ((c.tc : Thread Cert.AdamwBig.nD Cert.AdamwBig.τ).loc Cert.AdamwBig.main_arg10) = m ((c.tc : Thread Cert.AdamwBig.nD Cert.AdamwBig.τ).loc Cert.AdamwBig.main_arg10)
      ∧ r.2.mem ((c.tc : Thread Cert.AdamwBig.nD Cert.AdamwBig.τ).loc Cert.AdamwBig.main_arg11) = m ((c.tc : Thread Cert.AdamwBig.nD Cert.AdamwBig.τ).loc Cert.AdamwBig.main_arg11))
      ∧ r.2.sem = fun _ => 0)

def quiescent_AdamwBigIdeal [hAdamwBigIdeal : Cert.AdamwBigIdeal.Facts] : Prop :=
  ∀ (m : (ℓ : Loc Cert.AdamwBigIdeal.nD Cert.AdamwBigIdeal.τ Cert.AdamwBigIdeal.sig) → Buf (Elt Ideal) ℓ) (g : Dev Cert.AdamwBigIdeal.nD → PrngReg), Pre_AdamwBigIdeal m →
    θ_run (Cert.AdamwBigIdeal.defs (F := Ideal)) (onTc (τ := Cert.AdamwBigIdeal.τ) (Cert.AdamwBigIdeal.main (F := Ideal))) ⟨m, fun _ => 0, g⟩ (fun r => (∀ c : Dev Cert.AdamwBigIdeal.nD,
      r.2.mem ((c.tc : Thread Cert.AdamwBigIdeal.nD Cert.AdamwBigIdeal.τ).loc Cert.AdamwBigIdeal.main_arg0) = m ((c.tc : Thread Cert.AdamwBigIdeal.nD Cert.AdamwBigIdeal.τ).loc Cert.AdamwBigIdeal.main_arg0)
      ∧ r.2.mem ((c.tc : Thread Cert.AdamwBigIdeal.nD Cert.AdamwBigIdeal.τ).loc Cert.AdamwBigIdeal.main_arg1) = m ((c.tc : Thread Cert.AdamwBigIdeal.nD Cert.AdamwBigIdeal.τ).loc Cert.AdamwBigIdeal.main_arg1)
      ∧ r.2.mem ((c.tc : Thread Cert.AdamwBigIdeal.nD Cert.AdamwBigIdeal.τ).loc Cert.AdamwBigIdeal.main_arg2) = m ((c.tc : Thread Cert.AdamwBigIdeal.nD Cert.AdamwBigIdeal.τ).loc Cert.AdamwBigIdeal.main_arg2)
      ∧ r.2.mem ((c.tc : Thread Cert.AdamwBigIdeal.nD Cert.AdamwBigIdeal.τ).loc Cert.AdamwBigIdeal.main_arg3) = m ((c.tc : Thread Cert.AdamwBigIdeal.nD Cert.AdamwBigIdeal.τ).loc Cert.AdamwBigIdeal.main_arg3)
      ∧ r.2.mem ((c.tc : Thread Cert.AdamwBigIdeal.nD Cert.AdamwBigIdeal.τ).loc Cert.AdamwBigIdeal.main_arg4) = m ((c.tc : Thread Cert.AdamwBigIdeal.nD Cert.AdamwBigIdeal.τ).loc Cert.AdamwBigIdeal.main_arg4)
      ∧ r.2.mem ((c.tc : Thread Cert.AdamwBigIdeal.nD Cert.AdamwBigIdeal.τ).loc Cert.AdamwBigIdeal.main_arg5) = m ((c.tc : Thread Cert.AdamwBigIdeal.nD Cert.AdamwBigIdeal.τ).loc Cert.AdamwBigIdeal.main_arg5)
      ∧ r.2.mem ((c.tc : Thread Cert.AdamwBigIdeal.nD Cert.AdamwBigIdeal.τ).loc Cert.AdamwBigIdeal.main_arg6) = m ((c.tc : Thread Cert.AdamwBigIdeal.nD Cert.AdamwBigIdeal.τ).loc Cert.AdamwBigIdeal.main_arg6)
      ∧ r.2.mem ((c.tc : Thread Cert.AdamwBigIdeal.nD Cert.AdamwBigIdeal.τ).loc Cert.AdamwBigIdeal.main_arg7) = m ((c.tc : Thread Cert.AdamwBigIdeal.nD Cert.AdamwBigIdeal.τ).loc Cert.AdamwBigIdeal.main_arg7)
      ∧ r.2.mem ((c.tc : Thread Cert.AdamwBigIdeal.nD Cert.AdamwBigIdeal.τ).loc Cert.AdamwBigIdeal.main_arg8) = m ((c.tc : Thread Cert.AdamwBigIdeal.nD Cert.AdamwBigIdeal.τ).loc Cert.AdamwBigIdeal.main_arg8)
      ∧ r.2.mem ((c.tc : Thread Cert.AdamwBigIdeal.nD Cert.AdamwBigIdeal.τ).loc Cert.AdamwBigIdeal.main_arg9) = m ((c.tc : Thread Cert.AdamwBigIdeal.nD Cert.AdamwBigIdeal.τ).loc Cert.AdamwBigIdeal.main_arg9)
      ∧ r.2.mem ((c.tc : Thread Cert.AdamwBigIdeal.nD Cert.AdamwBigIdeal.τ).loc Cert.AdamwBigIdeal.main_arg10) = m ((c.tc : Thread Cert.AdamwBigIdeal.nD Cert.AdamwBigIdeal.τ).loc Cert.AdamwBigIdeal.main_arg10)
      ∧ r.2.mem ((c.tc : Thread Cert.AdamwBigIdeal.nD Cert.AdamwBigIdeal.τ).loc Cert.AdamwBigIdeal.main_arg11) = m ((c.tc : Thread Cert.AdamwBigIdeal.nD Cert.AdamwBigIdeal.τ).loc Cert.AdamwBigIdeal.main_arg11))
      ∧ r.2.sem = fun _ => 0)

def quiescent_AdamwBigRefIdeal [hAdamwBigRefIdeal : Cert.AdamwBigRefIdeal.Facts] : Prop :=
  ∀ (m : (ℓ : Loc Cert.AdamwBigRefIdeal.nD Cert.AdamwBigRefIdeal.τ Cert.AdamwBigRefIdeal.sig) → Buf (Elt Ideal) ℓ) (g : Dev Cert.AdamwBigRefIdeal.nD → PrngReg), Pre_AdamwBigRefIdeal m →
    θ_run (Cert.AdamwBigRefIdeal.defs (F := Ideal)) (onTc (τ := Cert.AdamwBigRefIdeal.τ) (Cert.AdamwBigRefIdeal.main (F := Ideal))) ⟨m, fun _ => 0, g⟩ (fun r => (∀ c : Dev Cert.AdamwBigRefIdeal.nD,
      r.2.mem ((c.tc : Thread Cert.AdamwBigRefIdeal.nD Cert.AdamwBigRefIdeal.τ).loc Cert.AdamwBigRefIdeal.main_arg0) = m ((c.tc : Thread Cert.AdamwBigRefIdeal.nD Cert.AdamwBigRefIdeal.τ).loc Cert.AdamwBigRefIdeal.main_arg0)
      ∧ r.2.mem ((c.tc : Thread Cert.AdamwBigRefIdeal.nD Cert.AdamwBigRefIdeal.τ).loc Cert.AdamwBigRefIdeal.main_arg1) = m ((c.tc : Thread Cert.AdamwBigRefIdeal.nD Cert.AdamwBigRefIdeal.τ).loc Cert.AdamwBigRefIdeal.main_arg1)
      ∧ r.2.mem ((c.tc : Thread Cert.AdamwBigRefIdeal.nD Cert.AdamwBigRefIdeal.τ).loc Cert.AdamwBigRefIdeal.main_arg2) = m ((c.tc : Thread Cert.AdamwBigRefIdeal.nD Cert.AdamwBigRefIdeal.τ).loc Cert.AdamwBigRefIdeal.main_arg2)
      ∧ r.2.mem ((c.tc : Thread Cert.AdamwBigRefIdeal.nD Cert.AdamwBigRefIdeal.τ).loc Cert.AdamwBigRefIdeal.main_arg3) = m ((c.tc : Thread Cert.AdamwBigRefIdeal.nD Cert.AdamwBigRefIdeal.τ).loc Cert.AdamwBigRefIdeal.main_arg3)
      ∧ r.2.mem ((c.tc : Thread Cert.AdamwBigRefIdeal.nD Cert.AdamwBigRefIdeal.τ).loc Cert.AdamwBigRefIdeal.main_arg4) = m ((c.tc : Thread Cert.AdamwBigRefIdeal.nD Cert.AdamwBigRefIdeal.τ).loc Cert.AdamwBigRefIdeal.main_arg4)
      ∧ r.2.mem ((c.tc : Thread Cert.AdamwBigRefIdeal.nD Cert.AdamwBigRefIdeal.τ).loc Cert.AdamwBigRefIdeal.main_arg5) = m ((c.tc : Thread Cert.AdamwBigRefIdeal.nD Cert.AdamwBigRefIdeal.τ).loc Cert.AdamwBigRefIdeal.main_arg5)
      ∧ r.2.mem ((c.tc : Thread Cert.AdamwBigRefIdeal.nD Cert.AdamwBigRefIdeal.τ).loc Cert.AdamwBigRefIdeal.main_arg6) = m ((c.tc : Thread Cert.AdamwBigRefIdeal.nD Cert.AdamwBigRefIdeal.τ).loc Cert.AdamwBigRefIdeal.main_arg6)
      ∧ r.2.mem ((c.tc : Thread Cert.AdamwBigRefIdeal.nD Cert.AdamwBigRefIdeal.τ).loc Cert.AdamwBigRefIdeal.main_arg7) = m ((c.tc : Thread Cert.AdamwBigRefIdeal.nD Cert.AdamwBigRefIdeal.τ).loc Cert.AdamwBigRefIdeal.main_arg7)
      ∧ r.2.mem ((c.tc : Thread Cert.AdamwBigRefIdeal.nD Cert.AdamwBigRefIdeal.τ).loc Cert.AdamwBigRefIdeal.main_arg8) = m ((c.tc : Thread Cert.AdamwBigRefIdeal.nD Cert.AdamwBigRefIdeal.τ).loc Cert.AdamwBigRefIdeal.main_arg8)
      ∧ r.2.mem ((c.tc : Thread Cert.AdamwBigRefIdeal.nD Cert.AdamwBigRefIdeal.τ).loc Cert.AdamwBigRefIdeal.main_arg9) = m ((c.tc : Thread Cert.AdamwBigRefIdeal.nD Cert.AdamwBigRefIdeal.τ).loc Cert.AdamwBigRefIdeal.main_arg9)
      ∧ r.2.mem ((c.tc : Thread Cert.AdamwBigRefIdeal.nD Cert.AdamwBigRefIdeal.τ).loc Cert.AdamwBigRefIdeal.main_arg10) = m ((c.tc : Thread Cert.AdamwBigRefIdeal.nD Cert.AdamwBigRefIdeal.τ).loc Cert.AdamwBigRefIdeal.main_arg10)
      ∧ r.2.mem ((c.tc : Thread Cert.AdamwBigRefIdeal.nD Cert.AdamwBigRefIdeal.τ).loc Cert.AdamwBigRefIdeal.main_arg11) = m ((c.tc : Thread Cert.AdamwBigRefIdeal.nD Cert.AdamwBigRefIdeal.τ).loc Cert.AdamwBigRefIdeal.main_arg11))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3)
      ∧ r.2.mem ((c.tc : Thread Cert.AdamwSmall.nD Cert.AdamwSmall.τ).loc Cert.AdamwSmall.main_arg4) = m ((c.tc : Thread Cert.AdamwSmall.nD Cert.AdamwSmall.τ).loc Cert.AdamwSmall.main_arg4)
      ∧ r.2.mem ((c.tc : Thread Cert.AdamwSmall.nD Cert.AdamwSmall.τ).loc Cert.AdamwSmall.main_arg5) = m ((c.tc : Thread Cert.AdamwSmall.nD Cert.AdamwSmall.τ).loc Cert.AdamwSmall.main_arg5)
      ∧ r.2.mem ((c.tc : Thread Cert.AdamwSmall.nD Cert.AdamwSmall.τ).loc Cert.AdamwSmall.main_arg6) = m ((c.tc : Thread Cert.AdamwSmall.nD Cert.AdamwSmall.τ).loc Cert.AdamwSmall.main_arg6)
      ∧ r.2.mem ((c.tc : Thread Cert.AdamwSmall.nD Cert.AdamwSmall.τ).loc Cert.AdamwSmall.main_arg7) = m ((c.tc : Thread Cert.AdamwSmall.nD Cert.AdamwSmall.τ).loc Cert.AdamwSmall.main_arg7)
      ∧ r.2.mem ((c.tc : Thread Cert.AdamwSmall.nD Cert.AdamwSmall.τ).loc Cert.AdamwSmall.main_arg8) = m ((c.tc : Thread Cert.AdamwSmall.nD Cert.AdamwSmall.τ).loc Cert.AdamwSmall.main_arg8)
      ∧ r.2.mem ((c.tc : Thread Cert.AdamwSmall.nD Cert.AdamwSmall.τ).loc Cert.AdamwSmall.main_arg9) = m ((c.tc : Thread Cert.AdamwSmall.nD Cert.AdamwSmall.τ).loc Cert.AdamwSmall.main_arg9)
      ∧ r.2.mem ((c.tc : Thread Cert.AdamwSmall.nD Cert.AdamwSmall.τ).loc Cert.AdamwSmall.main_arg10) = m ((c.tc : Thread Cert.AdamwSmall.nD Cert.AdamwSmall.τ).loc Cert.AdamwSmall.main_arg10)
      ∧ r.2.mem ((c.tc : Thread Cert.AdamwSmall.nD Cert.AdamwSmall.τ).loc Cert.AdamwSmall.main_arg11) = m ((c.tc : Thread Cert.AdamwSmall.nD Cert.AdamwSmall.τ).loc Cert.AdamwSmall.main_arg11))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3)
      ∧ r.2.mem ((c.tc : Thread Cert.AdamwSmallIdeal.nD Cert.AdamwSmallIdeal.τ).loc Cert.AdamwSmallIdeal.main_arg4) = m ((c.tc : Thread Cert.AdamwSmallIdeal.nD Cert.AdamwSmallIdeal.τ).loc Cert.AdamwSmallIdeal.main_arg4)
      ∧ r.2.mem ((c.tc : Thread Cert.AdamwSmallIdeal.nD Cert.AdamwSmallIdeal.τ).loc Cert.AdamwSmallIdeal.main_arg5) = m ((c.tc : Thread Cert.AdamwSmallIdeal.nD Cert.AdamwSmallIdeal.τ).loc Cert.AdamwSmallIdeal.main_arg5)
      ∧ r.2.mem ((c.tc : Thread Cert.AdamwSmallIdeal.nD Cert.AdamwSmallIdeal.τ).loc Cert.AdamwSmallIdeal.main_arg6) = m ((c.tc : Thread Cert.AdamwSmallIdeal.nD Cert.AdamwSmallIdeal.τ).loc Cert.AdamwSmallIdeal.main_arg6)
      ∧ r.2.mem ((c.tc : Thread Cert.AdamwSmallIdeal.nD Cert.AdamwSmallIdeal.τ).loc Cert.AdamwSmallIdeal.main_arg7) = m ((c.tc : Thread Cert.AdamwSmallIdeal.nD Cert.AdamwSmallIdeal.τ).loc Cert.AdamwSmallIdeal.main_arg7)
      ∧ r.2.mem ((c.tc : Thread Cert.AdamwSmallIdeal.nD Cert.AdamwSmallIdeal.τ).loc Cert.AdamwSmallIdeal.main_arg8) = m ((c.tc : Thread Cert.AdamwSmallIdeal.nD Cert.AdamwSmallIdeal.τ).loc Cert.AdamwSmallIdeal.main_arg8)
      ∧ r.2.mem ((c.tc : Thread Cert.AdamwSmallIdeal.nD Cert.AdamwSmallIdeal.τ).loc Cert.AdamwSmallIdeal.main_arg9) = m ((c.tc : Thread Cert.AdamwSmallIdeal.nD Cert.AdamwSmallIdeal.τ).loc Cert.AdamwSmallIdeal.main_arg9)
      ∧ r.2.mem ((c.tc : Thread Cert.AdamwSmallIdeal.nD Cert.AdamwSmallIdeal.τ).loc Cert.AdamwSmallIdeal.main_arg10) = m ((c.tc : Thread Cert.AdamwSmallIdeal.nD Cert.AdamwSmallIdeal.τ).loc Cert.AdamwSmallIdeal.main_arg10)
      ∧ r.2.mem ((c.tc : Thread Cert.AdamwSmallIdeal.nD Cert.AdamwSmallIdeal.τ).loc Cert.AdamwSmallIdeal.main_arg11) = m ((c.tc : Thread Cert.AdamwSmallIdeal.nD Cert.AdamwSmallIdeal.τ).loc Cert.AdamwSmallIdeal.main_arg11))
      ∧ r.2.sem = fun _ => 0)

def quiescent_AdamwSmallRefIdeal [hAdamwSmallRefIdeal : Cert.AdamwSmallRefIdeal.Facts] : Prop :=
  ∀ (m : (ℓ : Loc Cert.AdamwSmallRefIdeal.nD Cert.AdamwSmallRefIdeal.τ Cert.AdamwSmallRefIdeal.sig) → Buf (Elt Ideal) ℓ) (g : Dev Cert.AdamwSmallRefIdeal.nD → PrngReg), Pre_AdamwSmallRefIdeal m →
    θ_run (Cert.AdamwSmallRefIdeal.defs (F := Ideal)) (onTc (τ := Cert.AdamwSmallRefIdeal.τ) (Cert.AdamwSmallRefIdeal.main (F := Ideal))) ⟨m, fun _ => 0, g⟩ (fun r => (∀ c : Dev Cert.AdamwSmallRefIdeal.nD,
      r.2.mem ((c.tc : Thread Cert.AdamwSmallRefIdeal.nD Cert.AdamwSmallRefIdeal.τ).loc Cert.AdamwSmallRefIdeal.main_arg0) = m ((c.tc : Thread Cert.AdamwSmallRefIdeal.nD Cert.AdamwSmallRefIdeal.τ).loc Cert.AdamwSmallRefIdeal.main_arg0)
      ∧ r.2.mem ((c.tc : Thread Cert.AdamwSmallRefIdeal.nD Cert.AdamwSmallRefIdeal.τ).loc Cert.AdamwSmallRefIdeal.main_arg1) = m ((c.tc : Thread Cert.AdamwSmallRefIdeal.nD Cert.AdamwSmallRefIdeal.τ).loc Cert.AdamwSmallRefIdeal.main_arg1)
      ∧ r.2.mem ((c.tc : Thread Cert.AdamwSmallRefIdeal.nD Cert.AdamwSmallRefIdeal.τ).loc Cert.AdamwSmallRefIdeal.main_arg2) = m ((c.tc : Thread Cert.AdamwSmallRefIdeal.nD Cert.AdamwSmallRefIdeal.τ).loc Cert.AdamwSmallRefIdeal.main_arg2)
      ∧ r.2.mem ((c.tc : Thread Cert.AdamwSmallRefIdeal.nD Cert.AdamwSmallRefIdeal.τ).loc Cert.AdamwSmallRefIdeal.main_arg3) = m ((c.tc : Thread Cert.AdamwSmallRefIdeal.nD Cert.AdamwSmallRefIdeal.τ).loc Cert.AdamwSmallRefIdeal.main_arg3)
      ∧ r.2.mem ((c.tc : Thread Cert.AdamwSmallRefIdeal.nD Cert.AdamwSmallRefIdeal.τ).loc Cert.AdamwSmallRefIdeal.main_arg4) = m ((c.tc : Thread Cert.AdamwSmallRefIdeal.nD Cert.AdamwSmallRefIdeal.τ).loc Cert.AdamwSmallRefIdeal.main_arg4)
      ∧ r.2.mem ((c.tc : Thread Cert.AdamwSmallRefIdeal.nD Cert.AdamwSmallRefIdeal.τ).loc Cert.AdamwSmallRefIdeal.main_arg5) = m ((c.tc : Thread Cert.AdamwSmallRefIdeal.nD Cert.AdamwSmallRefIdeal.τ).loc Cert.AdamwSmallRefIdeal.main_arg5)
      ∧ r.2.mem ((c.tc : Thread Cert.AdamwSmallRefIdeal.nD Cert.AdamwSmallRefIdeal.τ).loc Cert.AdamwSmallRefIdeal.main_arg6) = m ((c.tc : Thread Cert.AdamwSmallRefIdeal.nD Cert.AdamwSmallRefIdeal.τ).loc Cert.AdamwSmallRefIdeal.main_arg6)
      ∧ r.2.mem ((c.tc : Thread Cert.AdamwSmallRefIdeal.nD Cert.AdamwSmallRefIdeal.τ).loc Cert.AdamwSmallRefIdeal.main_arg7) = m ((c.tc : Thread Cert.AdamwSmallRefIdeal.nD Cert.AdamwSmallRefIdeal.τ).loc Cert.AdamwSmallRefIdeal.main_arg7)
      ∧ r.2.mem ((c.tc : Thread Cert.AdamwSmallRefIdeal.nD Cert.AdamwSmallRefIdeal.τ).loc Cert.AdamwSmallRefIdeal.main_arg8) = m ((c.tc : Thread Cert.AdamwSmallRefIdeal.nD Cert.AdamwSmallRefIdeal.τ).loc Cert.AdamwSmallRefIdeal.main_arg8)
      ∧ r.2.mem ((c.tc : Thread Cert.AdamwSmallRefIdeal.nD Cert.AdamwSmallRefIdeal.τ).loc Cert.AdamwSmallRefIdeal.main_arg9) = m ((c.tc : Thread Cert.AdamwSmallRefIdeal.nD Cert.AdamwSmallRefIdeal.τ).loc Cert.AdamwSmallRefIdeal.main_arg9)
      ∧ r.2.mem ((c.tc : Thread Cert.AdamwSmallRefIdeal.nD Cert.AdamwSmallRefIdeal.τ).loc Cert.AdamwSmallRefIdeal.main_arg10) = m ((c.tc : Thread Cert.AdamwSmallRefIdeal.nD Cert.AdamwSmallRefIdeal.τ).loc Cert.AdamwSmallRefIdeal.main_arg10)
      ∧ r.2.mem ((c.tc : Thread Cert.AdamwSmallRefIdeal.nD Cert.AdamwSmallRefIdeal.τ).loc Cert.AdamwSmallRefIdeal.main_arg11) = m ((c.tc : Thread Cert.AdamwSmallRefIdeal.nD Cert.AdamwSmallRefIdeal.τ).loc Cert.AdamwSmallRefIdeal.main_arg11))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ r.2.sem = fun _ => 0)

def quiescent_DwInRefIdeal [hDwInRefIdeal : Cert.DwInRefIdeal.Facts] : Prop :=
  ∀ (m : (ℓ : Loc Cert.DwInRefIdeal.nD Cert.DwInRefIdeal.τ Cert.DwInRefIdeal.sig) → Buf (Elt Ideal) ℓ) (g : Dev Cert.DwInRefIdeal.nD → PrngReg), Pre_DwInRefIdeal m →
    θ_run (Cert.DwInRefIdeal.defs (F := Ideal)) (onTc (τ := Cert.DwInRefIdeal.τ) (Cert.DwInRefIdeal.main (F := Ideal))) ⟨m, fun _ => 0, g⟩ (fun r => (∀ c : Dev Cert.DwInRefIdeal.nD,
      r.2.mem ((c.tc : Thread Cert.DwInRefIdeal.nD Cert.DwInRefIdeal.τ).loc Cert.DwInRefIdeal.main_arg0) = m ((c.tc : Thread Cert.DwInRefIdeal.nD Cert.DwInRefIdeal.τ).loc Cert.DwInRefIdeal.main_arg0)
      ∧ r.2.mem ((c.tc : Thread Cert.DwInRefIdeal.nD Cert.DwInRefIdeal.τ).loc Cert.DwInRefIdeal.main_arg1) = m ((c.tc : Thread Cert.DwInRefIdeal.nD Cert.DwInRefIdeal.τ).loc Cert.DwInRefIdeal.main_arg1))
      ∧ r.2.sem = fun _ => 0)

def quiescent_MixerFwd [hMixerFwd : Cert.MixerFwd.Facts] : Prop :=
  ∀ (m : (ℓ : Loc Cert.MixerFwd.nD Cert.MixerFwd.τ Cert.MixerFwd.sig) → Buf (Elt Bits) ℓ) (g : Dev Cert.MixerFwd.nD → PrngReg), Pre_MixerFwd m →
    θ_run (Cert.MixerFwd.defs (F := Bits)) (onTc (τ := Cert.MixerFwd.τ) (Cert.MixerFwd.main (F := Bits))) ⟨m, fun _ => 0, g⟩ (fun r => (∀ c : Dev Cert.MixerFwd.nD,
      r.2.mem ((c.tc : Thread Cert.MixerFwd.nD Cert.MixerFwd.τ).loc Cert.MixerFwd.main_arg0) = m ((c.tc : Thread Cert.MixerFwd.nD Cert.MixerFwd.τ).loc Cert.MixerFwd.main_arg0)
      ∧ r.2.mem ((c.tc : Thread Cert.MixerFwd.nD Cert.MixerFwd.τ).loc Cert.MixerFwd.main_arg1) = m ((c.tc : Thread Cert.MixerFwd.nD Cert.MixerFwd.τ).loc Cert.MixerFwd.main_arg1)
      ∧ r.2.mem ((c.tc : Thread Cert.MixerFwd.nD Cert.MixerFwd.τ).loc Cert.MixerFwd.main_arg2) = m ((c.tc : Thread Cert.MixerFwd.nD Cert.MixerFwd.τ).loc Cert.MixerFwd.main_arg2)
      ∧ r.2.mem ((c.tc : Thread Cert.MixerFwd.nD Cert.MixerFwd.τ).loc Cert.MixerFwd.main_arg3) = m ((c.tc : Thread Cert.MixerFwd.nD Cert.MixerFwd.τ).loc Cert.MixerFwd.main_arg3)
      ∧ r.2.mem ((c.tc : Thread Cert.MixerFwd.nD Cert.MixerFwd.τ).loc Cert.MixerFwd.main_arg4) = m ((c.tc : Thread Cert.MixerFwd.nD Cert.MixerFwd.τ).loc Cert.MixerFwd.main_arg4)
      ∧ r.2.mem ((c.tc : Thread Cert.MixerFwd.nD Cert.MixerFwd.τ).loc Cert.MixerFwd.main_arg5) = m ((c.tc : Thread Cert.MixerFwd.nD Cert.MixerFwd.τ).loc Cert.MixerFwd.main_arg5)
      ∧ r.2.mem ((c.tc : Thread Cert.MixerFwd.nD Cert.MixerFwd.τ).loc Cert.MixerFwd.main_arg6) = m ((c.tc : Thread Cert.MixerFwd.nD Cert.MixerFwd.τ).loc Cert.MixerFwd.main_arg6)
      ∧ r.2.mem ((c.tc : Thread Cert.MixerFwd.nD Cert.MixerFwd.τ).loc Cert.MixerFwd.main_arg7) = m ((c.tc : Thread Cert.MixerFwd.nD Cert.MixerFwd.τ).loc Cert.MixerFwd.main_arg7)
      ∧ r.2.mem ((c.tc : Thread Cert.MixerFwd.nD Cert.MixerFwd.τ).loc Cert.MixerFwd.main_arg8) = m ((c.tc : Thread Cert.MixerFwd.nD Cert.MixerFwd.τ).loc Cert.MixerFwd.main_arg8)
      ∧ r.2.mem ((c.tc : Thread Cert.MixerFwd.nD Cert.MixerFwd.τ).loc Cert.MixerFwd.main_arg9) = m ((c.tc : Thread Cert.MixerFwd.nD Cert.MixerFwd.τ).loc Cert.MixerFwd.main_arg9)
      ∧ r.2.mem ((c.tc : Thread Cert.MixerFwd.nD Cert.MixerFwd.τ).loc Cert.MixerFwd.main_arg10) = m ((c.tc : Thread Cert.MixerFwd.nD Cert.MixerFwd.τ).loc Cert.MixerFwd.main_arg10)
      ∧ r.2.mem ((c.tc : Thread Cert.MixerFwd.nD Cert.MixerFwd.τ).loc Cert.MixerFwd.main_arg11) = m ((c.tc : Thread Cert.MixerFwd.nD Cert.MixerFwd.τ).loc Cert.MixerFwd.main_arg11)
      ∧ r.2.mem ((c.tc : Thread Cert.MixerFwd.nD Cert.MixerFwd.τ).loc Cert.MixerFwd.main_arg12) = m ((c.tc : Thread Cert.MixerFwd.nD Cert.MixerFwd.τ).loc Cert.MixerFwd.main_arg12)
      ∧ r.2.mem ((c.tc : Thread Cert.MixerFwd.nD Cert.MixerFwd.τ).loc Cert.MixerFwd.main_arg13) = m ((c.tc : Thread Cert.MixerFwd.nD Cert.MixerFwd.τ).loc Cert.MixerFwd.main_arg13)
      ∧ r.2.mem ((c.tc : Thread Cert.MixerFwd.nD Cert.MixerFwd.τ).loc Cert.MixerFwd.main_arg14) = m ((c.tc : Thread Cert.MixerFwd.nD Cert.MixerFwd.τ).loc Cert.MixerFwd.main_arg14)
      ∧ r.2.mem ((c.tc : Thread Cert.MixerFwd.nD Cert.MixerFwd.τ).loc Cert.MixerFwd.main_arg15) = m ((c.tc : Thread Cert.MixerFwd.nD Cert.MixerFwd.τ).loc Cert.MixerFwd.main_arg15)
      ∧ r.2.mem ((c.tc : Thread Cert.MixerFwd.nD Cert.MixerFwd.τ).loc Cert.MixerFwd.main_arg16) = m ((c.tc : Thread Cert.MixerFwd.nD Cert.MixerFwd.τ).loc Cert.MixerFwd.main_arg16)
      ∧ r.2.mem ((c.tc : Thread Cert.MixerFwd.nD Cert.MixerFwd.τ).loc Cert.MixerFwd.main_arg17) = m ((c.tc : Thread Cert.MixerFwd.nD Cert.MixerFwd.τ).loc Cert.MixerFwd.main_arg17)
      ∧ r.2.mem ((c.tc : Thread Cert.MixerFwd.nD Cert.MixerFwd.τ).loc Cert.MixerFwd.main_arg18) = m ((c.tc : Thread Cert.MixerFwd.nD Cert.MixerFwd.τ).loc Cert.MixerFwd.main_arg18)
      ∧ r.2.mem ((c.tc : Thread Cert.MixerFwd.nD Cert.MixerFwd.τ).loc Cert.MixerFwd.main_arg19) = m ((c.tc : Thread Cert.MixerFwd.nD Cert.MixerFwd.τ).loc Cert.MixerFwd.main_arg19)
      ∧ r.2.mem ((c.tc : Thread Cert.MixerFwd.nD Cert.MixerFwd.τ).loc Cert.MixerFwd.main_arg20) = m ((c.tc : Thread Cert.MixerFwd.nD Cert.MixerFwd.τ).loc Cert.MixerFwd.main_arg20)
      ∧ r.2.mem ((c.tc : Thread Cert.MixerFwd.nD Cert.MixerFwd.τ).loc Cert.MixerFwd.main_arg21) = m ((c.tc : Thread Cert.MixerFwd.nD Cert.MixerFwd.τ).loc Cert.MixerFwd.main_arg21)
      ∧ r.2.mem ((c.tc : Thread Cert.MixerFwd.nD Cert.MixerFwd.τ).loc Cert.MixerFwd.main_arg22) = m ((c.tc : Thread Cert.MixerFwd.nD Cert.MixerFwd.τ).loc Cert.MixerFwd.main_arg22)
      ∧ r.2.mem ((c.tc : Thread Cert.MixerFwd.nD Cert.MixerFwd.τ).loc Cert.MixerFwd.main_arg23) = m ((c.tc : Thread Cert.MixerFwd.nD Cert.MixerFwd.τ).loc Cert.MixerFwd.main_arg23)
      ∧ r.2.mem ((c.tc : Thread Cert.MixerFwd.nD Cert.MixerFwd.τ).loc Cert.MixerFwd.main_arg24) = m ((c.tc : Thread Cert.MixerFwd.nD Cert.MixerFwd.τ).loc Cert.MixerFwd.main_arg24)
      ∧ r.2.mem ((c.tc : Thread Cert.MixerFwd.nD Cert.MixerFwd.τ).loc Cert.MixerFwd.main_arg25) = m ((c.tc : Thread Cert.MixerFwd.nD Cert.MixerFwd.τ).loc Cert.MixerFwd.main_arg25))
      ∧ r.2.sem = fun _ => 0)

def quiescent_MixerFwdIdeal [hMixerFwdIdeal : Cert.MixerFwdIdeal.Facts] : Prop :=
  ∀ (m : (ℓ : Loc Cert.MixerFwdIdeal.nD Cert.MixerFwdIdeal.τ Cert.MixerFwdIdeal.sig) → Buf (Elt Ideal) ℓ) (g : Dev Cert.MixerFwdIdeal.nD → PrngReg), Pre_MixerFwdIdeal m →
    θ_run (Cert.MixerFwdIdeal.defs (F := Ideal)) (onTc (τ := Cert.MixerFwdIdeal.τ) (Cert.MixerFwdIdeal.main (F := Ideal))) ⟨m, fun _ => 0, g⟩ (fun r => (∀ c : Dev Cert.MixerFwdIdeal.nD,
      r.2.mem ((c.tc : Thread Cert.MixerFwdIdeal.nD Cert.MixerFwdIdeal.τ).loc Cert.MixerFwdIdeal.main_arg0) = m ((c.tc : Thread Cert.MixerFwdIdeal.nD Cert.MixerFwdIdeal.τ).loc Cert.MixerFwdIdeal.main_arg0)
      ∧ r.2.mem ((c.tc : Thread Cert.MixerFwdIdeal.nD Cert.MixerFwdIdeal.τ).loc Cert.MixerFwdIdeal.main_arg1) = m ((c.tc : Thread Cert.MixerFwdIdeal.nD Cert.MixerFwdIdeal.τ).loc Cert.MixerFwdIdeal.main_arg1)
      ∧ r.2.mem ((c.tc : Thread Cert.MixerFwdIdeal.nD Cert.MixerFwdIdeal.τ).loc Cert.MixerFwdIdeal.main_arg2) = m ((c.tc : Thread Cert.MixerFwdIdeal.nD Cert.MixerFwdIdeal.τ).loc Cert.MixerFwdIdeal.main_arg2)
      ∧ r.2.mem ((c.tc : Thread Cert.MixerFwdIdeal.nD Cert.MixerFwdIdeal.τ).loc Cert.MixerFwdIdeal.main_arg3) = m ((c.tc : Thread Cert.MixerFwdIdeal.nD Cert.MixerFwdIdeal.τ).loc Cert.MixerFwdIdeal.main_arg3)
      ∧ r.2.mem ((c.tc : Thread Cert.MixerFwdIdeal.nD Cert.MixerFwdIdeal.τ).loc Cert.MixerFwdIdeal.main_arg4) = m ((c.tc : Thread Cert.MixerFwdIdeal.nD Cert.MixerFwdIdeal.τ).loc Cert.MixerFwdIdeal.main_arg4)
      ∧ r.2.mem ((c.tc : Thread Cert.MixerFwdIdeal.nD Cert.MixerFwdIdeal.τ).loc Cert.MixerFwdIdeal.main_arg5) = m ((c.tc : Thread Cert.MixerFwdIdeal.nD Cert.MixerFwdIdeal.τ).loc Cert.MixerFwdIdeal.main_arg5)
      ∧ r.2.mem ((c.tc : Thread Cert.MixerFwdIdeal.nD Cert.MixerFwdIdeal.τ).loc Cert.MixerFwdIdeal.main_arg6) = m ((c.tc : Thread Cert.MixerFwdIdeal.nD Cert.MixerFwdIdeal.τ).loc Cert.MixerFwdIdeal.main_arg6)
      ∧ r.2.mem ((c.tc : Thread Cert.MixerFwdIdeal.nD Cert.MixerFwdIdeal.τ).loc Cert.MixerFwdIdeal.main_arg7) = m ((c.tc : Thread Cert.MixerFwdIdeal.nD Cert.MixerFwdIdeal.τ).loc Cert.MixerFwdIdeal.main_arg7)
      ∧ r.2.mem ((c.tc : Thread Cert.MixerFwdIdeal.nD Cert.MixerFwdIdeal.τ).loc Cert.MixerFwdIdeal.main_arg8) = m ((c.tc : Thread Cert.MixerFwdIdeal.nD Cert.MixerFwdIdeal.τ).loc Cert.MixerFwdIdeal.main_arg8)
      ∧ r.2.mem ((c.tc : Thread Cert.MixerFwdIdeal.nD Cert.MixerFwdIdeal.τ).loc Cert.MixerFwdIdeal.main_arg9) = m ((c.tc : Thread Cert.MixerFwdIdeal.nD Cert.MixerFwdIdeal.τ).loc Cert.MixerFwdIdeal.main_arg9)
      ∧ r.2.mem ((c.tc : Thread Cert.MixerFwdIdeal.nD Cert.MixerFwdIdeal.τ).loc Cert.MixerFwdIdeal.main_arg10) = m ((c.tc : Thread Cert.MixerFwdIdeal.nD Cert.MixerFwdIdeal.τ).loc Cert.MixerFwdIdeal.main_arg10)
      ∧ r.2.mem ((c.tc : Thread Cert.MixerFwdIdeal.nD Cert.MixerFwdIdeal.τ).loc Cert.MixerFwdIdeal.main_arg11) = m ((c.tc : Thread Cert.MixerFwdIdeal.nD Cert.MixerFwdIdeal.τ).loc Cert.MixerFwdIdeal.main_arg11)
      ∧ r.2.mem ((c.tc : Thread Cert.MixerFwdIdeal.nD Cert.MixerFwdIdeal.τ).loc Cert.MixerFwdIdeal.main_arg12) = m ((c.tc : Thread Cert.MixerFwdIdeal.nD Cert.MixerFwdIdeal.τ).loc Cert.MixerFwdIdeal.main_arg12)
      ∧ r.2.mem ((c.tc : Thread Cert.MixerFwdIdeal.nD Cert.MixerFwdIdeal.τ).loc Cert.MixerFwdIdeal.main_arg13) = m ((c.tc : Thread Cert.MixerFwdIdeal.nD Cert.MixerFwdIdeal.τ).loc Cert.MixerFwdIdeal.main_arg13)
      ∧ r.2.mem ((c.tc : Thread Cert.MixerFwdIdeal.nD Cert.MixerFwdIdeal.τ).loc Cert.MixerFwdIdeal.main_arg14) = m ((c.tc : Thread Cert.MixerFwdIdeal.nD Cert.MixerFwdIdeal.τ).loc Cert.MixerFwdIdeal.main_arg14)
      ∧ r.2.mem ((c.tc : Thread Cert.MixerFwdIdeal.nD Cert.MixerFwdIdeal.τ).loc Cert.MixerFwdIdeal.main_arg15) = m ((c.tc : Thread Cert.MixerFwdIdeal.nD Cert.MixerFwdIdeal.τ).loc Cert.MixerFwdIdeal.main_arg15)
      ∧ r.2.mem ((c.tc : Thread Cert.MixerFwdIdeal.nD Cert.MixerFwdIdeal.τ).loc Cert.MixerFwdIdeal.main_arg16) = m ((c.tc : Thread Cert.MixerFwdIdeal.nD Cert.MixerFwdIdeal.τ).loc Cert.MixerFwdIdeal.main_arg16)
      ∧ r.2.mem ((c.tc : Thread Cert.MixerFwdIdeal.nD Cert.MixerFwdIdeal.τ).loc Cert.MixerFwdIdeal.main_arg17) = m ((c.tc : Thread Cert.MixerFwdIdeal.nD Cert.MixerFwdIdeal.τ).loc Cert.MixerFwdIdeal.main_arg17)
      ∧ r.2.mem ((c.tc : Thread Cert.MixerFwdIdeal.nD Cert.MixerFwdIdeal.τ).loc Cert.MixerFwdIdeal.main_arg18) = m ((c.tc : Thread Cert.MixerFwdIdeal.nD Cert.MixerFwdIdeal.τ).loc Cert.MixerFwdIdeal.main_arg18)
      ∧ r.2.mem ((c.tc : Thread Cert.MixerFwdIdeal.nD Cert.MixerFwdIdeal.τ).loc Cert.MixerFwdIdeal.main_arg19) = m ((c.tc : Thread Cert.MixerFwdIdeal.nD Cert.MixerFwdIdeal.τ).loc Cert.MixerFwdIdeal.main_arg19)
      ∧ r.2.mem ((c.tc : Thread Cert.MixerFwdIdeal.nD Cert.MixerFwdIdeal.τ).loc Cert.MixerFwdIdeal.main_arg20) = m ((c.tc : Thread Cert.MixerFwdIdeal.nD Cert.MixerFwdIdeal.τ).loc Cert.MixerFwdIdeal.main_arg20)
      ∧ r.2.mem ((c.tc : Thread Cert.MixerFwdIdeal.nD Cert.MixerFwdIdeal.τ).loc Cert.MixerFwdIdeal.main_arg21) = m ((c.tc : Thread Cert.MixerFwdIdeal.nD Cert.MixerFwdIdeal.τ).loc Cert.MixerFwdIdeal.main_arg21)
      ∧ r.2.mem ((c.tc : Thread Cert.MixerFwdIdeal.nD Cert.MixerFwdIdeal.τ).loc Cert.MixerFwdIdeal.main_arg22) = m ((c.tc : Thread Cert.MixerFwdIdeal.nD Cert.MixerFwdIdeal.τ).loc Cert.MixerFwdIdeal.main_arg22)
      ∧ r.2.mem ((c.tc : Thread Cert.MixerFwdIdeal.nD Cert.MixerFwdIdeal.τ).loc Cert.MixerFwdIdeal.main_arg23) = m ((c.tc : Thread Cert.MixerFwdIdeal.nD Cert.MixerFwdIdeal.τ).loc Cert.MixerFwdIdeal.main_arg23)
      ∧ r.2.mem ((c.tc : Thread Cert.MixerFwdIdeal.nD Cert.MixerFwdIdeal.τ).loc Cert.MixerFwdIdeal.main_arg24) = m ((c.tc : Thread Cert.MixerFwdIdeal.nD Cert.MixerFwdIdeal.τ).loc Cert.MixerFwdIdeal.main_arg24)
      ∧ r.2.mem ((c.tc : Thread Cert.MixerFwdIdeal.nD Cert.MixerFwdIdeal.τ).loc Cert.MixerFwdIdeal.main_arg25) = m ((c.tc : Thread Cert.MixerFwdIdeal.nD Cert.MixerFwdIdeal.τ).loc Cert.MixerFwdIdeal.main_arg25))
      ∧ r.2.sem = fun _ => 0)

def preserves_InProjBwd_InProjBwdIdeal : Prop :=
  True

def algebraic_InProjBwdIdeal_InProjBwdRefIdeal_pre_in_proj_bwd_finite [hInProjBwdIdeal : Cert.InProjBwdIdeal.Facts] [hInProjBwdRefIdeal : Cert.InProjBwdRefIdeal.Facts] [hPre_in_proj_bwd_finite : Cert.Pre_in_proj_bwd_finite.Facts] : Prop :=
  ∀ (m : (ℓ : Loc Cert.InProjBwdIdeal.nD Cert.InProjBwdIdeal.τ Cert.InProjBwdIdeal.sig) → Buf (Elt Ideal) ℓ) (g : Dev Cert.InProjBwdIdeal.nD → PrngReg)
    (m' : (ℓ : Loc Cert.InProjBwdRefIdeal.nD Cert.InProjBwdRefIdeal.τ Cert.InProjBwdRefIdeal.sig) → Buf (Elt Ideal) ℓ) (g' : Dev Cert.InProjBwdRefIdeal.nD → PrngReg), Pre_InProjBwdIdeal_in_proj_bwd_finite m →
    (∀ c : Dev Cert.InProjBwdIdeal.nD,
      m' ((c.tc : Thread Cert.InProjBwdRefIdeal.nD Cert.InProjBwdRefIdeal.τ).loc Cert.InProjBwdRefIdeal.main_arg0) = m ((c.tc : Thread Cert.InProjBwdIdeal.nD Cert.InProjBwdIdeal.τ).loc Cert.InProjBwdIdeal.main_arg0)
      ∧ m' ((c.tc : Thread Cert.InProjBwdRefIdeal.nD Cert.InProjBwdRefIdeal.τ).loc Cert.InProjBwdRefIdeal.main_arg1) = m ((c.tc : Thread Cert.InProjBwdIdeal.nD Cert.InProjBwdIdeal.τ).loc Cert.InProjBwdIdeal.main_arg1)
      ∧ m' ((c.tc : Thread Cert.InProjBwdRefIdeal.nD Cert.InProjBwdRefIdeal.τ).loc Cert.InProjBwdRefIdeal.main_arg2) = m ((c.tc : Thread Cert.InProjBwdIdeal.nD Cert.InProjBwdIdeal.τ).loc Cert.InProjBwdIdeal.main_arg2)
      ∧ m' ((c.tc : Thread Cert.InProjBwdRefIdeal.nD Cert.InProjBwdRefIdeal.τ).loc Cert.InProjBwdRefIdeal.main_arg3) = m ((c.tc : Thread Cert.InProjBwdIdeal.nD Cert.InProjBwdIdeal.τ).loc Cert.InProjBwdIdeal.main_arg3)
      ∧ m' ((c.tc : Thread Cert.InProjBwdRefIdeal.nD Cert.InProjBwdRefIdeal.τ).loc Cert.InProjBwdRefIdeal.main_arg4) = m ((c.tc : Thread Cert.InProjBwdIdeal.nD Cert.InProjBwdIdeal.τ).loc Cert.InProjBwdIdeal.main_arg4)) →
    ∃ (v0 : (c : Dev Cert.InProjBwdIdeal.nD) → Buf (Elt Ideal) ((c.tc : Thread Cert.InProjBwdIdeal.nD Cert.InProjBwdIdeal.τ).loc Cert.InProjBwdIdeal.main_v11_0)) (v1 : (c : Dev Cert.InProjBwdIdeal.nD) → Buf (Elt Ideal) ((c.tc : Thread Cert.InProjBwdIdeal.nD Cert.InProjBwdIdeal.τ).loc Cert.InProjBwdIdeal.main_v11_1)),
      θ_run (Cert.InProjBwdIdeal.defs (F := Ideal)) (onTc (τ := Cert.InProjBwdIdeal.τ) (Cert.InProjBwdIdeal.main (F := Ideal))) ⟨m, fun _ => 0, g⟩ (fun r => ∀ c : Dev Cert.InProjBwdIdeal.nD,
          r.2.mem ((c.tc : Thread Cert.InProjBwdIdeal.nD Cert.InProjBwdIdeal.τ).loc Cert.InProjBwdIdeal.main_v11_0) = v0 c
          ∧ r.2.mem ((c.tc : Thread Cert.InProjBwdIdeal.nD Cert.InProjBwdIdeal.τ).loc Cert.InProjBwdIdeal.main_v11_1) = v1 c
          ∧ r.2.mem ((c.tc : Thread Cert.InProjBwdIdeal.nD Cert.InProjBwdIdeal.τ).loc Cert.InProjBwdIdeal.main_arg0) = m ((c.tc : Thread Cert.InProjBwdIdeal.nD Cert.InProjBwdIdeal.τ).loc Cert.InProjBwdIdeal.main_arg0)
          ∧ r.2.mem ((c.tc : Thread Cert.InProjBwdIdeal.nD Cert.InProjBwdIdeal.τ).loc Cert.InProjBwdIdeal.main_arg1) = m ((c.tc : Thread Cert.InProjBwdIdeal.nD Cert.InProjBwdIdeal.τ).loc Cert.InProjBwdIdeal.main_arg1)
          ∧ r.2.mem ((c.tc : Thread Cert.InProjBwdIdeal.nD Cert.InProjBwdIdeal.τ).loc Cert.InProjBwdIdeal.main_arg2) = m ((c.tc : Thread Cert.InProjBwdIdeal.nD Cert.InProjBwdIdeal.τ).loc Cert.InProjBwdIdeal.main_arg2)
          ∧ r.2.mem ((c.tc : Thread Cert.InProjBwdIdeal.nD Cert.InProjBwdIdeal.τ).loc Cert.InProjBwdIdeal.main_arg3) = m ((c.tc : Thread Cert.InProjBwdIdeal.nD Cert.InProjBwdIdeal.τ).loc Cert.InProjBwdIdeal.main_arg3)
          ∧ r.2.mem ((c.tc : Thread Cert.InProjBwdIdeal.nD Cert.InProjBwdIdeal.τ).loc Cert.InProjBwdIdeal.main_arg4) = m ((c.tc : Thread Cert.InProjBwdIdeal.nD Cert.InProjBwdIdeal.τ).loc Cert.InProjBwdIdeal.main_arg4))
      ∧ θ_run (Cert.InProjBwdRefIdeal.defs (F := Ideal)) (onTc (τ := Cert.InProjBwdRefIdeal.τ) (Cert.InProjBwdRefIdeal.main (F := Ideal))) ⟨m', fun _ => 0, g'⟩ (fun r => ∀ c : Dev Cert.InProjBwdRefIdeal.nD,
          r.2.mem ((c.tc : Thread Cert.InProjBwdRefIdeal.nD Cert.InProjBwdRefIdeal.τ).loc Cert.InProjBwdRefIdeal.main_v36) = v0 c
          ∧ r.2.mem ((c.tc : Thread Cert.InProjBwdRefIdeal.nD Cert.InProjBwdRefIdeal.τ).loc Cert.InProjBwdRefIdeal.main_v19) = v1 c
          ∧ r.2.mem ((c.tc : Thread Cert.InProjBwdRefIdeal.nD Cert.InProjBwdRefIdeal.τ).loc Cert.InProjBwdRefIdeal.main_arg0) = m' ((c.tc : Thread Cert.InProjBwdRefIdeal.nD Cert.InProjBwdRefIdeal.τ).loc Cert.InProjBwdRefIdeal.main_arg0)
          ∧ r.2.mem ((c.tc : Thread Cert.InProjBwdRefIdeal.nD Cert.InProjBwdRefIdeal.τ).loc Cert.InProjBwdRefIdeal.main_arg1) = m' ((c.tc : Thread Cert.InProjBwdRefIdeal.nD Cert.InProjBwdRefIdeal.τ).loc Cert.InProjBwdRefIdeal.main_arg1)
          ∧ r.2.mem ((c.tc : Thread Cert.InProjBwdRefIdeal.nD Cert.InProjBwdRefIdeal.τ).loc Cert.InProjBwdRefIdeal.main_arg2) = m' ((c.tc : Thread Cert.InProjBwdRefIdeal.nD Cert.InProjBwdRefIdeal.τ).loc Cert.InProjBwdRefIdeal.main_arg2)
          ∧ r.2.mem ((c.tc : Thread Cert.InProjBwdRefIdeal.nD Cert.InProjBwdRefIdeal.τ).loc Cert.InProjBwdRefIdeal.main_arg3) = m' ((c.tc : Thread Cert.InProjBwdRefIdeal.nD Cert.InProjBwdRefIdeal.τ).loc Cert.InProjBwdRefIdeal.main_arg3)
          ∧ r.2.mem ((c.tc : Thread Cert.InProjBwdRefIdeal.nD Cert.InProjBwdRefIdeal.τ).loc Cert.InProjBwdRefIdeal.main_arg4) = m' ((c.tc : Thread Cert.InProjBwdRefIdeal.nD Cert.InProjBwdRefIdeal.τ).loc Cert.InProjBwdRefIdeal.main_arg4))

def preserves_Mlp_MlpIdeal : Prop :=
  True

def algebraic_MlpIdeal_MlpRefIdeal_pre_mlp_finite [hMlpIdeal : Cert.MlpIdeal.Facts] [hMlpRefIdeal : Cert.MlpRefIdeal.Facts] [hPre_mlp_finite : Cert.Pre_mlp_finite.Facts] : Prop :=
  ∀ (m : (ℓ : Loc Cert.MlpIdeal.nD Cert.MlpIdeal.τ Cert.MlpIdeal.sig) → Buf (Elt Ideal) ℓ) (g : Dev Cert.MlpIdeal.nD → PrngReg)
    (m' : (ℓ : Loc Cert.MlpRefIdeal.nD Cert.MlpRefIdeal.τ Cert.MlpRefIdeal.sig) → Buf (Elt Ideal) ℓ) (g' : Dev Cert.MlpRefIdeal.nD → PrngReg), Pre_MlpIdeal_mlp_finite m →
    (∀ c : Dev Cert.MlpIdeal.nD,
      m' ((c.tc : Thread Cert.MlpRefIdeal.nD Cert.MlpRefIdeal.τ).loc Cert.MlpRefIdeal.main_arg0) = m ((c.tc : Thread Cert.MlpIdeal.nD Cert.MlpIdeal.τ).loc Cert.MlpIdeal.main_arg0)
      ∧ m' ((c.tc : Thread Cert.MlpRefIdeal.nD Cert.MlpRefIdeal.τ).loc Cert.MlpRefIdeal.main_arg1) = m ((c.tc : Thread Cert.MlpIdeal.nD Cert.MlpIdeal.τ).loc Cert.MlpIdeal.main_arg1)
      ∧ m' ((c.tc : Thread Cert.MlpRefIdeal.nD Cert.MlpRefIdeal.τ).loc Cert.MlpRefIdeal.main_arg2) = m ((c.tc : Thread Cert.MlpIdeal.nD Cert.MlpIdeal.τ).loc Cert.MlpIdeal.main_arg2)
      ∧ m' ((c.tc : Thread Cert.MlpRefIdeal.nD Cert.MlpRefIdeal.τ).loc Cert.MlpRefIdeal.main_arg3) = m ((c.tc : Thread Cert.MlpIdeal.nD Cert.MlpIdeal.τ).loc Cert.MlpIdeal.main_arg3)
      ∧ m' ((c.tc : Thread Cert.MlpRefIdeal.nD Cert.MlpRefIdeal.τ).loc Cert.MlpRefIdeal.main_arg4) = m ((c.tc : Thread Cert.MlpIdeal.nD Cert.MlpIdeal.τ).loc Cert.MlpIdeal.main_arg4)
      ∧ m' ((c.tc : Thread Cert.MlpRefIdeal.nD Cert.MlpRefIdeal.τ).loc Cert.MlpRefIdeal.main_arg5) = m ((c.tc : Thread Cert.MlpIdeal.nD Cert.MlpIdeal.τ).loc Cert.MlpIdeal.main_arg5)) →
    ∃ (v0 : (c : Dev Cert.MlpIdeal.nD) → Buf (Elt Ideal) ((c.tc : Thread Cert.MlpIdeal.nD Cert.MlpIdeal.τ).loc Cert.MlpIdeal.main_v7_0)) (v1 : (c : Dev Cert.MlpIdeal.nD) → Buf (Elt Ideal) ((c.tc : Thread Cert.MlpIdeal.nD Cert.MlpIdeal.τ).loc Cert.MlpIdeal.main_v7_1)) (v2 : (c : Dev Cert.MlpIdeal.nD) → Buf (Elt Ideal) ((c.tc : Thread Cert.MlpIdeal.nD Cert.MlpIdeal.τ).loc Cert.MlpIdeal.main_v7_2)) (v3 : (c : Dev Cert.MlpIdeal.nD) → Buf (Elt Ideal) ((c.tc : Thread Cert.MlpIdeal.nD Cert.MlpIdeal.τ).loc Cert.MlpIdeal.main_v7_3)) (v4 : (c : Dev Cert.MlpIdeal.nD) → Buf (Elt Ideal) ((c.tc : Thread Cert.MlpIdeal.nD Cert.MlpIdeal.τ).loc Cert.MlpIdeal.main_v7_4)) (v5 : (c : Dev Cert.MlpIdeal.nD) → Buf (Elt Ideal) ((c.tc : Thread Cert.MlpIdeal.nD Cert.MlpIdeal.τ).loc Cert.MlpIdeal.main_v7_5)) (v6 : (c : Dev Cert.MlpIdeal.nD) → Buf (Elt Ideal) ((c.tc : Thread Cert.MlpIdeal.nD Cert.MlpIdeal.τ).loc Cert.MlpIdeal.main_v7_6)) (v7 : (c : Dev Cert.MlpIdeal.nD) → Buf (Elt Ideal) ((c.tc : Thread Cert.MlpIdeal.nD Cert.MlpIdeal.τ).loc Cert.MlpIdeal.main_v7_7)),
      θ_run (Cert.MlpIdeal.defs (F := Ideal)) (onTc (τ := Cert.MlpIdeal.τ) (Cert.MlpIdeal.main (F := Ideal))) ⟨m, fun _ => 0, g⟩ (fun r => ∀ c : Dev Cert.MlpIdeal.nD,
          r.2.mem ((c.tc : Thread Cert.MlpIdeal.nD Cert.MlpIdeal.τ).loc Cert.MlpIdeal.main_v7_0) = v0 c
          ∧ r.2.mem ((c.tc : Thread Cert.MlpIdeal.nD Cert.MlpIdeal.τ).loc Cert.MlpIdeal.main_v7_1) = v1 c
          ∧ r.2.mem ((c.tc : Thread Cert.MlpIdeal.nD Cert.MlpIdeal.τ).loc Cert.MlpIdeal.main_v7_2) = v2 c
          ∧ r.2.mem ((c.tc : Thread Cert.MlpIdeal.nD Cert.MlpIdeal.τ).loc Cert.MlpIdeal.main_v7_3) = v3 c
          ∧ r.2.mem ((c.tc : Thread Cert.MlpIdeal.nD Cert.MlpIdeal.τ).loc Cert.MlpIdeal.main_v7_4) = v4 c
          ∧ r.2.mem ((c.tc : Thread Cert.MlpIdeal.nD Cert.MlpIdeal.τ).loc Cert.MlpIdeal.main_v7_5) = v5 c
          ∧ r.2.mem ((c.tc : Thread Cert.MlpIdeal.nD Cert.MlpIdeal.τ).loc Cert.MlpIdeal.main_v7_6) = v6 c
          ∧ r.2.mem ((c.tc : Thread Cert.MlpIdeal.nD Cert.MlpIdeal.τ).loc Cert.MlpIdeal.main_v7_7) = v7 c
          ∧ r.2.mem ((c.tc : Thread Cert.MlpIdeal.nD Cert.MlpIdeal.τ).loc Cert.MlpIdeal.main_arg0) = m ((c.tc : Thread Cert.MlpIdeal.nD Cert.MlpIdeal.τ).loc Cert.MlpIdeal.main_arg0)
          ∧ r.2.mem ((c.tc : Thread Cert.MlpIdeal.nD Cert.MlpIdeal.τ).loc Cert.MlpIdeal.main_arg1) = m ((c.tc : Thread Cert.MlpIdeal.nD Cert.MlpIdeal.τ).loc Cert.MlpIdeal.main_arg1)
          ∧ r.2.mem ((c.tc : Thread Cert.MlpIdeal.nD Cert.MlpIdeal.τ).loc Cert.MlpIdeal.main_arg2) = m ((c.tc : Thread Cert.MlpIdeal.nD Cert.MlpIdeal.τ).loc Cert.MlpIdeal.main_arg2)
          ∧ r.2.mem ((c.tc : Thread Cert.MlpIdeal.nD Cert.MlpIdeal.τ).loc Cert.MlpIdeal.main_arg3) = m ((c.tc : Thread Cert.MlpIdeal.nD Cert.MlpIdeal.τ).loc Cert.MlpIdeal.main_arg3)
          ∧ r.2.mem ((c.tc : Thread Cert.MlpIdeal.nD Cert.MlpIdeal.τ).loc Cert.MlpIdeal.main_arg4) = m ((c.tc : Thread Cert.MlpIdeal.nD Cert.MlpIdeal.τ).loc Cert.MlpIdeal.main_arg4)
          ∧ r.2.mem ((c.tc : Thread Cert.MlpIdeal.nD Cert.MlpIdeal.τ).loc Cert.MlpIdeal.main_arg5) = m ((c.tc : Thread Cert.MlpIdeal.nD Cert.MlpIdeal.τ).loc Cert.MlpIdeal.main_arg5))
      ∧ θ_run (Cert.MlpRefIdeal.defs (F := Ideal)) (onTc (τ := Cert.MlpRefIdeal.τ) (Cert.MlpRefIdeal.main (F := Ideal))) ⟨m', fun _ => 0, g'⟩ (fun r => ∀ c : Dev Cert.MlpRefIdeal.nD,
          r.2.mem ((c.tc : Thread Cert.MlpRefIdeal.nD Cert.MlpRefIdeal.τ).loc Cert.MlpRefIdeal.main_v102) = v0 c
          ∧ r.2.mem ((c.tc : Thread Cert.MlpRefIdeal.nD Cert.MlpRefIdeal.τ).loc Cert.MlpRefIdeal.main_v103) = v1 c
          ∧ r.2.mem ((c.tc : Thread Cert.MlpRefIdeal.nD Cert.MlpRefIdeal.τ).loc Cert.MlpRefIdeal.main_v104) = v2 c
          ∧ r.2.mem ((c.tc : Thread Cert.MlpRefIdeal.nD Cert.MlpRefIdeal.τ).loc Cert.MlpRefIdeal.main_v105) = v3 c
          ∧ r.2.mem ((c.tc : Thread Cert.MlpRefIdeal.nD Cert.MlpRefIdeal.τ).loc Cert.MlpRefIdeal.main_v106) = v4 c
          ∧ r.2.mem ((c.tc : Thread Cert.MlpRefIdeal.nD Cert.MlpRefIdeal.τ).loc Cert.MlpRefIdeal.main_v61) = v5 c
          ∧ r.2.mem ((c.tc : Thread Cert.MlpRefIdeal.nD Cert.MlpRefIdeal.τ).loc Cert.MlpRefIdeal.main_v85) = v6 c
          ∧ r.2.mem ((c.tc : Thread Cert.MlpRefIdeal.nD Cert.MlpRefIdeal.τ).loc Cert.MlpRefIdeal.main_v107) = v7 c
          ∧ r.2.mem ((c.tc : Thread Cert.MlpRefIdeal.nD Cert.MlpRefIdeal.τ).loc Cert.MlpRefIdeal.main_arg0) = m' ((c.tc : Thread Cert.MlpRefIdeal.nD Cert.MlpRefIdeal.τ).loc Cert.MlpRefIdeal.main_arg0)
          ∧ r.2.mem ((c.tc : Thread Cert.MlpRefIdeal.nD Cert.MlpRefIdeal.τ).loc Cert.MlpRefIdeal.main_arg1) = m' ((c.tc : Thread Cert.MlpRefIdeal.nD Cert.MlpRefIdeal.τ).loc Cert.MlpRefIdeal.main_arg1)
          ∧ r.2.mem ((c.tc : Thread Cert.MlpRefIdeal.nD Cert.MlpRefIdeal.τ).loc Cert.MlpRefIdeal.main_arg2) = m' ((c.tc : Thread Cert.MlpRefIdeal.nD Cert.MlpRefIdeal.τ).loc Cert.MlpRefIdeal.main_arg2)
          ∧ r.2.mem ((c.tc : Thread Cert.MlpRefIdeal.nD Cert.MlpRefIdeal.τ).loc Cert.MlpRefIdeal.main_arg3) = m' ((c.tc : Thread Cert.MlpRefIdeal.nD Cert.MlpRefIdeal.τ).loc Cert.MlpRefIdeal.main_arg3)
          ∧ r.2.mem ((c.tc : Thread Cert.MlpRefIdeal.nD Cert.MlpRefIdeal.τ).loc Cert.MlpRefIdeal.main_arg4) = m' ((c.tc : Thread Cert.MlpRefIdeal.nD Cert.MlpRefIdeal.τ).loc Cert.MlpRefIdeal.main_arg4)
          ∧ r.2.mem ((c.tc : Thread Cert.MlpRefIdeal.nD Cert.MlpRefIdeal.τ).loc Cert.MlpRefIdeal.main_arg5) = m' ((c.tc : Thread Cert.MlpRefIdeal.nD Cert.MlpRefIdeal.τ).loc Cert.MlpRefIdeal.main_arg5))

def preserves_MergeBwd_MergeBwdIdeal : Prop :=
  True

def algebraic_MergeBwdIdeal_MergeBwdRefIdeal_pre_merge_bwd_finite [hMergeBwdIdeal : Cert.MergeBwdIdeal.Facts] [hMergeBwdRefIdeal : Cert.MergeBwdRefIdeal.Facts] [hPre_merge_bwd_finite : Cert.Pre_merge_bwd_finite.Facts] : Prop :=
  ∀ (m : (ℓ : Loc Cert.MergeBwdIdeal.nD Cert.MergeBwdIdeal.τ Cert.MergeBwdIdeal.sig) → Buf (Elt Ideal) ℓ) (g : Dev Cert.MergeBwdIdeal.nD → PrngReg)
    (m' : (ℓ : Loc Cert.MergeBwdRefIdeal.nD Cert.MergeBwdRefIdeal.τ Cert.MergeBwdRefIdeal.sig) → Buf (Elt Ideal) ℓ) (g' : Dev Cert.MergeBwdRefIdeal.nD → PrngReg), Pre_MergeBwdIdeal_merge_bwd_finite m →
    (∀ c : Dev Cert.MergeBwdIdeal.nD,
      m' ((c.tc : Thread Cert.MergeBwdRefIdeal.nD Cert.MergeBwdRefIdeal.τ).loc Cert.MergeBwdRefIdeal.main_arg0) = m ((c.tc : Thread Cert.MergeBwdIdeal.nD Cert.MergeBwdIdeal.τ).loc Cert.MergeBwdIdeal.main_arg0)
      ∧ m' ((c.tc : Thread Cert.MergeBwdRefIdeal.nD Cert.MergeBwdRefIdeal.τ).loc Cert.MergeBwdRefIdeal.main_arg1) = m ((c.tc : Thread Cert.MergeBwdIdeal.nD Cert.MergeBwdIdeal.τ).loc Cert.MergeBwdIdeal.main_arg1)
      ∧ m' ((c.tc : Thread Cert.MergeBwdRefIdeal.nD Cert.MergeBwdRefIdeal.τ).loc Cert.MergeBwdRefIdeal.main_arg2) = m ((c.tc : Thread Cert.MergeBwdIdeal.nD Cert.MergeBwdIdeal.τ).loc Cert.MergeBwdIdeal.main_arg2)
      ∧ m' ((c.tc : Thread Cert.MergeBwdRefIdeal.nD Cert.MergeBwdRefIdeal.τ).loc Cert.MergeBwdRefIdeal.main_arg3) = m ((c.tc : Thread Cert.MergeBwdIdeal.nD Cert.MergeBwdIdeal.τ).loc Cert.MergeBwdIdeal.main_arg3)
      ∧ m' ((c.tc : Thread Cert.MergeBwdRefIdeal.nD Cert.MergeBwdRefIdeal.τ).loc Cert.MergeBwdRefIdeal.main_arg4) = m ((c.tc : Thread Cert.MergeBwdIdeal.nD Cert.MergeBwdIdeal.τ).loc Cert.MergeBwdIdeal.main_arg4)
      ∧ m' ((c.tc : Thread Cert.MergeBwdRefIdeal.nD Cert.MergeBwdRefIdeal.τ).loc Cert.MergeBwdRefIdeal.main_arg5) = m ((c.tc : Thread Cert.MergeBwdIdeal.nD Cert.MergeBwdIdeal.τ).loc Cert.MergeBwdIdeal.main_arg5)
      ∧ m' ((c.tc : Thread Cert.MergeBwdRefIdeal.nD Cert.MergeBwdRefIdeal.τ).loc Cert.MergeBwdRefIdeal.main_arg6) = m ((c.tc : Thread Cert.MergeBwdIdeal.nD Cert.MergeBwdIdeal.τ).loc Cert.MergeBwdIdeal.main_arg6)
      ∧ m' ((c.tc : Thread Cert.MergeBwdRefIdeal.nD Cert.MergeBwdRefIdeal.τ).loc Cert.MergeBwdRefIdeal.main_arg7) = m ((c.tc : Thread Cert.MergeBwdIdeal.nD Cert.MergeBwdIdeal.τ).loc Cert.MergeBwdIdeal.main_arg7)
      ∧ m' ((c.tc : Thread Cert.MergeBwdRefIdeal.nD Cert.MergeBwdRefIdeal.τ).loc Cert.MergeBwdRefIdeal.main_arg8) = m ((c.tc : Thread Cert.MergeBwdIdeal.nD Cert.MergeBwdIdeal.τ).loc Cert.MergeBwdIdeal.main_arg8)) →
    ∃ (v0 : (c : Dev Cert.MergeBwdIdeal.nD) → Buf (Elt Ideal) ((c.tc : Thread Cert.MergeBwdIdeal.nD Cert.MergeBwdIdeal.τ).loc Cert.MergeBwdIdeal.main_v29_0)) (v1 : (c : Dev Cert.MergeBwdIdeal.nD) → Buf (Elt Ideal) ((c.tc : Thread Cert.MergeBwdIdeal.nD Cert.MergeBwdIdeal.τ).loc Cert.MergeBwdIdeal.main_v29_1)) (v2 : (c : Dev Cert.MergeBwdIdeal.nD) → Buf (Elt Ideal) ((c.tc : Thread Cert.MergeBwdIdeal.nD Cert.MergeBwdIdeal.τ).loc Cert.MergeBwdIdeal.main_v29_2)) (v3 : (c : Dev Cert.MergeBwdIdeal.nD) → Buf (Elt Ideal) ((c.tc : Thread Cert.MergeBwdIdeal.nD Cert.MergeBwdIdeal.τ).loc Cert.MergeBwdIdeal.main_v29_3)) (v4 : (c : Dev Cert.MergeBwdIdeal.nD) → Buf (Elt Ideal) ((c.tc : Thread Cert.MergeBwdIdeal.nD Cert.MergeBwdIdeal.τ).loc Cert.MergeBwdIdeal.main_v29_4)) (v5 : (c : Dev Cert.MergeBwdIdeal.nD) → Buf (Elt Ideal) ((c.tc : Thread Cert.MergeBwdIdeal.nD Cert.MergeBwdIdeal.τ).loc Cert.MergeBwdIdeal.main_v29_5)),
      θ_run (Cert.MergeBwdIdeal.defs (F := Ideal)) (onTc (τ := Cert.MergeBwdIdeal.τ) (Cert.MergeBwdIdeal.main (F := Ideal))) ⟨m, fun _ => 0, g⟩ (fun r => ∀ c : Dev Cert.MergeBwdIdeal.nD,
          r.2.mem ((c.tc : Thread Cert.MergeBwdIdeal.nD Cert.MergeBwdIdeal.τ).loc Cert.MergeBwdIdeal.main_v29_0) = v0 c
          ∧ r.2.mem ((c.tc : Thread Cert.MergeBwdIdeal.nD Cert.MergeBwdIdeal.τ).loc Cert.MergeBwdIdeal.main_v29_1) = v1 c
          ∧ r.2.mem ((c.tc : Thread Cert.MergeBwdIdeal.nD Cert.MergeBwdIdeal.τ).loc Cert.MergeBwdIdeal.main_v29_2) = v2 c
          ∧ r.2.mem ((c.tc : Thread Cert.MergeBwdIdeal.nD Cert.MergeBwdIdeal.τ).loc Cert.MergeBwdIdeal.main_v29_3) = v3 c
          ∧ r.2.mem ((c.tc : Thread Cert.MergeBwdIdeal.nD Cert.MergeBwdIdeal.τ).loc Cert.MergeBwdIdeal.main_v29_4) = v4 c
          ∧ r.2.mem ((c.tc : Thread Cert.MergeBwdIdeal.nD Cert.MergeBwdIdeal.τ).loc Cert.MergeBwdIdeal.main_v29_5) = v5 c
          ∧ r.2.mem ((c.tc : Thread Cert.MergeBwdIdeal.nD Cert.MergeBwdIdeal.τ).loc Cert.MergeBwdIdeal.main_arg0) = m ((c.tc : Thread Cert.MergeBwdIdeal.nD Cert.MergeBwdIdeal.τ).loc Cert.MergeBwdIdeal.main_arg0)
          ∧ r.2.mem ((c.tc : Thread Cert.MergeBwdIdeal.nD Cert.MergeBwdIdeal.τ).loc Cert.MergeBwdIdeal.main_arg1) = m ((c.tc : Thread Cert.MergeBwdIdeal.nD Cert.MergeBwdIdeal.τ).loc Cert.MergeBwdIdeal.main_arg1)
          ∧ r.2.mem ((c.tc : Thread Cert.MergeBwdIdeal.nD Cert.MergeBwdIdeal.τ).loc Cert.MergeBwdIdeal.main_arg2) = m ((c.tc : Thread Cert.MergeBwdIdeal.nD Cert.MergeBwdIdeal.τ).loc Cert.MergeBwdIdeal.main_arg2)
          ∧ r.2.mem ((c.tc : Thread Cert.MergeBwdIdeal.nD Cert.MergeBwdIdeal.τ).loc Cert.MergeBwdIdeal.main_arg3) = m ((c.tc : Thread Cert.MergeBwdIdeal.nD Cert.MergeBwdIdeal.τ).loc Cert.MergeBwdIdeal.main_arg3)
          ∧ r.2.mem ((c.tc : Thread Cert.MergeBwdIdeal.nD Cert.MergeBwdIdeal.τ).loc Cert.MergeBwdIdeal.main_arg4) = m ((c.tc : Thread Cert.MergeBwdIdeal.nD Cert.MergeBwdIdeal.τ).loc Cert.MergeBwdIdeal.main_arg4)
          ∧ r.2.mem ((c.tc : Thread Cert.MergeBwdIdeal.nD Cert.MergeBwdIdeal.τ).loc Cert.MergeBwdIdeal.main_arg5) = m ((c.tc : Thread Cert.MergeBwdIdeal.nD Cert.MergeBwdIdeal.τ).loc Cert.MergeBwdIdeal.main_arg5)
          ∧ r.2.mem ((c.tc : Thread Cert.MergeBwdIdeal.nD Cert.MergeBwdIdeal.τ).loc Cert.MergeBwdIdeal.main_arg6) = m ((c.tc : Thread Cert.MergeBwdIdeal.nD Cert.MergeBwdIdeal.τ).loc Cert.MergeBwdIdeal.main_arg6)
          ∧ r.2.mem ((c.tc : Thread Cert.MergeBwdIdeal.nD Cert.MergeBwdIdeal.τ).loc Cert.MergeBwdIdeal.main_arg7) = m ((c.tc : Thread Cert.MergeBwdIdeal.nD Cert.MergeBwdIdeal.τ).loc Cert.MergeBwdIdeal.main_arg7)
          ∧ r.2.mem ((c.tc : Thread Cert.MergeBwdIdeal.nD Cert.MergeBwdIdeal.τ).loc Cert.MergeBwdIdeal.main_arg8) = m ((c.tc : Thread Cert.MergeBwdIdeal.nD Cert.MergeBwdIdeal.τ).loc Cert.MergeBwdIdeal.main_arg8))
      ∧ θ_run (Cert.MergeBwdRefIdeal.defs (F := Ideal)) (onTc (τ := Cert.MergeBwdRefIdeal.τ) (Cert.MergeBwdRefIdeal.main (F := Ideal))) ⟨m', fun _ => 0, g'⟩ (fun r => ∀ c : Dev Cert.MergeBwdRefIdeal.nD,
          r.2.mem ((c.tc : Thread Cert.MergeBwdRefIdeal.nD Cert.MergeBwdRefIdeal.τ).loc Cert.MergeBwdRefIdeal.main_v74) = v0 c
          ∧ r.2.mem ((c.tc : Thread Cert.MergeBwdRefIdeal.nD Cert.MergeBwdRefIdeal.τ).loc Cert.MergeBwdRefIdeal.main_v75) = v1 c
          ∧ r.2.mem ((c.tc : Thread Cert.MergeBwdRefIdeal.nD Cert.MergeBwdRefIdeal.τ).loc Cert.MergeBwdRefIdeal.main_v41) = v2 c
          ∧ r.2.mem ((c.tc : Thread Cert.MergeBwdRefIdeal.nD Cert.MergeBwdRefIdeal.τ).loc Cert.MergeBwdRefIdeal.main_v78) = v3 c
          ∧ r.2.mem ((c.tc : Thread Cert.MergeBwdRefIdeal.nD Cert.MergeBwdRefIdeal.τ).loc Cert.MergeBwdRefIdeal.main_v81) = v4 c
          ∧ r.2.mem ((c.tc : Thread Cert.MergeBwdRefIdeal.nD Cert.MergeBwdRefIdeal.τ).loc Cert.MergeBwdRefIdeal.main_v82) = v5 c
          ∧ r.2.mem ((c.tc : Thread Cert.MergeBwdRefIdeal.nD Cert.MergeBwdRefIdeal.τ).loc Cert.MergeBwdRefIdeal.main_arg0) = m' ((c.tc : Thread Cert.MergeBwdRefIdeal.nD Cert.MergeBwdRefIdeal.τ).loc Cert.MergeBwdRefIdeal.main_arg0)
          ∧ r.2.mem ((c.tc : Thread Cert.MergeBwdRefIdeal.nD Cert.MergeBwdRefIdeal.τ).loc Cert.MergeBwdRefIdeal.main_arg1) = m' ((c.tc : Thread Cert.MergeBwdRefIdeal.nD Cert.MergeBwdRefIdeal.τ).loc Cert.MergeBwdRefIdeal.main_arg1)
          ∧ r.2.mem ((c.tc : Thread Cert.MergeBwdRefIdeal.nD Cert.MergeBwdRefIdeal.τ).loc Cert.MergeBwdRefIdeal.main_arg2) = m' ((c.tc : Thread Cert.MergeBwdRefIdeal.nD Cert.MergeBwdRefIdeal.τ).loc Cert.MergeBwdRefIdeal.main_arg2)
          ∧ r.2.mem ((c.tc : Thread Cert.MergeBwdRefIdeal.nD Cert.MergeBwdRefIdeal.τ).loc Cert.MergeBwdRefIdeal.main_arg3) = m' ((c.tc : Thread Cert.MergeBwdRefIdeal.nD Cert.MergeBwdRefIdeal.τ).loc Cert.MergeBwdRefIdeal.main_arg3)
          ∧ r.2.mem ((c.tc : Thread Cert.MergeBwdRefIdeal.nD Cert.MergeBwdRefIdeal.τ).loc Cert.MergeBwdRefIdeal.main_arg4) = m' ((c.tc : Thread Cert.MergeBwdRefIdeal.nD Cert.MergeBwdRefIdeal.τ).loc Cert.MergeBwdRefIdeal.main_arg4)
          ∧ r.2.mem ((c.tc : Thread Cert.MergeBwdRefIdeal.nD Cert.MergeBwdRefIdeal.τ).loc Cert.MergeBwdRefIdeal.main_arg5) = m' ((c.tc : Thread Cert.MergeBwdRefIdeal.nD Cert.MergeBwdRefIdeal.τ).loc Cert.MergeBwdRefIdeal.main_arg5)
          ∧ r.2.mem ((c.tc : Thread Cert.MergeBwdRefIdeal.nD Cert.MergeBwdRefIdeal.τ).loc Cert.MergeBwdRefIdeal.main_arg6) = m' ((c.tc : Thread Cert.MergeBwdRefIdeal.nD Cert.MergeBwdRefIdeal.τ).loc Cert.MergeBwdRefIdeal.main_arg6)
          ∧ r.2.mem ((c.tc : Thread Cert.MergeBwdRefIdeal.nD Cert.MergeBwdRefIdeal.τ).loc Cert.MergeBwdRefIdeal.main_arg7) = m' ((c.tc : Thread Cert.MergeBwdRefIdeal.nD Cert.MergeBwdRefIdeal.τ).loc Cert.MergeBwdRefIdeal.main_arg7)
          ∧ r.2.mem ((c.tc : Thread Cert.MergeBwdRefIdeal.nD Cert.MergeBwdRefIdeal.τ).loc Cert.MergeBwdRefIdeal.main_arg8) = m' ((c.tc : Thread Cert.MergeBwdRefIdeal.nD Cert.MergeBwdRefIdeal.τ).loc Cert.MergeBwdRefIdeal.main_arg8))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v3_0)) (v1 : (c : Dev Cert.InProjIdeal.nD) → Buf (Elt Ideal) ((c.tc : Thread Cert.InProjIdeal.nD Cert.InProjIdeal.τ).loc Cert.InProjIdeal.main_v3_1)) (v2 : (c : Dev Cert.InProjIdeal.nD) → Buf (Elt Ideal) ((c.tc : Thread Cert.InProjIdeal.nD Cert.InProjIdeal.τ).loc Cert.InProjIdeal.main_v3_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v3_0) = v0 c
          ∧ r.2.mem ((c.tc : Thread Cert.InProjIdeal.nD Cert.InProjIdeal.τ).loc Cert.InProjIdeal.main_v3_1) = v1 c
          ∧ r.2.mem ((c.tc : Thread Cert.InProjIdeal.nD Cert.InProjIdeal.τ).loc Cert.InProjIdeal.main_v3_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v16) = v0 c
          ∧ r.2.mem ((c.tc : Thread Cert.InProjRefIdeal.nD Cert.InProjRefIdeal.τ).loc Cert.InProjRefIdeal.main_v17) = v1 c
          ∧ r.2.mem ((c.tc : Thread Cert.InProjRefIdeal.nD Cert.InProjRefIdeal.τ).loc Cert.InProjRefIdeal.main_v18) = v2 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_DwUp_DwUpIdeal : Prop :=
  True

def algebraic_DwUpIdeal_DwUpRefIdeal [hDwUpIdeal : Cert.DwUpIdeal.Facts] [hDwUpRefIdeal : Cert.DwUpRefIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpRefIdeal.nD Cert.DwUpRefIdeal.τ Cert.DwUpRefIdeal.sig) → Buf (Elt Ideal) ℓ) (g' : Dev Cert.DwUpRefIdeal.nD → PrngReg), Pre_DwUpIdeal m →
    (∀ c : Dev Cert.DwUpIdeal.nD,
      m' ((c.tc : Thread Cert.DwUpRefIdeal.nD Cert.DwUpRefIdeal.τ).loc Cert.DwUpRefIdeal.main_arg0) = m ((c.tc : Thread Cert.DwUpIdeal.nD Cert.DwUpIdeal.τ).loc Cert.DwUpIdeal.main_arg0)
      ∧ m' ((c.tc : Thread Cert.DwUpRefIdeal.nD Cert.DwUpRefIdeal.τ).loc Cert.DwUpRefIdeal.main_arg1) = m ((c.tc : Thread Cert.DwUpIdeal.nD Cert.DwUpIdeal.τ).loc Cert.DwUpIdeal.main_arg1)) →
    ∃ (v0 : (c : Dev Cert.DwUpIdeal.nD) → Buf (Elt Ideal) ((c.tc : Thread Cert.DwUpIdeal.nD Cert.DwUpIdeal.τ).loc Cert.DwUpIdeal.main_v2)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v2) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1))
      ∧ θ_run (Cert.DwUpRefIdeal.defs (F := Ideal)) (onTc (τ := Cert.DwUpRefIdeal.τ) (Cert.DwUpRefIdeal.main (F := Ideal))) ⟨m', fun _ => 0, g'⟩ (fun r => ∀ c : Dev Cert.DwUpRefIdeal.nD,
          r.2.mem ((c.tc : Thread Cert.DwUpRefIdeal.nD Cert.DwUpRefIdeal.τ).loc Cert.DwUpRefIdeal.main_v4) = v0 c
          ∧ r.2.mem ((c.tc : Thread Cert.DwUpRefIdeal.nD Cert.DwUpRefIdeal.τ).loc Cert.DwUpRefIdeal.main_arg0) = m' ((c.tc : Thread Cert.DwUpRefIdeal.nD Cert.DwUpRefIdeal.τ).loc Cert.DwUpRefIdeal.main_arg0)
          ∧ r.2.mem ((c.tc : Thread Cert.DwUpRefIdeal.nD Cert.DwUpRefIdeal.τ).loc Cert.DwUpRefIdeal.main_arg1) = m' ((c.tc : Thread Cert.DwUpRefIdeal.nD Cert.DwUpRefIdeal.τ).loc Cert.DwUpRefIdeal.main_arg1))

def preserves_AdamwBig_AdamwBigIdeal : Prop :=
  True

def algebraic_AdamwBigIdeal_AdamwBigRefIdeal [hAdamwBigIdeal : Cert.AdamwBigIdeal.Facts] [hAdamwBigRefIdeal : Cert.AdamwBigRefIdeal.Facts] : Prop :=
  ∀ (m : (ℓ : Loc Cert.AdamwBigIdeal.nD Cert.AdamwBigIdeal.τ Cert.AdamwBigIdeal.sig) → Buf (Elt Ideal) ℓ) (g : Dev Cert.AdamwBigIdeal.nD → PrngReg)
    (m' : (ℓ : Loc Cert.AdamwBigRefIdeal.nD Cert.AdamwBigRefIdeal.τ Cert.AdamwBigRefIdeal.sig) → Buf (Elt Ideal) ℓ) (g' : Dev Cert.AdamwBigRefIdeal.nD → PrngReg), Pre_AdamwBigIdeal m →
    (∀ c : Dev Cert.AdamwBigIdeal.nD,
      m' ((c.tc : Thread Cert.AdamwBigRefIdeal.nD Cert.AdamwBigRefIdeal.τ).loc Cert.AdamwBigRefIdeal.main_arg0) = m ((c.tc : Thread Cert.AdamwBigIdeal.nD Cert.AdamwBigIdeal.τ).loc Cert.AdamwBigIdeal.main_arg0)
      ∧ m' ((c.tc : Thread Cert.AdamwBigRefIdeal.nD Cert.AdamwBigRefIdeal.τ).loc Cert.AdamwBigRefIdeal.main_arg1) = m ((c.tc : Thread Cert.AdamwBigIdeal.nD Cert.AdamwBigIdeal.τ).loc Cert.AdamwBigIdeal.main_arg1)
      ∧ m' ((c.tc : Thread Cert.AdamwBigRefIdeal.nD Cert.AdamwBigRefIdeal.τ).loc Cert.AdamwBigRefIdeal.main_arg2) = m ((c.tc : Thread Cert.AdamwBigIdeal.nD Cert.AdamwBigIdeal.τ).loc Cert.AdamwBigIdeal.main_arg2)
      ∧ m' ((c.tc : Thread Cert.AdamwBigRefIdeal.nD Cert.AdamwBigRefIdeal.τ).loc Cert.AdamwBigRefIdeal.main_arg3) = m ((c.tc : Thread Cert.AdamwBigIdeal.nD Cert.AdamwBigIdeal.τ).loc Cert.AdamwBigIdeal.main_arg3)
      ∧ m' ((c.tc : Thread Cert.AdamwBigRefIdeal.nD Cert.AdamwBigRefIdeal.τ).loc Cert.AdamwBigRefIdeal.main_arg4) = m ((c.tc : Thread Cert.AdamwBigIdeal.nD Cert.AdamwBigIdeal.τ).loc Cert.AdamwBigIdeal.main_arg4)
      ∧ m' ((c.tc : Thread Cert.AdamwBigRefIdeal.nD Cert.AdamwBigRefIdeal.τ).loc Cert.AdamwBigRefIdeal.main_arg5) = m ((c.tc : Thread Cert.AdamwBigIdeal.nD Cert.AdamwBigIdeal.τ).loc Cert.AdamwBigIdeal.main_arg5)
      ∧ m' ((c.tc : Thread Cert.AdamwBigRefIdeal.nD Cert.AdamwBigRefIdeal.τ).loc Cert.AdamwBigRefIdeal.main_arg6) = m ((c.tc : Thread Cert.AdamwBigIdeal.nD Cert.AdamwBigIdeal.τ).loc Cert.AdamwBigIdeal.main_arg6)
      ∧ m' ((c.tc : Thread Cert.AdamwBigRefIdeal.nD Cert.AdamwBigRefIdeal.τ).loc Cert.AdamwBigRefIdeal.main_arg7) = m ((c.tc : Thread Cert.AdamwBigIdeal.nD Cert.AdamwBigIdeal.τ).loc Cert.AdamwBigIdeal.main_arg7)
      ∧ m' ((c.tc : Thread Cert.AdamwBigRefIdeal.nD Cert.AdamwBigRefIdeal.τ).loc Cert.AdamwBigRefIdeal.main_arg8) = m ((c.tc : Thread Cert.AdamwBigIdeal.nD Cert.AdamwBigIdeal.τ).loc Cert.AdamwBigIdeal.main_arg8)
      ∧ m' ((c.tc : Thread Cert.AdamwBigRefIdeal.nD Cert.AdamwBigRefIdeal.τ).loc Cert.AdamwBigRefIdeal.main_arg9) = m ((c.tc : Thread Cert.AdamwBigIdeal.nD Cert.AdamwBigIdeal.τ).loc Cert.AdamwBigIdeal.main_arg9)
      ∧ m' ((c.tc : Thread Cert.AdamwBigRefIdeal.nD Cert.AdamwBigRefIdeal.τ).loc Cert.AdamwBigRefIdeal.main_arg10) = m ((c.tc : Thread Cert.AdamwBigIdeal.nD Cert.AdamwBigIdeal.τ).loc Cert.AdamwBigIdeal.main_arg10)
      ∧ m' ((c.tc : Thread Cert.AdamwBigRefIdeal.nD Cert.AdamwBigRefIdeal.τ).loc Cert.AdamwBigRefIdeal.main_arg11) = m ((c.tc : Thread Cert.AdamwBigIdeal.nD Cert.AdamwBigIdeal.τ).loc Cert.AdamwBigIdeal.main_arg11)) →
    ∃ (v0 : (c : Dev Cert.AdamwBigIdeal.nD) → Buf (Elt Ideal) ((c.tc : Thread Cert.AdamwBigIdeal.nD Cert.AdamwBigIdeal.τ).loc Cert.AdamwBigIdeal.main_v0_0)) (v1 : (c : Dev Cert.AdamwBigIdeal.nD) → Buf (Elt Ideal) ((c.tc : Thread Cert.AdamwBigIdeal.nD Cert.AdamwBigIdeal.τ).loc Cert.AdamwBigIdeal.main_v0_1)) (v2 : (c : Dev Cert.AdamwBigIdeal.nD) → Buf (Elt Ideal) ((c.tc : Thread Cert.AdamwBigIdeal.nD Cert.AdamwBigIdeal.τ).loc Cert.AdamwBigIdeal.main_v0_2)) (v3 : (c : Dev Cert.AdamwBigIdeal.nD) → Buf (Elt Ideal) ((c.tc : Thread Cert.AdamwBigIdeal.nD Cert.AdamwBigIdeal.τ).loc Cert.AdamwBigIdeal.main_v0_3)) (v4 : (c : Dev Cert.AdamwBigIdeal.nD) → Buf (Elt Ideal) ((c.tc : Thread Cert.AdamwBigIdeal.nD Cert.AdamwBigIdeal.τ).loc Cert.AdamwBigIdeal.main_v0_4)) (v5 : (c : Dev Cert.AdamwBigIdeal.nD) → Buf (Elt Ideal) ((c.tc : Thread Cert.AdamwBigIdeal.nD Cert.AdamwBigIdeal.τ).loc Cert.AdamwBigIdeal.main_v0_5)) (v6 : (c : Dev Cert.AdamwBigIdeal.nD) → Buf (Elt Ideal) ((c.tc : Thread Cert.AdamwBigIdeal.nD Cert.AdamwBigIdeal.τ).loc Cert.AdamwBigIdeal.main_v0_6)) (v7 : (c : Dev Cert.AdamwBigIdeal.nD) → Buf (Elt Ideal) ((c.tc : Thread Cert.AdamwBigIdeal.nD Cert.AdamwBigIdeal.τ).loc Cert.AdamwBigIdeal.main_v0_7)) (v8 : (c : Dev Cert.AdamwBigIdeal.nD) → Buf (Elt Ideal) ((c.tc : Thread Cert.AdamwBigIdeal.nD Cert.AdamwBigIdeal.τ).loc Cert.AdamwBigIdeal.main_v0_8)) (v9 : (c : Dev Cert.AdamwBigIdeal.nD) → Buf (Elt Ideal) ((c.tc : Thread Cert.AdamwBigIdeal.nD Cert.AdamwBigIdeal.τ).loc Cert.AdamwBigIdeal.main_v0_9)) (v10 : (c : Dev Cert.AdamwBigIdeal.nD) → Buf (Elt Ideal) ((c.tc : Thread Cert.AdamwBigIdeal.nD Cert.AdamwBigIdeal.τ).loc Cert.AdamwBigIdeal.main_v0_10)) (v11 : (c : Dev Cert.AdamwBigIdeal.nD) → Buf (Elt Ideal) ((c.tc : Thread Cert.AdamwBigIdeal.nD Cert.AdamwBigIdeal.τ).loc Cert.AdamwBigIdeal.main_v0_11)),
      θ_run (Cert.AdamwBigIdeal.defs (F := Ideal)) (onTc (τ := Cert.AdamwBigIdeal.τ) (Cert.AdamwBigIdeal.main (F := Ideal))) ⟨m, fun _ => 0, g⟩ (fun r => ∀ c : Dev Cert.AdamwBigIdeal.nD,
          r.2.mem ((c.tc : Thread Cert.AdamwBigIdeal.nD Cert.AdamwBigIdeal.τ).loc Cert.AdamwBigIdeal.main_v0_0) = v0 c
          ∧ r.2.mem ((c.tc : Thread Cert.AdamwBigIdeal.nD Cert.AdamwBigIdeal.τ).loc Cert.AdamwBigIdeal.main_v0_1) = v1 c
          ∧ r.2.mem ((c.tc : Thread Cert.AdamwBigIdeal.nD Cert.AdamwBigIdeal.τ).loc Cert.AdamwBigIdeal.main_v0_2) = v2 c
          ∧ r.2.mem ((c.tc : Thread Cert.AdamwBigIdeal.nD Cert.AdamwBigIdeal.τ).loc Cert.AdamwBigIdeal.main_v0_3) = v3 c
          ∧ r.2.mem ((c.tc : Thread Cert.AdamwBigIdeal.nD Cert.AdamwBigIdeal.τ).loc Cert.AdamwBigIdeal.main_v0_4) = v4 c
          ∧ r.2.mem ((c.tc : Thread Cert.AdamwBigIdeal.nD Cert.AdamwBigIdeal.τ).loc Cert.AdamwBigIdeal.main_v0_5) = v5 c
          ∧ r.2.mem ((c.tc : Thread Cert.AdamwBigIdeal.nD Cert.AdamwBigIdeal.τ).loc Cert.AdamwBigIdeal.main_v0_6) = v6 c
          ∧ r.2.mem ((c.tc : Thread Cert.AdamwBigIdeal.nD Cert.AdamwBigIdeal.τ).loc Cert.AdamwBigIdeal.main_v0_7) = v7 c
          ∧ r.2.mem ((c.tc : Thread Cert.AdamwBigIdeal.nD Cert.AdamwBigIdeal.τ).loc Cert.AdamwBigIdeal.main_v0_8) = v8 c
          ∧ r.2.mem ((c.tc : Thread Cert.AdamwBigIdeal.nD Cert.AdamwBigIdeal.τ).loc Cert.AdamwBigIdeal.main_v0_9) = v9 c
          ∧ r.2.mem ((c.tc : Thread Cert.AdamwBigIdeal.nD Cert.AdamwBigIdeal.τ).loc Cert.AdamwBigIdeal.main_v0_10) = v10 c
          ∧ r.2.mem ((c.tc : Thread Cert.AdamwBigIdeal.nD Cert.AdamwBigIdeal.τ).loc Cert.AdamwBigIdeal.main_v0_11) = v11 c
          ∧ r.2.mem ((c.tc : Thread Cert.AdamwBigIdeal.nD Cert.AdamwBigIdeal.τ).loc Cert.AdamwBigIdeal.main_arg0) = m ((c.tc : Thread Cert.AdamwBigIdeal.nD Cert.AdamwBigIdeal.τ).loc Cert.AdamwBigIdeal.main_arg0)
          ∧ r.2.mem ((c.tc : Thread Cert.AdamwBigIdeal.nD Cert.AdamwBigIdeal.τ).loc Cert.AdamwBigIdeal.main_arg1) = m ((c.tc : Thread Cert.AdamwBigIdeal.nD Cert.AdamwBigIdeal.τ).loc Cert.AdamwBigIdeal.main_arg1)
          ∧ r.2.mem ((c.tc : Thread Cert.AdamwBigIdeal.nD Cert.AdamwBigIdeal.τ).loc Cert.AdamwBigIdeal.main_arg2) = m ((c.tc : Thread Cert.AdamwBigIdeal.nD Cert.AdamwBigIdeal.τ).loc Cert.AdamwBigIdeal.main_arg2)
          ∧ r.2.mem ((c.tc : Thread Cert.AdamwBigIdeal.nD Cert.AdamwBigIdeal.τ).loc Cert.AdamwBigIdeal.main_arg3) = m ((c.tc : Thread Cert.AdamwBigIdeal.nD Cert.AdamwBigIdeal.τ).loc Cert.AdamwBigIdeal.main_arg3)
          ∧ r.2.mem ((c.tc : Thread Cert.AdamwBigIdeal.nD Cert.AdamwBigIdeal.τ).loc Cert.AdamwBigIdeal.main_arg4) = m ((c.tc : Thread Cert.AdamwBigIdeal.nD Cert.AdamwBigIdeal.τ).loc Cert.AdamwBigIdeal.main_arg4)
          ∧ r.2.mem ((c.tc : Thread Cert.AdamwBigIdeal.nD Cert.AdamwBigIdeal.τ).loc Cert.AdamwBigIdeal.main_arg5) = m ((c.tc : Thread Cert.AdamwBigIdeal.nD Cert.AdamwBigIdeal.τ).loc Cert.AdamwBigIdeal.main_arg5)
          ∧ r.2.mem ((c.tc : Thread Cert.AdamwBigIdeal.nD Cert.AdamwBigIdeal.τ).loc Cert.AdamwBigIdeal.main_arg6) = m ((c.tc : Thread Cert.AdamwBigIdeal.nD Cert.AdamwBigIdeal.τ).loc Cert.AdamwBigIdeal.main_arg6)
          ∧ r.2.mem ((c.tc : Thread Cert.AdamwBigIdeal.nD Cert.AdamwBigIdeal.τ).loc Cert.AdamwBigIdeal.main_arg7) = m ((c.tc : Thread Cert.AdamwBigIdeal.nD Cert.AdamwBigIdeal.τ).loc Cert.AdamwBigIdeal.main_arg7)
          ∧ r.2.mem ((c.tc : Thread Cert.AdamwBigIdeal.nD Cert.AdamwBigIdeal.τ).loc Cert.AdamwBigIdeal.main_arg8) = m ((c.tc : Thread Cert.AdamwBigIdeal.nD Cert.AdamwBigIdeal.τ).loc Cert.AdamwBigIdeal.main_arg8)
          ∧ r.2.mem ((c.tc : Thread Cert.AdamwBigIdeal.nD Cert.AdamwBigIdeal.τ).loc Cert.AdamwBigIdeal.main_arg9) = m ((c.tc : Thread Cert.AdamwBigIdeal.nD Cert.AdamwBigIdeal.τ).loc Cert.AdamwBigIdeal.main_arg9)
          ∧ r.2.mem ((c.tc : Thread Cert.AdamwBigIdeal.nD Cert.AdamwBigIdeal.τ).loc Cert.AdamwBigIdeal.main_arg10) = m ((c.tc : Thread Cert.AdamwBigIdeal.nD Cert.AdamwBigIdeal.τ).loc Cert.AdamwBigIdeal.main_arg10)
          ∧ r.2.mem ((c.tc : Thread Cert.AdamwBigIdeal.nD Cert.AdamwBigIdeal.τ).loc Cert.AdamwBigIdeal.main_arg11) = m ((c.tc : Thread Cert.AdamwBigIdeal.nD Cert.AdamwBigIdeal.τ).loc Cert.AdamwBigIdeal.main_arg11))
      ∧ θ_run (Cert.AdamwBigRefIdeal.defs (F := Ideal)) (onTc (τ := Cert.AdamwBigRefIdeal.τ) (Cert.AdamwBigRefIdeal.main (F := Ideal))) ⟨m', fun _ => 0, g'⟩ (fun r => ∀ c : Dev Cert.AdamwBigRefIdeal.nD,
          r.2.mem ((c.tc : Thread Cert.AdamwBigRefIdeal.nD Cert.AdamwBigRefIdeal.τ).loc Cert.AdamwBigRefIdeal.main_arg0) = v0 c
          ∧ r.2.mem ((c.tc : Thread Cert.AdamwBigRefIdeal.nD Cert.AdamwBigRefIdeal.τ).loc Cert.AdamwBigRefIdeal.main_v23) = v1 c
          ∧ r.2.mem ((c.tc : Thread Cert.AdamwBigRefIdeal.nD Cert.AdamwBigRefIdeal.τ).loc Cert.AdamwBigRefIdeal.main_v4) = v2 c
          ∧ r.2.mem ((c.tc : Thread Cert.AdamwBigRefIdeal.nD Cert.AdamwBigRefIdeal.τ).loc Cert.AdamwBigRefIdeal.main_v10) = v3 c
          ∧ r.2.mem ((c.tc : Thread Cert.AdamwBigRefIdeal.nD Cert.AdamwBigRefIdeal.τ).loc Cert.AdamwBigRefIdeal.main_arg1) = v4 c
          ∧ r.2.mem ((c.tc : Thread Cert.AdamwBigRefIdeal.nD Cert.AdamwBigRefIdeal.τ).loc Cert.AdamwBigRefIdeal.main_v47) = v5 c
          ∧ r.2.mem ((c.tc : Thread Cert.AdamwBigRefIdeal.nD Cert.AdamwBigRefIdeal.τ).loc Cert.AdamwBigRefIdeal.main_v28) = v6 c
          ∧ r.2.mem ((c.tc : Thread Cert.AdamwBigRefIdeal.nD Cert.AdamwBigRefIdeal.τ).loc Cert.AdamwBigRefIdeal.main_v34) = v7 c
          ∧ r.2.mem ((c.tc : Thread Cert.AdamwBigRefIdeal.nD Cert.AdamwBigRefIdeal.τ).loc Cert.AdamwBigRefIdeal.main_arg2) = v8 c
          ∧ r.2.mem ((c.tc : Thread Cert.AdamwBigRefIdeal.nD Cert.AdamwBigRefIdeal.τ).loc Cert.AdamwBigRefIdeal.main_v71) = v9 c
          ∧ r.2.mem ((c.tc : Thread Cert.AdamwBigRefIdeal.nD Cert.AdamwBigRefIdeal.τ).loc Cert.AdamwBigRefIdeal.main_v52) = v10 c
          ∧ r.2.mem ((c.tc : Thread Cert.AdamwBigRefIdeal.nD Cert.AdamwBigRefIdeal.τ).loc Cert.AdamwBigRefIdeal.main_v58) = v11 c
          ∧ r.2.mem ((c.tc : Thread Cert.AdamwBigRefIdeal.nD Cert.AdamwBigRefIdeal.τ).loc Cert.AdamwBigRefIdeal.main_arg0) = m' ((c.tc : Thread Cert.AdamwBigRefIdeal.nD Cert.AdamwBigRefIdeal.τ).loc Cert.AdamwBigRefIdeal.main_arg0)
          ∧ r.2.mem ((c.tc : Thread Cert.AdamwBigRefIdeal.nD Cert.AdamwBigRefIdeal.τ).loc Cert.AdamwBigRefIdeal.main_arg1) = m' ((c.tc : Thread Cert.AdamwBigRefIdeal.nD Cert.AdamwBigRefIdeal.τ).loc Cert.AdamwBigRefIdeal.main_arg1)
          ∧ r.2.mem ((c.tc : Thread Cert.AdamwBigRefIdeal.nD Cert.AdamwBigRefIdeal.τ).loc Cert.AdamwBigRefIdeal.main_arg2) = m' ((c.tc : Thread Cert.AdamwBigRefIdeal.nD Cert.AdamwBigRefIdeal.τ).loc Cert.AdamwBigRefIdeal.main_arg2)
          ∧ r.2.mem ((c.tc : Thread Cert.AdamwBigRefIdeal.nD Cert.AdamwBigRefIdeal.τ).loc Cert.AdamwBigRefIdeal.main_arg3) = m' ((c.tc : Thread Cert.AdamwBigRefIdeal.nD Cert.AdamwBigRefIdeal.τ).loc Cert.AdamwBigRefIdeal.main_arg3)
          ∧ r.2.mem ((c.tc : Thread Cert.AdamwBigRefIdeal.nD Cert.AdamwBigRefIdeal.τ).loc Cert.AdamwBigRefIdeal.main_arg4) = m' ((c.tc : Thread Cert.AdamwBigRefIdeal.nD Cert.AdamwBigRefIdeal.τ).loc Cert.AdamwBigRefIdeal.main_arg4)
          ∧ r.2.mem ((c.tc : Thread Cert.AdamwBigRefIdeal.nD Cert.AdamwBigRefIdeal.τ).loc Cert.AdamwBigRefIdeal.main_arg5) = m' ((c.tc : Thread Cert.AdamwBigRefIdeal.nD Cert.AdamwBigRefIdeal.τ).loc Cert.AdamwBigRefIdeal.main_arg5)
          ∧ r.2.mem ((c.tc : Thread Cert.AdamwBigRefIdeal.nD Cert.AdamwBigRefIdeal.τ).loc Cert.AdamwBigRefIdeal.main_arg6) = m' ((c.tc : Thread Cert.AdamwBigRefIdeal.nD Cert.AdamwBigRefIdeal.τ).loc Cert.AdamwBigRefIdeal.main_arg6)
          ∧ r.2.mem ((c.tc : Thread Cert.AdamwBigRefIdeal.nD Cert.AdamwBigRefIdeal.τ).loc Cert.AdamwBigRefIdeal.main_arg7) = m' ((c.tc : Thread Cert.AdamwBigRefIdeal.nD Cert.AdamwBigRefIdeal.τ).loc Cert.AdamwBigRefIdeal.main_arg7)
          ∧ r.2.mem ((c.tc : Thread Cert.AdamwBigRefIdeal.nD Cert.AdamwBigRefIdeal.τ).loc Cert.AdamwBigRefIdeal.main_arg8) = m' ((c.tc : Thread Cert.AdamwBigRefIdeal.nD Cert.AdamwBigRefIdeal.τ).loc Cert.AdamwBigRefIdeal.main_arg8)
          ∧ r.2.mem ((c.tc : Thread Cert.AdamwBigRefIdeal.nD Cert.AdamwBigRefIdeal.τ).loc Cert.AdamwBigRefIdeal.main_arg9) = m' ((c.tc : Thread Cert.AdamwBigRefIdeal.nD Cert.AdamwBigRefIdeal.τ).loc Cert.AdamwBigRefIdeal.main_arg9)
          ∧ r.2.mem ((c.tc : Thread Cert.AdamwBigRefIdeal.nD Cert.AdamwBigRefIdeal.τ).loc Cert.AdamwBigRefIdeal.main_arg10) = m' ((c.tc : Thread Cert.AdamwBigRefIdeal.nD Cert.AdamwBigRefIdeal.τ).loc Cert.AdamwBigRefIdeal.main_arg10)
          ∧ r.2.mem ((c.tc : Thread Cert.AdamwBigRefIdeal.nD Cert.AdamwBigRefIdeal.τ).loc Cert.AdamwBigRefIdeal.main_arg11) = m' ((c.tc : Thread Cert.AdamwBigRefIdeal.nD Cert.AdamwBigRefIdeal.τ).loc Cert.AdamwBigRefIdeal.main_arg11))

def preserves_AdamwSmall_AdamwSmallIdeal : Prop :=
  True

def algebraic_AdamwSmallIdeal_AdamwSmallRefIdeal [hAdamwSmallIdeal : Cert.AdamwSmallIdeal.Facts] [hAdamwSmallRefIdeal : Cert.AdamwSmallRefIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallRefIdeal.nD Cert.AdamwSmallRefIdeal.τ Cert.AdamwSmallRefIdeal.sig) → Buf (Elt Ideal) ℓ) (g' : Dev Cert.AdamwSmallRefIdeal.nD → PrngReg), Pre_AdamwSmallIdeal m →
    (∀ c : Dev Cert.AdamwSmallIdeal.nD,
      m' ((c.tc : Thread Cert.AdamwSmallRefIdeal.nD Cert.AdamwSmallRefIdeal.τ).loc Cert.AdamwSmallRefIdeal.main_arg0) = m ((c.tc : Thread Cert.AdamwSmallIdeal.nD Cert.AdamwSmallIdeal.τ).loc Cert.AdamwSmallIdeal.main_arg0)
      ∧ m' ((c.tc : Thread Cert.AdamwSmallRefIdeal.nD Cert.AdamwSmallRefIdeal.τ).loc Cert.AdamwSmallRefIdeal.main_arg1) = m ((c.tc : Thread Cert.AdamwSmallIdeal.nD Cert.AdamwSmallIdeal.τ).loc Cert.AdamwSmallIdeal.main_arg1)
      ∧ m' ((c.tc : Thread Cert.AdamwSmallRefIdeal.nD Cert.AdamwSmallRefIdeal.τ).loc Cert.AdamwSmallRefIdeal.main_arg2) = m ((c.tc : Thread Cert.AdamwSmallIdeal.nD Cert.AdamwSmallIdeal.τ).loc Cert.AdamwSmallIdeal.main_arg2)
      ∧ m' ((c.tc : Thread Cert.AdamwSmallRefIdeal.nD Cert.AdamwSmallRefIdeal.τ).loc Cert.AdamwSmallRefIdeal.main_arg3) = m ((c.tc : Thread Cert.AdamwSmallIdeal.nD Cert.AdamwSmallIdeal.τ).loc Cert.AdamwSmallIdeal.main_arg3)
      ∧ m' ((c.tc : Thread Cert.AdamwSmallRefIdeal.nD Cert.AdamwSmallRefIdeal.τ).loc Cert.AdamwSmallRefIdeal.main_arg4) = m ((c.tc : Thread Cert.AdamwSmallIdeal.nD Cert.AdamwSmallIdeal.τ).loc Cert.AdamwSmallIdeal.main_arg4)
      ∧ m' ((c.tc : Thread Cert.AdamwSmallRefIdeal.nD Cert.AdamwSmallRefIdeal.τ).loc Cert.AdamwSmallRefIdeal.main_arg5) = m ((c.tc : Thread Cert.AdamwSmallIdeal.nD Cert.AdamwSmallIdeal.τ).loc Cert.AdamwSmallIdeal.main_arg5)
      ∧ m' ((c.tc : Thread Cert.AdamwSmallRefIdeal.nD Cert.AdamwSmallRefIdeal.τ).loc Cert.AdamwSmallRefIdeal.main_arg6) = m ((c.tc : Thread Cert.AdamwSmallIdeal.nD Cert.AdamwSmallIdeal.τ).loc Cert.AdamwSmallIdeal.main_arg6)
      ∧ m' ((c.tc : Thread Cert.AdamwSmallRefIdeal.nD Cert.AdamwSmallRefIdeal.τ).loc Cert.AdamwSmallRefIdeal.main_arg7) = m ((c.tc : Thread Cert.AdamwSmallIdeal.nD Cert.AdamwSmallIdeal.τ).loc Cert.AdamwSmallIdeal.main_arg7)
      ∧ m' ((c.tc : Thread Cert.AdamwSmallRefIdeal.nD Cert.AdamwSmallRefIdeal.τ).loc Cert.AdamwSmallRefIdeal.main_arg8) = m ((c.tc : Thread Cert.AdamwSmallIdeal.nD Cert.AdamwSmallIdeal.τ).loc Cert.AdamwSmallIdeal.main_arg8)
      ∧ m' ((c.tc : Thread Cert.AdamwSmallRefIdeal.nD Cert.AdamwSmallRefIdeal.τ).loc Cert.AdamwSmallRefIdeal.main_arg9) = m ((c.tc : Thread Cert.AdamwSmallIdeal.nD Cert.AdamwSmallIdeal.τ).loc Cert.AdamwSmallIdeal.main_arg9)
      ∧ m' ((c.tc : Thread Cert.AdamwSmallRefIdeal.nD Cert.AdamwSmallRefIdeal.τ).loc Cert.AdamwSmallRefIdeal.main_arg10) = m ((c.tc : Thread Cert.AdamwSmallIdeal.nD Cert.AdamwSmallIdeal.τ).loc Cert.AdamwSmallIdeal.main_arg10)
      ∧ m' ((c.tc : Thread Cert.AdamwSmallRefIdeal.nD Cert.AdamwSmallRefIdeal.τ).loc Cert.AdamwSmallRefIdeal.main_arg11) = m ((c.tc : Thread Cert.AdamwSmallIdeal.nD Cert.AdamwSmallIdeal.τ).loc Cert.AdamwSmallIdeal.main_arg11)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)) (v3 : (c : Dev Cert.AdamwSmallIdeal.nD) → Buf (Elt Ideal) ((c.tc : Thread Cert.AdamwSmallIdeal.nD Cert.AdamwSmallIdeal.τ).loc Cert.AdamwSmallIdeal.main_v0_3)) (v4 : (c : Dev Cert.AdamwSmallIdeal.nD) → Buf (Elt Ideal) ((c.tc : Thread Cert.AdamwSmallIdeal.nD Cert.AdamwSmallIdeal.τ).loc Cert.AdamwSmallIdeal.main_v0_4)) (v5 : (c : Dev Cert.AdamwSmallIdeal.nD) → Buf (Elt Ideal) ((c.tc : Thread Cert.AdamwSmallIdeal.nD Cert.AdamwSmallIdeal.τ).loc Cert.AdamwSmallIdeal.main_v0_5)) (v6 : (c : Dev Cert.AdamwSmallIdeal.nD) → Buf (Elt Ideal) ((c.tc : Thread Cert.AdamwSmallIdeal.nD Cert.AdamwSmallIdeal.τ).loc Cert.AdamwSmallIdeal.main_v0_6)) (v7 : (c : Dev Cert.AdamwSmallIdeal.nD) → Buf (Elt Ideal) ((c.tc : Thread Cert.AdamwSmallIdeal.nD Cert.AdamwSmallIdeal.τ).loc Cert.AdamwSmallIdeal.main_v0_7)) (v8 : (c : Dev Cert.AdamwSmallIdeal.nD) → Buf (Elt Ideal) ((c.tc : Thread Cert.AdamwSmallIdeal.nD Cert.AdamwSmallIdeal.τ).loc Cert.AdamwSmallIdeal.main_v0_8)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_v0_3) = v3 c
          ∧ r.2.mem ((c.tc : Thread Cert.AdamwSmallIdeal.nD Cert.AdamwSmallIdeal.τ).loc Cert.AdamwSmallIdeal.main_v0_4) = v4 c
          ∧ r.2.mem ((c.tc : Thread Cert.AdamwSmallIdeal.nD Cert.AdamwSmallIdeal.τ).loc Cert.AdamwSmallIdeal.main_v0_5) = v5 c
          ∧ r.2.mem ((c.tc : Thread Cert.AdamwSmallIdeal.nD Cert.AdamwSmallIdeal.τ).loc Cert.AdamwSmallIdeal.main_v0_6) = v6 c
          ∧ r.2.mem ((c.tc : Thread Cert.AdamwSmallIdeal.nD Cert.AdamwSmallIdeal.τ).loc Cert.AdamwSmallIdeal.main_v0_7) = v7 c
          ∧ r.2.mem ((c.tc : Thread Cert.AdamwSmallIdeal.nD Cert.AdamwSmallIdeal.τ).loc Cert.AdamwSmallIdeal.main_v0_8) = v8 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3)
          ∧ r.2.mem ((c.tc : Thread Cert.AdamwSmallIdeal.nD Cert.AdamwSmallIdeal.τ).loc Cert.AdamwSmallIdeal.main_arg4) = m ((c.tc : Thread Cert.AdamwSmallIdeal.nD Cert.AdamwSmallIdeal.τ).loc Cert.AdamwSmallIdeal.main_arg4)
          ∧ r.2.mem ((c.tc : Thread Cert.AdamwSmallIdeal.nD Cert.AdamwSmallIdeal.τ).loc Cert.AdamwSmallIdeal.main_arg5) = m ((c.tc : Thread Cert.AdamwSmallIdeal.nD Cert.AdamwSmallIdeal.τ).loc Cert.AdamwSmallIdeal.main_arg5)
          ∧ r.2.mem ((c.tc : Thread Cert.AdamwSmallIdeal.nD Cert.AdamwSmallIdeal.τ).loc Cert.AdamwSmallIdeal.main_arg6) = m ((c.tc : Thread Cert.AdamwSmallIdeal.nD Cert.AdamwSmallIdeal.τ).loc Cert.AdamwSmallIdeal.main_arg6)
          ∧ r.2.mem ((c.tc : Thread Cert.AdamwSmallIdeal.nD Cert.AdamwSmallIdeal.τ).loc Cert.AdamwSmallIdeal.main_arg7) = m ((c.tc : Thread Cert.AdamwSmallIdeal.nD Cert.AdamwSmallIdeal.τ).loc Cert.AdamwSmallIdeal.main_arg7)
          ∧ r.2.mem ((c.tc : Thread Cert.AdamwSmallIdeal.nD Cert.AdamwSmallIdeal.τ).loc Cert.AdamwSmallIdeal.main_arg8) = m ((c.tc : Thread Cert.AdamwSmallIdeal.nD Cert.AdamwSmallIdeal.τ).loc Cert.AdamwSmallIdeal.main_arg8)
          ∧ r.2.mem ((c.tc : Thread Cert.AdamwSmallIdeal.nD Cert.AdamwSmallIdeal.τ).loc Cert.AdamwSmallIdeal.main_arg9) = m ((c.tc : Thread Cert.AdamwSmallIdeal.nD Cert.AdamwSmallIdeal.τ).loc Cert.AdamwSmallIdeal.main_arg9)
          ∧ r.2.mem ((c.tc : Thread Cert.AdamwSmallIdeal.nD Cert.AdamwSmallIdeal.τ).loc Cert.AdamwSmallIdeal.main_arg10) = m ((c.tc : Thread Cert.AdamwSmallIdeal.nD Cert.AdamwSmallIdeal.τ).loc Cert.AdamwSmallIdeal.main_arg10)
          ∧ r.2.mem ((c.tc : Thread Cert.AdamwSmallIdeal.nD Cert.AdamwSmallIdeal.τ).loc Cert.AdamwSmallIdeal.main_arg11) = m ((c.tc : Thread Cert.AdamwSmallIdeal.nD Cert.AdamwSmallIdeal.τ).loc Cert.AdamwSmallIdeal.main_arg11))
      ∧ θ_run (Cert.AdamwSmallRefIdeal.defs (F := Ideal)) (onTc (τ := Cert.AdamwSmallRefIdeal.τ) (Cert.AdamwSmallRefIdeal.main (F := Ideal))) ⟨m', fun _ => 0, g'⟩ (fun r => ∀ c : Dev Cert.AdamwSmallRefIdeal.nD,
          r.2.mem ((c.tc : Thread Cert.AdamwSmallRefIdeal.nD Cert.AdamwSmallRefIdeal.τ).loc Cert.AdamwSmallRefIdeal.main_v23) = v0 c
          ∧ r.2.mem ((c.tc : Thread Cert.AdamwSmallRefIdeal.nD Cert.AdamwSmallRefIdeal.τ).loc Cert.AdamwSmallRefIdeal.main_v47) = v1 c
          ∧ r.2.mem ((c.tc : Thread Cert.AdamwSmallRefIdeal.nD Cert.AdamwSmallRefIdeal.τ).loc Cert.AdamwSmallRefIdeal.main_v71) = v2 c
          ∧ r.2.mem ((c.tc : Thread Cert.AdamwSmallRefIdeal.nD Cert.AdamwSmallRefIdeal.τ).loc Cert.AdamwSmallRefIdeal.main_v4) = v3 c
          ∧ r.2.mem ((c.tc : Thread Cert.AdamwSmallRefIdeal.nD Cert.AdamwSmallRefIdeal.τ).loc Cert.AdamwSmallRefIdeal.main_v28) = v4 c
          ∧ r.2.mem ((c.tc : Thread Cert.AdamwSmallRefIdeal.nD Cert.AdamwSmallRefIdeal.τ).loc Cert.AdamwSmallRefIdeal.main_v52) = v5 c
          ∧ r.2.mem ((c.tc : Thread Cert.AdamwSmallRefIdeal.nD Cert.AdamwSmallRefIdeal.τ).loc Cert.AdamwSmallRefIdeal.main_v10) = v6 c
          ∧ r.2.mem ((c.tc : Thread Cert.AdamwSmallRefIdeal.nD Cert.AdamwSmallRefIdeal.τ).loc Cert.AdamwSmallRefIdeal.main_v34) = v7 c
          ∧ r.2.mem ((c.tc : Thread Cert.AdamwSmallRefIdeal.nD Cert.AdamwSmallRefIdeal.τ).loc Cert.AdamwSmallRefIdeal.main_v58) = v8 c
          ∧ r.2.mem ((c.tc : Thread Cert.AdamwSmallRefIdeal.nD Cert.AdamwSmallRefIdeal.τ).loc Cert.AdamwSmallRefIdeal.main_arg0) = m' ((c.tc : Thread Cert.AdamwSmallRefIdeal.nD Cert.AdamwSmallRefIdeal.τ).loc Cert.AdamwSmallRefIdeal.main_arg0)
          ∧ r.2.mem ((c.tc : Thread Cert.AdamwSmallRefIdeal.nD Cert.AdamwSmallRefIdeal.τ).loc Cert.AdamwSmallRefIdeal.main_arg1) = m' ((c.tc : Thread Cert.AdamwSmallRefIdeal.nD Cert.AdamwSmallRefIdeal.τ).loc Cert.AdamwSmallRefIdeal.main_arg1)
          ∧ r.2.mem ((c.tc : Thread Cert.AdamwSmallRefIdeal.nD Cert.AdamwSmallRefIdeal.τ).loc Cert.AdamwSmallRefIdeal.main_arg2) = m' ((c.tc : Thread Cert.AdamwSmallRefIdeal.nD Cert.AdamwSmallRefIdeal.τ).loc Cert.AdamwSmallRefIdeal.main_arg2)
          ∧ r.2.mem ((c.tc : Thread Cert.AdamwSmallRefIdeal.nD Cert.AdamwSmallRefIdeal.τ).loc Cert.AdamwSmallRefIdeal.main_arg3) = m' ((c.tc : Thread Cert.AdamwSmallRefIdeal.nD Cert.AdamwSmallRefIdeal.τ).loc Cert.AdamwSmallRefIdeal.main_arg3)
          ∧ r.2.mem ((c.tc : Thread Cert.AdamwSmallRefIdeal.nD Cert.AdamwSmallRefIdeal.τ).loc Cert.AdamwSmallRefIdeal.main_arg4) = m' ((c.tc : Thread Cert.AdamwSmallRefIdeal.nD Cert.AdamwSmallRefIdeal.τ).loc Cert.AdamwSmallRefIdeal.main_arg4)
          ∧ r.2.mem ((c.tc : Thread Cert.AdamwSmallRefIdeal.nD Cert.AdamwSmallRefIdeal.τ).loc Cert.AdamwSmallRefIdeal.main_arg5) = m' ((c.tc : Thread Cert.AdamwSmallRefIdeal.nD Cert.AdamwSmallRefIdeal.τ).loc Cert.AdamwSmallRefIdeal.main_arg5)
          ∧ r.2.mem ((c.tc : Thread Cert.AdamwSmallRefIdeal.nD Cert.AdamwSmallRefIdeal.τ).loc Cert.AdamwSmallRefIdeal.main_arg6) = m' ((c.tc : Thread Cert.AdamwSmallRefIdeal.nD Cert.AdamwSmallRefIdeal.τ).loc Cert.AdamwSmallRefIdeal.main_arg6)
          ∧ r.2.mem ((c.tc : Thread Cert.AdamwSmallRefIdeal.nD Cert.AdamwSmallRefIdeal.τ).loc Cert.AdamwSmallRefIdeal.main_arg7) = m' ((c.tc : Thread Cert.AdamwSmallRefIdeal.nD Cert.AdamwSmallRefIdeal.τ).loc Cert.AdamwSmallRefIdeal.main_arg7)
          ∧ r.2.mem ((c.tc : Thread Cert.AdamwSmallRefIdeal.nD Cert.AdamwSmallRefIdeal.τ).loc Cert.AdamwSmallRefIdeal.main_arg8) = m' ((c.tc : Thread Cert.AdamwSmallRefIdeal.nD Cert.AdamwSmallRefIdeal.τ).loc Cert.AdamwSmallRefIdeal.main_arg8)
          ∧ r.2.mem ((c.tc : Thread Cert.AdamwSmallRefIdeal.nD Cert.AdamwSmallRefIdeal.τ).loc Cert.AdamwSmallRefIdeal.main_arg9) = m' ((c.tc : Thread Cert.AdamwSmallRefIdeal.nD Cert.AdamwSmallRefIdeal.τ).loc Cert.AdamwSmallRefIdeal.main_arg9)
          ∧ r.2.mem ((c.tc : Thread Cert.AdamwSmallRefIdeal.nD Cert.AdamwSmallRefIdeal.τ).loc Cert.AdamwSmallRefIdeal.main_arg10) = m' ((c.tc : Thread Cert.AdamwSmallRefIdeal.nD Cert.AdamwSmallRefIdeal.τ).loc Cert.AdamwSmallRefIdeal.main_arg10)
          ∧ r.2.mem ((c.tc : Thread Cert.AdamwSmallRefIdeal.nD Cert.AdamwSmallRefIdeal.τ).loc Cert.AdamwSmallRefIdeal.main_arg11) = m' ((c.tc : Thread Cert.AdamwSmallRefIdeal.nD Cert.AdamwSmallRefIdeal.τ).loc Cert.AdamwSmallRefIdeal.main_arg11))

def preserves_DwIn_DwInIdeal : Prop :=
  True

def algebraic_DwInIdeal_DwInRefIdeal [hDwInIdeal : Cert.DwInIdeal.Facts] [hDwInRefIdeal : Cert.DwInRefIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInRefIdeal.nD Cert.DwInRefIdeal.τ Cert.DwInRefIdeal.sig) → Buf (Elt Ideal) ℓ) (g' : Dev Cert.DwInRefIdeal.nD → PrngReg), Pre_DwInIdeal m →
    (∀ c : Dev Cert.DwInIdeal.nD,
      m' ((c.tc : Thread Cert.DwInRefIdeal.nD Cert.DwInRefIdeal.τ).loc Cert.DwInRefIdeal.main_arg0) = m ((c.tc : Thread Cert.DwInIdeal.nD Cert.DwInIdeal.τ).loc Cert.DwInIdeal.main_arg0)
      ∧ m' ((c.tc : Thread Cert.DwInRefIdeal.nD Cert.DwInRefIdeal.τ).loc Cert.DwInRefIdeal.main_arg1) = m ((c.tc : Thread Cert.DwInIdeal.nD Cert.DwInIdeal.τ).loc Cert.DwInIdeal.main_arg1)) →
    ∃ (v0 : (c : Dev Cert.DwInIdeal.nD) → Buf (Elt Ideal) ((c.tc : Thread Cert.DwInIdeal.nD Cert.DwInIdeal.τ).loc Cert.DwInIdeal.main_v9)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v9) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1))
      ∧ θ_run (Cert.DwInRefIdeal.defs (F := Ideal)) (onTc (τ := Cert.DwInRefIdeal.τ) (Cert.DwInRefIdeal.main (F := Ideal))) ⟨m', fun _ => 0, g'⟩ (fun r => ∀ c : Dev Cert.DwInRefIdeal.nD,
          r.2.mem ((c.tc : Thread Cert.DwInRefIdeal.nD Cert.DwInRefIdeal.τ).loc Cert.DwInRefIdeal.main_v4) = v0 c
          ∧ r.2.mem ((c.tc : Thread Cert.DwInRefIdeal.nD Cert.DwInRefIdeal.τ).loc Cert.DwInRefIdeal.main_arg0) = m' ((c.tc : Thread Cert.DwInRefIdeal.nD Cert.DwInRefIdeal.τ).loc Cert.DwInRefIdeal.main_arg0)
          ∧ r.2.mem ((c.tc : Thread Cert.DwInRefIdeal.nD Cert.DwInRefIdeal.τ).loc Cert.DwInRefIdeal.main_arg1) = m' ((c.tc : Thread Cert.DwInRefIdeal.nD Cert.DwInRefIdeal.τ).loc Cert.DwInRefIdeal.main_arg1))

def preserves_MixerFwd_MixerFwdIdeal : Prop :=
  True

def Claim : Prop :=
  ∃ (hInProjBwd : Cert.InProjBwd.Facts) (hInProjBwdIdeal : Cert.InProjBwdIdeal.Facts) (hInProjBwdRefIdeal : Cert.InProjBwdRefIdeal.Facts) (hMlp : Cert.Mlp.Facts) (hMlpIdeal : Cert.MlpIdeal.Facts) (hMlpRefIdeal : Cert.MlpRefIdeal.Facts) (hMergeBwd : Cert.MergeBwd.Facts) (hMergeBwdIdeal : Cert.MergeBwdIdeal.Facts) (hMergeBwdRefIdeal : Cert.MergeBwdRefIdeal.Facts) (hInProj : Cert.InProj.Facts) (hInProjIdeal : Cert.InProjIdeal.Facts) (hInProjRefIdeal : Cert.InProjRefIdeal.Facts) (hDwUp : Cert.DwUp.Facts) (hDwUpIdeal : Cert.DwUpIdeal.Facts) (hDwUpRefIdeal : Cert.DwUpRefIdeal.Facts) (hAdamwBig : Cert.AdamwBig.Facts) (hAdamwBigIdeal : Cert.AdamwBigIdeal.Facts) (hAdamwBigRefIdeal : Cert.AdamwBigRefIdeal.Facts) (hAdamwSmall : Cert.AdamwSmall.Facts) (hAdamwSmallIdeal : Cert.AdamwSmallIdeal.Facts) (hAdamwSmallRefIdeal : Cert.AdamwSmallRefIdeal.Facts) (hDwIn : Cert.DwIn.Facts) (hDwInIdeal : Cert.DwInIdeal.Facts) (hDwInRefIdeal : Cert.DwInRefIdeal.Facts) (hMixerFwd : Cert.MixerFwd.Facts) (hMixerFwdIdeal : Cert.MixerFwdIdeal.Facts) (hPre_in_proj_bwd_finite : Cert.Pre_in_proj_bwd_finite.Facts) (hPre_mlp_finite : Cert.Pre_mlp_finite.Facts) (hPre_merge_bwd_finite : Cert.Pre_merge_bwd_finite.Facts),
    quiescent_InProjBwd (hInProjBwd := hInProjBwd)
    ∧ quiescent_InProjBwdIdeal (hInProjBwdIdeal := hInProjBwdIdeal)
    ∧ quiescent_InProjBwdIdeal_pre_in_proj_bwd_finite (hInProjBwdIdeal := hInProjBwdIdeal) (hPre_in_proj_bwd_finite := hPre_in_proj_bwd_finite)
    ∧ quiescent_InProjBwdRefIdeal (hInProjBwdRefIdeal := hInProjBwdRefIdeal)
    ∧ quiescent_InProjBwdRefIdeal_pre_in_proj_bwd_finite (hInProjBwdRefIdeal := hInProjBwdRefIdeal) (hPre_in_proj_bwd_finite := hPre_in_proj_bwd_finite)
    ∧ quiescent_Mlp (hMlp := hMlp)
    ∧ quiescent_MlpIdeal (hMlpIdeal := hMlpIdeal)
    ∧ quiescent_MlpIdeal_pre_mlp_finite (hMlpIdeal := hMlpIdeal) (hPre_mlp_finite := hPre_mlp_finite)
    ∧ quiescent_MlpRefIdeal (hMlpRefIdeal := hMlpRefIdeal)
    ∧ quiescent_MlpRefIdeal_pre_mlp_finite (hMlpRefIdeal := hMlpRefIdeal) (hPre_mlp_finite := hPre_mlp_finite)
    ∧ quiescent_MergeBwd (hMergeBwd := hMergeBwd)
    ∧ quiescent_MergeBwdIdeal (hMergeBwdIdeal := hMergeBwdIdeal)
    ∧ quiescent_MergeBwdIdeal_pre_merge_bwd_finite (hMergeBwdIdeal := hMergeBwdIdeal) (hPre_merge_bwd_finite := hPre_merge_bwd_finite)
    ∧ quiescent_MergeBwdRefIdeal (hMergeBwdRefIdeal := hMergeBwdRefIdeal)
    ∧ quiescent_MergeBwdRefIdeal_pre_merge_bwd_finite (hMergeBwdRefIdeal := hMergeBwdRefIdeal) (hPre_merge_bwd_finite := hPre_merge_bwd_finite)
    ∧ quiescent_InProj (hInProj := hInProj)
    ∧ quiescent_InProjIdeal (hInProjIdeal := hInProjIdeal)
    ∧ quiescent_InProjRefIdeal (hInProjRefIdeal := hInProjRefIdeal)
    ∧ quiescent_DwUp (hDwUp := hDwUp)
    ∧ quiescent_DwUpIdeal (hDwUpIdeal := hDwUpIdeal)
    ∧ quiescent_DwUpRefIdeal (hDwUpRefIdeal := hDwUpRefIdeal)
    ∧ quiescent_AdamwBig (hAdamwBig := hAdamwBig)
    ∧ quiescent_AdamwBigIdeal (hAdamwBigIdeal := hAdamwBigIdeal)
    ∧ quiescent_AdamwBigRefIdeal (hAdamwBigRefIdeal := hAdamwBigRefIdeal)
    ∧ quiescent_AdamwSmall (hAdamwSmall := hAdamwSmall)
    ∧ quiescent_AdamwSmallIdeal (hAdamwSmallIdeal := hAdamwSmallIdeal)
    ∧ quiescent_AdamwSmallRefIdeal (hAdamwSmallRefIdeal := hAdamwSmallRefIdeal)
    ∧ quiescent_DwIn (hDwIn := hDwIn)
    ∧ quiescent_DwInIdeal (hDwInIdeal := hDwInIdeal)
    ∧ quiescent_DwInRefIdeal (hDwInRefIdeal := hDwInRefIdeal)
    ∧ quiescent_MixerFwd (hMixerFwd := hMixerFwd)
    ∧ quiescent_MixerFwdIdeal (hMixerFwdIdeal := hMixerFwdIdeal)
    ∧ preserves_InProjBwd_InProjBwdIdeal
    ∧ algebraic_InProjBwdIdeal_InProjBwdRefIdeal_pre_in_proj_bwd_finite (hInProjBwdIdeal := hInProjBwdIdeal) (hInProjBwdRefIdeal := hInProjBwdRefIdeal) (hPre_in_proj_bwd_finite := hPre_in_proj_bwd_finite)
    ∧ preserves_Mlp_MlpIdeal
    ∧ algebraic_MlpIdeal_MlpRefIdeal_pre_mlp_finite (hMlpIdeal := hMlpIdeal) (hMlpRefIdeal := hMlpRefIdeal) (hPre_mlp_finite := hPre_mlp_finite)
    ∧ preserves_MergeBwd_MergeBwdIdeal
    ∧ algebraic_MergeBwdIdeal_MergeBwdRefIdeal_pre_merge_bwd_finite (hMergeBwdIdeal := hMergeBwdIdeal) (hMergeBwdRefIdeal := hMergeBwdRefIdeal) (hPre_merge_bwd_finite := hPre_merge_bwd_finite)
    ∧ preserves_InProj_InProjIdeal
    ∧ algebraic_InProjIdeal_InProjRefIdeal (hInProjIdeal := hInProjIdeal) (hInProjRefIdeal := hInProjRefIdeal)
    ∧ preserves_DwUp_DwUpIdeal
    ∧ algebraic_DwUpIdeal_DwUpRefIdeal (hDwUpIdeal := hDwUpIdeal) (hDwUpRefIdeal := hDwUpRefIdeal)
    ∧ preserves_AdamwBig_AdamwBigIdeal
    ∧ algebraic_AdamwBigIdeal_AdamwBigRefIdeal (hAdamwBigIdeal := hAdamwBigIdeal) (hAdamwBigRefIdeal := hAdamwBigRefIdeal)
    ∧ preserves_AdamwSmall_AdamwSmallIdeal
    ∧ algebraic_AdamwSmallIdeal_AdamwSmallRefIdeal (hAdamwSmallIdeal := hAdamwSmallIdeal) (hAdamwSmallRefIdeal := hAdamwSmallRefIdeal)
    ∧ preserves_DwIn_DwInIdeal
    ∧ algebraic_DwInIdeal_DwInRefIdeal (hDwInIdeal := hDwInIdeal) (hDwInRefIdeal := hDwInRefIdeal)
    ∧ preserves_MixerFwd_MixerFwdIdeal
-- ==== Pre_in_proj_bwd_finite.lean ====
abbrev S2048x1024 : Shape := ⟨2, ![2048, 1024]⟩
abbrev S1x1024 : Shape := ⟨2, ![1, 1024]⟩
abbrev S1024x4624 : Shape := ⟨2, ![1024, 4624]⟩
abbrev S2048x4624 : Shape := ⟨2, ![2048, 4624]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)
  bcast_S_S1024x4624 : S_.BroadcastsInDim S1024x4624 (![] : Fin 0 → Fin S1024x4624.rank)
  bcast_S_S2048x4624 : S_.BroadcastsInDim S2048x4624 (![] : Fin 0 → Fin S2048x4624.rank)

variable [Facts]

def fn {F : FTy → Type} [FloatOps F] (main_arg0 : FVec F S2048x1024 .f32) (main_arg1 : FVec F S1x1024 .f32) (main_arg2 : FVec F S1024x4624 .f32) (main_arg3 : FVec F S2048x1024 .f32) (main_arg4 : FVec F S2048x4624 .f32) : IVec S2048x1024 1 × IVec S1x1024 1 × IVec S1024x4624 1 × IVec S2048x4624 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x4624 .f32 := Host.absf main_arg2
  let main_cst_1 : FVec F S_ .f32 := constant S_ .f32 0x7F800000#32
  let main_v7 : FVec F S1024x4624 .f32 := broadcastInDim S1024x4624 ![] bcast_S_S1024x4624 main_cst_1
  let main_v8 : IVec S1024x4624 1 := cmpf .olt main_v6 main_v7
  let main_v9 : FVec F S2048x4624 .f32 := Host.absf main_arg4
  let main_cst_2 : FVec F S_ .f32 := constant S_ .f32 0x7F800000#32
  let main_v10 : FVec F S2048x4624 .f32 := broadcastInDim S2048x4624 ![] bcast_S_S2048x4624 main_cst_2
  let main_v11 : IVec S2048x4624 1 := cmpf .olt main_v9 main_v10
  (main_v2, main_v5, main_v8, main_v11)
-- ==== Pre_merge_bwd_finite.lean ====
abbrev S2048x1024 : Shape := ⟨2, ![2048, 1024]⟩
abbrev S2048x512 : Shape := ⟨2, ![2048, 512]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩

class Facts : Prop where
  bcast_S_S2048x512 : S_.BroadcastsInDim S2048x512 (![] : Fin 0 → Fin S2048x512.rank)
  bcast_S_S512x1024 : S_.BroadcastsInDim S512x1024 (![] : Fin 0 → Fin S512x1024.rank)
  bcast_S_S1024x1024 : S_.BroadcastsInDim S1024x1024 (![] : Fin 0 → Fin S1024x1024.rank)
  bcast_S_S1x1024 : S_.BroadcastsInDim S1x1024 (![] : Fin 0 → Fin S1x1024.rank)
  bcast_S_S2048x1024 : S_.BroadcastsInDim S2048x1024 (![] : Fin 0 → Fin S2048x1024.rank)

variable [Facts]

def fn_part1 {F : FTy → Type} [FloatOps F] (main_arg8 : FVec F S2048x1024 .f32) (main_v2 : IVec S2048x512 1) (main_v5 : IVec S2048x512 1) (main_v8 : IVec S512x1024 1) (main_v11 : IVec S512x1024 1) (main_v14 : IVec S1024x1024 1) (main_v17 : IVec S1x1024 1) : IVec S2048x512 1 × IVec S2048x512 1 × IVec S512x1024 1 × IVec S512x1024 1 × IVec S1024x1024 1 × IVec S1x1024 1 × IVec S2048x1024 1 :=
  let main_v18 : FVec F S2048x1024 .f32 := Host.absf main_arg8
  let main_cst_5 : FVec F S_ .f32 := constant S_ .f32 0x7F800000#32
  let main_v19 : FVec F S2048x1024 .f32 := broadcastInDim S2048x1024 ![] bcast_S_S2048x1024 main_cst_5
  let main_v20 : IVec S2048x1024 1 := cmpf .olt main_v18 main_v19
  (main_v2, main_v5, main_v8, main_v11, main_v14, main_v17, main_v20)

def fn {F : FTy → Type} [FloatOps F] (main_arg0 : FVec F S2048x1024 .f32) (main_arg1 : FVec F S2048x1024 .f32) (main_arg2 : FVec F S2048x512 .f32) (main_arg3 : FVec F S2048x512 .f32) (main_arg4 : FVec F S512x1024 .f32) (main_arg5 : FVec F S512x1024 .f32) (main_arg6 : FVec F S1024x1024 .f32) (main_arg7 : FVec F S1x1024 .f32) (main_arg8 : FVec F S2048x1024 .f32) : IVec S2048x512 1 × IVec S2048x512 1 × IVec S512x1024 1 × IVec S512x1024 1 × IVec S1024x1024 1 × IVec S1x1024 1 × IVec S2048x1024 1 :=
  let main_v0 : FVec F S2048x512 .f32 := Host.absf main_arg2
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_v3 : FVec F S2048x512 .f32 := Host.absf main_arg3
  let main_cst_0 : FVec F S_ .f32 := constant S_ .f32 0x7F800000#32
  let main_v4 : FVec F S2048x512 .f32 := broadcastInDim S2048x512 ![] bcast_S_S2048x512 main_cst_0
  let main_v5 : IVec S2048x512 1 := cmpf .olt main_v3 main_v4
  let main_v6 : FVec F S512x1024 .f32 := Host.absf main_arg4
  let main_cst_1 : FVec F S_ .f32 := constant S_ .f32 0x7F800000#32
  let main_v7 : FVec F S512x1024 .f32 := broadcastInDim S512x1024 ![] bcast_S_S512x1024 main_cst_1
  let main_v8 : IVec S512x1024 1 := cmpf .olt main_v6 main_v7
  let main_v9 : FVec F S512x1024 .f32 := Host.absf main_arg5
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_v12 : FVec F S1024x1024 .f32 := Host.absf main_arg6
  let main_cst_3 : FVec F S_ .f32 := constant S_ .f32 0x7F800000#32
  let main_v13 : FVec F S1024x1024 .f32 := broadcastInDim S1024x1024 ![] bcast_S_S1024x1024 main_cst_3
  let main_v14 : IVec S1024x1024 1 := cmpf .olt main_v12 main_v13
  let main_v15 : FVec F S1x1024 .f32 := Host.absf main_arg7
  let main_cst_4 : FVec F S_ .f32 := constant S_ .f32 0x7F800000#32
  let main_v16 : FVec F S1x1024 .f32 := broadcastInDim S1x1024 ![] bcast_S_S1x1024 main_cst_4
  let main_v17 : IVec S1x1024 1 := cmpf .olt main_v15 main_v16
  fn_part1 (F := F) main_arg8 main_v2 main_v5 main_v8 main_v11 main_v14 main_v17
-- ==== Pre_mlp_finite.lean ====
abbrev S2048x1024 : Shape := ⟨2, ![2048, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩

class Facts : Prop where
  bcast_S_S2048x1024 : S_.BroadcastsInDim S2048x1024 (![] : Fin 0 → Fin S2048x1024.rank)
  bcast_S_S1x1024 : S_.BroadcastsInDim S1x1024 (![] : Fin 0 → Fin S1x1024.rank)
  bcast_S_S1024x4096 : S_.BroadcastsInDim S1024x4096 (![] : Fin 0 → Fin S1024x4096.rank)
  bcast_S_S4096x1024 : S_.BroadcastsInDim S4096x1024 (![] : Fin 0 → Fin S4096x1024.rank)

variable [Facts]

def fn {F : FTy → Type} [FloatOps F] (main_arg0 : FVec F S2048x1024 .f32) (main_arg1 : FVec F S2048x1024 .f32) (main_arg2 : FVec F S1x1024 .f32) (main_arg3 : FVec F S1x1024 .f32) (main_arg4 : FVec F S1024x4096 .f32) (main_arg5 : FVec F S4096x1024 .f32) : IVec S2048x1024 1 × IVec S2048x1024 1 × IVec S1x1024 1 × IVec S1x1024 1 × IVec S1024x4096 1 × IVec S4096x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1x1024 .f32 := Host.absf main_arg2
  let main_cst_1 : FVec F S_ .f32 := constant S_ .f32 0x7F800000#32
  let main_v7 : FVec F S1x1024 .f32 := broadcastInDim S1x1024 ![] bcast_S_S1x1024 main_cst_1
  let main_v8 : IVec S1x1024 1 := cmpf .olt main_v6 main_v7
  let main_v9 : FVec F S1x1024 .f32 := Host.absf main_arg3
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_v12 : FVec F S1024x4096 .f32 := Host.absf main_arg4
  let main_cst_3 : FVec F S_ .f32 := constant S_ .f32 0x7F800000#32
  let main_v13 : FVec F S1024x4096 .f32 := broadcastInDim S1024x4096 ![] bcast_S_S1024x4096 main_cst_3
  let main_v14 : IVec S1024x4096 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== InProjBwd.lean ====
abbrev S2048x1024 : Shape := ⟨2, ![2048, 1024]⟩
abbrev S1x1024 : Shape := ⟨2, ![1, 1024]⟩
abbrev S1024x4624 : Shape := ⟨2, ![1024, 4624]⟩
abbrev S2048x4624 : Shape := ⟨2, ![2048, 4624]⟩
abbrev S2048x1536 : Shape := ⟨2, ![2048, 1536]⟩
abbrev S2048x16 : Shape := ⟨2, ![2048, 16]⟩
abbrev S_ : Shape := ⟨0, ![]⟩
abbrev S2048x112 : Shape := ⟨2, ![2048, 112]⟩
abbrev S2048x2688 : Shape := ⟨2, ![2048, 2688]⟩
abbrev S2048x2048 : Shape := ⟨2, ![2048, 2048]⟩
abbrev S4624x1024 : Shape := ⟨2, ![4624, 1024]⟩
abbrev S4x1156x1024 : Shape := ⟨3, ![4, 1156, 1024]⟩
abbrev S256x2688 : Shape := ⟨2, ![256, 2688]⟩
abbrev S256x2048 : Shape := ⟨2, ![256, 2048]⟩
abbrev S256x1024 : Shape := ⟨2, ![256, 1024]⟩
abbrev S1x1156x1024 : Shape := ⟨3, ![1, 1156, 1024]⟩
abbrev S1156x1024 : Shape := ⟨2, ![1156, 1024]⟩
abbrev S256x1536 : Shape := ⟨2, ![256, 1536]⟩
abbrev S1536x1024 : Shape := ⟨2, ![1536, 1024]⟩
abbrev S1024x1024 : Shape := ⟨2, ![1024, 1024]⟩
abbrev S256x128 : Shape := ⟨2, ![256, 128]⟩
abbrev S128x1024 : Shape := ⟨2, ![128, 1024]⟩
abbrev S256 : Shape := ⟨1, ![256]⟩
abbrev S256x1 : Shape := ⟨2, ![256, 1]⟩
abbrev S1024 : Shape := ⟨1, ![1024]⟩

abbrev nBuf : Space → Nat
  | .hbm => 19
  | .vmem => 14
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x4624, .f32⟩
  | .hbm, ⟨3, _⟩ => ⟨S2048x1024, .f32⟩
  | .hbm, ⟨4, _⟩ => ⟨S2048x4624, .f32⟩
  | .hbm, ⟨5, _⟩ => ⟨S2048x1536, .f32⟩
  | .hbm, ⟨6, _⟩ => ⟨S2048x1024, .f32⟩
  | .hbm, ⟨7, _⟩ => ⟨S2048x16, .f32⟩
  | .hbm, ⟨8, _⟩ => ⟨S_, .f32⟩
  | .hbm, ⟨9, _⟩ => ⟨S2048x112, .f32⟩
  | .hbm, ⟨10, _⟩ => ⟨S2048x2688, .f32⟩
  | .hbm, ⟨11, _⟩ => ⟨S2048x2688, .bf16⟩
  | .hbm, ⟨12, _⟩ => ⟨S2048x2048, .f32⟩
  | .hbm, ⟨13, _⟩ => ⟨S2048x2048, .bf16⟩
  | .hbm, ⟨14, _⟩ => ⟨S1024x4624, .bf16⟩
  | .hbm, ⟨15, _⟩ => ⟨S4624x1024, .bf16⟩
  | .hbm, ⟨16, _⟩ => ⟨S4x1156x1024, .bf16⟩
  | .hbm, ⟨17, _⟩ => ⟨S2048x1024, .f32⟩
  | .hbm, ⟨18, _⟩ => ⟨S1x1024, .f32⟩
  | .local _ .vmem, ⟨0, _⟩ => ⟨S256x2688, .bf16⟩
  | .local _ .vmem, ⟨1, _⟩ => ⟨S256x2688, .bf16⟩
  | .local _ .vmem, ⟨2, _⟩ => ⟨S256x2048, .bf16⟩
  | .local _ .vmem, ⟨3, _⟩ => ⟨S256x2048, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S4x1156x1024, .bf16⟩
  | .local _ .vmem, ⟨10, _⟩ => ⟨S256x1024, .f32⟩
  | .local _ .vmem, ⟨11, _⟩ => ⟨S256x1024, .f32⟩
  | .local _ .vmem, ⟨12, _⟩ => ⟨S1x1024, .f32⟩
  | .local _ .vmem, ⟨13, _⟩ => ⟨S4624x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2688 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x1156x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InProjBwdRefIdeal.lean ====
abbrev S2048x1024 : Shape := ⟨2, ![2048, 1024]⟩
abbrev S1x1024 : Shape := ⟨2, ![1, 1024]⟩
abbrev S1024x4624 : Shape := ⟨2, ![1024, 4624]⟩
abbrev S2048x4624 : Shape := ⟨2, ![2048, 4624]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 50
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x4624, .f32⟩
  | .hbm, ⟨3, _⟩ => ⟨S2048x1024, .f32⟩
  | .hbm, ⟨4, _⟩ => ⟨S2048x4624, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x4624, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]
-- ==== Mlp.lean ====
abbrev S2048x1024 : Shape := ⟨2, ![2048, 1024]⟩
abbrev S1x1024 : Shape := ⟨2, ![1, 1024]⟩
abbrev S1024x4096 : Shape := ⟨2, ![1024, 4096]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S4x512x1024 : Shape := ⟨3, ![4, 512, 1024]⟩
abbrev S2048x4096 : Shape := ⟨2, ![2048, 4096]⟩
abbrev S1x128 : Shape := ⟨2, ![1, 128]⟩
abbrev S256x1024 : Shape := ⟨2, ![256, 1024]⟩
abbrev S256x4096 : Shape := ⟨2, ![256, 4096]⟩
abbrev S256 : Shape := ⟨1, ![256]⟩
abbrev S256x1 : Shape := ⟨2, ![256, 1]⟩
abbrev S1x1024x1024 : Shape := ⟨3, ![1, 1024, 1024]⟩
abbrev S1024x1024 : Shape := ⟨2, ![1024, 1024]⟩
abbrev S256x512 : Shape := ⟨2, ![256, 512]⟩
abbrev S1x512x1024 : Shape := ⟨3, ![1, 512, 1024]⟩
abbrev S512x1024 : Shape := ⟨2, ![512, 1024]⟩
abbrev S1x256x1024 : Shape := ⟨3, ![1, 256, 1024]⟩
abbrev S1 : Shape := ⟨1, ![1]⟩
abbrev S1x1x1 : Shape := ⟨3, ![1, 1, 1]⟩
abbrev S1x1 : Shape := ⟨2, ![1, 1]⟩
abbrev S1024 : Shape := ⟨1, ![1024]⟩

abbrev nBuf : Space → Nat
  | .hbm => 21
  | .vmem => 22
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S1x1024, .f32⟩
  | .hbm, ⟨4, _⟩ => ⟨S1024x4096, .f32⟩
  | .hbm, ⟨5, _⟩ => ⟨S4096x1024, .f32⟩
  | .hbm, ⟨6, _⟩ => ⟨S1024x4096, .bf16⟩
  | .hbm, ⟨7, _⟩ => ⟨S1024x4x1024, .bf16⟩
  | .hbm, ⟨8, _⟩ => ⟨S4x1024x1024, .bf16⟩
  | .hbm, ⟨9, _⟩ => ⟨S4096x1024, .bf16⟩
  | .hbm, ⟨10, _⟩ => ⟨S4x1024x1024, .bf16⟩
  | .hbm, ⟨11, _⟩ => ⟨S4x512x1024, .bf16⟩
  | .hbm, ⟨12, _⟩ => ⟨S4x512x1024, .bf16⟩
  | .hbm, ⟨13, _⟩ => ⟨S2048x1024, .f32⟩
  | .hbm, ⟨14, _⟩ => ⟨S2048x4096, .bf16⟩
  | .hbm, ⟨15, _⟩ => ⟨S2048x1024, .bf16⟩
  | .hbm, ⟨16, _⟩ => ⟨S2048x1024, .bf16⟩
  | .hbm, ⟨17, _⟩ => ⟨S2048x4096, .bf16⟩
  | .hbm, ⟨18, _⟩ => ⟨S1x1024, .f32⟩
  | .hbm, ⟨19, _⟩ => ⟨S1x1024, .f32⟩
  | .hbm, ⟨20, _⟩ => ⟨S1x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S4x1024x1024, .bf16⟩
  | .local _ .vmem, ⟨7, _⟩ => ⟨S4x512x1024, .bf16⟩
  | .local _ .vmem, ⟨8, _⟩ => ⟨S4x512x1024, .bf16⟩
  | .local _ .vmem, ⟨9, _⟩ => ⟨S256x1024, .f32⟩
  | .local _ .vmem, ⟨10, _⟩ => ⟨S256x1024, .f32⟩
  | .local _ .vmem, ⟨11, _⟩ => ⟨S256x4096, .bf16⟩
  | .local _ .vmem, ⟨12, _⟩ => ⟨S256x4096, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | .local _ .vmem, ⟨17, _⟩ => ⟨S256x4096, .bf16⟩
  | .local _ .vmem, ⟨18, _⟩ => ⟨S256x4096, .bf16⟩
  | .local _ .vmem, ⟨19, _⟩ => ⟨S1x1024, .f32⟩
  | .local _ .vmem, ⟨20, _⟩ => ⟨S1x1024, .f32⟩
  | .local _ .vmem, ⟨21, _⟩ => ⟨S1x128, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v7_2 : Ref sig .tc := ⟨.hbm, 15, rfl⟩
abbrev main_v7_3 : Ref sig .tc := ⟨.hbm, 16, rfl⟩
abbrev main_v7_4 : Ref sig .tc := ⟨.hbm, 17, rfl⟩
abbrev main_v7_5 : Ref sig .tc := ⟨.hbm, 18, rfl⟩
abbrev main_v7_6 : Ref sig .tc := ⟨.hbm, 19, rfl⟩
abbrev main_v7_7 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MlpRefIdeal.lean ====
abbrev S2048x1024 : Shape := ⟨2, ![2048, 1024]⟩
abbrev S1x1024 : Shape := ⟨2, ![1, 1024]⟩
abbrev S1024x4096 : Shape := ⟨2, ![1024, 4096]⟩
abbrev S4096x1024 : Shape := ⟨2, ![4096, 1024]⟩
abbrev S_ : Shape := ⟨0, ![]⟩
abbrev S2048x4096 : Shape := ⟨2, ![2048, 4096]⟩
abbrev S2048 : Shape := ⟨1, ![2048]⟩
abbrev S2048x1 : Shape := ⟨2, ![2048, 1]⟩
abbrev S1024 : Shape := ⟨1, ![1024]⟩
abbrev S1x128 : Shape := ⟨2, ![1, 128]⟩

abbrev nBuf : Space → Nat
  | .hbm => 146
  | .vmem => 0
  | .smem => 0
  | _ => 0

abbrev hbmTy0_0 (i : Nat) : BufTy := match i % 128 with
  | 0 => ⟨S2048x1024, .f32⟩
  | 1 => ⟨S2048x1024, .f32⟩
  | 2 => ⟨S1x1024, .f32⟩
  | 3 => ⟨S1x1024, .f32⟩
  | 4 => ⟨S1024x4096, .f32⟩
  | 5 => ⟨S4096x1024, .f32⟩
  | 6 => ⟨S_, .f32⟩
  | 7 => ⟨S2048x4096, .f32⟩
  | 8 => ⟨S_, .f32⟩
  | 9 => ⟨S2048x1024, .f32⟩
  | 10 => ⟨S2048x1024, .f32⟩
  | 11 => ⟨S_, .f32⟩
  | 12 => ⟨S2048, .f32⟩
  | 13 => ⟨S2048x1, .f32⟩
  | 14 => ⟨S_, .f32⟩
  | 15 => ⟨S2048x1, .f32⟩
  | 16 => ⟨S2048x1, .f32⟩
  | 17 => ⟨S_, .f32⟩
  | 18 => ⟨S2048x1, .f32⟩
  | 19 => ⟨S2048x1, .f32⟩
  | 20 => ⟨S2048x1, .f32⟩
  | 21 => ⟨S2048x1, .f32⟩
  | 22 => ⟨S_, .f32⟩
  | 23 => ⟨S2048x1, .f32⟩
  | 24 => ⟨S2048x1, .f32⟩
  | 25 => ⟨S2048x1024, .f32⟩
  | 26 => ⟨S2048x1024, .f32⟩
  | 27 => ⟨S2048x1024, .f32⟩
  | 28 => ⟨S2048x1024, .f32⟩
  | 29 => ⟨S2048x4096, .f32⟩
  | 30 => ⟨S2048x4096, .f32⟩
  | 31 => ⟨S_, .f32⟩
  | 32 => ⟨S2048x4096, .f32⟩
  | 33 => ⟨S2048x4096, .f32⟩
  | 34 => ⟨S_, .f32⟩
  | 35 => ⟨S2048x4096, .f32⟩
  | 36 => ⟨S2048x4096, .i1⟩
  | 37 => ⟨S_, .f32⟩
  | 38 => ⟨S2048x4096, .f32⟩
  | 39 => ⟨S2048x4096, .f32⟩
  | 40 => ⟨S_, .f32⟩
  | 41 => ⟨S2048x4096, .f32⟩
  | 42 => ⟨S2048x4096, .f32⟩
  | 43 => ⟨S2048x1024, .f32⟩
  | 44 => ⟨S2048x1024, .f32⟩
  | 45 => ⟨S2048x1024, .f32⟩
  | 46 => ⟨S_, .f32⟩
  | 47 => ⟨S2048, .f32⟩
  | 48 => ⟨S2048x1, .f32⟩
  | 49 => ⟨S_, .f32⟩
  | 50 => ⟨S2048x1, .f32⟩
  | 51 => ⟨S2048x1, .f32⟩
  | 52 => ⟨S_, .f32⟩
  | 53 => ⟨S2048x1, .f32⟩
  | 54 => ⟨S2048x1, .f32⟩
  | 55 => ⟨S2048x1, .f32⟩
  | 56 => ⟨S2048x1, .f32⟩
  | 57 => ⟨S_, .f32⟩
  | 58 => ⟨S2048x1, .f32⟩
  | 59 => ⟨S2048x1, .f32⟩
  | 60 => ⟨S2048x1024, .f32⟩
  | 61 => ⟨S2048x1024, .f32⟩
  | 62 => ⟨S2048x1024, .f32⟩
  | 63 => ⟨S2048x1024, .f32⟩
  | 64 => ⟨S2048x1024, .f32⟩
  | 65 => ⟨S2048x1024, .f32⟩
  | 66 => ⟨S2048x1024, .f32⟩
  | 67 => ⟨S_, .f32⟩
  | 68 => ⟨S2048x1024, .f32⟩
  | 69 => ⟨S2048x1024, .f32⟩
  | 70 => ⟨S_, .f32⟩
  | 71 => ⟨S2048, .f32⟩
  | 72 => ⟨S_, .f32⟩
  | 73 => ⟨S2048, .f32⟩
  | 74 => ⟨S2048, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S2048, .f32⟩
  | 83 => ⟨S_, .f32⟩
  | 84 => ⟨S2048, .f32⟩
  | 85 => ⟨S2048, .f32⟩
  | 86 => ⟨S2048x1024, .f32⟩
  | 87 => ⟨S2048x1024, .f32⟩
  | 88 => ⟨S2048x1024, .f32⟩
  | 89 => ⟨S_, .f32⟩
  | 90 => ⟨S1024, .f32⟩
  | 91 => ⟨S1x1024, .f32⟩
  | 92 => ⟨S2048x1024, .f32⟩
  | 93 => ⟨S2048x1024, .f32⟩
  | 94 => ⟨S2048x1024, .f32⟩
  | 95 => ⟨S_, .f32⟩
  | 96 => ⟨S2048, .f32⟩
  | 97 => ⟨S2048x1, .f32⟩
  | 98 => ⟨S2048x1024, .f32⟩
  | 99 => ⟨S2048x1024, .f32⟩
  | 100 => ⟨S2048x1, .f32⟩
  | 101 => ⟨S_, .f32⟩
  | 102 => ⟨S2048x1, .f32⟩
  | 103 => ⟨S2048x1, .f32⟩
  | 104 => ⟨S_, .f32⟩
  | 105 => ⟨S2048, .f32⟩
  | 106 => ⟨S2048x1024, .f32⟩
  | 107 => ⟨S2048x1024, .f32⟩
  | 108 => ⟨S2048x1024, .f32⟩
  | 109 => ⟨S2048x1024, .f32⟩
  | 110 => ⟨S2048x1024, .f32⟩
  | 111 => ⟨S2048x4096, .f32⟩
  | 112 => ⟨S2048x4096, .f32⟩
  | 113 => ⟨S_, .f32⟩
  | 114 => ⟨S2048x4096, .f32⟩
  | 115 => ⟨S2048x4096, .f32⟩
  | 116 => ⟨S2048x1024, .f32⟩
  | 117 => ⟨S2048x1024, .f32⟩
  | 118 => ⟨S_, .f32⟩
  | 119 => ⟨S1024, .f32⟩
  | 120 => ⟨S1x1024, .f32⟩
  | 121 => ⟨S2048x1024, .f32⟩
  | 122 => ⟨S2048x1024, .f32⟩
  | 123 => ⟨S2048x1024, .f32⟩
  | 124 => ⟨S_, .f32⟩
  | 125 => ⟨S2048, .f32⟩
  | 126 => ⟨S2048x1, .f32⟩
  | 127 => ⟨S2048x1024, .f32⟩
  | _ => ⟨S2048x1024, .f32⟩

abbrev hbmTy0_1 (i : Nat) : BufTy := match i % 128 with
  | 0 => ⟨S2048x1024, .f32⟩
  | 1 => ⟨S2048x1024, .f32⟩
  | 2 => ⟨S2048x1, .f32⟩
  | 3 => ⟨S_, .f32⟩
  | 4 => ⟨S2048x1, .f32⟩
  | 5 => ⟨S2048x1, .f32⟩
  | 6 => ⟨S_, .f32⟩
  | 7 => ⟨S2048, .f32⟩
  | 8 => ⟨S2048x1024, .f32⟩
  | 9 => ⟨S2048x1024, .f32⟩
  | 10 => ⟨S2048x1024, .f32⟩
  | 11 => ⟨S2048x1024, .f32⟩
  | 12 => ⟨S2048x1024, .f32⟩
  | 13 => ⟨S2048x4096, .bf16⟩
  | 14 => ⟨S2048x1024, .bf16⟩
  | 15 => ⟨S2048x1024, .bf16⟩
  | 16 => ⟨S2048x4096, .bf16⟩
  | 17 => ⟨S1x128, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_cst_1 : Ref sig .tc := ⟨.hbm, 11, rfl⟩
abbrev main_v3 : Ref sig .tc := ⟨.hbm, 12, rfl⟩
abbrev main_v4 : Ref sig .tc := ⟨.hbm, 13, rfl⟩
abbrev main_cst_2 : Ref sig .tc := ⟨.hbm, 14, rfl⟩
abbrev main_v5 : Ref sig .tc := ⟨.hbm, 15, rfl⟩
abbrev main_v6 : Ref sig .tc := ⟨.hbm, 16, rfl⟩
abbrev main_cst_3 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_call0_cst : Ref sig .tc := ⟨.hbm, 31, rfl⟩
abbrev main_call0_v0 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_v23 : Ref sig .tc := ⟨.hbm, 39, rfl⟩
abbrev main_cst_7 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_v32 : Ref sig .tc := ⟨.hbm, 51, rfl⟩
abbrev main_cst_10 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_11 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_12 : Ref sig .tc := ⟨.hbm, 67, rfl⟩
abbrev main_v46 : Ref sig .tc := ⟨.hbm, 68, rfl⟩
abbrev main_v47 : Ref sig .tc := ⟨.hbm, 69, rfl⟩
abbrev main_cst_13 : Ref sig .tc := ⟨.hbm, 70, rfl⟩
abbrev main_v48 : Ref sig .tc := ⟨.hbm, 71, rfl⟩
abbrev main_cst_14 : Ref sig .tc := ⟨.hbm, 72, rfl⟩
abbrev main_v49 : Ref sig .tc := ⟨.hbm, 73, rfl⟩
abbrev main_v50 : Ref sig .tc := ⟨.hbm, 74, rfl⟩
abbrev main_cst_15 : Ref sig .tc := ⟨.hbm, 75, rfl⟩
abbrev main_v51 : Ref sig .tc := ⟨.hbm, 76, rfl⟩
abbrev main_cst_16 : Ref sig .tc := ⟨.hbm, 77, rfl⟩
abbrev main_v52 : Ref sig .tc := ⟨.hbm, 78, rfl⟩
abbrev main_cst_17 : Ref sig .tc := ⟨.hbm, 79, rfl⟩
abbrev main_cst_18 : Ref sig .tc := ⟨.hbm, 80, rfl⟩
abbrev main_v53 : Ref sig .tc := ⟨.hbm, 81, rfl⟩
abbrev main_v54 : Ref sig .tc := ⟨.hbm, 82, rfl⟩
abbrev main_cst_19 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_20 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_cst_21 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_22 : Ref sig .tc := ⟨.hbm, 101, rfl⟩
abbrev main_v70 : Ref sig .tc := ⟨.hbm, 102, rfl⟩
abbrev main_v71 : Ref sig .tc := ⟨.hbm, 103, rfl⟩
abbrev main_cst_23 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_24 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_cst_25 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_26 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_27 : Ref sig .tc := ⟨.hbm, 131, rfl⟩
abbrev main_v95 : Ref sig .tc := ⟨.hbm, 132, rfl⟩
abbrev main_v96 : Ref sig .tc := ⟨.hbm, 133, rfl⟩
abbrev main_cst_28 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩

abbrev nD : Nat := 1
abbrev τ : Topo := Topo.v7x

variable {F : FTy → Type} [FloatOps F]
-- ==== MergeBwd.lean ====
abbrev S2048x1024 : Shape := ⟨2, ![2048, 1024]⟩
abbrev S2048x512 : Shape := ⟨2, ![2048, 512]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S512x4x256 : Shape := ⟨3, ![512, 4, 256]⟩
abbrev S4x512x256 : Shape := ⟨3, ![4, 512, 256]⟩
abbrev S2048x2048 : Shape := ⟨2, ![2048, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1024 : Shape := ⟨1, ![1024]⟩
abbrev S256x512 : Shape := ⟨2, ![256, 512]⟩
abbrev S256x256 : Shape := ⟨2, ![256, 256]⟩
abbrev S1x512x256 : Shape := ⟨3, ![1, 512, 256]⟩
abbrev S512x256 : Shape := ⟨2, ![512, 256]⟩

abbrev nBuf : Space → Nat
  | .hbm => 48
  | .vmem => 25
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x512, .f32⟩
  | .hbm, ⟨3, _⟩ => ⟨S2048x512, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S_, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S_, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S512x1024, .bf16⟩
  | .hbm, ⟨32, _⟩ => ⟨S512x4x256, .bf16⟩
  | .hbm, ⟨33, _⟩ => ⟨S4x512x256, .bf16⟩
  | .hbm, ⟨34, _⟩ => ⟨S512x1024, .bf16⟩
  | .hbm, ⟨35, _⟩ => ⟨S512x4x256, .bf16⟩
  | .hbm, ⟨36, _⟩ => ⟨S4x512x256, .bf16⟩
  | .hbm, ⟨37, _⟩ => ⟨S2048x1024, .f32⟩
  | .hbm, ⟨38, _⟩ => ⟨S2048x1024, .bf16⟩
  | .hbm, ⟨39, _⟩ => ⟨S2048x2048, .f32⟩
  | .hbm, ⟨40, _⟩ => ⟨S2048x1024, .bf16⟩
  | .hbm, ⟨41, _⟩ => ⟨S1024x1024, .bf16⟩
  | .hbm, ⟨42, _⟩ => ⟨S2048x2048, .bf16⟩
  | .hbm, ⟨43, _⟩ => ⟨S2048x1024, .f32⟩
  | .hbm, ⟨44, _⟩ => ⟨S1x1024, .f32⟩
  | .hbm, ⟨45, _⟩ => ⟨S4x512x256, .bf16⟩
  | .hbm, ⟨46, _⟩ => ⟨S4x512x256, .bf16⟩
  | .hbm, ⟨47, _⟩ => ⟨S1024x1024, .bf16⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .bf16⟩
  | .local _ .vmem, ⟨5, _⟩ => ⟨S256x1024, .bf16⟩
  | .local _ .vmem, ⟨6, _⟩ => ⟨S256x2048, .f32⟩
  | .local _ .vmem, ⟨7, _⟩ => ⟨S256x2048, .f32⟩
  | .local _ .vmem, ⟨8, _⟩ => ⟨S256x1024, .bf16⟩
  | .local _ .vmem, ⟨9, _⟩ => ⟨S256x1024, .bf16⟩
  | .local _ .vmem, ⟨10, _⟩ => ⟨S4x512x256, .bf16⟩
  | .local _ .vmem, ⟨11, _⟩ => ⟨S4x512x256, .bf16⟩
  | .local _ .vmem, ⟨12, _⟩ => ⟨S1024x1024, .bf16⟩
  | .local _ .vmem, ⟨13, _⟩ => ⟨S1x1024, .f32⟩
  | .local _ .vmem, ⟨14, _⟩ => ⟨S256x2048, .bf16⟩
  | .local _ .vmem, ⟨15, _⟩ => ⟨S256x2048, .bf16⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S4x512x256, .bf16⟩
  | .local _ .vmem, ⟨20, _⟩ => ⟨S4x512x256, .bf16⟩
  | .local _ .vmem, ⟨21, _⟩ => ⟨S1024x1024, .bf16⟩
  | .local _ .vmem, ⟨22, _⟩ => ⟨S512x1024, .f32⟩
  | .local _ .vmem, ⟨23, _⟩ => ⟨S512x1024, .f32⟩
  | .local _ .vmem, ⟨24, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_1 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29_0 : Ref sig .tc := ⟨.hbm, 42, rfl⟩
abbrev main_v29_1 : Ref sig .tc := ⟨.hbm, 43, rfl⟩
abbrev main_v29_2 : Ref sig .tc := ⟨.hbm, 44, rfl⟩
abbrev main_v29_3 : Ref sig .tc := ⟨.hbm, 45, rfl⟩
abbrev main_v29_4 : Ref sig .tc := ⟨.hbm, 46, rfl⟩
abbrev main_v29_5 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem12_0 : DmaSem sig := 19
abbrev cc0_sem13_0 : DmaSem sig := 20
abbrev cc0_sem14_0 : DmaSem sig := 21

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v274 : BitVec 1 := Scalar.cmpi .eq arg0 c7_i32
  let v275 : BitVec 32 := Scalar.extui v274
  let c0_i32_163 : BitVec 32 := 0#32
  let v276 : BitVec 1 := Scalar.cmpi .ne v275 c0_i32_163
  v276

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S4x512x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x512x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S4x512x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S4x512x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MergeBwdRefIdeal.lean ====
abbrev S2048x1024 : Shape := ⟨2, ![2048, 1024]⟩
abbrev S2048x512 : Shape := ⟨2, ![2048, 512]⟩
abbrev S512x1024 : Shape := ⟨2, ![512, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1024x512 : Shape := ⟨2, ![1024, 512]⟩
abbrev S2048x2048 : Shape := ⟨2, ![2048, 2048]⟩
abbrev S512x4x256 : Shape := ⟨3, ![512, 4, 256]⟩
abbrev S4x512x256 : Shape := ⟨3, ![4, 512, 256]⟩

abbrev nBuf : Space → Nat
  | .hbm => 106
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x512, .f32⟩
  | .hbm, ⟨3, _⟩ => ⟨S2048x512, .f32⟩
  | .hbm, ⟨4, _⟩ => ⟨S512x1024, .f32⟩
  | .hbm, ⟨5, _⟩ => ⟨S512x1024, .f32⟩
  | .hbm, ⟨6, _⟩ => ⟨S1024x1024, .f32⟩
  | .hbm, ⟨7, _⟩ => ⟨S1x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S_, .f32⟩
  | .hbm, ⟨14, _⟩ => ⟨S2048x1024, .f32⟩
  | .hbm, ⟨15, _⟩ => ⟨S2048x1024, .f32⟩
  | .hbm, ⟨16, _⟩ => ⟨S_, .f32⟩
  | .hbm, ⟨17, _⟩ => ⟨S2048x1024, .f32⟩
  | .hbm, ⟨18, _⟩ => ⟨S2048x1024, .f32⟩
  | .hbm, ⟨19, _⟩ => ⟨S_, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S2048x1024, .f32⟩
  | .hbm, ⟨26, _⟩ => ⟨S_, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S_, .f32⟩
  | .hbm, ⟨33, _⟩ => ⟨S2048x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S_, .f32⟩
  | .hbm, ⟨41, _⟩ => ⟨S2048, .f32⟩
  | .hbm, ⟨42, _⟩ => ⟨S2048x1, .f32⟩
  | .hbm, ⟨43, _⟩ => ⟨S_, .f32⟩
  | .hbm, ⟨44, _⟩ => ⟨S2048x1, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S2048x1, .f32⟩
  | .hbm, ⟨50, _⟩ => ⟨S2048x1, .f32⟩
  | .hbm, ⟨51, _⟩ => ⟨S_, .f32⟩
  | .hbm, ⟨52, _⟩ => ⟨S2048x1, .f32⟩
  | .hbm, ⟨53, _⟩ => ⟨S2048x1, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S2048x1024, .f32⟩
  | .hbm, ⟨59, _⟩ => ⟨S_, .f32⟩
  | .hbm, ⟨60, _⟩ => ⟨S1024, .f32⟩
  | .hbm, ⟨61, _⟩ => ⟨S1x1024, .f32⟩
  | .hbm, ⟨62, _⟩ => ⟨S2048x1024, .f32⟩
  | .hbm, ⟨63, _⟩ => ⟨S2048x1024, .f32⟩
  | .hbm, ⟨64, _⟩ => ⟨S2048x1024, .f32⟩
  | .hbm, ⟨65, _⟩ => ⟨S_, .f32⟩
  | .hbm, ⟨66, _⟩ => ⟨S2048, .f32⟩
  | .hbm, ⟨67, _⟩ => ⟨S2048x1, .f32⟩
  | .hbm, ⟨68, _⟩ => ⟨S2048x1024, .f32⟩
  | .hbm, ⟨69, _⟩ => ⟨S2048x1024, .f32⟩
  | .hbm, ⟨70, _⟩ => ⟨S2048x1, .f32⟩
  | .hbm, ⟨71, _⟩ => ⟨S_, .f32⟩
  | .hbm, ⟨72, _⟩ => ⟨S2048x1, .f32⟩
  | .hbm, ⟨73, _⟩ => ⟨S2048x1, .f32⟩
  | .hbm, ⟨74, _⟩ => ⟨S_, .f32⟩
  | .hbm, ⟨75, _⟩ => ⟨S2048, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S1024x1024, .f32⟩
  | .hbm, ⟨82, _⟩ => ⟨S1024x1024, .f32⟩
  | .hbm, ⟨83, _⟩ => ⟨S2048x1024, .f32⟩
  | .hbm, ⟨84, _⟩ => ⟨S2048x1024, .f32⟩
  | .hbm, ⟨85, _⟩ => ⟨S2048x1024, .f32⟩
  | .hbm, ⟨86, _⟩ => ⟨S2048x1024, .f32⟩
  | .hbm, ⟨87, _⟩ => ⟨S2048x1024, .f32⟩
  | .hbm, ⟨88, _⟩ => ⟨S2048x1024, .f32⟩
  | .hbm, ⟨89, _⟩ => ⟨S2048x1024, .f32⟩
  | .hbm, ⟨90, _⟩ => ⟨S1024x512, .f32⟩
  | .hbm, ⟨91, _⟩ => ⟨S512x1024, .f32⟩
  | .hbm, ⟨92, _⟩ => ⟨S2048x512, .f32⟩
  | .hbm, ⟨93, _⟩ => ⟨S1024x512, .f32⟩
  | .hbm, ⟨94, _⟩ => ⟨S512x1024, .f32⟩
  | .hbm, ⟨95, _⟩ => ⟨S2048x512, .f32⟩
  | .hbm, ⟨96, _⟩ => ⟨S2048x2048, .f32⟩
  | .hbm, ⟨97, _⟩ => ⟨S2048x2048, .bf16⟩
  | .hbm, ⟨98, _⟩ => ⟨S2048x1024, .f32⟩
  | .hbm, ⟨99, _⟩ => ⟨S512x4x256, .f32⟩
  | .hbm, ⟨100, _⟩ => ⟨S4x512x256, .f32⟩
  | .hbm, ⟨101, _⟩ => ⟨S4x512x256, .bf16⟩
  | .hbm, ⟨102, _⟩ => ⟨S512x4x256, .f32⟩
  | .hbm, ⟨103, _⟩ => ⟨S4x512x256, .f32⟩
  | .hbm, ⟨104, _⟩ => ⟨S4x512x256, .bf16⟩
  | .hbm, ⟨105, _⟩ => ⟨S1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_2 : Ref sig .tc := ⟨.hbm, 26, rfl⟩
abbrev main_v14 : Ref sig .tc := ⟨.hbm, 27, rfl⟩
abbrev main_v15 : Ref sig .tc := ⟨.hbm, 28, rfl⟩
abbrev main_cst_3 : Ref sig .tc := ⟨.hbm, 29, rfl⟩
abbrev main_v16 : Ref sig .tc := ⟨.hbm, 30, rfl⟩
abbrev main_v17 : Ref sig .tc := ⟨.hbm, 31, rfl⟩
abbrev main_cst_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_cst_6 : Ref sig .tc := ⟨.hbm, 43, rfl⟩
abbrev main_v27 : Ref sig .tc := ⟨.hbm, 44, rfl⟩
abbrev main_v28 : Ref sig .tc := ⟨.hbm, 45, rfl⟩
abbrev main_cst_7 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_8 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_10 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_cst_11 : Ref sig .tc := ⟨.hbm, 71, rfl⟩
abbrev main_v50 : Ref sig .tc := ⟨.hbm, 72, rfl⟩
abbrev main_v51 : Ref sig .tc := ⟨.hbm, 73, rfl⟩
abbrev main_cst_12 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩

abbrev nD : Nat := 1
abbrev τ : Topo := Topo.v7x

variable {F : FTy → Type} [FloatOps F]
-- ==== InProj.lean ====
abbrev S2048x1024 : Shape := ⟨2, ![2048, 1024]⟩
abbrev S1x1024 : Shape := ⟨2, ![1, 1024]⟩
abbrev S1024x4624 : Shape := ⟨2, ![1024, 4624]⟩
abbrev S4624x1024 : Shape := ⟨2, ![4624, 1024]⟩
abbrev S4x1156x1024 : Shape := ⟨3, ![4, 1156, 1024]⟩
abbrev S2048x2688 : Shape := ⟨2, ![2048, 2688]⟩
abbrev S2048x2048 : Shape := ⟨2, ![2048, 2048]⟩
abbrev S256x1024 : Shape := ⟨2, ![256, 1024]⟩
abbrev S256x2688 : Shape := ⟨2, ![256, 2688]⟩
abbrev S256x2048 : Shape := ⟨2, ![256, 2048]⟩
abbrev S1x1156x1024 : Shape := ⟨3, ![1, 1156, 1024]⟩
abbrev S1156x1024 : Shape := ⟨2, ![1156, 1024]⟩
abbrev S256 : Shape := ⟨1, ![256]⟩
abbrev S256x1 : Shape := ⟨2, ![256, 1]⟩
abbrev S1536x1024 : Shape := ⟨2, ![1536, 1024]⟩
abbrev S256x1536 : Shape := ⟨2, ![256, 1536]⟩
abbrev S1024x1024 : Shape := ⟨2, ![1024, 1024]⟩
abbrev S128x1024 : Shape := ⟨2, ![128, 1024]⟩
abbrev S256x128 : Shape := ⟨2, ![256, 128]⟩

abbrev nBuf : Space → Nat
  | .hbm => 9
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x4624, .f32⟩
  | .hbm, ⟨3, _⟩ => ⟨S1024x4624, .bf16⟩
  | .hbm, ⟨4, _⟩ => ⟨S4624x1024, .bf16⟩
  | .hbm, ⟨5, _⟩ => ⟨S4x1156x1024, .bf16⟩
  | .hbm, ⟨6, _⟩ => ⟨S2048x2688, .f32⟩
  | .hbm, ⟨7, _⟩ => ⟨S2048x2048, .f32⟩
  | .hbm, ⟨8, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S4x1156x1024, .bf16⟩
  | .local _ .vmem, ⟨4, _⟩ => ⟨S256x2688, .f32⟩
  | .local _ .vmem, ⟨5, _⟩ => ⟨S256x2688, .f32⟩
  | .local _ .vmem, ⟨6, _⟩ => ⟨S256x2048, .f32⟩
  | .local _ .vmem, ⟨7, _⟩ => ⟨S256x2048, .f32⟩
  | .local _ .vmem, ⟨8, _⟩ => ⟨S256x1024, .bf16⟩
  | .local _ .vmem, ⟨9, _⟩ => ⟨S256x1024, .bf16⟩
  | .local _ .vmem, ⟨10, _⟩ => ⟨S4624x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v3_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1156x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2688 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== InProjRefIdeal.lean ====
abbrev S2048x1024 : Shape := ⟨2, ![2048, 1024]⟩
abbrev S1x1024 : Shape := ⟨2, ![1, 1024]⟩
abbrev S1024x4624 : Shape := ⟨2, ![1024, 4624]⟩
abbrev S_ : Shape := ⟨0, ![]⟩
abbrev S2048 : Shape := ⟨1, ![2048]⟩
abbrev S2048x1 : Shape := ⟨2, ![2048, 1]⟩
abbrev S2048x4624 : Shape := ⟨2, ![2048, 4624]⟩
abbrev S2048x1536 : Shape := ⟨2, ![2048, 1536]⟩
abbrev S2048x128 : Shape := ⟨2, ![2048, 128]⟩
abbrev S2048x2688 : Shape := ⟨2, ![2048, 2688]⟩
abbrev S2048x2048 : Shape := ⟨2, ![2048, 2048]⟩

abbrev nBuf : Space → Nat
  | .hbm => 25
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x4624, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S2048x4624, .f32⟩
  | .hbm, ⟨19, _⟩ => ⟨S2048x1536, .f32⟩
  | .hbm, ⟨20, _⟩ => ⟨S2048x1024, .f32⟩
  | .hbm, ⟨21, _⟩ => ⟨S2048x128, .f32⟩
  | .hbm, ⟨22, _⟩ => ⟨S2048x2688, .f32⟩
  | .hbm, ⟨23, _⟩ => ⟨S2048x2048, .f32⟩
  | .hbm, ⟨24, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩

abbrev nD : Nat := 1
abbrev τ : Topo := Topo.v7x

variable {F : FTy → Type} [FloatOps F]
-- ==== DwUp.lean ====
abbrev S2048x1024 : Shape := ⟨2, ![2048, 1024]⟩
abbrev S2048x4096 : Shape := ⟨2, ![2048, 4096]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S2048x1024, .bf16⟩
  | .hbm, ⟨3, _⟩ => ⟨S2048x4096, .bf16⟩
  | .hbm, ⟨4, _⟩ => ⟨S4x1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1x1024x1024, .bf16⟩
  | .local _ .vmem, ⟨4, _⟩ => ⟨S1x1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DwUpRefIdeal.lean ====
abbrev S2048x1024 : Shape := ⟨2, ![2048, 1024]⟩
abbrev S2048x4096 : Shape := ⟨2, ![2048, 4096]⟩
abbrev S1024x2048 : Shape := ⟨2, ![1024, 2048]⟩
abbrev S1024x4096 : Shape := ⟨2, ![1024, 4096]⟩
abbrev S1024x4x1024 : Shape := ⟨3, ![1024, 4, 1024]⟩
abbrev S4x1024x1024 : Shape := ⟨3, ![4, 1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x4096, .f32⟩
  | .hbm, ⟨2, _⟩ => ⟨S1024x2048, .f32⟩
  | .hbm, ⟨3, _⟩ => ⟨S1024x4096, .f32⟩
  | .hbm, ⟨4, _⟩ => ⟨S1024x4x1024, .f32⟩
  | .hbm, ⟨5, _⟩ => ⟨S4x1024x1024, .f32⟩
  | .hbm, ⟨6, _⟩ => ⟨S4x1024x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== AdamwBig.lean ====
abbrev S256x1024 : Shape := ⟨2, ![256, 1024]⟩
abbrev S1024x1024 : Shape := ⟨2, ![1024, 1024]⟩
abbrev S32x1024 : Shape := ⟨2, ![32, 1024]⟩
abbrev S128x1024 : Shape := ⟨2, ![128, 1024]⟩

abbrev nBuf : Space → Nat
  | .hbm => 24
  | .vmem => 48
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024x1024, .f32⟩
  | .hbm, ⟨3, _⟩ => ⟨S256x1024, .f32⟩
  | .hbm, ⟨4, _⟩ => ⟨S1024x1024, .f32⟩
  | .hbm, ⟨5, _⟩ => ⟨S1024x1024, .f32⟩
  | .hbm, ⟨6, _⟩ => ⟨S256x1024, .f32⟩
  | .hbm, ⟨7, _⟩ => ⟨S1024x1024, .f32⟩
  | .hbm, ⟨8, _⟩ => ⟨S1024x1024, .f32⟩
  | .hbm, ⟨9, _⟩ => ⟨S256x1024, .f32⟩
  | .hbm, ⟨10, _⟩ => ⟨S1024x1024, .f32⟩
  | .hbm, ⟨11, _⟩ => ⟨S1024x1024, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S1024x1024, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S1024x1024, .f32⟩
  | .local _ .vmem, ⟨0, _⟩ => ⟨S32x1024, .f32⟩
  | .local _ .vmem, ⟨1, _⟩ => ⟨S32x1024, .f32⟩
  | .local _ .vmem, ⟨2, _⟩ => ⟨S32x1024, .f32⟩
  | .local _ .vmem, ⟨3, _⟩ => ⟨S32x1024, .f32⟩
  | .local _ .vmem, ⟨4, _⟩ => ⟨S32x1024, .f32⟩
  | .local _ .vmem, ⟨5, _⟩ => ⟨S32x1024, .f32⟩
  | .local _ .vmem, ⟨6, _⟩ => ⟨S32x1024, .f32⟩
  | .local _ .vmem, ⟨7, _⟩ => ⟨S32x1024, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x1024, .f32⟩
  | .local _ .vmem, ⟨13, _⟩ => ⟨S128x1024, .f32⟩
  | .local _ .vmem, ⟨14, _⟩ => ⟨S128x1024, .f32⟩
  | .local _ .vmem, ⟨15, _⟩ => ⟨S128x1024, .f32⟩
  | .local _ .vmem, ⟨16, _⟩ => ⟨S128x1024, .f32⟩
  | .local _ .vmem, ⟨17, _⟩ => ⟨S128x1024, .f32⟩
  | .local _ .vmem, ⟨18, _⟩ => ⟨S128x1024, .f32⟩
  | .local _ .vmem, ⟨19, _⟩ => ⟨S128x1024, .f32⟩
  | .local _ .vmem, ⟨20, _⟩ => ⟨S128x1024, .f32⟩
  | .local _ .vmem, ⟨21, _⟩ => ⟨S128x1024, .f32⟩
  | .local _ .vmem, ⟨22, _⟩ => ⟨S128x1024, .f32⟩
  | .local _ .vmem, ⟨23, _⟩ => ⟨S128x1024, .f32⟩
  | .local _ .vmem, ⟨24, _⟩ => ⟨S32x1024, .f32⟩
  | .local _ .vmem, ⟨25, _⟩ => ⟨S32x1024, .f32⟩
  | .local _ .vmem, ⟨26, _⟩ => ⟨S32x1024, .f32⟩
  | .local _ .vmem, ⟨27, _⟩ => ⟨S32x1024, .f32⟩
  | .local _ .vmem, ⟨28, _⟩ => ⟨S32x1024, .f32⟩
  | .local _ .vmem, ⟨29, _⟩ => ⟨S32x1024, .f32⟩
  | .local _ .vmem, ⟨30, _⟩ => ⟨S32x1024, .f32⟩
  | .local _ .vmem, ⟨31, _⟩ => ⟨S32x1024, .f32⟩
  | .local _ .vmem, ⟨32, _⟩ => ⟨S128x1024, .f32⟩
  | .local _ .vmem, ⟨33, _⟩ => ⟨S128x1024, .f32⟩
  | .local _ .vmem, ⟨34, _⟩ => ⟨S128x1024, .f32⟩
  | .local _ .vmem, ⟨35, _⟩ => ⟨S128x1024, .f32⟩
  | .local _ .vmem, ⟨36, _⟩ => ⟨S128x1024, .f32⟩
  | .local _ .vmem, ⟨37, _⟩ => ⟨S128x1024, .f32⟩
  | .local _ .vmem, ⟨38, _⟩ => ⟨S128x1024, .f32⟩
  | .local _ .vmem, ⟨39, _⟩ => ⟨S128x1024, .f32⟩
  | .local _ .vmem, ⟨40, _⟩ => ⟨S128x1024, .f32⟩
  | .local _ .vmem, ⟨41, _⟩ => ⟨S128x1024, .f32⟩
  | .local _ .vmem, ⟨42, _⟩ => ⟨S128x1024, .f32⟩
  | .local _ .vmem, ⟨43, _⟩ => ⟨S128x1024, .f32⟩
  | .local _ .vmem, ⟨44, _⟩ => ⟨S128x1024, .f32⟩
  | .local _ .vmem, ⟨45, _⟩ => ⟨S128x1024, .f32⟩
  | .local _ .vmem, ⟨46, _⟩ => ⟨S128x1024, .f32⟩
  | .local _ .vmem, ⟨47, _⟩ => ⟨S128x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev main_v0_9 : Ref sig .tc := ⟨.hbm, 21, rfl⟩
abbrev main_v0_10 : Ref sig .tc := ⟨.hbm, 22, rfl⟩
abbrev main_v0_11 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_stg20_0 : Ref sig .tc := ⟨.vmem, 40, rfl⟩
abbrev cc0_stg20_1 : Ref sig .tc := ⟨.vmem, 41, rfl⟩
abbrev cc0_stg21_0 : Ref sig .tc := ⟨.vmem, 42, rfl⟩
abbrev cc0_stg21_1 : Ref sig .tc := ⟨.vmem, 43, rfl⟩
abbrev cc0_stg22_0 : Ref sig .tc := ⟨.vmem, 44, rfl⟩
abbrev cc0_stg22_1 : Ref sig .tc := ⟨.vmem, 45, rfl⟩
abbrev cc0_stg23_0 : Ref sig .tc := ⟨.vmem, 46, rfl⟩
abbrev cc0_stg23_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39
abbrev cc0_sem20_0 : DmaSem sig := 40
abbrev cc0_sem20_1 : DmaSem sig := 41
abbrev cc0_sem21_0 : DmaSem sig := 42
abbrev cc0_sem21_1 : DmaSem sig := 43
abbrev cc0_sem22_0 : DmaSem sig := 44
abbrev cc0_sem22_1 : DmaSem sig := 45
abbrev cc0_sem23_0 : DmaSem sig := 46
abbrev cc0_sem23_1 : DmaSem sig := 47

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S32x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S32x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S32x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S32x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S128x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S128x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S128x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S128x1024 .f32 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]
-- ==== AdamwBigRefIdeal.lean ====
abbrev S256x1024 : Shape := ⟨2, ![256, 1024]⟩
abbrev S1024x1024 : Shape := ⟨2, ![1024, 1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024x1024, .f32⟩
  | .hbm, ⟨2, _⟩ => ⟨S1024x1024, .f32⟩
  | .hbm, ⟨3, _⟩ => ⟨S256x1024, .f32⟩
  | .hbm, ⟨4, _⟩ => ⟨S1024x1024, .f32⟩
  | .hbm, ⟨5, _⟩ => ⟨S1024x1024, .f32⟩
  | .hbm, ⟨6, _⟩ => ⟨S256x1024, .f32⟩
  | .hbm, ⟨7, _⟩ => ⟨S1024x1024, .f32⟩
  | .hbm, ⟨8, _⟩ => ⟨S1024x1024, .f32⟩
  | .hbm, ⟨9, _⟩ => ⟨S256x1024, .f32⟩
  | .hbm, ⟨10, _⟩ => ⟨S1024x1024, .f32⟩
  | .hbm, ⟨11, _⟩ => ⟨S1024x1024, .f32⟩
  | .hbm, ⟨12, _⟩ => ⟨S_, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S_, .f32⟩
  | .hbm, ⟨39, _⟩ => ⟨S256x1024, .f32⟩
  | .hbm, ⟨40, _⟩ => ⟨S256x1024, .f32⟩
  | .hbm, ⟨41, _⟩ => ⟨S256x1024, .f32⟩
  | .hbm, ⟨42, _⟩ => ⟨S_, .f32⟩
  | .hbm, ⟨43, _⟩ => ⟨S256x1024, .f32⟩
  | .hbm, ⟨44, _⟩ => ⟨S256x1024, .f32⟩
  | .hbm, ⟨45, _⟩ => ⟨S_, .f32⟩
  | .hbm, ⟨46, _⟩ => ⟨S1024x1024, .f32⟩
  | .hbm, ⟨47, _⟩ => ⟨S1024x1024, .f32⟩
  | .hbm, ⟨48, _⟩ => ⟨S_, .f32⟩
  | .hbm, ⟨49, _⟩ => ⟨S1024x1024, .f32⟩
  | .hbm, ⟨50, _⟩ => ⟨S1024x1024, .f32⟩
  | .hbm, ⟨51, _⟩ => ⟨S1024x1024, .f32⟩
  | .hbm, ⟨52, _⟩ => ⟨S_, .f32⟩
  | .hbm, ⟨53, _⟩ => ⟨S1024x1024, .f32⟩
  | .hbm, ⟨54, _⟩ => ⟨S1024x1024, .f32⟩
  | .hbm, ⟨55, _⟩ => ⟨S1024x1024, .f32⟩
  | .hbm, ⟨56, _⟩ => ⟨S_, .f32⟩
  | .hbm, ⟨57, _⟩ => ⟨S1024x1024, .f32⟩
  | .hbm, ⟨58, _⟩ => ⟨S1024x1024, .f32⟩
  | .hbm, ⟨59, _⟩ => ⟨S1024x1024, .f32⟩
  | .hbm, ⟨60, _⟩ => ⟨S_, .f32⟩
  | .hbm, ⟨61, _⟩ => ⟨S1024x1024, .f32⟩
  | .hbm, ⟨62, _⟩ => ⟨S1024x1024, .f32⟩
  | .hbm, ⟨63, _⟩ => ⟨S_, .f32⟩
  | .hbm, ⟨64, _⟩ => ⟨S1024x1024, .f32⟩
  | .hbm, ⟨65, _⟩ => ⟨S1024x1024, .f32⟩
  | .hbm, ⟨66, _⟩ => ⟨S1024x1024, .f32⟩
  | .hbm, ⟨67, _⟩ => ⟨S_, .f32⟩
  | .hbm, ⟨68, _⟩ => ⟨S1024x1024, .f32⟩
  | .hbm, ⟨69, _⟩ => ⟨S1024x1024, .f32⟩
  | .hbm, ⟨70, _⟩ => ⟨S1024x1024, .f32⟩
  | .hbm, ⟨71, _⟩ => ⟨S_, .f32⟩
  | .hbm, ⟨72, _⟩ => ⟨S1024x1024, .f32⟩
  | .hbm, ⟨73, _⟩ => ⟨S1024x1024, .f32⟩
  | .hbm, ⟨74, _⟩ => ⟨S1024x1024, .f32⟩
  | .hbm, ⟨75, _⟩ => ⟨S_, .f32⟩
  | .hbm, ⟨76, _⟩ => ⟨S1024x1024, .f32⟩
  | .hbm, ⟨77, _⟩ => ⟨S1024x1024, .f32⟩
  | .hbm, ⟨78, _⟩ => ⟨S_, .f32⟩
  | .hbm, ⟨79, _⟩ => ⟨S1024x1024, .f32⟩
  | .hbm, ⟨80, _⟩ => ⟨S1024x1024, .f32⟩
  | .hbm, ⟨81, _⟩ => ⟨S_, .f32⟩
  | .hbm, ⟨82, _⟩ => ⟨S1024x1024, .f32⟩
  | .hbm, ⟨83, _⟩ => ⟨S1024x1024, .f32⟩
  | .hbm, ⟨84, _⟩ => ⟨S1024x1024, .f32⟩
  | .hbm, ⟨85, _⟩ => ⟨S_, .f32⟩
  | .hbm, ⟨86, _⟩ => ⟨S1024x1024, .f32⟩
  | .hbm, ⟨87, _⟩ => ⟨S1024x1024, .f32⟩
  | .hbm, ⟨88, _⟩ => ⟨S1024x1024, .f32⟩
  | .hbm, ⟨89, _⟩ => ⟨S_, .f32⟩
  | .hbm, ⟨90, _⟩ => ⟨S1024x1024, .f32⟩
  | .hbm, ⟨91, _⟩ => ⟨S1024x1024, .f32⟩
  | .hbm, ⟨92, _⟩ => ⟨S1024x1024, .f32⟩
  | .hbm, ⟨93, _⟩ => ⟨S_, .f32⟩
  | .hbm, ⟨94, _⟩ => ⟨S1024x1024, .f32⟩
  | .hbm, ⟨95, _⟩ => ⟨S1024x1024, .f32⟩
  | .hbm, ⟨96, _⟩ => ⟨S_, .f32⟩
  | .hbm, ⟨97, _⟩ => ⟨S1024x1024, .f32⟩
  | .hbm, ⟨98, _⟩ => ⟨S1024x1024, .f32⟩
  | .hbm, ⟨99, _⟩ => ⟨S1024x1024, .f32⟩
  | .hbm, ⟨100, _⟩ => ⟨S_, .f32⟩
  | .hbm, ⟨101, _⟩ => ⟨S1024x1024, .f32⟩
  | .hbm, ⟨102, _⟩ => ⟨S1024x1024, .f32⟩
  | .hbm, ⟨103, _⟩ => ⟨S1024x1024, .f32⟩
  | .hbm, ⟨104, _⟩ => ⟨S_, .f32⟩
  | .hbm, ⟨105, _⟩ => ⟨S1024x1024, .f32⟩
  | .hbm, ⟨106, _⟩ => ⟨S1024x1024, .f32⟩
  | .hbm, ⟨107, _⟩ => ⟨S1024x1024, .f32⟩
  | .hbm, ⟨108, _⟩ => ⟨S_, .f32⟩
  | .hbm, ⟨109, _⟩ => ⟨S1024x1024, .f32⟩
  | .hbm, ⟨110, _⟩ => ⟨S1024x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== AdamwSmall.lean ====
abbrev S16x128 : Shape := ⟨2, ![16, 128]⟩
abbrev S8x384 : Shape := ⟨2, ![8, 384]⟩
abbrev S1x4x128 : Shape := ⟨3, ![1, 4, 128]⟩

abbrev nBuf : Space → Nat
  | .hbm => 21
  | .vmem => 21
  | .smem => 0
  | _ => 0

abbrev bufTy : (tb : Table) → Fin (tcTables nBuf tb) → BufTy
  | .hbm, ⟨0, _⟩ => ⟨S16x128, .f32⟩
  | .hbm, ⟨1, _⟩ => ⟨S8x384, .f32⟩
  | .hbm, ⟨2, _⟩ => ⟨S1x4x128, .f32⟩
  | .hbm, ⟨3, _⟩ => ⟨S16x128, .f32⟩
  | .hbm, ⟨4, _⟩ => ⟨S8x384, .f32⟩
  | .hbm, ⟨5, _⟩ => ⟨S1x4x128, .f32⟩
  | .hbm, ⟨6, _⟩ => ⟨S16x128, .f32⟩
  | .hbm, ⟨7, _⟩ => ⟨S8x384, .f32⟩
  | .hbm, ⟨8, _⟩ => ⟨S1x4x128, .f32⟩
  | .hbm, ⟨9, _⟩ => ⟨S16x128, .f32⟩
  | .hbm, ⟨10, _⟩ => ⟨S8x384, .f32⟩
  | .hbm, ⟨11, _⟩ => ⟨S1x4x128, .f32⟩
  | .hbm, ⟨12, _⟩ => ⟨S16x128, .f32⟩
  | .hbm, ⟨13, _⟩ => ⟨S8x384, .f32⟩
  | .hbm, ⟨14, _⟩ => ⟨S1x4x128, .f32⟩
  | .hbm, ⟨15, _⟩ => ⟨S16x128, .f32⟩
  | .hbm, ⟨16, _⟩ => ⟨S8x384, .f32⟩
  | .hbm, ⟨17, _⟩ => ⟨S1x4x128, .f32⟩
  | .hbm, ⟨18, _⟩ => ⟨S16x128, .f32⟩
  | .hbm, ⟨19, _⟩ => ⟨S8x384, .f32⟩
  | .hbm, ⟨20, _⟩ => ⟨S1x4x128, .f32⟩
  | .local _ .vmem, ⟨0, _⟩ => ⟨S16x128, .f32⟩
  | .local _ .vmem, ⟨1, _⟩ => ⟨S8x384, .f32⟩
  | .local _ .vmem, ⟨2, _⟩ => ⟨S1x4x128, .f32⟩
  | .local _ .vmem, ⟨3, _⟩ => ⟨S16x128, .f32⟩
  | .local _ .vmem, ⟨4, _⟩ => ⟨S8x384, .f32⟩
  | .local _ .vmem, ⟨5, _⟩ => ⟨S1x4x128, .f32⟩
  | .local _ .vmem, ⟨6, _⟩ => ⟨S16x128, .f32⟩
  | .local _ .vmem, ⟨7, _⟩ => ⟨S8x384, .f32⟩
  | .local _ .vmem, ⟨8, _⟩ => ⟨S1x4x128, .f32⟩
  | .local _ .vmem, ⟨9, _⟩ => ⟨S16x128, .f32⟩
  | .local _ .vmem, ⟨10, _⟩ => ⟨S8x384, .f32⟩
  | .local _ .vmem, ⟨11, _⟩ => ⟨S1x4x128, .f32⟩
  | .local _ .vmem, ⟨12, _⟩ => ⟨S16x128, .f32⟩
  | .local _ .vmem, ⟨13, _⟩ => ⟨S8x384, .f32⟩
  | .local _ .vmem, ⟨14, _⟩ => ⟨S1x4x128, .f32⟩
  | .local _ .vmem, ⟨15, _⟩ => ⟨S16x128, .f32⟩
  | .local _ .vmem, ⟨16, _⟩ => ⟨S8x384, .f32⟩
  | .local _ .vmem, ⟨17, _⟩ => ⟨S1x4x128, .f32⟩
  | .local _ .vmem, ⟨18, _⟩ => ⟨S16x128, .f32⟩
  | .local _ .vmem, ⟨19, _⟩ => ⟨S8x384, .f32⟩
  | .local _ .vmem, ⟨20, _⟩ => ⟨S1x4x128, .f32⟩
  | _, _ => ⟨S16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x4x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x4x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x4x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S16x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x4x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S16x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S8x384 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x4x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S16x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S8x384 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x4x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamwSmallRefIdeal.lean ====
abbrev S16x128 : Shape := ⟨2, ![16, 128]⟩
abbrev S8x384 : Shape := ⟨2, ![8, 384]⟩
abbrev S1x4x128 : Shape := ⟨3, ![1, 4, 128]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S16x128, .f32⟩
  | .hbm, ⟨1, _⟩ => ⟨S8x384, .f32⟩
  | .hbm, ⟨2, _⟩ => ⟨S1x4x128, .f32⟩
  | .hbm, ⟨3, _⟩ => ⟨S16x128, .f32⟩
  | .hbm, ⟨4, _⟩ => ⟨S8x384, .f32⟩
  | .hbm, ⟨5, _⟩ => ⟨S1x4x128, .f32⟩
  | .hbm, ⟨6, _⟩ => ⟨S16x128, .f32⟩
  | .hbm, ⟨7, _⟩ => ⟨S8x384, .f32⟩
  | .hbm, ⟨8, _⟩ => ⟨S1x4x128, .f32⟩
  | .hbm, ⟨9, _⟩ => ⟨S16x128, .f32⟩
  | .hbm, ⟨10, _⟩ => ⟨S8x384, .f32⟩
  | .hbm, ⟨11, _⟩ => ⟨S1x4x128, .f32⟩
  | .hbm, ⟨12, _⟩ => ⟨S_, .f32⟩
  | .hbm, ⟨13, _⟩ => ⟨S16x128, .f32⟩
  | .hbm, ⟨14, _⟩ => ⟨S16x128, .f32⟩
  | .hbm, ⟨15, _⟩ => ⟨S_, .f32⟩
  | .hbm, ⟨16, _⟩ => ⟨S16x128, .f32⟩
  | .hbm, ⟨17, _⟩ => ⟨S16x128, .f32⟩
  | .hbm, ⟨18, _⟩ => ⟨S16x128, .f32⟩
  | .hbm, ⟨19, _⟩ => ⟨S_, .f32⟩
  | .hbm, ⟨20, _⟩ => ⟨S16x128, .f32⟩
  | .hbm, ⟨21, _⟩ => ⟨S16x128, .f32⟩
  | .hbm, ⟨22, _⟩ => ⟨S16x128, .f32⟩
  | .hbm, ⟨23, _⟩ => ⟨S_, .f32⟩
  | .hbm, ⟨24, _⟩ => ⟨S16x128, .f32⟩
  | .hbm, ⟨25, _⟩ => ⟨S16x128, .f32⟩
  | .hbm, ⟨26, _⟩ => ⟨S16x128, .f32⟩
  | .hbm, ⟨27, _⟩ => ⟨S_, .f32⟩
  | .hbm, ⟨28, _⟩ => ⟨S16x128, .f32⟩
  | .hbm, ⟨29, _⟩ => ⟨S16x128, .f32⟩
  | .hbm, ⟨30, _⟩ => ⟨S_, .f32⟩
  | .hbm, ⟨31, _⟩ => ⟨S16x128, .f32⟩
  | .hbm, ⟨32, _⟩ => ⟨S16x128, .f32⟩
  | .hbm, ⟨33, _⟩ => ⟨S16x128, .f32⟩
  | .hbm, ⟨34, _⟩ => ⟨S_, .f32⟩
  | .hbm, ⟨35, _⟩ => ⟨S16x128, .f32⟩
  | .hbm, ⟨36, _⟩ => ⟨S16x128, .f32⟩
  | .hbm, ⟨37, _⟩ => ⟨S16x128, .f32⟩
  | .hbm, ⟨38, _⟩ => ⟨S_, .f32⟩
  | .hbm, ⟨39, _⟩ => ⟨S16x128, .f32⟩
  | .hbm, ⟨40, _⟩ => ⟨S16x128, .f32⟩
  | .hbm, ⟨41, _⟩ => ⟨S16x128, .f32⟩
  | .hbm, ⟨42, _⟩ => ⟨S_, .f32⟩
  | .hbm, ⟨43, _⟩ => ⟨S16x128, .f32⟩
  | .hbm, ⟨44, _⟩ => ⟨S16x128, .f32⟩
  | .hbm, ⟨45, _⟩ => ⟨S_, .f32⟩
  | .hbm, ⟨46, _⟩ => ⟨S8x384, .f32⟩
  | .hbm, ⟨47, _⟩ => ⟨S8x384, .f32⟩
  | .hbm, ⟨48, _⟩ => ⟨S_, .f32⟩
  | .hbm, ⟨49, _⟩ => ⟨S8x384, .f32⟩
  | .hbm, ⟨50, _⟩ => ⟨S8x384, .f32⟩
  | .hbm, ⟨51, _⟩ => ⟨S8x384, .f32⟩
  | .hbm, ⟨52, _⟩ => ⟨S_, .f32⟩
  | .hbm, ⟨53, _⟩ => ⟨S8x384, .f32⟩
  | .hbm, ⟨54, _⟩ => ⟨S8x384, .f32⟩
  | .hbm, ⟨55, _⟩ => ⟨S8x384, .f32⟩
  | .hbm, ⟨56, _⟩ => ⟨S_, .f32⟩
  | .hbm, ⟨57, _⟩ => ⟨S8x384, .f32⟩
  | .hbm, ⟨58, _⟩ => ⟨S8x384, .f32⟩
  | .hbm, ⟨59, _⟩ => ⟨S8x384, .f32⟩
  | .hbm, ⟨60, _⟩ => ⟨S_, .f32⟩
  | .hbm, ⟨61, _⟩ => ⟨S8x384, .f32⟩
  | .hbm, ⟨62, _⟩ => ⟨S8x384, .f32⟩
  | .hbm, ⟨63, _⟩ => ⟨S_, .f32⟩
  | .hbm, ⟨64, _⟩ => ⟨S8x384, .f32⟩
  | .hbm, ⟨65, _⟩ => ⟨S8x384, .f32⟩
  | .hbm, ⟨66, _⟩ => ⟨S8x384, .f32⟩
  | .hbm, ⟨67, _⟩ => ⟨S_, .f32⟩
  | .hbm, ⟨68, _⟩ => ⟨S8x384, .f32⟩
  | .hbm, ⟨69, _⟩ => ⟨S8x384, .f32⟩
  | .hbm, ⟨70, _⟩ => ⟨S8x384, .f32⟩
  | .hbm, ⟨71, _⟩ => ⟨S_, .f32⟩
  | .hbm, ⟨72, _⟩ => ⟨S8x384, .f32⟩
  | .hbm, ⟨73, _⟩ => ⟨S8x384, .f32⟩
  | .hbm, ⟨74, _⟩ => ⟨S8x384, .f32⟩
  | .hbm, ⟨75, _⟩ => ⟨S_, .f32⟩
  | .hbm, ⟨76, _⟩ => ⟨S8x384, .f32⟩
  | .hbm, ⟨77, _⟩ => ⟨S8x384, .f32⟩
  | .hbm, ⟨78, _⟩ => ⟨S_, .f32⟩
  | .hbm, ⟨79, _⟩ => ⟨S1x4x128, .f32⟩
  | .hbm, ⟨80, _⟩ => ⟨S1x4x128, .f32⟩
  | .hbm, ⟨81, _⟩ => ⟨S_, .f32⟩
  | .hbm, ⟨82, _⟩ => ⟨S1x4x128, .f32⟩
  | .hbm, ⟨83, _⟩ => ⟨S1x4x128, .f32⟩
  | .hbm, ⟨84, _⟩ => ⟨S1x4x128, .f32⟩
  | .hbm, ⟨85, _⟩ => ⟨S_, .f32⟩
  | .hbm, ⟨86, _⟩ => ⟨S1x4x128, .f32⟩
  | .hbm, ⟨87, _⟩ => ⟨S1x4x128, .f32⟩
  | .hbm, ⟨88, _⟩ => ⟨S1x4x128, .f32⟩
  | .hbm, ⟨89, _⟩ => ⟨S_, .f32⟩
  | .hbm, ⟨90, _⟩ => ⟨S1x4x128, .f32⟩
  | .hbm, ⟨91, _⟩ => ⟨S1x4x128, .f32⟩
  | .hbm, ⟨92, _⟩ => ⟨S1x4x128, .f32⟩
  | .hbm, ⟨93, _⟩ => ⟨S_, .f32⟩
  | .hbm, ⟨94, _⟩ => ⟨S1x4x128, .f32⟩
  | .hbm, ⟨95, _⟩ => ⟨S1x4x128, .f32⟩
  | .hbm, ⟨96, _⟩ => ⟨S_, .f32⟩
  | .hbm, ⟨97, _⟩ => ⟨S1x4x128, .f32⟩
  | .hbm, ⟨98, _⟩ => ⟨S1x4x128, .f32⟩
  | .hbm, ⟨99, _⟩ => ⟨S1x4x128, .f32⟩
  | .hbm, ⟨100, _⟩ => ⟨S_, .f32⟩
  | .hbm, ⟨101, _⟩ => ⟨S1x4x128, .f32⟩
  | .hbm, ⟨102, _⟩ => ⟨S1x4x128, .f32⟩
  | .hbm, ⟨103, _⟩ => ⟨S1x4x128, .f32⟩
  | .hbm, ⟨104, _⟩ => ⟨S_, .f32⟩
  | .hbm, ⟨105, _⟩ => ⟨S1x4x128, .f32⟩
  | .hbm, ⟨106, _⟩ => ⟨S1x4x128, .f32⟩
  | .hbm, ⟨107, _⟩ => ⟨S1x4x128, .f32⟩
  | .hbm, ⟨108, _⟩ => ⟨S_, .f32⟩
  | .hbm, ⟨109, _⟩ => ⟨S1x4x128, .f32⟩
  | .hbm, ⟨110, _⟩ => ⟨S1x4x128, .f32⟩
  | _, _ => ⟨S16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== DwIn.lean ====
abbrev S2048x4624 : Shape := ⟨2, ![2048, 4624]⟩
abbrev S2048x1024 : Shape := ⟨2, ![2048, 1024]⟩
abbrev S2048x1536 : Shape := ⟨2, ![2048, 1536]⟩
abbrev S2048x16 : Shape := ⟨2, ![2048, 16]⟩
abbrev S_ : Shape := ⟨0, ![]⟩
abbrev S2048x112 : Shape := ⟨2, ![2048, 112]⟩
abbrev S2048x2688 : Shape := ⟨2, ![2048, 2688]⟩
abbrev S2048x2048 : Shape := ⟨2, ![2048, 2048]⟩
abbrev S4x1156x1024 : Shape := ⟨3, ![4, 1156, 1024]⟩
abbrev S2048x512 : Shape := ⟨2, ![2048, 512]⟩
abbrev S2048x128 : Shape := ⟨2, ![2048, 128]⟩
abbrev S512x1024 : Shape := ⟨2, ![512, 1024]⟩
abbrev S1x512x1024 : Shape := ⟨3, ![1, 512, 1024]⟩
abbrev S132x1024 : Shape := ⟨2, ![132, 1024]⟩
abbrev S1x132x1024 : Shape := ⟨3, ![1, 132, 1024]⟩
abbrev S380x1024 : Shape := ⟨2, ![380, 1024]⟩
abbrev S1x380x1024 : Shape := ⟨3, ![1, 380, 1024]⟩
abbrev S248x1024 : Shape := ⟨2, ![248, 1024]⟩
abbrev S1x248x1024 : Shape := ⟨3, ![1, 248, 1024]⟩
abbrev S264x1024 : Shape := ⟨2, ![264, 1024]⟩
abbrev S1x264x1024 : Shape := ⟨3, ![1, 264, 1024]⟩
abbrev S128x1024 : Shape := ⟨2, ![128, 1024]⟩
abbrev S16x1024 : Shape := ⟨2, ![16, 1024]⟩
abbrev S1x16x1024 : Shape := ⟨3, ![1, 16, 1024]⟩

abbrev nBuf : Space → Nat
  | .hbm => 13
  | .vmem => 8
  | .smem => 0
  | _ => 0

abbrev bufTy : (tb : Table) → Fin (tcTables nBuf tb) → BufTy
  | .hbm, ⟨0, _⟩ => ⟨S2048x4624, .f32⟩
  | .hbm, ⟨1, _⟩ => ⟨S2048x1024, .f32⟩
  | .hbm, ⟨2, _⟩ => ⟨S2048x1536, .f32⟩
  | .hbm, ⟨3, _⟩ => ⟨S2048x1024, .f32⟩
  | .hbm, ⟨4, _⟩ => ⟨S2048x16, .f32⟩
  | .hbm, ⟨5, _⟩ => ⟨S_, .f32⟩
  | .hbm, ⟨6, _⟩ => ⟨S2048x112, .f32⟩
  | .hbm, ⟨7, _⟩ => ⟨S2048x2688, .f32⟩
  | .hbm, ⟨8, _⟩ => ⟨S2048x2688, .bf16⟩
  | .hbm, ⟨9, _⟩ => ⟨S2048x2048, .f32⟩
  | .hbm, ⟨10, _⟩ => ⟨S2048x2048, .bf16⟩
  | .hbm, ⟨11, _⟩ => ⟨S2048x1024, .bf16⟩
  | .hbm, ⟨12, _⟩ => ⟨S4x1156x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x512, .bf16⟩
  | .local _ .vmem, ⟨3, _⟩ => ⟨S2048x512, .bf16⟩
  | .local _ .vmem, ⟨4, _⟩ => ⟨S2048x128, .bf16⟩
  | .local _ .vmem, ⟨5, _⟩ => ⟨S2048x1024, .bf16⟩
  | .local _ .vmem, ⟨6, _⟩ => ⟨S4x1156x1024, .bf16⟩
  | .local _ .vmem, ⟨7, _⟩ => ⟨S512x1024, .bf16⟩
  | _, _ => ⟨S2048x4624, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6

abbrev nD : Nat := 1
abbrev τ : Topo := Topo.v7x

variable {F : FTy → Type} [FloatOps F]

abbrev grid0 : Pipeline.Grid := ⟨1, ![9], ![false]⟩

def k0_cond3 (i : grid0.Coords) : BitVec 1 :=
  let arg0 : BitVec 32 := BitVec.ofNat 32 (i 0).val
  let c0_i32_2 : BitVec 32 := 0#32
  let v6 : BitVec 1 := Scalar.cmpi .eq arg0 c0_i32_2
  let v7 : BitVec 32 := Scalar.extui v6
  let c0_i32_3 : BitVec 32 := 0#32
  let v8 : BitVec 1 := Scalar.cmpi .ne v7 c0_i32_3
  v8

def k0_cond4 (i : grid0.Coords) : BitVec 1 :=
  let arg0 : BitVec 32 := BitVec.ofNat 32 (i 0).val
  let c1_i32 : BitVec 32 := 1#32
  let v9 : BitVec 1 := Scalar.cmpi .eq arg0 c1_i32
  let v10 : BitVec 32 := Scalar.extui v9
  let c0_i32_4 : BitVec 32 := 0#32
  let v11 : BitVec 1 := Scalar.cmpi .ne v10 c0_i32_4
  v11

def k0_cond5 (i : grid0.Coords) : BitVec 1 :=
  let arg0 : BitVec 32 := BitVec.ofNat 32 (i 0).val
  let c2_i32 : BitVec 32 := 2#32
  let v12 : BitVec 1 := Scalar.cmpi .eq arg0 c2_i32
  let v13 : BitVec 32 := Scalar.extui v12
  let c0_i32_5 : BitVec 32 := 0#32
  let v14 : BitVec 1 := Scalar.cmpi .ne v13 c0_i32_5
  v14

def k0_cond6 (i : grid0.Coords) : BitVec 1 :=
  let arg0 : BitVec 32 := BitVec.ofNat 32 (i 0).val
  let c3_i32 : BitVec 32 := 3#32
  let v15 : BitVec 1 := Scalar.cmpi .eq arg0 c3_i32
  let v16 : BitVec 32 := Scalar.extui v15
  let c0_i32_6 : BitVec 32 := 0#32
  let v17 : BitVec 1 := Scalar.cmpi .ne v16 c0_i32_6
  v17

def k0_cond7 (i : grid0.Coords) : BitVec 1 :=
  let arg0 : BitVec 32 := BitVec.ofNat 32 (i 0).val
  let c4_i32 : BitVec 32 := 4#32
  let v18 : BitVec 1 := Scalar.cmpi .eq arg0 c4_i32
  let v19 : BitVec 32 := Scalar.extui v18
  let c0_i32_7 : BitVec 32 := 0#32
  let v20 : BitVec 1 := Scalar.cmpi .ne v19 c0_i32_7
  v20

def k0_cond8 (i : grid0.Coords) : BitVec 1 :=
  let arg0 : BitVec 32 := BitVec.ofNat 32 (i 0).val
  let c5_i32_8 : BitVec 32 := 5#32
  let v21 : BitVec 1 := Scalar.cmpi .eq arg0 c5_i32_8
  let v22 : BitVec 32 := Scalar.extui v21
  let c0_i32_9 : BitVec 32 := 0#32
  let v23 : BitVec 1 := Scalar.cmpi .ne v22 c0_i32_9
  v23

def k0_cond9 (i : grid0.Coords) : BitVec 1 :=
  let arg0 : BitVec 32 := BitVec.ofNat 32 (i 0).val
  let c6_i32 : BitVec 32 := 6#32
  let v24 : BitVec 1 := Scalar.cmpi .eq arg0 c6_i32
  let v25 : BitVec 32 := Scalar.extui v24
  let c0_i32_10 : BitVec 32 := 0#32
  let v26 : BitVec 1 := Scalar.cmpi .ne v25 c0_i32_10
  v26

def k0_cond10 (i : grid0.Coords) : BitVec 1 :=
  let arg0 : BitVec 32 := BitVec.ofNat 32 (i 0).val
  let c7_i32 : BitVec 32 := 7#32
  let v27 : BitVec 1 := Scalar.cmpi .eq arg0 c7_i32
  let v28 : BitVec 32 := Scalar.extui v27
  let c0_i32_11 : BitVec 32 := 0#32
  let v29 : BitVec 1 := Scalar.cmpi .ne v28 c0_i32_11
  v29

def k0_cond11 (i : grid0.Coords) : BitVec 1 :=
  let arg0 : BitVec 32 := BitVec.ofNat 32 (i 0).val
  let c8_i32 : BitVec 32 := 8#32
  let v30 : BitVec 1 := Scalar.cmpi .eq arg0 c8_i32
  let v31 : BitVec 32 := Scalar.extui v30
  let c0_i32_12 : BitVec 32 := 0#32
  let v32 : BitVec 1 := Scalar.cmpi .ne v31 c0_i32_12
  v32

def k0_cond12 (i : grid0.Coords) : BitVec 1 :=
  let arg0 : BitVec 32 := BitVec.ofNat 32 (i 0).val
  let c0_i32_13 : BitVec 32 := 0#32
  let v33 : BitVec 1 := Scalar.cmpi .eq arg0 c0_i32_13
  let v34 : BitVec 32 := Scalar.extui v33
  let c0_i32_14 : BitVec 32 := 0#32
  let v35 : BitVec 1 := Scalar.cmpi .ne v34 c0_i32_14
  v35

def cc0_transform_0 (i : grid0.Coords) : Fin 2 → Nat :=
  let arg0 : BitVec 32 := BitVec.ofNat 32 (i 0).val
  let c4_i32 : BitVec 32 := 4#32
  let v0 : BitVec 32 := Scalar.minsi arg0 c4_i32
  let c0_i32 : BitVec 32 := 0#32
  let c0_i32_0 : BitVec 32 := 0#32
  ![c0_i32.toNat, v0.toNat]

def cc0_transform_1 (i : grid0.Coords) : Fin 2 → Nat :=
  let arg0 : BitVec 32 := BitVec.ofNat 32 (i 0).val
  let c5_i32 : BitVec 32 := 5#32
  let v0 : BitVec 32 := Scalar.subi arg0 c5_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let c0_i32 : BitVec 32 := 0#32
  let c20_i32 : BitVec 32 := 20#32
  let c0_i32_0 : BitVec 32 := 0#32
  ![c0_i32.toNat, c20_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1156x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== DwInRefIdeal.lean ====
abbrev S2048x4624 : Shape := ⟨2, ![2048, 4624]⟩
abbrev S2048x1024 : Shape := ⟨2, ![2048, 1024]⟩
abbrev S1024x2048 : Shape := ⟨2, ![1024, 2048]⟩
abbrev S1024x4624 : Shape := ⟨2, ![1024, 4624]⟩
abbrev S4624x1024 : Shape := ⟨2, ![4624, 1024]⟩
abbrev S4x1156x1024 : Shape := ⟨3, ![4, 1156, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x4624, .f32⟩
  | .hbm, ⟨1, _⟩ => ⟨S2048x1024, .f32⟩
  | .hbm, ⟨2, _⟩ => ⟨S1024x2048, .f32⟩
  | .hbm, ⟨3, _⟩ => ⟨S1024x4624, .f32⟩
  | .hbm, ⟨4, _⟩ => ⟨S4624x1024, .f32⟩
  | .hbm, ⟨5, _⟩ => ⟨S4x1156x1024, .f32⟩
  | .hbm, ⟨6, _⟩ => ⟨S4x1156x1024, .bf16⟩
  | _, _ => ⟨S2048x4624, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== MixerFwd.lean ====
abbrev S2048x256 : Shape := ⟨2, ![2048, 256]⟩
abbrev S2048x512 : Shape := ⟨2, ![2048, 512]⟩
abbrev S2048x16 : Shape := ⟨2, ![2048, 16]⟩
abbrev S16x256 : Shape := ⟨2, ![16, 256]⟩
abbrev S1x256 : Shape := ⟨2, ![1, 256]⟩
abbrev S1x128 : Shape := ⟨2, ![1, 128]⟩
abbrev S4x512 : Shape := ⟨2, ![4, 512]⟩
abbrev S1x512 : Shape := ⟨2, ![1, 512]⟩
abbrev S128x4x4 : Shape := ⟨3, ![128, 4, 4]⟩
abbrev S1536x8 : Shape := ⟨2, ![1536, 8]⟩
abbrev S1x8 : Shape := ⟨2, ![1, 8]⟩
abbrev S2048x1024 : Shape := ⟨2, ![2048, 1024]⟩
abbrev S512x1024 : Shape := ⟨2, ![512, 1024]⟩
abbrev S1024x1024 : Shape := ⟨2, ![1024, 1024]⟩
abbrev S1x1024 : Shape := ⟨2, ![1, 1024]⟩
abbrev S2048x112 : Shape := ⟨2, ![2048, 112]⟩
abbrev S2048x2688 : Shape := ⟨2, ![2048, 2688]⟩
abbrev S_ : Shape := ⟨0, ![]⟩
abbrev S128x256 : Shape := ⟨2, ![128, 256]⟩
abbrev S512x4 : Shape := ⟨2, ![512, 4]⟩
abbrev S512x128 : Shape := ⟨2, ![512, 128]⟩
abbrev S1536x128 : Shape := ⟨2, ![1536, 128]⟩
abbrev S512x4x256 : Shape := ⟨3, ![512, 4, 256]⟩
abbrev S4x512x256 : Shape := ⟨3, ![4, 512, 256]⟩
abbrev S2048x2048 : Shape := ⟨2, ![2048, 2048]⟩
abbrev S16x4x128x64 : Shape := ⟨4, ![16, 4, 128, 64]⟩
abbrev S16x4x128x128 : Shape := ⟨4, ![16, 4, 128, 128]⟩
abbrev S16x4x1x128 : Shape := ⟨4, ![16, 4, 1, 128]⟩
abbrev S128x2688 : Shape := ⟨2, ![128, 2688]⟩
abbrev S64x512 : Shape := ⟨2, ![64, 512]⟩
abbrev S128x2048 : Shape := ⟨2, ![128, 2048]⟩
abbrev S128x1024 : Shape := ⟨2, ![128, 1024]⟩
abbrev S1x4x128x64 : Shape := ⟨4, ![1, 4, 128, 64]⟩
abbrev S1x4x128x128 : Shape := ⟨4, ![1, 4, 128, 128]⟩
abbrev S1x4x1x128 : Shape := ⟨4, ![1, 4, 1, 128]⟩
abbrev S4x128x64 : Shape := ⟨3, ![4, 128, 64]⟩
abbrev S4x128x128 : Shape := ⟨3, ![4, 128, 128]⟩
abbrev S4x1x128 : Shape := ⟨3, ![4, 1, 128]⟩
abbrev S128x128 : Shape := ⟨2, ![128, 128]⟩
abbrev S1x128x128 : Shape := ⟨3, ![1, 128, 128]⟩
abbrev S1x128x64 : Shape := ⟨3, ![1, 128, 64]⟩
abbrev S128x64 : Shape := ⟨2, ![128, 64]⟩
abbrev S1x1x128 : Shape := ⟨3, ![1, 1, 128]⟩
abbrev S1x1x128x64 : Shape := ⟨4, ![1, 1, 128, 64]⟩
abbrev S1x1x128x128 : Shape := ⟨4, ![1, 1, 128, 128]⟩
abbrev S1x1x1x128 : Shape := ⟨4, ![1, 1, 1, 128]⟩
abbrev S8x512 : Shape := ⟨2, ![8, 512]⟩
abbrev S64x64 : Shape := ⟨2, ![64, 64]⟩
abbrev S128x512 : Shape := ⟨2, ![128, 512]⟩
abbrev S136x512 : Shape := ⟨2, ![136, 512]⟩
abbrev S64x256 : Shape := ⟨2, ![64, 256]⟩
abbrev S64x1 : Shape := ⟨2, ![64, 1]⟩
abbrev S1x1 : Shape := ⟨2, ![1, 1]⟩
abbrev S64x128 : Shape := ⟨2, ![64, 128]⟩
abbrev S1 : Shape := ⟨1, ![1]⟩
abbrev S1x64 : Shape := ⟨2, ![1, 64]⟩
abbrev S128 : Shape := ⟨1, ![128]⟩
abbrev S64 : Shape := ⟨1, ![64]⟩
abbrev S64x1024 : Shape := ⟨2, ![64, 1024]⟩
abbrev S1x512x256 : Shape := ⟨3, ![1, 512, 256]⟩
abbrev S512x256 : Shape := ⟨2, ![512, 256]⟩
abbrev S128x1 : Shape := ⟨2, ![128, 1]⟩

abbrev nBuf : Space → Nat
  | .hbm => 65
  | .vmem => 47
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x512, .f32⟩
  | .hbm, ⟨3, _⟩ => ⟨S2048x512, .f32⟩
  | .hbm, ⟨4, _⟩ => ⟨S2048x16, .f32⟩
  | .hbm, ⟨5, _⟩ => ⟨S2048x512, .f32⟩
  | .hbm, ⟨6, _⟩ => ⟨S2048x512, .f32⟩
  | .hbm, ⟨7, _⟩ => ⟨S16x256, .f32⟩
  | .hbm, ⟨8, _⟩ => ⟨S1x256, .f32⟩
  | .hbm, ⟨9, _⟩ => ⟨S1x128, .f32⟩
  | .hbm, ⟨10, _⟩ => ⟨S4x512, .f32⟩
  | .hbm, ⟨11, _⟩ => ⟨S1x512, .f32⟩
  | .hbm, ⟨12, _⟩ => ⟨S128x4x4, .f32⟩
  | .hbm, ⟨13, _⟩ => ⟨S128x4x4, .f32⟩
  | .hbm, ⟨14, _⟩ => ⟨S128x4x4, .f32⟩
  | .hbm, ⟨15, _⟩ => ⟨S1536x8, .f32⟩
  | .hbm, ⟨16, _⟩ => ⟨S1x8, .f32⟩
  | .hbm, ⟨17, _⟩ => ⟨S1x512, .f32⟩
  | .hbm, ⟨18, _⟩ => ⟨S1x512, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S512x1024, .f32⟩
  | .hbm, ⟨23, _⟩ => ⟨S512x1024, .f32⟩
  | .hbm, ⟨24, _⟩ => ⟨S1024x1024, .f32⟩
  | .hbm, ⟨25, _⟩ => ⟨S1x1024, .f32⟩
  | .hbm, ⟨26, _⟩ => ⟨S2048x112, .f32⟩
  | .hbm, ⟨27, _⟩ => ⟨S2048x2688, .f32⟩
  | .hbm, ⟨28, _⟩ => ⟨S_, .i32⟩
  | .hbm, ⟨29, _⟩ => ⟨S_, .f32⟩
  | .hbm, ⟨30, _⟩ => ⟨S128x256, .f32⟩
  | .hbm, ⟨31, _⟩ => ⟨S512x4, .f32⟩
  | .hbm, ⟨32, _⟩ => ⟨S_, .i32⟩
  | .hbm, ⟨33, _⟩ => ⟨S_, .f32⟩
  | .hbm, ⟨34, _⟩ => ⟨S512x128, .f32⟩
  | .hbm, ⟨35, _⟩ => ⟨S512x4, .f32⟩
  | .hbm, ⟨36, _⟩ => ⟨S_, .i32⟩
  | .hbm, ⟨37, _⟩ => ⟨S_, .f32⟩
  | .hbm, ⟨38, _⟩ => ⟨S512x128, .f32⟩
  | .hbm, ⟨39, _⟩ => ⟨S512x4, .f32⟩
  | .hbm, ⟨40, _⟩ => ⟨S_, .i32⟩
  | .hbm, ⟨41, _⟩ => ⟨S_, .f32⟩
  | .hbm, ⟨42, _⟩ => ⟨S512x128, .f32⟩
  | .hbm, ⟨43, _⟩ => ⟨S_, .i32⟩
  | .hbm, ⟨44, _⟩ => ⟨S_, .f32⟩
  | .hbm, ⟨45, _⟩ => ⟨S1536x128, .f32⟩
  | .hbm, ⟨46, _⟩ => ⟨S_, .i32⟩
  | .hbm, ⟨47, _⟩ => ⟨S_, .f32⟩
  | .hbm, ⟨48, _⟩ => ⟨S1x128, .f32⟩
  | .hbm, ⟨49, _⟩ => ⟨S512x1024, .bf16⟩
  | .hbm, ⟨50, _⟩ => ⟨S512x4x256, .bf16⟩
  | .hbm, ⟨51, _⟩ => ⟨S4x512x256, .bf16⟩
  | .hbm, ⟨52, _⟩ => ⟨S512x1024, .bf16⟩
  | .hbm, ⟨53, _⟩ => ⟨S512x4x256, .bf16⟩
  | .hbm, ⟨54, _⟩ => ⟨S4x512x256, .bf16⟩
  | .hbm, ⟨55, _⟩ => ⟨S2048x2048, .f32⟩
  | .hbm, ⟨56, _⟩ => ⟨S1024x1024, .bf16⟩
  | .hbm, ⟨57, _⟩ => ⟨S2048x1024, .bf16⟩
  | .hbm, ⟨58, _⟩ => ⟨S2048x1024, .f32⟩
  | .hbm, ⟨59, _⟩ => ⟨S2048x1024, .f32⟩
  | .hbm, ⟨60, _⟩ => ⟨S2048x1024, .bf16⟩
  | .hbm, ⟨61, _⟩ => ⟨S16x4x128x64, .f32⟩
  | .hbm, ⟨62, _⟩ => ⟨S16x4x128x128, .f32⟩
  | .hbm, ⟨63, _⟩ => ⟨S16x4x1x128, .f32⟩
  | .hbm, ⟨64, _⟩ => ⟨S16x4x1x128, .f32⟩
  | .local _ .vmem, ⟨0, _⟩ => ⟨S128x2688, .f32⟩
  | .local _ .vmem, ⟨1, _⟩ => ⟨S128x2688, .f32⟩
  | .local _ .vmem, ⟨2, _⟩ => ⟨S64x512, .f32⟩
  | .local _ .vmem, ⟨3, _⟩ => ⟨S64x512, .f32⟩
  | .local _ .vmem, ⟨4, _⟩ => ⟨S128x256, .f32⟩
  | .local _ .vmem, ⟨5, _⟩ => ⟨S1x256, .f32⟩
  | .local _ .vmem, ⟨6, _⟩ => ⟨S1x128, .f32⟩
  | .local _ .vmem, ⟨7, _⟩ => ⟨S4x512, .f32⟩
  | .local _ .vmem, ⟨8, _⟩ => ⟨S1x512, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S1536x128, .f32⟩
  | .local _ .vmem, ⟨13, _⟩ => ⟨S1x128, .f32⟩
  | .local _ .vmem, ⟨14, _⟩ => ⟨S1x512, .f32⟩
  | .local _ .vmem, ⟨15, _⟩ => ⟨S1x512, .f32⟩
  | .local _ .vmem, ⟨16, _⟩ => ⟨S128x2048, .f32⟩
  | .local _ .vmem, ⟨17, _⟩ => ⟨S128x2048, .f32⟩
  | .local _ .vmem, ⟨18, _⟩ => ⟨S128x1024, .f32⟩
  | .local _ .vmem, ⟨19, _⟩ => ⟨S128x1024, .f32⟩
  | .local _ .vmem, ⟨20, _⟩ => ⟨S4x512x256, .bf16⟩
  | .local _ .vmem, ⟨21, _⟩ => ⟨S4x512x256, .bf16⟩
  | .local _ .vmem, ⟨22, _⟩ => ⟨S1024x1024, .bf16⟩
  | .local _ .vmem, ⟨23, _⟩ => ⟨S1x1024, .f32⟩
  | .local _ .vmem, ⟨24, _⟩ => ⟨S128x1024, .bf16⟩
  | .local _ .vmem, ⟨25, _⟩ => ⟨S128x1024, .bf16⟩
  | .local _ .vmem, ⟨26, _⟩ => ⟨S128x1024, .f32⟩
  | .local _ .vmem, ⟨27, _⟩ => ⟨S128x1024, .f32⟩
  | .local _ .vmem, ⟨28, _⟩ => ⟨S128x1024, .f32⟩
  | .local _ .vmem, ⟨29, _⟩ => ⟨S128x1024, .f32⟩
  | .local _ .vmem, ⟨30, _⟩ => ⟨S128x1024, .bf16⟩
  | .local _ .vmem, ⟨31, _⟩ => ⟨S128x1024, .bf16⟩
  | .local _ .vmem, ⟨32, _⟩ => ⟨S1x4x128x64, .f32⟩
  | .local _ .vmem, ⟨33, _⟩ => ⟨S1x4x128x64, .f32⟩
  | .local _ .vmem, ⟨34, _⟩ => ⟨S1x4x128x128, .f32⟩
  | .local _ .vmem, ⟨35, _⟩ => ⟨S1x4x128x128, .f32⟩
  | .local _ .vmem, ⟨36, _⟩ => ⟨S1x4x1x128, .f32⟩
  | .local _ .vmem, ⟨37, _⟩ => ⟨S1x4x1x128, .f32⟩
  | .local _ .vmem, ⟨38, _⟩ => ⟨S1x4x1x128, .f32⟩
  | .local _ .vmem, ⟨39, _⟩ => ⟨S1x4x1x128, .f32⟩
  | .local _ .vmem, ⟨40, _⟩ => ⟨S4x128x64, .f32⟩
  | .local _ .vmem, ⟨41, _⟩ => ⟨S4x128x128, .f32⟩
  | .local _ .vmem, ⟨42, _⟩ => ⟨S4x1x128, .f32⟩
  | .local _ .vmem, ⟨43, _⟩ => ⟨S4x1x128, .f32⟩
  | .local _ .vmem, ⟨44, _⟩ => ⟨S4x128x128, .f32⟩
  | .local _ .vmem, ⟨45, _⟩ => ⟨S4x128x128, .f32⟩
  | .local _ .vmem, ⟨46, _⟩ => ⟨S4x128x128, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_v0 : Ref sig .tc := ⟨.hbm, 26, rfl⟩
abbrev main_v1 : Ref sig .tc := ⟨.hbm, 27, rfl⟩
abbrev main_c : Ref sig .tc := ⟨.hbm, 28, rfl⟩
abbrev main_call0_v0 : Ref sig .tc := ⟨.hbm, 29, rfl⟩
abbrev main_v2 : Ref sig .tc := ⟨.hbm, 30, rfl⟩
abbrev main_v3 : Ref sig .tc := ⟨.hbm, 31, rfl⟩
abbrev main_c_0 : Ref sig .tc := ⟨.hbm, 32, rfl⟩
abbrev main_call1_v0 : Ref sig .tc := ⟨.hbm, 33, rfl⟩
abbrev main_v4 : Ref sig .tc := ⟨.hbm, 34, rfl⟩
abbrev main_v5 : Ref sig .tc := ⟨.hbm, 35, rfl⟩
abbrev main_c_1 : Ref sig .tc := ⟨.hbm, 36, rfl⟩
abbrev main_call2_v0 : Ref sig .tc := ⟨.hbm, 37, rfl⟩
abbrev main_v6 : Ref sig .tc := ⟨.hbm, 38, rfl⟩
abbrev main_v7 : Ref sig .tc := ⟨.hbm, 39, rfl⟩
abbrev main_c_2 : Ref sig .tc := ⟨.hbm, 40, rfl⟩
abbrev main_call3_v0 : Ref sig .tc := ⟨.hbm, 41, rfl⟩
abbrev main_v8 : Ref sig .tc := ⟨.hbm, 42, rfl⟩
abbrev main_c_3 : Ref sig .tc := ⟨.hbm, 43, rfl⟩
abbrev main_call4_v0 : Ref sig .tc := ⟨.hbm, 44, rfl⟩
abbrev main_v9 : Ref sig .tc := ⟨.hbm, 45, rfl⟩
abbrev main_c_4 : Ref sig .tc := ⟨.hbm, 46, rfl⟩
abbrev main_call5_v0 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19_0 : Ref sig .tc := ⟨.hbm, 57, rfl⟩
abbrev main_v19_1 : Ref sig .tc := ⟨.hbm, 58, rfl⟩
abbrev main_v19_2 : Ref sig .tc := ⟨.hbm, 59, rfl⟩
abbrev main_v19_3 : Ref sig .tc := ⟨.hbm, 60, rfl⟩
abbrev main_v19_4 : Ref sig .tc := ⟨.hbm, 61, rfl⟩
abbrev main_v19_5 : Ref sig .tc := ⟨.hbm, 62, rfl⟩
abbrev main_v19_6 : Ref sig .tc := ⟨.hbm, 63, rfl⟩
abbrev main_v19_7 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg14_1 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg17_0 : Ref sig .tc := ⟨.vmem, 21, rfl⟩
abbrev cc0_stg18_0 : Ref sig .tc := ⟨.vmem, 22, rfl⟩
abbrev cc0_stg19_0 : Ref sig .tc := ⟨.vmem, 23, rfl⟩
abbrev cc0_stg20_0 : Ref sig .tc := ⟨.vmem, 24, rfl⟩
abbrev cc0_stg20_1 : Ref sig .tc := ⟨.vmem, 25, rfl⟩
abbrev cc0_stg21_0 : Ref sig .tc := ⟨.vmem, 26, rfl⟩
abbrev cc0_stg21_1 : Ref sig .tc := ⟨.vmem, 27, rfl⟩
abbrev cc0_stg22_0 : Ref sig .tc := ⟨.vmem, 28, rfl⟩
abbrev cc0_stg22_1 : Ref sig .tc := ⟨.vmem, 29, rfl⟩
abbrev cc0_stg23_0 : Ref sig .tc := ⟨.vmem, 30, rfl⟩
abbrev cc0_stg23_1 : Ref sig .tc := ⟨.vmem, 31, rfl⟩
abbrev cc0_stg24_0 : Ref sig .tc := ⟨.vmem, 32, rfl⟩
abbrev cc0_stg24_1 : Ref sig .tc := ⟨.vmem, 33, rfl⟩
abbrev cc0_stg25_0 : Ref sig .tc := ⟨.vmem, 34, rfl⟩
abbrev cc0_stg25_1 : Ref sig .tc := ⟨.vmem, 35, rfl⟩
abbrev cc0_stg26_0 : Ref sig .tc := ⟨.vmem, 36, rfl⟩
abbrev cc0_stg26_1 : Ref sig .tc := ⟨.vmem, 37, rfl⟩
abbrev cc0_stg27_0 : Ref sig .tc := ⟨.vmem, 38, rfl⟩
abbrev cc0_stg27_1 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_scratch3 : Ref sig .tc := ⟨.vmem, 43, rfl⟩
abbrev cc0_scratch4 : Ref sig .tc := ⟨.vmem, 44, rfl⟩
abbrev cc0_scratch5 : Ref sig .tc := ⟨.vmem, 45, rfl⟩
abbrev cc0_scratch6 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem14_1 : DmaSem sig := 17
abbrev cc0_sem15_0 : DmaSem sig := 18
abbrev cc0_sem15_1 : DmaSem sig := 19
abbrev cc0_sem16_0 : DmaSem sig := 20
abbrev cc0_sem17_0 : DmaSem sig := 21
abbrev cc0_sem18_0 : DmaSem sig := 22
abbrev cc0_sem19_0 : DmaSem sig := 23
abbrev cc0_sem20_0 : DmaSem sig := 24
abbrev cc0_sem20_1 : DmaSem sig := 25
abbrev cc0_sem21_0 : DmaSem sig := 26
abbrev cc0_sem21_1 : DmaSem sig := 27
abbrev cc0_sem22_0 : DmaSem sig := 28
abbrev cc0_sem22_1 : DmaSem sig := 29
abbrev cc0_sem23_0 : DmaSem sig := 30
abbrev cc0_sem23_1 : DmaSem sig := 31
abbrev cc0_sem24_0 : DmaSem sig := 32
abbrev cc0_sem24_1 : DmaSem sig := 33
abbrev cc0_sem25_0 : DmaSem sig := 34
abbrev cc0_sem25_1 : DmaSem sig := 35
abbrev cc0_sem26_0 : DmaSem sig := 36
abbrev cc0_sem26_1 : DmaSem sig := 37
abbrev cc0_sem27_0 : DmaSem sig := 38
abbrev cc0_sem27_1 : DmaSem sig := 39

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.muli c2_i32 arg0
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_24 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_25 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_26 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_27 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S128x2688 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1536x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S128x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S4x512x256 .bf16 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x512x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1024x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 2 → Memref sig .tc .vmem S128x1024 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S128x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S128x1024 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 2 → Memref sig .tc .vmem S128x1024 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true]

abbrev stage0_24 : Fin 2 → Memref sig .tc .vmem S1x4x128x64 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 2 → Memref sig .tc .vmem S1x4x128x128 .f32 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true]

abbrev stage0_26 : Fin 2 → Memref sig .tc .vmem S1x4x1x128 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true]

abbrev stage0_27 : Fin 2 → Memref sig .tc .vmem S1x4x1x128 .f32 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]
-- ==== Proof.DwInBody.lean ====
/- The body of the weight gradient `dw_in` at each of its nine points. A point multiplies one block of the cotangent's columns by
   the layer's input and writes the product's rows where they belong in the four shards; the first point also writes the sixteen
   rows of the low-rank code. Stated for any arithmetic: what a point leaves in the result block is what it stores at the rows it
   is for, and what was there before, or again what it stores, elsewhere. -/
module

public import proofs.«01_k».proof.Proof.Gen.DwInIdeal.Frame
public import Idealize.ShloMosaic.Lib.VecWindow
public import Idealize.ShloMosaic.Lib.Pipeline.Value

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.DwInIdeal Cert.DwInIdeal.Gen

namespace DwIn

variable {F : FTy → Type} [FloatOps F]

/-- The resources the machine's proofs are about. -/
abbrev Res (F : FTy → Type) := MT nD τ sig Unit (Elt F) ℕ (UR sig nD τ) ℕ

/-- The first of the 512 weight rows that point `k` is for: from the fourth on they come after the code's sixteen. -/
def off (k : ℕ) : ℕ := 512 * k + if k < 3 then 0 else 16

/-- The weight row that an entry of the four shards belongs to. -/
def row (j : S4x1156x1024.Idx) : ℕ := 1156 * (j 0).val + (j 1).val

/-- The product of one block of columns with the layer's input, over the tokens. -/
def product (x : Vec F S2048x512 .bf16) (h : Vec F S2048x1024 .bf16) : FVec F S512x1024 .bf16 :=
  truncf .bf16 (matmul dot_S2048x512_S2048x1024_S512x1024_0_0_1_1_n_n none x h (constant S512x1024 .f32 0x00000000#32)) bitsLt_bf16_f32

/-- The code's sixteen rows, from a block of 128 columns. -/
def code (x : Vec F S2048x128 .bf16) (h : Vec F S2048x1024 .bf16) : FVec F S16x1024 .bf16 :=
  truncf .bf16 (extractStridedSlice S16x1024 ![0, 0]
    (matmul dot_S2048x128_S2048x1024_S128x1024_0_0_1_1_n_n none x h (constant S128x1024 .f32 0x00000000#32)) slices_S128x1024_o0_0_S16x1024) bitsLt_bf16_f32

/-- The entry at a row and a column of a block of `n` rows. -/
def entry (n r : ℕ) (hr : r < n) (c : Fin 1024) : (⟨2, ![n, 1024]⟩ : Shape).Idx := fun a =>
  match a with
  | 0 => ⟨r, hr⟩
  | 1 => c

/-- The entry that point `k` has for a place in the shards: a row of the code, or a row of its product. -/
def stored (k : ℕ) (x0 x1 : Vec F S2048x512 .bf16) (x2 : Vec F S2048x128 .bf16) (h : Vec F S2048x1024 .bf16) : Vec F S4x1156x1024 .bf16 := fun j =>
  if 1536 ≤ row j ∧ row j < 1552 then code x2 h (entry 16 ((row j - 1536) % 16) (Nat.mod_lt _ (by decide)) (j 2))
  else product (if k < 5 then x0 else x1) h (entry 512 ((row j - off k) % 512) (Nat.mod_lt _ (by decide)) (j 2))

/-- The places that point `k` is for. -/
def Place (k : ℕ) (j : S4x1156x1024.Idx) : Prop :=
  (off k ≤ row j ∧ row j < off k + 512) ∨ (k = 0 ∧ 1536 ≤ row j ∧ row j < 1552)

/-- What point `k` leaves: its entries `G` in its places, and what was there before everywhere else. -/
def Left (k : ℕ) (G Y X : Vec F S4x1156x1024 .bf16) : Prop :=
  ∀ j, (Place k j → X j = G j) ∧ (¬ Place k j → X j = Y j)

/-- Stores that all agree with `G` and cover exactly the point's places. -/
theorem left_of_pieces {k : ℕ} {G Y : Vec F S4x1156x1024 .bf16} {κ : Kind} {sp : Space} (v : View sig κ sp S4x1156x1024 .bf16) (f : v.ty.Contents (Elt F))
    (hf : v.read (Elt F) f = Y) (L : List (View.Piece (Elt F) S4x1156x1024 .bf16))
    (hG : ∀ p ∈ L, ∀ x : p.1.shape.Idx, p.2 x = G (p.1.emb x)) (hL : ∀ j, Place k j ↔ ∃ p ∈ L, j ∈ p.1.set) :
    Left k G Y (v.read (Elt F) (v.writes (Elt F) f L)) := by
  refine fun j => ⟨fun hj => View.read_writes_apply_of_pieces v f G L hG j ((hL j).mp hj), fun hj => ?_⟩
  rw [View.read_writes_apply_of_forall_not_mem v f j L fun p hp hm => hj ((hL j).mpr ⟨p, hp, hm⟩), hf]

/-- The product as the body computes it from the blocks in memory. -/
theorem product_of {κ κ' : Kind} {sp sp' : Space} {m : Memref sig κ sp S2048x512 .bf16} (hm : m.IsWhole)
    {m' : Memref sig κ' sp' S2048x1024 .bf16} (hm' : m'.IsWhole) (x : Vec F S2048x512 .bf16) (h : Vec F S2048x1024 .bf16) :
    shapeCast S512x1024 (truncf .bf16 (matmul dot_S2048x512_S2048x1024_S512x1024_0_0_1_1_n_n none
        (shapeCast S2048x512 (m.view.readAt (Elt F) (Rect.unit (s := S2048x512) ![0, 0] S2048x512.size inb_S2048x512_S2048x512_0_0).toLoadRect (hm.unread x)) shapeCasts_S2048x512_S2048x512)
        (shapeCast S2048x1024 (m'.view.readAt (Elt F) (Rect.unit (s := S2048x1024) ![0, 0] S2048x1024.size inb_S2048x1024_S2048x1024_0_0).toLoadRect (hm'.unread h)) shapeCasts_S2048x1024_S2048x1024)
        (constant S512x1024 .f32 0x00000000#32) : FVec F S512x1024 .f32) bitsLt_bf16_f32) shapeCasts_S512x1024_S512x1024 = product x h := by
  refine (shapeCast_self _ _).trans (congrArg₂ (fun a b => truncf .bf16 (matmul dot_S2048x512_S2048x1024_S512x1024_0_0_1_1_n_n none a b
    (constant S512x1024 .f32 0x00000000#32) : FVec F S512x1024 .f32) bitsLt_bf16_f32) ?_ ?_)
  · exact (shapeCast_self _ _).trans ((View.readAt_full _ _ _).trans (hm.read_unread _))
  · exact (shapeCast_self _ _).trans ((View.readAt_full _ _ _).trans (hm'.read_unread _))

/-- The code as the body computes it. -/
theorem code_of {κ κ' : Kind} {sp sp' : Space} {m : Memref sig κ sp S2048x128 .bf16} (hm : m.IsWhole)
    {m' : Memref sig κ' sp' S2048x1024 .bf16} (hm' : m'.IsWhole) (x : Vec F S2048x128 .bf16) (h : Vec F S2048x1024 .bf16) :
    truncf .bf16 (extractStridedSlice S16x1024 ![0, 0] (matmul dot_S2048x128_S2048x1024_S128x1024_0_0_1_1_n_n none
        (shapeCast S2048x128 (m.view.readAt (Elt F) (Rect.unit (s := S2048x128) ![0, 0] S2048x128.size inb_S2048x128_S2048x128_0_0).toLoadRect (hm.unread x)) shapeCasts_S2048x128_S2048x128)
        (shapeCast S2048x1024 (m'.view.readAt (Elt F) (Rect.unit (s := S2048x1024) ![0, 0] S2048x1024.size inb_S2048x1024_S2048x1024_0_0).toLoadRect (hm'.unread h)) shapeCasts_S2048x1024_S2048x1024)
        (constant S128x1024 .f32 0x00000000#32) : FVec F S128x1024 .f32) slices_S128x1024_o0_0_S16x1024) bitsLt_bf16_f32 = code x h := by
  refine congrArg₂ (fun a b => truncf .bf16 (extractStridedSlice S16x1024 ![0, 0] (matmul dot_S2048x128_S2048x1024_S128x1024_0_0_1_1_n_n none a b
    (constant S128x1024 .f32 0x00000000#32) : FVec F S128x1024 .f32) slices_S128x1024_o0_0_S16x1024) bitsLt_bf16_f32) ?_ ?_
  · exact (shapeCast_self _ _).trans ((View.readAt_full _ _ _).trans (hm.read_unread _))
  · exact (shapeCast_self _ _).trans ((View.readAt_full _ _ _).trans (hm'.read_unread _))

/-- A store of `n` rows of the product, from row `lo` of it on, at row `a` of shard `s`. -/
theorem rows_agree {k n lo s a : ℕ} {x0 x1 : Vec F S2048x512 .bf16} {x2 : Vec F S2048x128 .bf16} {h : Vec F S2048x1024 .bf16}
    {κ : Kind} {sp : Space} (v : View sig κ sp S512x1024 .bf16) (w : Vec F S512x1024 .bf16) (hw : w = product (if k < 5 then x0 else x1) h)
    (inb : ∀ b, (![lo, 0] : Fin 2 → ℕ) b + (![n, 1024] : Fin 2 → ℕ) b ≤ S512x1024.size b)
    (inb' : ∀ b, (![s, a, 0] : Fin 3 → ℕ) b + (![1, n, 1024] : Fin 3 → ℕ) b ≤ S4x1156x1024.size b)
    (hsc : (⟨2, ![n, 1024]⟩ : Shape).ShapeCasts ⟨3, ![1, n, 1024]⟩)
    (hrow : 1156 * s + a = off k + lo) (hcode : off k + lo + n ≤ 1536 ∨ 1552 ≤ off k + lo) (x : (⟨3, ![1, n, 1024]⟩ : Shape).Idx) :
    shapeCast ⟨3, ![1, n, 1024]⟩ (v.readCov [⟨Rect.unit (s := S512x1024) ![0, 0] S512x1024.size inb_S512x1024_S512x1024_0_0, w⟩]
        (Rect.unit (s := S512x1024) ![lo, 0] ![n, 1024] inb).toLoadRect : Vec F ⟨2, ![n, 1024]⟩ .bf16) hsc x
      = stored k x0 x1 x2 h ((Rect.unit (s := S4x1156x1024) ![s, a, 0] ![1, n, 1024] inb').emb x) := by
  have h0 : (x 0).val = 0 := by have := (x 0).isLt; change _ < 1 at this; omega
  have h1 : (x 1).val < n := (x 1).isLt
  have hn : lo + n ≤ 512 := inb 0
  set j := (Rect.unit (s := S4x1156x1024) ![s, a, 0] ![1, n, 1024] inb').emb x with hj
  have j0 : (j 0).val = s := by show s + 1 * (x 0).val = s; omega
  have j1 : (j 1).val = a + (x 1).val := by show a + 1 * (x 1).val = _; omega
  have j2 : (j 2).val = (x 2).val := by show 0 + 1 * (x 2).val = _; omega
  have hr : row j = off k + lo + (x 1).val := by unfold row; rw [j0, j1]; omega
  unfold stored
  rw [if_neg (by omega), ← hw, shapeCast_addUnit_apply]
  unfold View.readCov
  show v.read (Elt F) (v.writes (Elt F) v.junk _) _ = _
  rw [View.read_writes_full]
  refine congrArg w (Shape.idx_ext₂ ?_ ?_)
  · show lo + 1 * (x 1).val = (row j - off k) % 512
    rw [Nat.mod_eq_of_lt (by omega)]; omega
  · show 0 + 1 * (x 2).val = (j 2).val
    omega

/-- The store of the code's rows. -/
theorem code_agrees {k : ℕ} {x0 x1 : Vec F S2048x512 .bf16} {x2 : Vec F S2048x128 .bf16} {h : Vec F S2048x1024 .bf16}
    (w : Vec F S16x1024 .bf16) (hw : w = code x2 h) (x : S1x16x1024.Idx) :
    shapeCast S1x16x1024 w shapeCasts_S16x1024_S1x16x1024 x
      = stored k x0 x1 x2 h ((Rect.unit (s := S4x1156x1024) ![1, 380, 0] S1x16x1024.size inb_S4x1156x1024_S1x16x1024_1_380_0).emb x) := by
  have h0 : (x 0).val = 0 := by have := (x 0).isLt; change _ < 1 at this; omega
  have h1 : (x 1).val < 16 := (x 1).isLt
  set j := (Rect.unit (s := S4x1156x1024) ![1, 380, 0] S1x16x1024.size inb_S4x1156x1024_S1x16x1024_1_380_0).emb x with hj
  have j0 : (j 0).val = 1 := by show 1 + 1 * (x 0).val = 1; omega
  have j1 : (j 1).val = 380 + (x 1).val := by show 380 + 1 * (x 1).val = _; omega
  have j2 : (j 2).val = (x 2).val := by show 0 + 1 * (x 2).val = _; omega
  have hr : row j = 1536 + (x 1).val := by unfold row; rw [j0, j1]; omega
  unfold stored
  rw [if_pos (by omega), ← hw]
  refine (shapeCast_addUnit_apply ![16, 1024] w _ x).trans (congrArg w (Shape.idx_ext₂ ?_ ?_))
  · show (x 1).val = (row j - 1536) % 16
    rw [Nat.mod_eq_of_lt (by omega)]; omega
  · show (x 2).val = (j 2).val
    omega

/-- The entries of the rectangle stored at rows `a` to `a + n` of shard `s`. -/
theorem mem_rows {s a n : ℕ} (inb : ∀ b, (![s, a, 0] : Fin 3 → ℕ) b + (![1, n, 1024] : Fin 3 → ℕ) b ≤ S4x1156x1024.size b) (j : S4x1156x1024.Idx) :
    j ∈ (Rect.unit (s := S4x1156x1024) ![s, a, 0] ![1, n, 1024] inb).set ↔ (j 0).val = s ∧ a ≤ (j 1).val ∧ (j 1).val < a + n := by
  refine Rect.mem_set_unit.trans ⟨fun h => ?_, fun h b => ?_⟩
  · have h0 : s ≤ (j 0).val ∧ (j 0).val < s + 1 := h 0
    have h1 : a ≤ (j 1).val ∧ (j 1).val < a + n := h 1
    omega
  · have h2 : (j 2).val < 1024 := (j 2).isLt
    match b with
    | 0 => exact ⟨h.1.ge, by show (j 0).val < s + 1; omega⟩
    | 1 => exact h.2
    | 2 => exact ⟨Nat.zero_le _, by show (j 2).val < 0 + 1024; omega⟩

/-- The entries that one store covers. -/
theorem in_one {s a n : ℕ} {inb : ∀ b, (![s, a, 0] : Fin 3 → ℕ) b + (![1, n, 1024] : Fin 3 → ℕ) b ≤ S4x1156x1024.size b}
    (w : (⟨3, ![1, n, 1024]⟩ : Shape).Idx → Elt F .bf16) (j : S4x1156x1024.Idx) :
    (∃ q ∈ [(⟨Rect.unit (s := S4x1156x1024) ![s, a, 0] ![1, n, 1024] inb, w⟩ : View.Piece (Elt F) S4x1156x1024 .bf16)], j ∈ q.1.set)
      ↔ (j 0).val = s ∧ a ≤ (j 1).val ∧ (j 1).val < a + n := by
  refine Iff.trans ⟨fun ⟨q, hq, h⟩ => ?_, fun h => ⟨_, List.mem_cons_self, h⟩⟩ (mem_rows inb j)
  obtain rfl := List.mem_singleton.mp hq
  exact h

/-- The entries that two stores cover. -/
theorem in_two {s a n s' a' n' : ℕ} {inb : ∀ b, (![s, a, 0] : Fin 3 → ℕ) b + (![1, n, 1024] : Fin 3 → ℕ) b ≤ S4x1156x1024.size b}
    {inb' : ∀ b, (![s', a', 0] : Fin 3 → ℕ) b + (![1, n', 1024] : Fin 3 → ℕ) b ≤ S4x1156x1024.size b}
    (w : (⟨3, ![1, n, 1024]⟩ : Shape).Idx → Elt F .bf16) (w' : (⟨3, ![1, n', 1024]⟩ : Shape).Idx → Elt F .bf16) (j : S4x1156x1024.Idx) :
    (∃ q ∈ [(⟨Rect.unit (s := S4x1156x1024) ![s, a, 0] ![1, n, 1024] inb, w⟩ : View.Piece (Elt F) S4x1156x1024 .bf16),
        ⟨Rect.unit (s := S4x1156x1024) ![s', a', 0] ![1, n', 1024] inb', w'⟩], j ∈ q.1.set)
      ↔ ((j 0).val = s ∧ a ≤ (j 1).val ∧ (j 1).val < a + n) ∨ ((j 0).val = s' ∧ a' ≤ (j 1).val ∧ (j 1).val < a' + n') := by
  refine Iff.trans ⟨fun ⟨q, hq, h⟩ => ?_, fun h => h.elim (fun h => ⟨_, List.mem_cons_self, h⟩)
    fun h => ⟨_, List.mem_cons_of_mem _ List.mem_cons_self, h⟩⟩ (or_congr (mem_rows inb j) (mem_rows inb' j))
  rcases List.mem_cons.mp hq with rfl | hq
  · exact .inl h
  · obtain rfl := List.mem_singleton.mp hq
    exact .inr h

set_option maxHeartbeats 4000000 in
/-- The body at point `k`, on whole blocks of memory. -/
theorem body_point (c : Dev nD) (k : Fin grid0.N) (arg1 : Memref sig .tc .vmem S2048x512 .bf16) (harg1 : arg1.IsWhole)
    (arg2 : Memref sig .tc .vmem S2048x512 .bf16) (harg2 : arg2.IsWhole) (arg3 : Memref sig .tc .vmem S2048x128 .bf16) (harg3 : arg3.IsWhole)
    (arg4 : Memref sig .tc .vmem S2048x1024 .bf16) (harg4 : arg4.IsWhole) (arg5 : Memref sig .tc .vmem S4x1156x1024 .bf16) (harg5 : arg5.IsWhole)
    (arg6 : Memref sig .tc .vmem S512x1024 .bf16) (harg6 : arg6.IsWhole) (x0 x1 : Vec F S2048x512 .bf16) (x2 : Vec F S2048x128 .bf16)
    (h : Vec F S2048x1024 .bf16) (Y : Vec F S4x1156x1024 .bf16) (z : Vec F S512x1024 .bf16) (E : Set ℕ) (K : PUnit → sProp (Res F)) :
    iprop(owns (c : Thread nD τ) arg1 fullShare x0 ∗ owns (c : Thread nD τ) arg2 fullShare x1 ∗ owns (c : Thread nD τ) arg3 fullShare x2
        ∗ owns (c : Thread nD τ) arg4 fullShare h ∗ owns (c : Thread nD τ) arg5 fullShare Y ∗ owns (c : Thread nD τ) arg6 fullShare z
        ∗ (iprop(owns (c : Thread nD τ) arg1 fullShare x0 ∗ owns (c : Thread nD τ) arg2 fullShare x1 ∗ owns (c : Thread nD τ) arg3 fullShare x2
            ∗ owns (c : Thread nD τ) arg4 fullShare h ∗ (∃ X, ⌜Left k.val (stored k.val x0 x1 x2 h) Y X⌝ ∗ owns (c : Thread nD τ) arg5 fullShare X)
            ∗ (∃ z', owns (c : Thread nD τ) arg6 fullShare z')) -∗ K ⟨⟩))
      ⊢ wp frame (wpE (defs₀ (F := F)) Variants.none c none) E
          (cc0_dw_in (grid0.coords k) arg1 harg1 arg2 harg2 arg3 harg3 arg4 harg4 arg5 harg5 arg6 harg6) K := by
  have split : k = ⟨0, by decide⟩ ∨ k = ⟨1, by decide⟩ ∨ k = ⟨2, by decide⟩ ∨ k = ⟨3, by decide⟩ ∨ k = ⟨4, by decide⟩
      ∨ k = ⟨5, by decide⟩ ∨ k = ⟨6, by decide⟩ ∨ k = ⟨7, by decide⟩ ∨ k = ⟨8, by decide⟩ := by
    have h9 : k.val < 9 := k.isLt
    simp only [Fin.ext_iff]
    omega
  obtain rfl | rfl | rfl | rfl | rfl | rfl | rfl | rfl | rfl := split
  all_goals
    unfold cc0_dw_in k0_part1
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, Hk⟩
    obtain rfl := harg1.eq_unread hf0; obtain rfl := harg2.eq_unread hf1; obtain rfl := harg3.eq_unread hf2; obtain rfl := harg4.eq_unread hf3
    sl_exec (disch := first | decide | decide +kernel)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr
      swap
      · iexists _; isplitr
        swap; · iexact H4
        ipureintro; rfl
      ipureintro
      refine left_of_pieces _ _ hf4 _ ?_ ?_
      · simp only [List.forall_mem_cons, List.not_mem_nil, false_imp_iff, implies_true, _root_.and_true]
        repeat' apply And.intro
        all_goals
          first
            | exact rows_agree _ _ (product_of harg1 harg4 x0 h) _ _ _ (by decide) (by decide)
            | exact rows_agree _ _ (product_of harg2 harg4 x1 h) _ _ _ (by decide) (by decide)
            | exact code_agrees _ (code_of harg3 harg4 x2 h)
      · intro j
        have b0 : (j 0).val < 4 := (j 0).isLt
        have b1 : (j 1).val < 1156 := (j 1).isLt
        first
          | refine Iff.trans ?_ (in_one _ j).symm
          | refine Iff.trans ?_ (in_two _ _ j).symm
        simp [Place, off, row]
        omega
    iexists _; iexists _; isplitr
    swap; · iexact H5
    ipureintro; rfl

end DwIn

end
-- ==== Proof.DwInFrame.lean ====
/- The run of the weight gradient `dw_in`: the program ends, leaves its arguments as they were and every counter at zero, and the
   result block, written back once, has at each row what the point that the row belongs to stored there. For any arithmetic. -/
module

public import proofs.«01_k».proof.Proof.DwInBody
public import proofs.«01_k».proof.Proof.Gen.DwInIdeal.Frame
public import Idealize.ShloMosaic.Lib.Pipeline.DatRel
public import Idealize.ShloMosaic.Lib.Pipeline.ArrRel
public import Idealize.ShloMosaic.Lib.SparseCore.ProtocolKit

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Dat)
open Cert.DwInIdeal Cert.DwInIdeal.Gen

namespace DwIn

variable {F : FTy → Type} [FloatOps F]
variable (m : (ℓ : Loc nD τ sig) → Buf (Elt F) ℓ) (ρ : Dev nD → PrngReg)

/-- Two points are for different rows. -/
theorem place_unique {k k' : ℕ} {j : S4x1156x1024.Idx} (h : Place k j) (h' : Place k' j) : k = k' := by
  simp only [Place, off] at h h'
  split_ifs at h h' <;> omega

/-- What point `k` has for every place, from the blocks of the arrays that it reads. -/
def entries (c : Dev nD) (k : Fin cfg0.N) : Vec F S4x1156x1024 .bf16 :=
  stored k.val (X0_0 m c k) (iblk m c 1 k) (iblk m c 2 k) (iblk m c 3 k)

/-- The rows of the points up to `t` are in place. -/
def Done (c : Dev nD) (t : Fin cfg0.N) (X : Vec F S4x1156x1024 .bf16) : Prop :=
  ∀ k : Fin cfg0.N, k ≤ t → ∀ j, Place k.val j → X j = entries m c k j

/-- The rows of the points before `t` are in place. -/
def Before (c : Dev nD) (t : Fin cfg0.N) (Y : Vec F S4x1156x1024 .bf16) : Prop :=
  ∀ k : Fin cfg0.N, k < t → ∀ j, Place k.val j → Y j = entries m c k j

/-- A point adds its rows. -/
theorem done_of_left {c : Dev nD} {t : Fin cfg0.N} {Y X : Vec F S4x1156x1024 .bf16} (hY : Before m c t Y)
    (h : Left t.val (entries m c t) Y X) : Done m c t X := fun k hk j hj => by
  rcases eq_or_lt_of_le hk with rfl | hlt
  · exact (h j).1 hj
  · exact ((h j).2 fun ht => hlt.ne (Fin.ext (place_unique hj ht))).trans (hY k hlt j hj)

/-- The proof's record: the arrays as they stand when the grid starts and, for each window read, its block. -/
def dat (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => fun _ => Classical.choice inferInstance
  Φ _ := Pipeline.ΦA spec0 c
  q w := Pipeline.shareOf spec0 w
  owed _ := 0

/-- The result is the one window of which only a condition is recorded. -/
def marked : Fin cfg0.W → Bool := fun w => match w with
  | ⟨0, _⟩ => false
  | ⟨1, _⟩ => false
  | ⟨2, _⟩ => false
  | ⟨3, _⟩ => false
  | ⟨4, _⟩ => true

/-- The condition on the result after a point. -/
def cond (c : Dev nD) : (w : Fin cfg0.W) → Fin cfg0.N → ((cfg0.win w).block.Idx → Elt F (cfg0.win w).elt) → Prop := fun w t => match w with
  | ⟨0, _⟩ => fun _ => True
  | ⟨1, _⟩ => fun _ => True
  | ⟨2, _⟩ => fun _ => True
  | ⟨3, _⟩ => fun _ => True
  | ⟨4, _⟩ => fun X => Done m c t X

/-- The record with the condition. -/
abbrev rdat (c : Dev nD) : RDat τ (Elt F) Unit ℕ (UR sig nD τ) ℕ cfg0 c := (dat m c).toRRel marked (cond m c)

/-- What a point finds in the result block has the rows of the points before it. -/
theorem before_of_finds {c : Dev nD} {t : Fin cfg0.N} {Y : Vec F S4x1156x1024 .bf16} (h : (rdat m c).Finds (4 : Fin cfg0.W) t Y) : Before m c t Y := by
  intro k hk
  have ht : t.val ≠ 0 := by have : k.val < t.val := hk; omega
  have hf : (cfg0.win (4 : Fin cfg0.W)).fetch t = false := rfl
  rcases ((rdat m c).finds_of_pos hf ht Y).mp h with h | h
  · have := (flush0_4 _).mp h
    have h9 : t.val < 9 := t.isLt
    dsimp only at this
    omega
  · exact ((dat m c).toRRel_leaves (w := (4 : Fin cfg0.W)) rfl h) k (show k.val ≤ t.val - 1 by have : k.val < t.val := hk; omega)

/-- The scratch memory and the random generator's register, one by one. -/
theorem phi_eq (c : Dev nD) : (Pipeline.ΦA spec0 c : sProp (Res F))
    = iprop((∃ d, owns (c : Thread nD τ) (Memref.whole cc0_scratch0) fullShare d) ∗ (∃ r, prngReg c r)) := by
  unfold Pipeline.ΦA; rw [scopedRest0_eq]; simp only [owns_whole]

/-- The body at a point: the blocks read are unchanged, and the point's rows are added to the result. -/
theorem body_at (c : Dev nD) (t : Fin cfg0.N) (Q : sProp (Res F)) :
    iprop(Pipeline.ΦA spec0 c ∗ Q ∗ owns (c : Thread nD τ) (st0_0 t) fullShare (X0_0 m c t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ (∃ Y, ⌜(rdat m c).Finds (4 : Fin cfg0.W) t Y⌝ ∗ owns (c : Thread nD τ) (st0_4 t) fullShare Y))
      ⊢ wp frame (wpE (defs₀ (F := F)) Variants.none c none) Set.univ (bodyAt0 t) fun _ =>
        iprop(Pipeline.ΦA spec0 c ∗ Q ∗ owns (c : Thread nD τ) (st0_0 t) fullShare (X0_0 m c t) ∗ owns (c : Thread nD τ) (st0_1 t) fullShare (iblk m c 1 t)
          ∗ owns (c : Thread nD τ) (st0_2 t) fullShare (iblk m c 2 t) ∗ owns (c : Thread nD τ) (st0_3 t) fullShare (iblk m c 3 t)
          ∗ (∃ X, ⌜Done m c t X⌝ ∗ owns (c : Thread nD τ) (st0_4 t) fullShare X)) := by
  rw [phi_eq]
  iintro ⟨⟨⟨%z, S⟩, Hg⟩, Ho, H0, H1, H2, H3, ⟨%Y, %hY, H4⟩⟩
  iapply (body_point (F := F) c t _ _ _ _ _ _ _ _ _ _ _ _ (X0_0 m c t) (iblk m c 1 t) (iblk m c 2 t) (iblk m c 3 t) Y z Set.univ _)
  iframe H0 H1 H2 H3 H4 S
  iintro ⟨H0, H1, H2, H3, ⟨%X, %hX, H4⟩, ⟨%z', S⟩⟩
  isplitl [S Hg]
  · isplitl [S]
    · iexists z'; iexact S
    iexact Hg
  iframe Ho H0 H1 H2 H3
  iexists X; isplitr
  · ipureintro; exact done_of_left m (before_of_finds m hY) hX
  iexact H4

/-- The same in the form the library asks for. -/
theorem body_obligation (c : Dev nD) : Pipeline.BodyObligationRel (dat (F := F) m c) (defs₀ (F := F)) Variants.none () Set.univ marked (cond m c) := fun t => by
  rw [bigSep_W0, bigSep_W0, show defs₀ (F := F) .tc cfg0.body (cfg0.bodyArgs t (cfg0.slots t)) = bodyAt0 t from by unfold defs₀; rw [Defs.onTc_tc]]
  refine triple_restated (body_at m c t ((dat m c).owesAt () t.castSucc)) rfl
    (BIClass.sep_mono .rfl (BIClass.sep_mono .rfl (BIClass.sep_mono ?_ (BIClass.sep_mono ?_ (BIClass.sep_mono ?_ (BIClass.sep_mono ?_ ?_))))))
    fun _ => BIClass.sep_mono .rfl (BIClass.sep_mono ?_ (BIClass.sep_mono ?_ (BIClass.sep_mono ?_ (BIClass.sep_mono ?_ (BIClass.sep_mono ?_ ?_)))))
  · show iprop(∃ d, owns (c : Thread nD τ) (st0_0 t) fullShare ((dat m c).before 0 t d)) ⊢ _
    iintro ⟨%d, H⟩
    rw [before0_0_of m (dat m c) rfl (fun _ => by dsimp only [dat]) t d]
    iexact H
  · show iprop(∃ d, owns (c : Thread nD τ) (st0_1 t) fullShare ((dat m c).before 1 t d)) ⊢ _
    iintro ⟨%d, H⟩
    rw [before0_1_of m (dat m c) rfl (fun _ => by dsimp only [dat]) t d]
    iexact H
  · show iprop(∃ d, owns (c : Thread nD τ) (st0_2 t) fullShare ((dat m c).before 2 t d)) ⊢ _
    iintro ⟨%d, H⟩
    rw [before0_2_of m (dat m c) rfl (fun _ => by dsimp only [dat]) t d]
    iexact H
  · show iprop(∃ d, owns (c : Thread nD τ) (st0_3 t) fullShare ((dat m c).before 3 t d)) ⊢ _
    iintro ⟨%d, H⟩
    rw [before0_3_of m (dat m c) rfl (fun _ => by dsimp only [dat]) t d]
    iexact H
  · show iprop(∃ Y, ⌜(rdat m c).Finds (4 : Fin cfg0.W) t Y⌝ ∗ owns (c : Thread nD τ) (st0_4 t) fullShare Y) ⊢ _
    exact .rfl
  · have same : (dat m c).owesAt () t.succ = (dat m c).owesAt () t.castSucc := by unfold Dat.owesAt; rfl
    rw [same]
  · show _ ⊢ iprop(∃ d, owns (c : Thread nD τ) (st0_0 t) fullShare ((cfg0.win 0).fill (cfg0.grid.coords t) d ((cfg0.win 0).cut (cfg0.grid.coords t) ((dat m c).after 0 t))))
    rw [show (dat m c).after 0 t = X0_0 m c t from by dsimp only [dat]]
    iintro H
    iexists dflt0_0
    rw [show (cfg0.win 0).fill (cfg0.grid.coords t) dflt0_0 ((cfg0.win 0).cut (cfg0.grid.coords t) (X0_0 m c t)) = X0_0 m c t from by
      unfold X0_0; rw [Pipeline.Window.cut_fill]]
    iexact H
  · show _ ⊢ owns (c : Thread nD τ) (st0_1 t) fullShare ((dat m c).after 1 t)
    rw [show (dat m c).after 1 t = iblk m c 1 t from by dsimp only [dat]]
  · show _ ⊢ owns (c : Thread nD τ) (st0_2 t) fullShare ((dat m c).after 2 t)
    rw [show (dat m c).after 2 t = iblk m c 2 t from by dsimp only [dat]]
  · show _ ⊢ owns (c : Thread nD τ) (st0_3 t) fullShare ((dat m c).after 3 t)
    rw [show (dat m c).after 3 t = iblk m c 3 t from by dsimp only [dat]]
  · show _ ⊢ iprop(∃ X, ⌜Done m c t X⌝ ∗ owns (c : Thread nD τ) (st0_4 t) fullShare X)
    exact .rfl

set_option backward.isDefEq.respectTransparency.types false in
/-- The whole program runs to its end. -/
theorem run_main : θ_run defs (onTc (τ := τ) (main (F := F))) (s₀ m ρ)
    (fun r => Pipeline.RDat.FramePost cfg0 (rdat m) (V m) r ∧ r.2.sem = fun _ => 0) :=
  Pipeline.RDat.θ_run_frame_track_shared (Q' := _) cfgs (0 : Fin 1) launch₀0 defs₀ Variants.none (rdat m) m ρ main
    (hbody := fun c => (body_obligation m c).toRRel) (hq := fun _ _ _ => rfl) (howed := fun _ _ => rfl)
    (V := V m) (hmain := hmain m Variants.none) (hA := fun c w => rfl) (hin := fun _ => .rfl) (hout := fun _ => .rfl)

/-- After the run the arguments are as launched. -/
theorem arguments_kept {r : PUnit × MemSt nD τ sig (Elt F)} (h : Pipeline.RDat.FramePost cfg0 (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c)⟩

/-- The program's frame: it ends, every argument array is unchanged, every counter is zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => arguments_kept m h.1 c, h.2⟩) (run_main m ρ)

/-- The result block after the run: every place has what its point stored there. -/
theorem result_of_run {r : PUnit × MemSt nD τ sig (Elt F)} (h : Pipeline.RDat.FramePost cfg0 (rdat m) (V m) r) (c : Dev nD)
    (k : Fin cfg0.N) (j : S4x1156x1024.Idx) (hj : Place k.val j) :
    (r.2.mem ((c.tc : Thread nD τ).loc main_v9) : S4x1156x1024.Idx → Elt F .bf16) j = entries m c k j := by
  have whole : (cfg0.win (4 : Fin cfg0.W)).WholeAt t0_8 := by decide +kernel
  obtain ⟨X, hX, e⟩ := RDat.ArrAt.emb_eq_of_wholeAt ((h c).1 (4 : Fin cfg0.W)) whole
  have hd : Done m c t0_8 X := (dat m c).toRRel_leaves (w := (4 : Fin cfg0.W)) rfl hX
  exact (e j).trans (hd k (show k.val ≤ 8 by have : k.val < 9 := k.isLt; omega) j hj)

end DwIn

end
-- ==== Proof.DwInSpec.lean ====
/- The product that the gradient of `w_in` is, `(hᵀ d)ᵀ`: one row of it for each of the cotangent's columns, in four shards. -/
module

public import Idealize.ShloMosaic.Lib.Pipeline.ValueKit
public import Idealize.ShloMosaic.Lib.Pointwise

@[expose] public section

noncomputable section

open Idealize.ShloMosaic

namespace DwInSpec

abbrev Mat (a b : ℕ) := (⟨2, ![a, b]⟩ : Shape).Idx → EReal

/-- The weight row of an entry of the shards. -/
def rowOf (y : (⟨3, ![4, 1156, 1024]⟩ : Shape).Idx) : Fin 4624 :=
  ⟨1156 * (y 0).val + (y 1).val, by
    have a : (y 0).val < 4 := (y 0).isLt
    have b : (y 1).val < 1156 := (y 1).isLt
    omega⟩

def dw (d : Mat 2048 4624) (h : Mat 2048 1024) : (⟨3, ![4, 1156, 1024]⟩ : Shape).Idx → EReal := fun y =>
  ∑ t : Fin 2048, d (ix2 t (rowOf y)) * h (ix2 t (y 2))

end DwInSpec
-- ==== Proof.DwInValue.lean ====
/- The entries that the points of the weight gradient `dw_in` store, in exact arithmetic: each is the product's entry for its weight
   row. A point's block of columns is read off the packed cotangent, whose columns are a permutation of the cotangent's. -/
module

public import proofs.«01_k».proof.Proof.DwInFrame
public import proofs.«01_k».proof.Proof.DwInSpec
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem

namespace DwIn

open Cert.DwInIdeal Cert.DwInIdeal.Gen DwInSpec

variable (m : (ℓ : Loc nD τ sig) → Buf (Elt Ideal) ℓ)

/-- Where each window read has its block at a point. -/
theorem idx : ∀ t : Fin grid0.N,
    (win0_0.index t (0 : Fin 2) = 0 ∧ win0_0.index t (1 : Fin 2) = min t.val 4)
    ∧ (win0_1.index t (0 : Fin 2) = 0 ∧ win0_1.index t (1 : Fin 2) = t.val - 5)
    ∧ (win0_2.index t (0 : Fin 2) = 0 ∧ win0_2.index t (1 : Fin 2) = 20)
    ∧ (win0_3.index t (0 : Fin 2) = 0 ∧ win0_3.index t (1 : Fin 2) = 0) := by
  decide +kernel

/-- The packed cotangent: the columns before the code's, those of the convolution's other half, the code's, and zeros. -/
def packed (d : FVec Ideal S2048x4624 .f32) : FVec Ideal S2048x2688 .bf16 :=
  truncf .bf16 (concatenate S2048x2688 1
    [⟨S2048x1536, extractStridedSlice S2048x1536 ![0, 0] d slices_S2048x4624_S2048x1536_0_0⟩,
      ⟨S2048x1024, extractStridedSlice S2048x1024 ![0, 1552] d slices_S2048x4624_S2048x1024_0_1552⟩,
      ⟨S2048x16, extractStridedSlice S2048x16 ![0, 1536] d slices_S2048x4624_S2048x16_0_1536⟩,
      ⟨S2048x112, broadcastInDim S2048x112 ![] bcast_S_S2048x112 (constant S_ .f32 0x00000000#32 : FVec Ideal S_ .f32)⟩]
    concatenates_S2048x1536_S2048x1024_S2048x16_S2048x112_S2048x2688_d1 : FVec Ideal S2048x2688 .f32) bitsLt_bf16_f32

theorem packed_eq (c : Dev nD) : V m c main_v5 = packed (m ((c : Thread nD τ).loc main_arg0)) := by
  unfold V
  rfl

/-- Its first columns are the cotangent's. -/
theorem packed_lo (d : FVec Ideal S2048x4624 .f32) (r : Fin 2048) (l : Fin 2688) (k : Fin 4624) (hl : l.val < 1536) (hk : k.val = l.val) :
    packed d (ix2 r l) = d (ix2 r k) := by
  pointwise [packed]
  rw [dif_pos hl]
  refine congrArg d ?_
  blk_ext

/-- Then come the columns after the code's. -/
theorem packed_mid (d : FVec Ideal S2048x4624 .f32) (r : Fin 2048) (l : Fin 2688) (k : Fin 4624) (hl : 1536 ≤ l.val ∧ l.val < 2560) (hk : k.val = l.val + 16) :
    packed d (ix2 r l) = d (ix2 r k) := by
  pointwise [packed]
  rw [dif_neg (by omega), dif_pos (by omega)]
  refine congrArg d ?_
  blk_ext

/-- Then the code's. -/
theorem packed_code (d : FVec Ideal S2048x4624 .f32) (r : Fin 2048) (l : Fin 2688) (k : Fin 4624) (hl : 2560 ≤ l.val ∧ l.val < 2576) (hk : k.val + 1024 = l.val) :
    packed d (ix2 r l) = d (ix2 r k) := by
  pointwise [packed]
  rw [dif_neg (by omega), dif_neg (by omega), dif_pos (by omega)]
  refine congrArg d ?_
  blk_ext

/-- The other operand is the cotangent's last columns. -/
theorem gates (c : Dev nD) (r l : Fin 2048) (k : Fin 4624) (hk : k.val = 2576 + l.val) :
    V m c main_v7 (ix2 r l) = m ((c : Thread nD τ).loc main_arg0) (ix2 r k) := by
  entry_read
  pointwise
  blk_ext

theorem input (c : Dev nD) (r : Fin 2048) (l : Fin 1024) :
    V m c main_v8 (ix2 r l) = m ((c : Thread nD τ).loc main_arg1) (ix2 r l) := by
  entry_read
  pointwise

theorem input_block (c : Dev nD) (t : Fin cfg0.N) (r : Fin 2048) (l : Fin 1024) :
    iblk m c 3 t (ix2 r l) = m ((c : Thread nD τ).loc main_arg1) (ix2 r l) := by
  refine Eq.trans ?_ (input m c r l)
  blk_ext [iblk, idx t]

theorem gates_block (c : Dev nD) (t : Fin cfg0.N) (r : Fin 2048) (l : Fin 512) (k : Fin 4624) (ht : 5 ≤ t.val)
    (hk : k.val = off t.val + l.val) : iblk m c 1 t (ix2 r l) = m ((c : Thread nD τ).loc main_arg0) (ix2 r k) := by
  have h9 : t.val < 9 := t.isLt
  have hk' : k.val = 512 * t.val + 16 + l.val := by unfold off at hk; rw [if_neg (by omega)] at hk; exact hk
  refine Eq.trans ?_ (gates m c r ⟨512 * (t.val - 5) + l.val, by omega⟩ k (by show k.val = 2576 + (512 * (t.val - 5) + l.val); omega))
  blk_ext [iblk, idx t]

theorem code_block (c : Dev nD) (t : Fin cfg0.N) (r : Fin 2048) (l : Fin 128) (k : Fin 4624) (hl : l.val < 16)
    (hk : k.val = 1536 + l.val) : iblk m c 2 t (ix2 r l) = m ((c : Thread nD τ).loc main_arg0) (ix2 r k) := by
  refine Eq.trans ?_ ((congrFun (packed_eq m c) _).trans (packed_code _ r ⟨2560 + l.val, by omega⟩ k ⟨by show 2560 ≤ 2560 + l.val; omega, by show 2560 + l.val < 2576; omega⟩
    (by show k.val + 1024 = 2560 + l.val; omega)))
  blk_ext [iblk, idx t]

theorem packed_block (c : Dev nD) (t : Fin cfg0.N) (r : Fin 2048) (l : Fin 512) (k : Fin 4624) (ht : t.val < 5)
    (hk : k.val = off t.val + l.val) : X0_0 m c t (ix2 r l) = m ((c : Thread nD τ).loc main_arg0) (ix2 r k) := by
  have e : V m c main_v5 (ix2 r (⟨512 * t.val + l.val, by omega⟩ : Fin 2688)) = m ((c : Thread nD τ).loc main_arg0) (ix2 r k) := by
    rw [packed_eq]
    unfold off at hk
    by_cases h3 : t.val < 3
    · rw [if_pos h3] at hk
      exact packed_lo _ r _ k (by show 512 * t.val + l.val < 1536; omega) (by show k.val = 512 * t.val + l.val; omega)
    · rw [if_neg h3] at hk
      exact packed_mid _ r _ k ⟨by show 1536 ≤ 512 * t.val + l.val; omega, by show 512 * t.val + l.val < 2560; omega⟩
        (by show k.val = 512 * t.val + l.val + 16; omega)
  refine Eq.trans ?_ e
  unfold X0_0 Pipeline.Window.fill
  rw [dif_pos (moved0_0 t _)]
  blk_ext [iblk, idx t]

/-- A row of a product of a point's block. -/
theorem product_row (x : Vec Ideal S2048x512 .bf16) (h : Vec Ideal S2048x1024 .bf16) (a : Fin 512) (l : Fin 1024) :
    product (F := Ideal) x h (ix2 a l) = ∑ t : Fin 2048, x (ix2 t a) * h (ix2 t l) := by
  pointwise [product]

theorem code_row (x : Vec Ideal S2048x128 .bf16) (h : Vec Ideal S2048x1024 .bf16) (a : Fin 16) (l : Fin 1024) :
    code (F := Ideal) x h (ix2 a l) = ∑ t : Fin 2048, x (ix2 t ⟨a.val, by omega⟩) * h (ix2 t l) := by
  pointwise [code]

theorem entry_eq (n r : ℕ) (hr : r < n) (l : Fin 1024) : entry n r hr l = ix2 ⟨r, hr⟩ l := by
  funext a
  match a with
  | 0 => rfl
  | 1 => rfl

/-- What a point has for a place of its own is the product's entry. -/
theorem entries_eq (c : Dev nD) (k : Fin cfg0.N) (j : S4x1156x1024.Idx) (hj : Place k.val j) :
    entries m c k j = dw (m ((c : Thread nD τ).loc main_arg0)) (m ((c : Thread nD τ).loc main_arg1)) j := by
  have h9 : k.val < 9 := k.isLt
  have hr : (rowOf j).val = row j := rfl
  unfold entries stored dw
  split_ifs with hc h5
  · refine ((congrArg (code _ _) (entry_eq _ _ _ _)).trans (code_row _ _ _ _)).trans ?_
    refine Finset.sum_congr rfl fun t _ => congrArg₂ _ (code_block m c k t _ _ (Nat.mod_lt _ (by decide)) ?_) (input_block m c k t _)
    show (rowOf j).val = 1536 + (row j - 1536) % 16
    omega
  · have hp : off k.val ≤ row j ∧ row j < off k.val + 512 := by unfold Place at hj; omega
    refine ((congrArg (product _ _) (entry_eq _ _ _ _)).trans (product_row _ _ _ _)).trans ?_
    refine Finset.sum_congr rfl fun t _ => congrArg₂ _ (packed_block m c k t _ _ h5 ?_) (input_block m c k t _)
    show (rowOf j).val = off k.val + (row j - off k.val) % 512
    omega
  · have hp : off k.val ≤ row j ∧ row j < off k.val + 512 := by unfold Place at hj; omega
    refine ((congrArg (product _ _) (entry_eq _ _ _ _)).trans (product_row _ _ _ _)).trans ?_
    refine Finset.sum_congr rfl fun t _ => congrArg₂ _ (gates_block m c k t _ _ (by omega) ?_) (input_block m c k t _)
    show (rowOf j).val = off k.val + (row j - off k.val) % 512
    omega

/-- Every place of the shards is some point's. -/
theorem placed (j : S4x1156x1024.Idx) : ∃ k : Fin cfg0.N, Place k.val j := by
  have b0 : (j 0).val < 4 := (j 0).isLt
  have b1 : (j 1).val < 1156 := (j 1).isLt
  have hr : row j < 4624 := by unfold row; omega
  by_cases h : row j < 1552
  · by_cases h' : row j < 1536
    · refine ⟨⟨row j / 512, by show row j / 512 < 9; omega⟩, .inl ?_⟩
      unfold off
      rw [if_pos (by show row j / 512 < 3; omega)]
      constructor
      · show 512 * (row j / 512) + 0 ≤ _; omega
      · show _ < 512 * (row j / 512) + 0 + 512; omega
    · exact ⟨⟨0, by decide⟩, .inr ⟨rfl, by omega, h⟩⟩
  · refine ⟨⟨(row j - 16) / 512, by show (row j - 16) / 512 < 9; omega⟩, .inl ?_⟩
    unfold off
    rw [if_neg (by show ¬ (row j - 16) / 512 < 3; omega)]
    constructor
    · show 512 * ((row j - 16) / 512) + 16 ≤ _; omega
    · show _ < 512 * ((row j - 16) / 512) + 16 + 512; omega

/-- The result of a run. -/
theorem result_eq {r : PUnit × MemSt nD τ sig (Elt Ideal)} (h : Pipeline.RDat.FramePost cfg0 (rdat m) (V m) r) (c : Dev nD) :
    r.2.mem ((c.tc : Thread nD τ).loc main_v9)
      = dw (m ((c : Thread nD τ).loc main_arg0)) (m ((c : Thread nD τ).loc main_arg1)) :=
  funext fun j => let ⟨k, hk⟩ := placed j
    (result_of_run m h c k j hk).trans (entries_eq m c k j hk)

end DwIn
-- ==== Proof.DwInReference.lean ====
/- What the reference of the gradient of `w_in` computes: the product, transposed and cut into shards. -/
module

public import proofs.«01_k».proof.Proof.DwInSpec
public import proofs.«01_k».proof.Proof.Gen.DwInRefIdeal.Read

@[expose] public section

set_option maxRecDepth 16384

noncomputable section

open Idealize.ShloMosaic Idealize.ShloMosaic.TcCoe Idealize.SL.Sem

namespace DwInReference

open Cert.DwInRefIdeal Cert.DwInRefIdeal.Read DwInSpec

theorem dw_reference (d : Mat 2048 4624) (h : Mat 2048 1024) : val_main_v4 (F := Ideal) d h = dw d h := by
  funext y
  obtain ⟨s, k, l, rfl⟩ : ∃ s k l, y = ix3 s k l := ⟨y 0, y 1, y 2, (ix3_eta y).symm⟩
  pointwise [val_main_v4, val_main_v3, val_main_v2, val_main_v1, val_main_v0]
  refine Finset.sum_congr rfl fun t _ => ?_
  refine (mul_comm _ _).trans (congrArg₂ _ (congrArg d ?_) (congrArg h ?_))
  · blk_ext [rowOf]
  · blk_ext

end DwInReference
-- ==== Proof.DwInClaim.lean ====
/- The claims about the weight gradient `dw_in`: the kernel's run and the reference's leave the same array. -/
module

public import Idealize.ShloMosaic.Lib.Quiescent
public import proofs.«01_k».proof.Defs
public import proofs.«01_k».proof.Proof.DwInValue
public import proofs.«01_k».proof.Proof.DwInReference
public import proofs.«01_k».proof.Proof.Gen.DwIn
public import proofs.«01_k».proof.Proof.Gen.DwInRefIdeal.Run

@[expose] public section

noncomputable section

open Idealize.ShloMosaic Idealize.ShloMosaic.TcCoe Idealize.SL.Sem

namespace DwInClaim

open Cert Cert.DwInIdeal

theorem values : Cert.algebraic_DwInIdeal_DwInRefIdeal := by
  intro m g m' g' _ ha
  refine ⟨fun c => DwInSpec.dw (m ((c : Thread nD τ).loc main_arg0)) (m ((c : Thread nD τ).loc main_arg1)), ?_, ?_⟩
  · refine (θ_run _ _ _).mono (fun r h c => ⟨DwIn.result_eq m h.1 c, ?_⟩) (DwIn.run_main (F := Ideal) m g)
    exact DwIn.arguments_kept m h.1 c
  · refine (θ_run _ _ _).mono (fun r h c => ?_) (DwInRefIdeal.Value.run m' g')
    have h := h c
    rw [DwInRefIdeal.Read.val_main_v4_eq] at h
    obtain ⟨a0, a1⟩ := ha c
    refine ⟨h.1.trans ?_, h.2⟩
    rw [a0, a1]
    exact DwInReference.dw_reference _ _

/-- The idealised program's frame. -/
theorem frame_ideal : Cert.quiescent_DwInIdeal := fun m g _ => DwIn.frame_run (F := Ideal) m g

/-- The program has the same text at machine arithmetic. -/
theorem frame_machine : Cert.quiescent_DwIn := by
  intro m g _
  have hd : Cert.DwIn.defs (F := Bits) = Cert.DwInIdeal.defs (F := Bits) := by sl_kernel_rfl
  have hm : Cert.DwIn.main (F := Bits) = Cert.DwInIdeal.main (F := Bits) := by sl_kernel_rfl
  rw [hd, hm]
  exact DwIn.frame_run (F := Bits) m g

/-- The reference's run, read at its arguments; it has no semaphore. -/
theorem frame_reference : Cert.quiescent_DwInRefIdeal := fun m g _ =>
  (θ_run Cert.DwInRefIdeal.defs _ _).mono (fun r h => ⟨fun c => (h c).2, sem_eq_zero_of_no_sems (by decide) r.2⟩)
    (Cert.DwInRefIdeal.Value.run (F := Ideal) m g)

end DwInClaim
-- ==== Proof.MixerFwdBody.lean ====
/- The body of the token mixers' forward kernel at any point of its grid: from blocks of memory that the core owns, whatever they
   contain, to the same blocks, whatever they then contain. The kernel reads and writes those blocks and nothing else, and it
   ends. Nothing is said of the values, so the two cases (the first point, which clears what is kept between points, and the
   others) have the same statement. -/
module

public import proofs.«01_k».proof.Proof.Gen.MixerFwdIdeal.Frame.Runs

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.MixerFwdIdeal Cert.MixerFwdIdeal.Gen

namespace MixerFwd

variable {F : FTy → Type} [FloatOps F]

/-- The resources the machine's proofs are about. -/
abbrev Res (F : FTy → Type) := MT nD τ sig Unit (Elt F) ℕ (UR sig nD τ) ℕ

/-- A block of memory that the core owns, whatever it contains. -/
abbrev held (c : Dev nD) {sh : Shape} {e : EltTy} (b : Memref sig .tc .vmem sh e) : sProp (Res F) :=
  iprop(∃ x, owns (c : Thread nD τ) b fullShare x)

/-- The cells of a block, holding something, are such a block. -/
theorem held_of (c : Dev nD) {sh : Shape} {e : EltTy} (b : Memref sig .tc .vmem sh e) (f : b.view.ty.Contents (Elt F)) :
    (iprop(b.view.loc (c : Thread nD τ) ↦[b.view.set]{fullShare} f) : sProp (Res F))
      ⊢ iprop(∃ x, ∃ f, ⌜b.view.read (Elt F) f = x⌝ ∗ b.view.loc (c : Thread nD τ) ↦[b.view.set]{fullShare} f) := by
  iintro H
  iexists _; iexists f; isplitr
  swap; · iexact H
  ipureintro; rfl

set_option maxHeartbeats 8000000 in
/-- The body at the point with coordinates `i`. -/
theorem body_any (c : Dev nD) (i : grid0.Coords)
    (arg1 : Memref sig .tc .vmem S128x2688 .f32) (harg1 : arg1.IsWhole) (arg2 : Memref sig .tc .vmem S64x512 .f32) (harg2 : arg2.IsWhole)
    (arg3 : Memref sig .tc .vmem S128x256 .f32) (harg3 : arg3.IsWhole) (arg4 : Memref sig .tc .vmem S1x256 .f32) (harg4 : arg4.IsWhole)
    (arg5 : Memref sig .tc .vmem S1x128 .f32) (harg5 : arg5.IsWhole) (arg6 : Memref sig .tc .vmem S4x512 .f32) (harg6 : arg6.IsWhole)
    (arg7 : Memref sig .tc .vmem S1x512 .f32) (harg7 : arg7.IsWhole) (arg8 : Memref sig .tc .vmem S512x128 .f32) (harg8 : arg8.IsWhole)
    (arg9 : Memref sig .tc .vmem S512x128 .f32) (harg9 : arg9.IsWhole) (arg10 : Memref sig .tc .vmem S512x128 .f32) (harg10 : arg10.IsWhole)
    (arg11 : Memref sig .tc .vmem S1536x128 .f32) (harg11 : arg11.IsWhole) (arg12 : Memref sig .tc .vmem S1x128 .f32) (harg12 : arg12.IsWhole)
    (arg13 : Memref sig .tc .vmem S1x512 .f32) (harg13 : arg13.IsWhole) (arg14 : Memref sig .tc .vmem S1x512 .f32) (harg14 : arg14.IsWhole)
    (arg15 : Memref sig .tc .vmem S128x2048 .f32) (harg15 : arg15.IsWhole) (arg16 : Memref sig .tc .vmem S128x1024 .f32) (harg16 : arg16.IsWhole)
    (arg17 : Memref sig .tc .vmem S4x512x256 .bf16) (harg17 : arg17.IsWhole) (arg18 : Memref sig .tc .vmem S4x512x256 .bf16) (harg18 : arg18.IsWhole)
    (arg19 : Memref sig .tc .vmem S1024x1024 .bf16) (harg19 : arg19.IsWhole) (arg20 : Memref sig .tc .vmem S1x1024 .f32) (harg20 : arg20.IsWhole)
    (arg21 : Memref sig .tc .vmem S128x1024 .bf16) (harg21 : arg21.IsWhole) (arg22 : Memref sig .tc .vmem S128x1024 .f32) (harg22 : arg22.IsWhole)
    (arg23 : Memref sig .tc .vmem S128x1024 .f32) (harg23 : arg23.IsWhole) (arg24 : Memref sig .tc .vmem S128x1024 .bf16) (harg24 : arg24.IsWhole)
    (arg25 : Memref sig .tc .vmem S1x4x128x64 .f32) (harg25 : arg25.IsWhole)
    (arg26 : Memref sig .tc .vmem S1x4x128x128 .f32) (harg26 : arg26.IsWhole) (arg27 : Memref sig .tc .vmem S1x4x1x128 .f32) (harg27 : arg27.IsWhole)
    (arg28 : Memref sig .tc .vmem S1x4x1x128 .f32) (harg28 : arg28.IsWhole) (arg29 : Memref sig .tc .vmem S4x128x64 .f32) (harg29 : arg29.IsWhole)
    (arg30 : Memref sig .tc .vmem S4x128x128 .f32) (harg30 : arg30.IsWhole) (arg31 : Memref sig .tc .vmem S4x1x128 .f32) (harg31 : arg31.IsWhole)
    (arg32 : Memref sig .tc .vmem S4x1x128 .f32) (harg32 : arg32.IsWhole) (arg33 : Memref sig .tc .vmem S4x128x128 .f32) (harg33 : arg33.IsWhole)
    (arg34 : Memref sig .tc .vmem S4x128x128 .f32) (harg34 : arg34.IsWhole) (arg35 : Memref sig .tc .vmem S4x128x128 .f32) (harg35 : arg35.IsWhole)
    (K : PUnit → sProp (Res F)) :
    iprop(
        held c arg1 ∗ held c arg2 ∗ held c arg3 ∗ held c arg4 ∗ held c arg5 ∗ held c arg6 ∗ held c arg7 ∗ held c arg8 ∗ held c arg9 ∗ held c arg10 ∗
        held c arg11 ∗ held c arg12 ∗ held c arg13 ∗ held c arg14 ∗ held c arg15 ∗ held c arg16 ∗ held c arg17 ∗ held c arg18 ∗ held c arg19 ∗
        held c arg20 ∗ held c arg21 ∗ held c arg22 ∗ held c arg23 ∗ held c arg24 ∗ held c arg25 ∗ held c arg26 ∗ held c arg27 ∗ held c arg28 ∗
        held c arg29 ∗ held c arg30 ∗ held c arg31 ∗ held c arg32 ∗ held c arg33 ∗ held c arg34 ∗ held c arg35
        ∗ (iprop(
            held c arg1 ∗ held c arg2 ∗ held c arg3 ∗ held c arg4 ∗ held c arg5 ∗ held c arg6 ∗ held c arg7 ∗ held c arg8 ∗ held c arg9 ∗
            held c arg10 ∗ held c arg11 ∗ held c arg12 ∗ held c arg13 ∗ held c arg14 ∗ held c arg15 ∗ held c arg16 ∗ held c arg17 ∗ held c arg18 ∗
            held c arg19 ∗ held c arg20 ∗ held c arg21 ∗ held c arg22 ∗ held c arg23 ∗ held c arg24 ∗ held c arg25 ∗ held c arg26 ∗ held c arg27 ∗
            held c arg28 ∗ held c arg29 ∗ held c arg30 ∗ held c arg31 ∗ held c arg32 ∗ held c arg33 ∗ held c arg34 ∗ held c arg35) -∗ K ⟨⟩))
      ⊢ wp frame (wpE (defs₀ (F := F)) Variants.none c none) Set.univ
        (cc0_mixer_fwd i
          arg1 harg1 arg2 harg2 arg3 harg3 arg4 harg4 arg5 harg5 arg6 harg6 arg7 harg7 arg8 harg8 arg9 harg9 arg10 harg10 arg11 harg11 arg12 harg12
          arg13 harg13 arg14 harg14 arg15 harg15 arg16 harg16 arg17 harg17 arg18 harg18 arg19 harg19 arg20 harg20 arg21 harg21 arg22 harg22
          arg23 harg23 arg24 harg24 arg25 harg25 arg26 harg26 arg27 harg27 arg28 harg28 arg29 harg29 arg30 harg30 arg31 harg31 arg32 harg32
          arg33 harg33 arg34 harg34 arg35 harg35) K := by
  simp only [cc0_mixer_fwd_eq_skeleton]; unfold cc0_mixer_fwd_skel
  simp only [k0_part5_eq_skeleton, k0_part1_eq_skeleton, k0_part2_eq_skeleton, k0_part3_eq_skeleton, k0_part4_eq_skeleton, k0_part6_eq_skeleton,
      k0_part7_eq_skeleton, k0_part8_eq_skeleton, k0_part9_eq_skeleton, k0_part10_eq_skeleton, k0_part11_eq_skeleton, k0_part12_eq_skeleton,
      k0_part13_eq_skeleton, k0_part14_eq_skeleton, k0_part15_eq_skeleton, k0_part16_eq_skeleton, k0_part17_eq_skeleton, k0_part18_eq_skeleton,
      k0_part19_eq_skeleton, k0_part20_eq_skeleton, k0_part21_eq_skeleton, k0_part22_eq_skeleton, k0_part23_eq_skeleton, k0_part24_eq_skeleton,
      k0_part25_eq_skeleton, k0_part26_eq_skeleton, k0_part27_eq_skeleton, k0_part28_eq_skeleton, k0_part29_eq_skeleton, k0_part30_eq_skeleton,
      k0_part31_eq_skeleton, k0_part32_eq_skeleton, k0_part33_eq_skeleton, k0_part34_eq_skeleton, k0_part35_eq_skeleton, k0_part36_eq_skeleton,
      k0_part37_eq_skeleton, k0_part38_eq_skeleton, k0_part39_eq_skeleton, k0_part40_eq_skeleton, k0_part41_eq_skeleton, k0_part42_eq_skeleton,
      k0_part43_eq_skeleton]
  unfold held owns
  iintro ⟨⟨%x1, %f1, %e1, H1⟩, ⟨%x2, %f2, %e2, H2⟩, ⟨%x3, %f3, %e3, H3⟩, ⟨%x4, %f4, %e4, H4⟩, ⟨%x5, %f5, %e5, H5⟩, ⟨%x6, %f6, %e6, H6⟩,
    ⟨%x7, %f7, %e7, H7⟩, ⟨%x8, %f8, %e8, H8⟩, ⟨%x9, %f9, %e9, H9⟩, ⟨%x10, %f10, %e10, H10⟩, ⟨%x11, %f11, %e11, H11⟩, ⟨%x12, %f12, %e12, H12⟩,
    ⟨%x13, %f13, %e13, H13⟩, ⟨%x14, %f14, %e14, H14⟩, ⟨%x15, %f15, %e15, H15⟩, ⟨%x16, %f16, %e16, H16⟩, ⟨%x17, %f17, %e17, H17⟩,
    ⟨%x18, %f18, %e18, H18⟩, ⟨%x19, %f19, %e19, H19⟩, ⟨%x20, %f20, %e20, H20⟩, ⟨%x21, %f21, %e21, H21⟩, ⟨%x22, %f22, %e22, H22⟩,
    ⟨%x23, %f23, %e23, H23⟩, ⟨%x24, %f24, %e24, H24⟩, ⟨%x25, %f25, %e25, H25⟩, ⟨%x26, %f26, %e26, H26⟩, ⟨%x27, %f27, %e27, H27⟩,
    ⟨%x28, %f28, %e28, H28⟩, ⟨%x29, %f29, %e29, H29⟩, ⟨%x30, %f30, %e30, H30⟩, ⟨%x31, %f31, %e31, H31⟩, ⟨%x32, %f32, %e32, H32⟩,
    ⟨%x33, %f33, %e33, H33⟩, ⟨%x34, %f34, %e34, H34⟩, ⟨%x35, %f35, %e35, H35⟩, Hk⟩
  obtain rfl := harg1.eq_unread e1; obtain rfl := harg2.eq_unread e2; obtain rfl := harg3.eq_unread e3; obtain rfl := harg4.eq_unread e4
  obtain rfl := harg5.eq_unread e5; obtain rfl := harg6.eq_unread e6; obtain rfl := harg7.eq_unread e7; obtain rfl := harg8.eq_unread e8
  obtain rfl := harg9.eq_unread e9; obtain rfl := harg10.eq_unread e10; obtain rfl := harg11.eq_unread e11; obtain rfl := harg12.eq_unread e12
  obtain rfl := harg13.eq_unread e13; obtain rfl := harg14.eq_unread e14; obtain rfl := harg15.eq_unread e15; obtain rfl := harg16.eq_unread e16
  obtain rfl := harg17.eq_unread e17; obtain rfl := harg18.eq_unread e18; obtain rfl := harg19.eq_unread e19; obtain rfl := harg20.eq_unread e20
  obtain rfl := harg21.eq_unread e21; obtain rfl := harg22.eq_unread e22; obtain rfl := harg23.eq_unread e23; obtain rfl := harg24.eq_unread e24
  obtain rfl := harg25.eq_unread e25; obtain rfl := harg26.eq_unread e26; obtain rfl := harg27.eq_unread e27; obtain rfl := harg28.eq_unread e28
  obtain rfl := harg29.eq_unread e29; obtain rfl := harg30.eq_unread e30; obtain rfl := harg31.eq_unread e31; obtain rfl := harg32.eq_unread e32
  obtain rfl := harg33.eq_unread e33; obtain rfl := harg34.eq_unread e34; obtain rfl := harg35.eq_unread e35
  by_cases start : cond0_0 i
  all_goals
    sl_exec (disch := first | sl_exact start)
    sl_step
    iapply Hk
    isplitl [H1]; · iapply (held_of c arg1 _) $$ H1
    isplitl [H2]; · iapply (held_of c arg2 _) $$ H2
    isplitl [H3]; · iapply (held_of c arg3 _) $$ H3
    isplitl [H4]; · iapply (held_of c arg4 _) $$ H4
    isplitl [H5]; · iapply (held_of c arg5 _) $$ H5
    isplitl [H6]; · iapply (held_of c arg6 _) $$ H6
    isplitl [H7]; · iapply (held_of c arg7 _) $$ H7
    isplitl [H8]; · iapply (held_of c arg8 _) $$ H8
    isplitl [H9]; · iapply (held_of c arg9 _) $$ H9
    isplitl [H10]; · iapply (held_of c arg10 _) $$ H10
    isplitl [H11]; · iapply (held_of c arg11 _) $$ H11
    isplitl [H12]; · iapply (held_of c arg12 _) $$ H12
    isplitl [H13]; · iapply (held_of c arg13 _) $$ H13
    isplitl [H14]; · iapply (held_of c arg14 _) $$ H14
    isplitl [H15]; · iapply (held_of c arg15 _) $$ H15
    isplitl [H16]; · iapply (held_of c arg16 _) $$ H16
    isplitl [H17]; · iapply (held_of c arg17 _) $$ H17
    isplitl [H18]; · iapply (held_of c arg18 _) $$ H18
    isplitl [H19]; · iapply (held_of c arg19 _) $$ H19
    isplitl [H20]; · iapply (held_of c arg20 _) $$ H20
    isplitl [H21]; · iapply (held_of c arg21 _) $$ H21
    isplitl [H22]; · iapply (held_of c arg22 _) $$ H22
    isplitl [H23]; · iapply (held_of c arg23 _) $$ H23
    isplitl [H24]; · iapply (held_of c arg24 _) $$ H24
    isplitl [H25]; · iapply (held_of c arg25 _) $$ H25
    isplitl [H26]; · iapply (held_of c arg26 _) $$ H26
    isplitl [H27]; · iapply (held_of c arg27 _) $$ H27
    isplitl [H28]; · iapply (held_of c arg28 _) $$ H28
    isplitl [H29]; · iapply (held_of c arg29 _) $$ H29
    isplitl [H30]; · iapply (held_of c arg30 _) $$ H30
    isplitl [H31]; · iapply (held_of c arg31 _) $$ H31
    isplitl [H32]; · iapply (held_of c arg32 _) $$ H32
    isplitl [H33]; · iapply (held_of c arg33 _) $$ H33
    isplitl [H34]; · iapply (held_of c arg34 _) $$ H34
    iapply (held_of c arg35 _) $$ H35

end MixerFwd

end
-- ==== Proof.MixerFwdFrame.lean ====
/- The frame of the token mixers' forward kernel: whatever the arrays hold, the program ends, leaves its arguments unchanged and
   every counter at zero. The proof says nothing about the values a point stores, so it needs no closed form of them: each block
   is held at some contents before a point and at some contents after it. -/
module

public import proofs.«01_k».proof.Proof.MixerFwdBody
public import Idealize.ShloMosaic.Lib.SparseCore.ProtocolKit

@[expose] public section

set_option maxRecDepth 16384

noncomputable section

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)
open Cert.MixerFwdIdeal Cert.MixerFwdIdeal.Gen

namespace MixerFwd

variable {F : FTy → Type} [FloatOps F]

variable (m : (ℓ : Loc nD τ sig) → Buf (Elt F) ℓ) (ρ : Dev nD → PrngReg)

/-- Naming the contents or not makes no difference to ownership. -/
theorem held_of_owns (c : Dev nD) {sh : Shape} {e : EltTy} (b : Memref sig .tc .vmem sh e) (x : Vec F sh e) :
    (owns (c : Thread nD τ) b fullShare x : sProp (Res F)) ⊢ held c b := by
  iintro H; iexists x; iexact H

/-- The library asks for the contents with a relation to those before; here it is no condition. -/
theorem left_of_held (c : Dev nD) {sh : Shape} {e : EltTy} (b : Memref sig .tc .vmem sh e) :
    (held c b : sProp (Res F)) ⊢ iprop(∃ x, ⌜True⌝ ∗ owns (c : Thread nD τ) b fullShare x) := by
  iintro ⟨%x, H⟩
  iexists x; isplitr
  · ipureintro; trivial
  iexact H

/-- What is recorded about the run: the arrays as they stand when the grid starts; nothing about what a point leaves in a block. -/
def rdat (c : Dev nD) : RDat τ (Elt F) Unit ℕ (UR sig nD τ) ℕ cfg0 c where
  A w := V m c (Pipeline.arrRef spec0 w)
  after _ _ _ _ := True
  Φ _ := Pipeline.ΦA spec0 c
  q w := Pipeline.shareOf spec0 w
  owed _ := 0

/-- The blocks of the windows at point `t`. -/
abbrev windows (c : Dev nD) (t : Fin cfg0.N) : sProp (Res F) :=
  iprop(held c (ms0_0 t) ∗ held c (ms0_1 t) ∗ held c (ms0_2 t) ∗ held c (ms0_3 t) ∗ held c (ms0_4 t) ∗ held c (ms0_5 t) ∗ held c (ms0_6 t) ∗
      held c (ms0_7 t) ∗ held c (ms0_8 t) ∗ held c (ms0_9 t) ∗ held c (ms0_10 t) ∗ held c (ms0_11 t) ∗ held c (ms0_12 t) ∗ held c (ms0_13 t) ∗
      held c (ms0_14 t) ∗ held c (ms0_15 t) ∗ held c (ms0_16 t) ∗ held c (ms0_17 t) ∗ held c (ms0_18 t) ∗ held c (ms0_19 t) ∗ held c (ms0_20 t) ∗
      held c (ms0_21 t) ∗ held c (ms0_22 t) ∗ held c (ms0_23 t) ∗ held c (ms0_24 t) ∗ held c (ms0_25 t) ∗ held c (ms0_26 t) ∗ held c (ms0_27 t))

/-- The body, at every point: it takes the blocks as they come and gives them back, with the random generator's register and what is
    owed between devices untouched. -/
theorem body_point (c : Dev nD) (t : Fin cfg0.N) (Q : sProp (Res F)) :
    iprop(Pipeline.ΦA spec0 c ∗ Q ∗ windows c t) ⊢ wp frame (wpE (defs₀ (F := F)) Variants.none c none) Set.univ (bodyAt0 t) fun _ =>
      iprop(Pipeline.ΦA spec0 c ∗ Q ∗ windows c t) := by
  rw [PhiA0_eq]
  unfold windows
  iintro ⟨⟨⟨S0, S1, S2, S3, S4, S5, S6⟩, Hg⟩, Ho, H0, H1, H2, H3, H4, H5, H6, H7, H8, H9, H10, H11, H12, H13, H14, H15, H16, H17, H18, H19, H20, H21, H22, H23, H24, H25, H26, H27⟩
  iapply (body_any c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  iframe H0 H1 H2 H3 H4 H5 H6 H7 H8 H9 H10 H11 H12 H13 H14 H15 H16 H17 H18 H19 H20 H21 H22 H23 H24 H25 H26 H27 S0 S1 S2 S3 S4 S5 S6
  iintro ⟨H0, H1, H2, H3, H4, H5, H6, H7, H8, H9, H10, H11, H12, H13, H14, H15, H16, H17, H18, H19, H20, H21, H22, H23, H24, H25, H26, H27, S0, S1, S2, S3, S4, S5, S6⟩
  iframe ∗

/-- The same in the form the library asks for. -/
theorem body_obligation (c : Dev nD) : (rdat (F := F) m c).BodyObligation (defs₀ (F := F)) Variants.none () Set.univ := fun t Y _ => by
  rw [bigSep_W0, bigSep_W0, show defs₀ (F := F) .tc cfg0.body (cfg0.bodyArgs t (cfg0.slots t)) = bodyAt0 t from by unfold defs₀; rw [Defs.onTc_tc]]
  refine triple_restated (body_point c t ((rdat m c).owesAt () t.castSucc)) rfl (BIClass.sep_mono .rfl (BIClass.sep_mono .rfl ?_)) fun _ => BIClass.sep_mono .rfl (BIClass.sep_mono .rfl ?_)
  · repeat' first | exact held_of_owns _ _ _ | refine BIClass.sep_mono ?_ ?_
  · repeat' first | exact left_of_held _ _ | refine BIClass.sep_mono ?_ ?_

set_option backward.isDefEq.respectTransparency.types false in
/-- The whole program runs to its end. -/
theorem run_main : θ_run defs (onTc (τ := τ) (main (F := F))) (s₀ m ρ)
    (fun r => Pipeline.RDat.FramePost cfg0 (rdat m) (V m) r ∧ r.2.sem = fun _ => 0) :=
  Pipeline.RDat.θ_run_frame_track_shared (Q' := _) cfgs (0 : Fin 1) launch₀0 defs₀ Variants.none (rdat m) m ρ main
    (hbody := body_obligation m) (hq := fun _ _ _ => rfl) (howed := fun _ _ => rfl)
    (V := V m) (hmain := hmain m Variants.none) (hA := fun c w => by dsimp only [rdat]) (hin := fun _ => .rfl) (hout := fun _ => .rfl)

set_option maxHeartbeats 4000000 in
/-- The program's frame: it ends, every argument array is unchanged, every counter is zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)) ∧ r.2.sem = fun _ => 0) :=
  (θ_run defs _ _).mono (fun r h => ⟨fun c =>
    have rest : ∀ b : Ref sig .tc, b.isScoped = false → (∀ w, (spec0 w).arr.view.ref ≠ b) → r.2.mem ((c.tc : Thread nD τ).loc b) = V m c b :=
      fun b ha hs => (h.1 c).2 b (Pipeline.mem_restRefs_of b ha hs)
    ⟨(rest main_arg0 (by decide) (by decide)).trans (V_main_arg0 m c),
     (rest main_arg1 (by decide) (by decide)).trans (V_main_arg1 m c),
     (rest main_arg2 (by decide) (by decide)).trans (V_main_arg2 m c),
     (rest main_arg3 (by decide) (by decide)).trans (V_main_arg3 m c),
     (rest main_arg4 (by decide) (by decide)).trans (V_main_arg4 m c),
     (rest main_arg5 (by decide) (by decide)).trans (V_main_arg5 m c),
     (rest main_arg6 (by decide) (by decide)).trans (V_main_arg6 m c),
     (rest main_arg7 (by decide) (by decide)).trans (V_main_arg7 m c),
     (Pipeline.RDat.FramePost.arr_in h.1 c 3 rfl).trans (V_main_arg8 m c),
     (Pipeline.RDat.FramePost.arr_in h.1 c 4 rfl).trans (V_main_arg9 m c),
     (Pipeline.RDat.FramePost.arr_in h.1 c 5 rfl).trans (V_main_arg10 m c),
     (Pipeline.RDat.FramePost.arr_in h.1 c 6 rfl).trans (V_main_arg11 m c),
     (rest main_arg12 (by decide) (by decide)).trans (V_main_arg12 m c),
     (rest main_arg13 (by decide) (by decide)).trans (V_main_arg13 m c),
     (rest main_arg14 (by decide) (by decide)).trans (V_main_arg14 m c),
     (rest main_arg15 (by decide) (by decide)).trans (V_main_arg15 m c),
     (rest main_arg16 (by decide) (by decide)).trans (V_main_arg16 m c),
     (Pipeline.RDat.FramePost.arr_in h.1 c 12 rfl).trans (V_main_arg17 m c),
     (Pipeline.RDat.FramePost.arr_in h.1 c 13 rfl).trans (V_main_arg18 m c),
     (rest main_arg19 (by decide) (by decide)).trans (V_main_arg19 m c),
     (rest main_arg20 (by decide) (by decide)).trans (V_main_arg20 m c),
     (Pipeline.RDat.FramePost.arr_in h.1 c 15 rfl).trans (V_main_arg21 m c),
     (rest main_arg22 (by decide) (by decide)).trans (V_main_arg22 m c),
     (rest main_arg23 (by decide) (by decide)).trans (V_main_arg23 m c),
     (rest main_arg24 (by decide) (by decide)).trans (V_main_arg24 m c),
     (Pipeline.RDat.FramePost.arr_in h.1 c 19 rfl).trans (V_main_arg25 m c)⟩, h.2⟩) (run_main m ρ)

end MixerFwd

end
-- ==== Proof.MixerFwdClaim.lean ====
/- The frames of the token mixers' forward call: the program has the same text at machine arithmetic as over the extended reals,
   so the one run, made for any arithmetic, serves both. -/
module

public import proofs.«01_k».proof.Defs
public import proofs.«01_k».proof.Proof.MixerFwdFrame
public import proofs.«01_k».proof.Proof.Gen.MixerFwd
public import Idealize.ShloMosaic.Lib.Tactic

@[expose] public section

noncomputable section

open Idealize.ShloMosaic Idealize.ShloMosaic.TcCoe Idealize.SL.Sem

namespace MixerFwdClaim

/-- The idealised program's frame. -/
theorem frame_ideal : Cert.quiescent_MixerFwdIdeal := fun m g _ => MixerFwd.frame_run (F := Ideal) m g

set_option maxRecDepth 16384 in
set_option maxHeartbeats 4000000 in
/-- The program's frame. -/
theorem frame_machine : Cert.quiescent_MixerFwd := by
  intro m g _
  have hd : Cert.MixerFwd.defs (F := Bits) = Cert.MixerFwdIdeal.defs (F := Bits) := by sl_kernel_rfl
  have hm : Cert.MixerFwd.main (F := Bits) = Cert.MixerFwdIdeal.main (F := Bits) := by sl_kernel_rfl
  rw [hd, hm]
  exact MixerFwd.frame_run (F := Bits) m g

end MixerFwdClaim

end
-- ==== Proof.RealNorm.lean ====
/- Extended reals that are reals, and the derivative of the root-mean-square norm.

   Every value claim here is made where the arguments are finite, so each argument array is the image of an array of
   reals and the algebra may be done there. This module has the step from "its absolute value is below infinity" to "it
   is a real", the three constants the norm meets, and the identity between the two ways to write the norm's derivative:
   the kernels' `r * (g - n * mean (n * g))` with `r = 1 / sqrt (mean x² + ε)` and `n = x * r`, and the chain rule
   through `v ↦ v ^ (-1/2)` applied to `mean x² + ε`. -/
module

public import Idealize.ShloMosaic.Lib.Pipeline.ValueKit
public import Idealize.ShloMosaic.Lib.Pointwise
public import Idealize.ShloMosaic.Lib.IdealHost

@[expose] public section

noncomputable section

open Idealize.ShloMosaic

namespace RealNorm

/-! ## Finite means real -/

theorem ofBits_inf : Ideal.ofBits .f32 2139095040#32 = (⊤ : EReal) := by
  simp [Ideal.ofBits, Ideal.ieee]

/-- An extended real whose absolute value compares below infinity is a real. -/
theorem exists_real (a : EReal)
    (h : Ideal.cmp .olt (max a (-a)) (Ideal.ofBits .f32 2139095040#32) = 1#1) : ∃ r : ℝ, a = (r : EReal) := by
  rw [ofBits_inf] at h
  induction a with
  | bot => simp [Ideal.cmp] at h
  | coe r => exact ⟨r, rfl⟩
  | top => simp [Ideal.cmp] at h

/-- An array of extended reals, each below infinity in absolute value, is an array of reals. -/
theorem exists_reals {ι : Type} (a : ι → EReal)
    (h : ∀ i, Ideal.cmp .olt (max (a i) (-(a i))) (Ideal.ofBits .f32 2139095040#32) = 1#1) :
    ∃ A : ι → ℝ, a = fun i => (A i : EReal) := by
  choose A hA using fun i => exists_real (a i) (h i)
  exact ⟨A, funext hA⟩

/-! ## The norm's constants -/

theorem ofBits_1024 : Ideal.ofBits .f32 1149239296#32 = ((1024 : ℝ) : EReal) := by
  simp [Ideal.ofBits, Ideal.ieee]
  rw [← EReal.coe_mul]
  norm_num

/-- The norm's ε, the float nearest to 10⁻⁶. -/
def eps : ℝ := 8796093 / 2 ^ 43

theorem eps_pos : 0 < eps := by unfold eps; positivity

theorem ofBits_eps : Ideal.ofBits .f32 897988541#32 = ((eps : ℝ) : EReal) := by
  simp [Ideal.ofBits, Ideal.ieee, eps]
  rw [← EReal.coe_mul]
  norm_num

theorem ofBits_neg_half : Ideal.ofBits .f32 3204448256#32 = ((-(1 / 2) : ℝ) : EReal) := by
  simp [Ideal.ofBits, Ideal.ieee]
  rw [← EReal.coe_mul]
  norm_num

/-! ## A sum of reals is a real -/

/-- A finite sum of reals, taken among the extended reals. -/
theorem coe_sum {ι : Type} [Fintype ι] (f : ι → ℝ) : (∑ i, (f i : EReal)) = ((∑ i, f i : ℝ) : EReal) := by
  classical
  refine Finset.induction_on (Finset.univ : Finset ι) (by simp) fun a s ha ih => ?_
  rw [Finset.sum_insert ha, Finset.sum_insert ha, ih, EReal.coe_add]

/-! ## The norm -/

variable {n : ℕ}

/-- `mean x² + ε`, the mean over 1024 entries. -/
def ms (x : Fin n → ℝ) : ℝ := (∑ i, x i * x i) * (1 / 1024) + eps

theorem ms_pos (x : Fin n → ℝ) : 0 < ms x := by
  have h : 0 ≤ ∑ i, x i * x i := Finset.sum_nonneg fun i _ => mul_self_nonneg (x i)
  unfold ms
  have := eps_pos
  positivity

/-- The norm's factor, `1 / sqrt (mean x² + ε)`, over the extended reals as both programs compute it. -/
def factor (a : Fin n → EReal) : EReal :=
  Ideal.rsqrt (Ideal.div (∑ i, a i * a i) (Ideal.ofBits .f32 1149239296#32) + Ideal.ofBits .f32 897988541#32)

theorem div_1024 (r : ℝ) : Ideal.div (r : EReal) (Ideal.ofBits .f32 1149239296#32) = ((r * (1 / 1024) : ℝ) : EReal) := by
  rw [ofBits_1024, Ideal.div_coe (by norm_num), ← EReal.coe_mul]

theorem mean_sq (x : Fin n → ℝ) :
    Ideal.div (∑ i, (x i : EReal) * (x i : EReal)) (Ideal.ofBits .f32 1149239296#32) + Ideal.ofBits .f32 897988541#32
      = ((ms x : ℝ) : EReal) := by
  simp only [← EReal.coe_mul, coe_sum, div_1024, ofBits_eps, ← EReal.coe_add, ms]

theorem factor_coe (x : Fin n → ℝ) : factor (fun i => (x i : EReal)) = (((√(ms x))⁻¹ : ℝ) : EReal) := by
  unfold factor
  rw [mean_sq, Ideal.rsqrt_coe, if_neg (not_lt.mpr (ms_pos x).le), if_neg (ms_pos x).ne']

/-- The norm's derivative as the kernels write it: at entry `l`, for the row `a` and the cotangent `g` of the normalised
    row. -/
def bwd (a g : Fin n → EReal) (l : Fin n) : EReal :=
  factor a * (g l - a l * factor a * Ideal.div (∑ i, a i * factor a * g i) (Ideal.ofBits .f32 1149239296#32))

/-- The same by the chain rule: `g r` for the entry itself, and twice `x` times the cotangent of the mean of the squares,
    which is `Σ x g` times the derivative `-r / (2 v)` of `v ↦ v ^ (-1/2)`, over 1024. -/
def chain (a g : Fin n → EReal) : EReal :=
  Ideal.div ((∑ i, a i * g i) * (Ideal.ofBits .f32 3204448256#32 *
    Ideal.div (factor a) (Ideal.div (∑ i, a i * a i) (Ideal.ofBits .f32 1149239296#32) + Ideal.ofBits .f32 897988541#32)))
    (Ideal.ofBits .f32 1149239296#32)

theorem chain_coe (x g : Fin n → ℝ) : chain (fun i => (x i : EReal)) (fun i => (g i : EReal)) =
    (((∑ i, x i * g i) * (-(1 / 2) * ((√(ms x))⁻¹ * (1 / ms x))) * (1 / 1024) : ℝ) : EReal) := by
  unfold chain
  rw [factor_coe, mean_sq, Ideal.div_coe (ms_pos x).ne', ofBits_neg_half]
  simp only [← EReal.coe_mul, coe_sum, div_1024]

theorem bwd_coe (x g : Fin n → ℝ) (l : Fin n) : bwd (fun i => (x i : EReal)) (fun i => (g i : EReal)) l =
    (((√(ms x))⁻¹ * (g l - x l * (√(ms x))⁻¹ * ((∑ i, x i * (√(ms x))⁻¹ * g i) * (1 / 1024))) : ℝ) : EReal) := by
  unfold bwd
  rw [factor_coe]
  simp only [← EReal.coe_mul, coe_sum, div_1024, ← EReal.coe_sub]

/-- The two are equal at reals. -/
theorem bwd_eq_chain (x g : Fin n → ℝ) (l : Fin n) :
    bwd (fun i => (x i : EReal)) (fun i => (g i : EReal)) l =
      (g l : EReal) * factor (fun i => (x i : EReal))
        + ((x l : EReal) * chain (fun i => (x i : EReal)) (fun i => (g i : EReal))
          + chain (fun i => (x i : EReal)) (fun i => (g i : EReal)) * (x l : EReal)) := by
  rw [bwd_coe, chain_coe, factor_coe]
  simp only [← EReal.coe_mul, ← EReal.coe_add]
  congr 1
  have hv := ms_pos x
  set v := ms x
  have hr : (√v)⁻¹ * (√v)⁻¹ = 1 / v := by
    rw [← mul_inv, Real.mul_self_sqrt hv.le, one_div]
  have hs : (∑ i, x i * (√v)⁻¹ * g i) = (√v)⁻¹ * ∑ i, x i * g i := by
    rw [Finset.mul_sum]; exact Finset.sum_congr rfl fun i _ => by ring
  rw [hs, ← hr]
  ring

end RealNorm
-- ==== Proof.InProjBwdSpec.lean ====
/- What the input projection's backward call computes, as a function of its arguments.

   The projection is `h W` of the normalised input `h = x r g`, with `r` the norm's factor of the row and `g` the norm's
   weight. From the projection's cotangent the call computes the cotangent of `h`, from it the cotangent of `x` (to which
   it adds the cotangent that reaches `x` by the residual path) and that of `g`. -/
module

public import proofs.«01_k».proof.Proof.RealNorm

@[expose] public section

noncomputable section

open Idealize.ShloMosaic

namespace InProjBwdSpec

abbrev Mat (a b : ℕ) := (⟨2, ![a, b]⟩ : Shape).Idx → EReal

/-- The cotangent of the normalised input: the projection's cotangent times the weight's transpose. -/
def dh (dp : Mat 2048 4624) (w : Mat 1024 4624) (r : Fin 2048) (l : Fin 1024) : EReal :=
  ∑ k : Fin 4624, dp (ix2 r k) * w (ix2 l k)

/-- A row of `x`, and a row of `dh` scaled by the norm's weight. -/
def xRow (x : Mat 2048 1024) (r : Fin 2048) : Fin 1024 → EReal := fun l => x (ix2 r l)
def gRow (g : Mat 1 1024) (w : Mat 1024 4624) (dp : Mat 2048 4624) (r : Fin 2048) : Fin 1024 → EReal := fun l =>
  dh dp w r l * g (ix2 0 l)

/-- The cotangent of `x`. -/
def dx (x : Mat 2048 1024) (g : Mat 1 1024) (w : Mat 1024 4624) (d : Mat 2048 1024) (dp : Mat 2048 4624) : Mat 2048 1024 :=
  fun y => d y + RealNorm.bwd (xRow x (y 0)) (gRow g w dp (y 0)) (y 1)

/-- The cotangent of the norm's weight. -/
def dg (x : Mat 2048 1024) (w : Mat 1024 4624) (dp : Mat 2048 4624) : Mat 1 1024 :=
  fun y => ∑ r : Fin 2048, dh dp w r (y 1) * (x (ix2 r (y 1)) * RealNorm.factor (xRow x r))

end InProjBwdSpec
-- ==== Proof.InProjBwdHost.lean ====
/- What the input projection's backward call finds in its operands.

   The host lays the cotangent's columns out in the kernel's order, the low-rank code's sixteen last and padded with 112
   columns of zeros, and the transposed weight in four shards of 1156 rows; the kernel joins the shards in a scratch
   buffer. Here each of these is read back from the arguments: the operands at an index, the joined weight, and the sum
   over the projection's 4624 columns as the sum of the four sums the kernel takes. -/
module

public import proofs.«01_k».proof.Proof.Gen.InProjBwdIdeal.Frame
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem

namespace Cert.InProjBwdIdeal.Val

open Cert.InProjBwdIdeal Cert.InProjBwdIdeal.Gen

variable (m : (ℓ : Loc nD τ sig) → Buf (Elt Ideal) ℓ)

/-! ## The operands the host prepares -/

/-- The weight's operand: shard `a`, row `r` is the weight's column `1156 a + r`. -/
theorem w_operand (c : Dev nD) (a : Fin 4) (r : Fin 1156) (l : Fin 1024) :
    V m c main_v10 (ix3 a r l) = m ((c : Thread nD τ).loc main_arg2) (ix2 l ⟨1156 * a + r, by omega⟩) := by
  entry_read
  pointwise
  blk_point

/-- The gates' cotangent is the last 2048 columns. -/
theorem gate_operand (c : Dev nD) (r : Fin 2048) (k : Fin 2048) :
    V m c main_v7 (ix2 r k) = m ((c : Thread nD τ).loc main_arg4) (ix2 r ⟨2576 + k, by omega⟩) := by
  entry_read
  pointwise

/-- The rest of the cotangent: 1536 columns, then 1024 from column 1552 on, then the sixteen between, then zeros. -/
theorem mix_operand (c : Dev nD) : V m c main_v5 =
    truncf .bf16 (concatenate S2048x2688 1
      [⟨S2048x1536, extractStridedSlice S2048x1536 ![0, 0] (m ((c : Thread nD τ).loc main_arg4)) slices_S2048x4624_S2048x1536_0_0⟩,
       ⟨S2048x1024, extractStridedSlice S2048x1024 ![0, 1552] (m ((c : Thread nD τ).loc main_arg4)) slices_S2048x4624_S2048x1024_0_1552⟩,
       ⟨S2048x16, extractStridedSlice S2048x16 ![0, 1536] (m ((c : Thread nD τ).loc main_arg4)) slices_S2048x4624_S2048x16_0_1536⟩,
       ⟨S2048x112, broadcastInDim S2048x112 ![] bcast_S_S2048x112 (constant (F := Ideal) S_ .f32 0x00000000#32)⟩]
      concatenates_S2048x1536_S2048x1024_S2048x16_S2048x112_S2048x2688_d1) bitsLt_bf16_f32 := by
  simp only [V, List.flatten_cons, List.flatten_nil, List.append_nil, hostOps0, StableHlo.after_cons, StableHlo.after_nil]
  rw [StableHlo.reshape_result_ne, StableHlo.unary_result_ne, StableHlo.unary_result_ne, StableHlo.unary_result_ne,
    StableHlo.unary_result_ne, StableHlo.unary_result, StableHlo.nary_result]
  rotate_left
  iterate 5 decide
  refine congrArg (truncf .bf16 · bitsLt_bf16_f32) (StableHlo.concatenate_congr _ _ ?_ _ _)
  refine congrArg₂ List.cons ?_ (congrArg₂ List.cons ?_ (congrArg₂ List.cons ?_ (congrArg₂ List.cons ?_ rfl)))
  all_goals refine Sigma.ext rfl (heq_of_eq ?_)
  all_goals dsimp only [Matrix.cons_val]
  all_goals after_results_simp
  all_goals rfl

theorem mix_first (c : Dev nD) (r : Fin 2048) (k : Fin 1536) :
    V m c main_v5 (ix2 r ⟨k, by omega⟩) = m ((c : Thread nD τ).loc main_arg4) (ix2 r ⟨k, by omega⟩) := by
  rw [mix_operand]
  pointwise

theorem mix_second (c : Dev nD) (r : Fin 2048) (k : Fin 1024) :
    V m c main_v5 (ix2 r ⟨1536 + k, by omega⟩) = m ((c : Thread nD τ).loc main_arg4) (ix2 r ⟨1552 + k, by omega⟩) := by
  rw [mix_operand]
  pointwise

theorem mix_third (c : Dev nD) (r : Fin 2048) (k : Fin 128) :
    V m c main_v5 (ix2 r ⟨2560 + k, by omega⟩) =
      if h : k.val < 16 then m ((c : Thread nD τ).loc main_arg4) (ix2 r ⟨1536 + k, by omega⟩) else (0 : EReal) := by
  rw [mix_operand]
  pointwise
  rw [dif_neg (by omega), dif_neg (by omega)]
  by_cases h : k.val < 16
  · rw [dif_pos (by omega), dif_pos h]
    congr 2
    simp only [Fin.mk.injEq]
    omega
  · rw [dif_neg (by omega), dif_neg h]

/-! ## The shards joined -/

/-- The transposed weight with its four shards one under the other. -/
def joined (w : S4x1156x1024.Idx → EReal) : S4624x1024.Idx → EReal := fun y =>
  w (ix3 ⟨(y 0).val / 1156, by have h : (y 0).val < 4624 := (y 0).isLt; omega⟩
    ⟨(y 0).val % 1156, Nat.mod_lt _ (by decide)⟩ ⟨(y 1).val, (y 1).isLt⟩)

/-- The four copies of the first grid point leave the shards joined. -/
theorem copies_join (b : S4x1156x1024.Idx → EReal) : View.canon (Val := Elt Ideal) (s := S4624x1024) (e := .bf16)
      [⟨Rect.unit ![3468, 0] ![1156, 1024] inb_S4624x1024_S1156x1024_3468_0, k0_pay8 (F := Ideal)
          (View.ld (Val := Elt Ideal) (e' := .bf16) (S := S4x1156x1024) b (Rect.unit ![3, 0, 0] ![1, 1156, 1024] inb_S4x1156x1024_S1x1156x1024_3_0_0))⟩,
        ⟨Rect.unit ![2312, 0] ![1156, 1024] inb_S4624x1024_S1156x1024_2312_0, k0_pay7 (F := Ideal)
          (View.ld (Val := Elt Ideal) (e' := .bf16) (S := S4x1156x1024) b (Rect.unit ![2, 0, 0] ![1, 1156, 1024] inb_S4x1156x1024_S1x1156x1024_2_0_0))⟩,
        ⟨Rect.unit ![1156, 0] ![1156, 1024] inb_S4624x1024_S1156x1024_1156_0, k0_pay6 (F := Ideal)
          (View.ld (Val := Elt Ideal) (e' := .bf16) (S := S4x1156x1024) b (Rect.unit ![1, 0, 0] ![1, 1156, 1024] inb_S4x1156x1024_S1x1156x1024_1_0_0))⟩,
        ⟨Rect.unit ![0, 0] ![1156, 1024] inb_S4624x1024_S1156x1024_0_0, k0_pay5 (F := Ideal)
          (View.ld (Val := Elt Ideal) (e' := .bf16) (S := S4x1156x1024) b (Rect.unit ![0, 0, 0] ![1, 1156, 1024] inb_S4x1156x1024_S1x1156x1024_0_0_0))⟩]
      = joined b := by
  funext y
  obtain_idx i : S4x1156x1024 := [(y 0 : ℕ) / 1156, (y 0 : ℕ) % 1156, (y 1 : ℕ)] with hi
  have e : joined b y = b i := by
    unfold joined
    congr 1
    blk_ext
  rw [e]
  canon_tiles x h
  all_goals (open_payloads; pointwise; blk_ext)

/-- The joined weight at an index of it is the weight, transposed. -/
theorem joined_apply (c : Dev nD) (k : Fin 4624) (l : Fin 1024) :
    joined (V m c main_v10) (ix2 k l) = m ((c : Thread nD τ).loc main_arg2) (ix2 l k) := by
  unfold joined
  refine (w_operand m c _ _ _).trans (congrArg _ ?_)
  blk_ext

/-! ## The sum over the projection's columns -/

/-- The sum over 4624 columns, as the kernel takes it: the third of its four sums runs over 128 columns, sixteen of the
    array and 112 zeros. -/
theorem sum_columns (f : Fin 4624 → EReal) (g : Fin 128 → EReal)
    (hg : ∀ k : Fin 128, g k = if h : k.val < 16 then f ⟨1536 + k, by omega⟩ else 0) :
    (∑ k : Fin 1536, f ⟨k, by omega⟩) + (∑ k : Fin 1024, f ⟨1552 + k, by omega⟩) + (∑ k, g k)
      + (∑ k : Fin 2048, f ⟨2576 + k, by omega⟩) = ∑ k, f k := by
  have hg' : ∑ k, g k = ∑ k : Fin 16, f ⟨1536 + k, by omega⟩ := by
    refine (Fin.sum_univ_add (a := 16) (b := 112) g).trans ?_
    have z : ∑ i : Fin 112, g (Fin.natAdd 16 i : Fin (16 + 112)) = 0 := Finset.sum_eq_zero fun i _ => (hg _).trans (dif_neg (by simp))
    rw [z, add_zero]
    exact Finset.sum_congr rfl fun i _ => (hg _).trans (dif_pos i.isLt)
  have e₁ := Fin.sum_univ_add (a := 1536) (b := 3088) f
  have e₂ := Fin.sum_univ_add (a := 16) (b := 3072) fun k => f (Fin.natAdd 1536 k)
  have e₃ := Fin.sum_univ_add (a := 1024) (b := 2048) fun k => f (Fin.natAdd 1536 (Fin.natAdd 16 k))
  refine Eq.trans ?_ (e₁.trans (congrArg _ (e₂.trans (congrArg _ e₃)))).symm
  rw [hg', add_assoc, add_assoc, add_left_comm (∑ k : Fin 1024, f _)]
  refine congrArg₂ _ rfl (congrArg₂ _ rfl (congrArg₂ _ ?_ ?_))
  · exact Finset.sum_congr rfl fun k _ => congrArg f (Fin.ext (by simp; omega))
  · exact Finset.sum_congr rfl fun k _ => congrArg f (Fin.ext (by simp; omega))

end Cert.InProjBwdIdeal.Val
-- ==== Proof.Reads.lean ====
/- A load of what a body has stored, as a load of the stored pieces' contents. -/
module

public import Idealize.ShloMosaic.Lib.Pipeline.ValueKit
public import Idealize.ShloMosaic.Lib.Pipeline.ReadBack
public import Idealize.ShloMosaic.Lib.Pointwise

@[expose] public section

noncomputable section

open Idealize.ShloMosaic

namespace Reads

variable {sig : RefSig} {κ : Kind} {sp : Space} {s : Shape} {e : EltTy} {Val : EltTy → Type}

theorem readCov_ld [∀ e, Nonempty (Val e)] (v : View sig κ sp s e) (L : List (View.Piece Val s e)) (r : Rect s) :
    v.readCov L r.toLoadRect = View.ld (View.canon L) r :=
  View.readCov_eq_canon' v L r.toLoadRect

end Reads
-- ==== Proof.InProjBwdKernel.lean ====
/- The arrays the input projection's backward call leaves.

   Its grid has eight points of 256 rows each. The first point joins the weight's shards in a scratch buffer and every
   point reads them there; a point writes the block of `dx` it computes, and adds its rows to the norm weight's gradient,
   which is written back once, at the end. -/
module

public import proofs.«01_k».proof.Proof.InProjBwdSpec
public import proofs.«01_k».proof.Proof.InProjBwdHost
public import proofs.«01_k».proof.Proof.Reads
public import proofs.«01_k».proof.Proof.Gen.InProjBwdIdeal.Value

@[expose] public section

set_option maxRecDepth 16384

noncomputable section

open Idealize.ShloMosaic Idealize.ShloMosaic.TcCoe Idealize.SL.Sem
open Idealize.ShloMosaic.Pipeline (Dat)

namespace Cert.InProjBwdIdeal.Val

open Cert.InProjBwdIdeal Cert.InProjBwdIdeal.Gen InProjBwdSpec

variable (m : (ℓ : Loc nD τ sig) → Buf (Elt Ideal) ℓ)

/-- Where each window's block lies at point `t`. -/
theorem idx : ∀ t : Fin grid0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 3) = 0 ∧ win0_5.index t (1 : Fin 3) = 0 ∧ win0_5.index t (2 : Fin 3) = 0)
    ∧ (win0_6.index t (0 : Fin 2) = t.val ∧ win0_6.index t (1 : Fin 2) = 0)
    ∧ (win0_7.index t (0 : Fin 2) = 0 ∧ win0_7.index t (1 : Fin 2) = 0) := by
  decide +kernel

/-- Row `r` of point `t`'s block. -/
def rowOf (t : Fin cfg0.N) (r : Fin 256) : Fin 2048 :=
  ⟨256 * t.val + r.val, by have h : t.val < 8 := lt_of_lt_of_eq t.isLt N_0; omega⟩

/-! ## The joined weight -/

theorem shards_block (c : Dev nD) (t : Fin cfg0.N) : iblk m c 5 t = V m c main_v10 := by
  funext y
  blk_ext [iblk, idx t]

/-- Every point finds and leaves the joined weight. -/
theorem scratch_eq (c : Dev nD) : ∀ (n : ℕ) (h : n < cfg0.N), (outsAt0 m c n h).2.2 = joined (V m c main_v10) := by
  intro n
  induction n with
  | zero =>
    intro h
    rw [outsAt0_A m c ⟨0, h⟩ rfl rfl]
    frame_out
    rw [← shards_block m c ⟨0, h⟩]
    exact copies_join _
  | succ n ih =>
    intro h
    have h8 : n + 1 < 8 := lt_of_lt_of_eq h N_0
    have hn : ¬ (n + 1) % 8 = 0 := by omega
    rw [outsAt0_B m c ⟨n + 1, h⟩ hn hn]
    dsimp only
    unfold sout0_B_0
    exact ih _

/-! ## One block -/

/-- The four block products add to the product over all the columns. -/
theorem four_products (dp : Mat 2048 4624) (w : Mat 1024 4624) (R : Fin 2048) (r : Fin 256) (l : Fin 1024)
    {v6 : Vec Ideal S256x1536 .bf16} {v8 : Vec Ideal S1536x1024 .bf16} {v10 : Vec Ideal S256x1024 .bf16}
    {v12 : Vec Ideal S1024x1024 .bf16} {v15 : Vec Ideal S256x128 .bf16} {v17 : Vec Ideal S128x1024 .bf16}
    {v20 : Vec Ideal S256x2048 .bf16} {v22 : Vec Ideal S2048x1024 .bf16}
    (h6 : ∀ k, v6 (ix2 r k) = dp (ix2 R ⟨k, by omega⟩)) (h8 : ∀ k, v8 (ix2 k l) = w (ix2 l ⟨k, by omega⟩))
    (h10 : ∀ k, v10 (ix2 r k) = dp (ix2 R ⟨1552 + k, by omega⟩)) (h12 : ∀ k, v12 (ix2 k l) = w (ix2 l ⟨1552 + k, by omega⟩))
    (h15 : ∀ k, v15 (ix2 r k) = if h : k.val < 16 then dp (ix2 R ⟨1536 + k, by omega⟩) else (0 : EReal))
    (h17 : ∀ k, v17 (ix2 k l) = w (ix2 l ⟨1536 + k, by omega⟩))
    (h20 : ∀ k, v20 (ix2 r k) = dp (ix2 R ⟨2576 + k, by omega⟩)) (h22 : ∀ k, v22 (ix2 k l) = w (ix2 l ⟨2576 + k, by omega⟩)) :
    k0_pay10 v6 v8 v10 v12 v15 v17 v20 v22 (ix2 r l) = dh dp w R l := by
  pointwise [k0_pay10]
  simp only [h6, h8, h10, h12, h15, h17, h20, h22]
  refine sum_columns (fun k => dp (ix2 R k) * w (ix2 l k)) _ fun k => ?_
  by_cases h : k.val < 16
  · rw [dif_pos h, dif_pos h]
  · rw [dif_neg h, dif_neg h, zero_mul]

/-- What point `t` computes of the product, from its blocks and the joined weight. -/
theorem dh_block (c : Dev nD) (t : Fin cfg0.N) : k0_pay10 (F := Ideal)
    (View.ld (Val := Elt Ideal) (e' := .bf16) (S := S256x2688) (iblk m c 0 t) (Rect.unit ![0, 0] ![256, 1536] inb_S256x2688_S256x1536_0_0))
    (View.ld (Val := Elt Ideal) (e' := .bf16) (S := S4624x1024) (joined (V m c main_v10)) (Rect.unit ![0, 0] ![1536, 1024] inb_S4624x1024_S1536x1024_0_0))
    (View.ld (Val := Elt Ideal) (e' := .bf16) (S := S256x2688) (iblk m c 0 t) (Rect.unit ![0, 1536] ![256, 1024] inb_S256x2688_S256x1024_0_1536))
    (View.ld (Val := Elt Ideal) (e' := .bf16) (S := S4624x1024) (joined (V m c main_v10)) (Rect.unit ![1552, 0] ![1024, 1024] inb_S4624x1024_S1024x1024_1552_0))
    (View.ld (Val := Elt Ideal) (e' := .bf16) (S := S256x2688) (iblk m c 0 t) (Rect.unit ![0, 2560] ![256, 128] inb_S256x2688_S256x128_0_2560))
    (View.ld (Val := Elt Ideal) (e' := .bf16) (S := S4624x1024) (joined (V m c main_v10)) (Rect.unit ![1536, 0] ![128, 1024] inb_S4624x1024_S128x1024_1536_0))
    (iblk m c 1 t)
    (View.ld (Val := Elt Ideal) (e' := .bf16) (S := S4624x1024) (joined (V m c main_v10)) (Rect.unit ![2576, 0] ![2048, 1024] inb_S4624x1024_S2048x1024_2576_0))
    = fun y => dh (m ((c : Thread nD τ).loc main_arg4)) (m ((c : Thread nD τ).loc main_arg2)) (rowOf t (y 0)) (y 1) := by
  funext y
  obtain ⟨r, l, rfl⟩ : ∃ r l, y = ix2 r l := ⟨y 0, y 1, (ix2_eta y).symm⟩
  have hw : ∀ (k : Fin 4624) (i : S4624x1024.Idx), i = ix2 k l →
      joined (V m c main_v10) i = m ((c : Thread nD τ).loc main_arg2) (ix2 l k) := by
    rintro k i rfl; exact joined_apply m c k l
  refine four_products _ _ (rowOf t r) r l ?_ ?_ ?_ ?_ ?_ ?_ ?_ ?_ <;> intro k
  · refine Eq.trans ?_ (mix_first m c (rowOf t r) k)
    pointwise
    blk_ext [iblk, idx t, rowOf]
  · pointwise
    refine hw _ _ ?_
    blk_ext
  · refine Eq.trans ?_ (mix_second m c (rowOf t r) k)
    pointwise
    blk_ext [iblk, idx t, rowOf]
  · pointwise
    refine hw _ _ ?_
    blk_ext
  · refine Eq.trans ?_ (mix_third m c (rowOf t r) k)
    pointwise
    blk_ext [iblk, idx t, rowOf]
  · pointwise
    refine hw _ _ ?_
    blk_ext
  · refine Eq.trans ?_ (gate_operand m c (rowOf t r) k)
    blk_ext [iblk, idx t, rowOf]
  · pointwise
    refine hw _ _ ?_
    blk_ext

theorem x_block (c : Dev nD) (t : Fin cfg0.N) (r : Fin 256) (l : Fin 1024) :
    iblk m c 2 t (ix2 r l) = m ((c : Thread nD τ).loc main_arg0) (ix2 (rowOf t r) l) := by
  blk_ext [iblk, V, idx t, rowOf]

theorem d_block (c : Dev nD) (t : Fin cfg0.N) (r : Fin 256) (l : Fin 1024) :
    iblk m c 3 t (ix2 r l) = m ((c : Thread nD τ).loc main_arg3) (ix2 (rowOf t r) l) := by
  blk_ext [iblk, V, idx t, rowOf]

theorem g_block (c : Dev nD) (t : Fin cfg0.N) (l : Fin 1024) :
    iblk m c 4 t (ix2 0 l) = m ((c : Thread nD τ).loc main_arg1) (ix2 0 l) := by
  blk_ext [iblk, V, idx t]

/-- The block of `dx` a point leaves. -/
theorem dx_block (c : Dev nD) (t : Fin cfg0.N) (r : Fin 256) (l : Fin 1024) :
    (outsAt0 m c t.val t.isLt).1 (ix2 r l) = dx (m ((c : Thread nD τ).loc main_arg0)) (m ((c : Thread nD τ).loc main_arg1))
      (m ((c : Thread nD τ).loc main_arg2)) (m ((c : Thread nD τ).loc main_arg3)) (m ((c : Thread nD τ).loc main_arg4))
      (ix2 (rowOf t r) l) := by
  by_cases h : t.val % 8 = 0
  on_goal 1 =>
    rw [outsAt0_A m c t h h]
    frame_out
    rw [Reads.readCov_ld, Reads.readCov_ld, Reads.readCov_ld, Reads.readCov_ld, copies_join, shards_block, dh_block]
  on_goal 2 =>
    rw [outsAt0_B m c t h h]
    frame_out
    rw [scratch_eq, read_unread_whole, dh_block]
  all_goals
    pointwise [k0_pay4, k0_pay2, k0_pay1, k0_pay11]
    simp only [x_block, d_block, g_block]
    rfl

/-- What point `t` adds to the norm weight's gradient. -/
def dgPart (c : Dev nD) (t : Fin cfg0.N) : Mat 1 1024 := fun y => ∑ r : Fin 256,
  dh (m ((c : Thread nD τ).loc main_arg4)) (m ((c : Thread nD τ).loc main_arg2)) (rowOf t r) (y 1)
    * (xRow (m ((c : Thread nD τ).loc main_arg0)) (rowOf t r) (y 1)
      * RealNorm.factor (xRow (m ((c : Thread nD τ).loc main_arg0)) (rowOf t r)))

theorem dg_first (c : Dev nD) (t : Fin cfg0.N) (h : t.val % 8 = 0) (l : Fin 1024) :
    (outsAt0 m c t.val t.isLt).2.1 (ix2 0 l) = 0 + dgPart m c t (ix2 0 l) := by
  rw [outsAt0_A m c t h h]
  frame_out
  rw [Reads.readCov_ld, Reads.readCov_ld, Reads.readCov_ld, Reads.readCov_ld, copies_join, shards_block, dh_block]
  pointwise [k0_pay3, k0_pay9, k0_pay2, k0_pay1, k0_pay11]
  simp only [x_block]
  rfl

theorem dg_next (c : Dev nD) (t : Fin cfg0.N) (h : ¬ t.val % 8 = 0) (l : Fin 1024) :
    (outsAt0 m c t.val t.isLt).2.1 (ix2 0 l) =
      (outsAt0 m c (t.val - 1) (by have := t.isLt; omega)).2.1 (ix2 0 l) + dgPart m c t (ix2 0 l) := by
  rw [outsAt0_B m c t h h]
  frame_out
  rw [scratch_eq, read_unread_whole, dh_block]
  pointwise [k0_pay3, k0_pay2, k0_pay1, k0_pay11]
  simp only [x_block]
  rfl

/-! ## The arrays -/

theorem final_dx (c : Dev nD) : (dats m 0 c).arrAt 6 cfg0.N = dx (m ((c : Thread nD τ).loc main_arg0))
    (m ((c : Thread nD τ).loc main_arg1)) (m ((c : Thread nD τ).loc main_arg2)) (m ((c : Thread nD τ).loc main_arg3))
    (m ((c : Thread nD τ).loc main_arg4)) := by
  refine (dats m 0 c).arrAt_eq_of_covers 6 _ (by decide +kernel) fun t hf y => ?_
  blk_simp
  rw [after0_6]
  obtain ⟨r, l, rfl⟩ : ∃ r l, y = ix2 r l := ⟨y 0, y 1, (ix2_eta y).symm⟩
  rw [dx_block]
  blk_ext [idx t, rowOf]

theorem final_dg (c : Dev nD) : (dats m 0 c).arrAt 7 cfg0.N = dg (m ((c : Thread nD τ).loc main_arg0))
    (m ((c : Thread nD τ).loc main_arg2)) (m ((c : Thread nD τ).loc main_arg4)) := by
  refine (dats m 0 c).arrAt_eq_of_after_last 7 t0_7 (by decide +kernel) _ fun y => ?_
  blk_simp
  rw [after0_7]
  obtain ⟨l, rfl⟩ : ∃ l, y = ix2 0 l := ⟨y 1, by rw [← ix2_eta y]; congr 1; exact Subsingleton.elim _ _⟩
  refine (Pipeline.eq_sum_fin_of_reset_step_apply_last (fun n h l => (outsAt0 m c n h).2.1 (ix2 0 l)) 8 (fun _ => 0)
    (fun t l => dgPart m c t (ix2 0 l)) (fun t h l => dg_first m c t h l) (fun t h l => dg_next m c t h l)
    (by decide) t0_7 rfl l).trans ?_
  rw [zero_add]
  refine Fin.sum_mul_add_congr (S := 8) (n := 256) fun t r hl => ?_
  have e : rowOf t r = ⟨t.val * 256 + r.val, hl⟩ := Fin.ext (by simp only [rowOf]; omega)
  rw [← e]
  rfl

end Cert.InProjBwdIdeal.Val
-- ==== Proof.InProjBwdReference.lean ====
/- What the reference of the input projection's backward call computes, and that it is what the kernel computes.

   The reference is the chain rule through the norm and the projection, one operation at a time. The norm weight's
   gradient is the kernel's sum with its factors in another order. The cotangent of `x` differs from the kernel's by the
   identity between the two ways to write the norm's derivative, which holds at reals. -/
module

public import proofs.«01_k».proof.Proof.InProjBwdSpec
public import proofs.«01_k».proof.Proof.Gen.InProjBwdRefIdeal.Read

@[expose] public section

set_option maxRecDepth 16384

noncomputable section

open Idealize.ShloMosaic Idealize.ShloMosaic.TcCoe Idealize.SL.Sem

namespace InProjBwdReference

open Cert.InProjBwdRefIdeal Cert.InProjBwdRefIdeal.Read InProjBwdSpec

variable (x : Mat 2048 1024) (g : Mat 1 1024) (w : Mat 1024 4624) (d : Mat 2048 1024) (dp : Mat 2048 4624)

/-- The chain rule at an entry of `x`. -/
theorem dx_reference (r : Fin 2048) (l : Fin 1024) : val_main_v36 (F := Ideal) x g w d dp (ix2 r l) =
    d (ix2 r l) + gRow g w dp r l * RealNorm.factor (xRow x r) + x (ix2 r l) * RealNorm.chain (xRow x r) (gRow g w dp r)
      + RealNorm.chain (xRow x r) (gRow g w dp r) * x (ix2 r l) := by
  pointwise [val_main_v0, val_main_cst, val_main_v1, val_main_v2, val_main_cst_0, val_main_v3, val_main_v4, val_main_cst_1,
      val_main_v5, val_main_v6, val_main_v7, val_main_v8, val_main_cst_2, val_main_v9, val_main_v10, val_main_v11,
      val_main_v12, val_main_v13, val_main_v14, val_main_v15, val_main_v16, val_main_v17, val_main_cst_3,
      val_main_v18, val_main_v19, val_main_v20, val_main_v21, val_main_v22, val_main_cst_4, val_main_v23,
      val_main_v24, val_main_v25, val_main_v26, val_main_v27, val_main_v28, val_main_cst_5, val_main_v29,
      val_main_v30, val_main_cst_6, val_main_v31, val_main_v32, val_main_v33, val_main_v34, val_main_v35,
      val_main_v36]
  simp only [Fin.sum_univ_one]
  rfl

/-- The norm weight's gradient. -/
theorem dg_reference : val_main_v19 (F := Ideal) x w dp = dg x w dp := by
  funext y
  obtain ⟨l, rfl⟩ : ∃ l, y = ix2 0 l := ⟨y 1, by rw [← ix2_eta y]; congr 1; exact Subsingleton.elim _ _⟩
  pointwise [val_main_v0, val_main_cst, val_main_v1, val_main_v2, val_main_cst_0, val_main_v3, val_main_v4, val_main_cst_1,
      val_main_v5, val_main_v6, val_main_v7, val_main_v8, val_main_cst_2, val_main_v9, val_main_v10, val_main_v11,
      val_main_v12, val_main_v13, val_main_v14, val_main_v15, val_main_v16, val_main_v17, val_main_cst_3,
      val_main_v18, val_main_v19, val_main_v20, val_main_v21, val_main_v22, val_main_cst_4, val_main_v23,
      val_main_v24, val_main_v25, val_main_v26, val_main_v27, val_main_v28, val_main_cst_5, val_main_v29,
      val_main_v30, val_main_cst_6, val_main_v31, val_main_v32, val_main_v33, val_main_v34, val_main_v35,
      val_main_v36]
  exact Finset.sum_congr rfl fun r _ => mul_comm _ _

/-- At reals the cotangent of `x` is the kernel's. -/
theorem dx_eq (X : (⟨2, ![2048, 1024]⟩ : Shape).Idx → ℝ) (G : (⟨2, ![1, 1024]⟩ : Shape).Idx → ℝ)
    (W : (⟨2, ![1024, 4624]⟩ : Shape).Idx → ℝ) (P : (⟨2, ![2048, 4624]⟩ : Shape).Idx → ℝ) :
    val_main_v36 (F := Ideal) (fun i => (X i : EReal)) (fun i => (G i : EReal)) (fun i => (W i : EReal)) d
        (fun i => (P i : EReal))
      = dx (fun i => (X i : EReal)) (fun i => (G i : EReal)) (fun i => (W i : EReal)) d (fun i => (P i : EReal)) := by
  funext y
  obtain ⟨r, l, rfl⟩ : ∃ r l, y = ix2 r l := ⟨y 0, y 1, (ix2_eta y).symm⟩
  have hg : gRow (fun i => (G i : EReal)) (fun i => (W i : EReal)) (fun i => (P i : EReal)) r
      = fun l => (((∑ k, P (ix2 r k) * W (ix2 l k)) * G (ix2 0 l) : ℝ) : EReal) := by
    funext l
    simp only [gRow, dh, ← EReal.coe_mul, RealNorm.coe_sum]
  have hx : xRow (fun i => (X i : EReal)) r = fun l => (X (ix2 r l) : EReal) := rfl
  have h := RealNorm.bwd_eq_chain (fun l => X (ix2 r l)) (fun l => (∑ k, P (ix2 r k) * W (ix2 l k)) * G (ix2 0 l)) l
  rw [dx_reference, hg, hx, add_assoc, add_assoc]
  refine (congrArg (d (ix2 r l) + ·) h.symm).trans ?_
  show _ = d (ix2 r l) + RealNorm.bwd (xRow _ r) (gRow _ _ _ r) l
  rw [hg, hx]

end InProjBwdReference
-- ==== Proof.InProjBwdClaim.lean ====
/- The claim of the input projection's backward call: the kernel's run and the reference's leave the same arrays. -/
module

public import proofs.«01_k».proof.Defs
public import proofs.«01_k».proof.Proof.Gen.Pre_in_proj_bwd_finite
public import proofs.«01_k».proof.Proof.InProjBwdKernel
public import proofs.«01_k».proof.Proof.InProjBwdReference
public import proofs.«01_k».proof.Proof.Gen.InProjBwdRefIdeal.Run

@[expose] public section

noncomputable section

open Idealize.ShloMosaic Idealize.ShloMosaic.TcCoe Idealize.SL.Sem

namespace InProjBwdClaim

open Cert Cert.InProjBwdIdeal

theorem values : Cert.algebraic_InProjBwdIdeal_InProjBwdRefIdeal_pre_in_proj_bwd_finite := by
  intro m g m' g' hp ha
  refine ⟨fun c => InProjBwdSpec.dx (m ((c : Thread nD τ).loc main_arg0)) (m ((c : Thread nD τ).loc main_arg1))
      (m ((c : Thread nD τ).loc main_arg2)) (m ((c : Thread nD τ).loc main_arg3)) (m ((c : Thread nD τ).loc main_arg4)),
    fun c => InProjBwdSpec.dg (m ((c : Thread nD τ).loc main_arg0)) (m ((c : Thread nD τ).loc main_arg2))
      (m ((c : Thread nD τ).loc main_arg4)), ?_, ?_⟩
  · refine (θ_run _ _ _).mono (fun r h c => ?_) (InProjBwdIdeal.Value.run_blocks m g)
    have h := h c
    rw [InProjBwdIdeal.Val.final_dx, InProjBwdIdeal.Val.final_dg] at h
    exact h
  · refine (θ_run _ _ _).mono (fun r h c => ?_) (InProjBwdRefIdeal.Value.run m' g')
    have hf := hp c
    obtain ⟨X, hX⟩ := RealNorm.exists_reals _ fun i => congrFun hf.1 i
    obtain ⟨G, hG⟩ := RealNorm.exists_reals _ fun i => congrFun hf.2.1 i
    obtain ⟨W, hW⟩ := RealNorm.exists_reals _ fun i => congrFun hf.2.2.1 i
    obtain ⟨P, hP⟩ := RealNorm.exists_reals _ fun i => congrFun hf.2.2.2 i
    have h := h c
    rw [InProjBwdRefIdeal.Read.val_main_v36_eq, InProjBwdRefIdeal.Read.val_main_v19_eq] at h
    obtain ⟨a0, a1, a2, a3, a4⟩ := ha c
    refine ⟨h.1.trans ?_, h.2.1.trans ?_, h.2.2⟩
    · rw [a0, a1, a2, a3, a4]
      dsimp only
      rw [hX, hG, hW, hP]
      exact InProjBwdReference.dx_eq _ X G W P
    · rw [a0, a2, a4]
      exact InProjBwdReference.dg_reference _ _ _

end InProjBwdClaim
-- ==== Proof.MlpSpec.lean ====
/- What the channel mixer's call computes, as a function of its arguments.

   Every result but the three sums over the tokens is a function of one token's row `a` of the residual stream and one row
   `b` of the target: the normalised row `h2`, the activation `u` (the square of the positive part of `h2` times the first
   weight), the product `d` with the second weight, the loss's cotangent `dy`, and from it, backwards, the cotangents of
   `d`, of the first product, of `h2` and of the row. -/
module

public import proofs.«01_k».proof.Proof.RealNorm

@[expose] public section

noncomputable section

open Idealize.ShloMosaic

namespace MlpSpec

abbrev Mat (a b : ℕ) := (⟨2, ![a, b]⟩ : Shape).Idx → EReal

/-- The weights: of the two norms, and of the two products. -/
structure Weights where
  pre : Fin 1024 → EReal
  post : Fin 1024 → EReal
  up : Mat 1024 4096
  down : Mat 4096 1024

/-- `1 / 1024` and `1 / 2048`, as floats. -/
def perEntry : EReal := Ideal.ofBits .f32 981467136#32
def halfPerEntry : EReal := Ideal.ofBits .f32 973078528#32
def two : EReal := Ideal.ofBits .f32 1073741824#32

variable (w : Weights) (a b : Fin 1024 → EReal)

def h2 (l : Fin 1024) : EReal := a l * RealNorm.factor a * w.pre l
def act (k : Fin 4096) : EReal := max (∑ l, h2 w a l * w.up (ix2 l k)) 0
def u (k : Fin 4096) : EReal := act w a k * act w a k
def d (l : Fin 1024) : EReal := ∑ k, u w a k * w.down (ix2 k l)
def dn (l : Fin 1024) : EReal := d w a l * RealNorm.factor (d w a)
def diff (l : Fin 1024) : EReal := a l + dn w a l * w.post l - b l
def dy (l : Fin 1024) : EReal := diff w a b l * perEntry
def dd : Fin 1024 → EReal := RealNorm.bwd (d w a) fun l => dy w a b l * w.post l
def dpre (k : Fin 4096) : EReal := (∑ l, dd w a b l * w.down (ix2 k l)) * (two * act w a k)
def dh2 (l : Fin 1024) : EReal := ∑ k, dpre w a b k * w.up (ix2 l k)
def dx1 (l : Fin 1024) : EReal := dy w a b l + RealNorm.bwd a (fun l => dh2 w a b l * w.pre l) l

/-! ## The arrays -/

def weights (g2 g3 : Mat 1 1024) (wu : Mat 1024 4096) (wd : Mat 4096 1024) : Weights :=
  ⟨fun l => g2 (ix2 0 l), fun l => g3 (ix2 0 l), wu, wd⟩

def row (x : Mat 2048 1024) (r : Fin 2048) : Fin 1024 → EReal := fun l => x (ix2 r l)

variable (x t : Mat 2048 1024)

def dx1Of : Mat 2048 1024 := fun y => dx1 w (row x (y 0)) (row t (y 0)) (y 1)
def uOf : Mat 2048 4096 := fun y => u w (row x (y 0)) (y 1)
def ddOf : Mat 2048 1024 := fun y => dd w (row x (y 0)) (row t (y 0)) (y 1)
def h2Of : Mat 2048 1024 := fun y => h2 w (row x (y 0)) (y 1)
def dpreOf : Mat 2048 4096 := fun y => dpre w (row x (y 0)) (row t (y 0)) (y 1)
def dpostOf : Mat 1 1024 := fun y => ∑ r, dy w (row x r) (row t r) (y 1) * dn w (row x r) (y 1)
def dpreNormOf : Mat 1 1024 := fun y => ∑ r, dh2 w (row x r) (row t r) (y 1) * (row x r (y 1) * RealNorm.factor (row x r))
def lossOf : Mat 1 128 := fun _ => ∑ s : Fin 8, (∑ r : Fin 256, ∑ l, diff w (row x ⟨256 * s.val + r.val, by omega⟩)
    (row t ⟨256 * s.val + r.val, by omega⟩) l * diff w (row x ⟨256 * s.val + r.val, by omega⟩)
    (row t ⟨256 * s.val + r.val, by omega⟩) l) * halfPerEntry

end MlpSpec
-- ==== Proof.MlpBlock.lean ====
/- What one point of the channel mixer's call computes from its blocks.

   The first weight is read in four shards of 1024 columns, the second in eight of 512 rows; the sums over the shards
   make up the sums over the whole axes. -/
module

public import proofs.«01_k».proof.Proof.MlpSpec
public import proofs.«01_k».proof.Proof.Gen.MlpIdeal.Value

@[expose] public section

set_option maxRecDepth 16384

noncomputable section

open Idealize.ShloMosaic Idealize.ShloMosaic.TcCoe Idealize.SL.Sem

namespace MlpBlock

open Cert.MlpIdeal Cert.MlpIdeal.Gen MlpSpec

/-- Column `k` of shard `j`. -/
def col (j : Fin 4) (k : Fin 1024) : Fin 4096 := ⟨1024 * j.val + k.val, by omega⟩

/-- Row `k` of the first and of the second half of shard `j`. -/
def low (k : Fin 512) : Fin 1024 := ⟨k.val, by omega⟩
def high (k : Fin 512) : Fin 1024 := ⟨512 + k.val, by omega⟩

theorem sum_shards (f : Fin 4096 → EReal) :
    ∑ k, f k = ∑ k, f (col 0 k) + ∑ k, f (col 1 k) + ∑ k, f (col 2 k) + ∑ k, f (col 3 k) := by
  refine (Fin.sum_mul_add_congr (S := 4) (n := 1024) (F := fun j k => f (col j k)) fun j k hl => ?_).symm.trans
    (Fin.sum_univ_four _)
  exact congrArg f (Fin.ext (by simp only [col]; omega))

theorem sum_halves (f : Fin 1024 → EReal) : ∑ k, f k = ∑ k, f (low k) + ∑ k, f (high k) := by
  refine (Fin.sum_mul_add_congr (S := 2) (n := 512) (F := fun j k => f ⟨512 * j.val + k.val, by omega⟩)
    fun j k hl => ?_).symm.trans ((Fin.sum_univ_two _).trans ?_)
  · exact congrArg f (Fin.ext (by show 512 * j.val + k.val = j.val * 512 + k.val; omega))
  · congr 1
    all_goals exact Finset.sum_congr rfl fun k _ => congrArg f (Fin.ext (by simp [low]))

variable (w : Weights) (A B : Fin 256 → Fin 1024 → EReal)

/-- The blocks, as the rows they hold. -/
def rows : Vec Ideal S256x1024 .f32 := fun y => A (y 0) (y 1)
def vec (g : Fin 1024 → EReal) : Vec Ideal S1x1024 .f32 := fun y => g (y 1)
def upShard (j : Fin 4) : Vec Ideal S1x1024x1024 .bf16 := fun y => w.up (ix2 (y 1) (col j (y 2)))
def downLow (j : Fin 4) : Vec Ideal S1x512x1024 .bf16 := fun y => w.down (ix2 (col j (low (y 1))) (y 2))
def downHigh (j : Fin 4) : Vec Ideal S1x512x1024 .bf16 := fun y => w.down (ix2 (col j (high (y 1))) (y 2))

def h2B : Vec Ideal S256x1024 .bf16 := fun y => h2 w (A (y 0)) (y 1)
def actB (j : Fin 4) : Vec Ideal S256x1024 .f32 := fun y => act w (A (y 0)) (col j (y 1))
def uB (j : Fin 4) : Vec Ideal S256x1024 .bf16 := fun y => u w (A (y 0)) (col j (y 1))

theorem norm_factor : k0_pay8 (F := Ideal) (rows A) = fun y => RealNorm.factor (A (y 0)) := by
  funext y
  obtain ⟨r, l, rfl⟩ : ∃ r l, y = ix2 r l := ⟨y 0, y 1, (ix2_eta y).symm⟩
  pointwise [k0_pay8]
  rfl

theorem normed : k0_pay9 (F := Ideal) (rows A) = fun y => A (y 0) (y 1) * RealNorm.factor (A (y 0)) := by
  funext y
  obtain ⟨r, l, rfl⟩ : ∃ r l, y = ix2 r l := ⟨y 0, y 1, (ix2_eta y).symm⟩
  pointwise [k0_pay9, k0_pay8]
  rfl

theorem scaled : k0_pay10 (F := Ideal) (rows A) (vec w.pre) = h2B w A := by
  funext y
  obtain ⟨r, l, rfl⟩ : ∃ r l, y = ix2 r l := ⟨y 0, y 1, (ix2_eta y).symm⟩
  pointwise [k0_pay10, k0_pay9, k0_pay8]
  rfl

theorem act_zero : k0_pay12 (F := Ideal) (rows A) (vec w.pre) (upShard w 0) = actB w A 0 := by
  unfold k0_pay12
  rw [scaled]
  funext y
  obtain ⟨r, l, rfl⟩ : ∃ r l, y = ix2 r l := ⟨y 0, y 1, (ix2_eta y).symm⟩
  pointwise
  rfl

theorem act_next (j : Fin 4) : k0_pay16 (F := Ideal) (h2B w A) (upShard w j) = actB w A j := by
  funext y
  obtain ⟨r, l, rfl⟩ : ∃ r l, y = ix2 r l := ⟨y 0, y 1, (ix2_eta y).symm⟩
  pointwise [k0_pay16]
  rfl

theorem act_next' (j : Fin 4) : k0_pay19 (F := Ideal) (h2B w A) (upShard w j) = actB w A j := act_next w A j
theorem act_last (j : Fin 4) : k0_pay21 (F := Ideal) (h2B w A) (upShard w j) = actB w A j := act_next w A j

theorem u_zero : k0_pay13 (F := Ideal) (rows A) (vec w.pre) (upShard w 0) = uB w A 0 := by
  unfold k0_pay13
  rw [act_zero]
  rfl

theorem u_next (j : Fin 4) : k0_pay17 (F := Ideal) (h2B w A) (upShard w j) = uB w A j := by
  unfold k0_pay17
  rw [act_next]
  rfl

theorem u_next' (j : Fin 4) : k0_pay20 (F := Ideal) (h2B w A) (upShard w j) = uB w A j := u_next w A j
theorem u_last (j : Fin 4) : k0_pay22 (F := Ideal) (h2B w A) (upShard w j) = uB w A j := u_next w A j

/-! ## The second product -/

/-- What shard `j` adds to an entry of the second product. -/
def dPart (j : Fin 4) (a : Fin 1024 → EReal) (l : Fin 1024) : EReal := ∑ k, u w a (col j k) * w.down (ix2 (col j k) l)

theorem d_parts (a : Fin 1024 → EReal) (l : Fin 1024) :
    d w a l = dPart w 0 a l + dPart w 1 a l + dPart w 2 a l + dPart w 3 a l := sum_shards _

theorem d_two : k0_pay18 (F := Ideal) (h2B w A) k0_pay11 (uB w A 0)
      (k0_pay14 (rows A) (vec w.pre) (upShard w 0)) (k0_pay15 (downLow w 0)) (downHigh w 0) (upShard w 1) (downLow w 1) (downHigh w 1)
    = fun y => dPart w 0 (A (y 0)) (y 1) + dPart w 1 (A (y 0)) (y 1) := by
  unfold k0_pay18 k0_pay14
  rw [u_zero, u_next]
  funext y
  obtain ⟨r, l, rfl⟩ : ∃ r l, y = ix2 r l := ⟨y 0, y 1, (ix2_eta y).symm⟩
  pointwise [k0_pay11, k0_pay15]
  simp only [dPart]
  rw [sum_halves, sum_halves, ← add_assoc]
  rfl

theorem d_four (D : Vec Ideal S256x1024 .f32)
    (hD : D = fun y => dPart w 0 (A (y 0)) (y 1) + dPart w 1 (A (y 0)) (y 1)) :
    k0_pay23 (F := Ideal) (h2B w A) D (uB w A 2) (downLow w 2) (downHigh w 2) (upShard w 3) (downLow w 3) (downHigh w 3)
    = rows fun r => d w (A r) := by
  unfold k0_pay23
  rw [u_last, hD]
  funext y
  obtain ⟨r, l, rfl⟩ : ∃ r l, y = ix2 r l := ⟨y 0, y 1, (ix2_eta y).symm⟩
  pointwise
  show _ = d w (A r) l
  rw [d_parts]
  simp only [dPart]
  rw [sum_halves (fun k => u w (A r) (col 2 k) * _), sum_halves (fun k => u w (A r) (col 3 k) * _), ← add_assoc, ← add_assoc]
  rfl

/-- The sum of the squares of a row of the second product. -/
def sqB : Vec Ideal S256x1 .f32 := fun y => ∑ l, d w (A (y 0)) l * d w (A (y 0)) l

theorem d_squares (D : Vec Ideal S256x1024 .f32)
    (hD : D = fun y => dPart w 0 (A (y 0)) (y 1) + dPart w 1 (A (y 0)) (y 1)) :
    k0_pay24 (F := Ideal) (h2B w A) D (uB w A 2) (downLow w 2) (downHigh w 2) (upShard w 3) (downLow w 3) (downHigh w 3)
    = sqB w A := by
  unfold k0_pay24
  rw [d_four w A D hD]
  funext y
  obtain ⟨r, l, rfl⟩ : ∃ r l, y = ix2 r l := ⟨y 0, y 1, (ix2_eta y).symm⟩
  pointwise
  rfl

/-! ## The loss, and its cotangent back to the second product -/

/-- The factors of the rows of the second product. -/
def factorB : Vec Ideal S256x1 .f32 := fun y => RealNorm.factor (d w (A (y 0)))

theorem d_factor : k0_pay26 (F := Ideal) (sqB w A) k0_pay25 = factorB w A := by
  funext y
  obtain ⟨r, l, rfl⟩ : ∃ r l, y = ix2 r l := ⟨y 0, y 1, (ix2_eta y).symm⟩
  pointwise [k0_pay26, k0_pay25]
  rfl

theorem d_normed : k0_pay27 (F := Ideal) (rows fun r => d w (A r)) (sqB w A) k0_pay25 = rows fun r => dn w (A r) := by
  unfold k0_pay27
  rw [d_factor]
  funext y
  obtain ⟨r, l, rfl⟩ : ∃ r l, y = ix2 r l := ⟨y 0, y 1, (ix2_eta y).symm⟩
  pointwise
  rfl

theorem difference : k0_pay28 (F := Ideal) (rows A) (vec w.post) (rows fun r => d w (A r)) (sqB w A) k0_pay25 (rows B)
    = rows fun r => diff w (A r) (B r) := by
  unfold k0_pay28
  rw [d_normed]
  funext y
  obtain ⟨r, l, rfl⟩ : ∃ r l, y = ix2 r l := ⟨y 0, y 1, (ix2_eta y).symm⟩
  pointwise
  rfl

theorem loss_cotangent :
    k0_pay30 (F := Ideal) (rows A) (vec w.post) (rows fun r => d w (A r)) (sqB w A) k0_pay25 (rows B)
    = rows fun r => dy w (A r) (B r) := by
  unfold k0_pay30
  rw [difference]
  funext y
  obtain ⟨r, l, rfl⟩ : ∃ r l, y = ix2 r l := ⟨y 0, y 1, (ix2_eta y).symm⟩
  pointwise
  rfl

theorem loss_step (acc : Vec Ideal S1x128 .f32) (l : Fin 128) :
    k0_pay29 (F := Ideal) (rows A) (vec w.post) (rows fun r => d w (A r)) (sqB w A) k0_pay25 (rows B) acc (ix2 0 l)
    = acc (ix2 0 l) + (∑ r, ∑ l, diff w (A r) (B r) l * diff w (A r) (B r) l) * halfPerEntry := by
  unfold k0_pay29
  rw [difference]
  pointwise
  rfl

theorem post_step (acc : Vec Ideal S1x1024 .f32) (l : Fin 1024) :
    k0_pay31 (F := Ideal) (rows A) (vec w.post) (rows fun r => d w (A r)) (sqB w A) k0_pay25 (rows B) acc (ix2 0 l)
    = acc (ix2 0 l) + ∑ r, dy w (A r) (B r) l * dn w (A r) l := by
  unfold k0_pay31
  rw [loss_cotangent, d_normed]
  pointwise
  rfl

def dyPostB : Vec Ideal S256x1024 .f32 := fun y => dy w (A (y 0)) (B (y 0)) (y 1) * w.post (y 1)

theorem cotangent_scaled :
    k0_pay32 (F := Ideal) (rows A) (vec w.post) (rows fun r => d w (A r)) (sqB w A) k0_pay25 (rows B) = dyPostB w A B := by
  unfold k0_pay32
  rw [loss_cotangent]
  funext y
  obtain ⟨r, l, rfl⟩ : ∃ r l, y = ix2 r l := ⟨y 0, y 1, (ix2_eta y).symm⟩
  pointwise
  rfl

def meanB : Vec Ideal S256x1024 .f32 := fun y =>
  Ideal.div (∑ l, dn w (A (y 0)) l * (dy w (A (y 0)) (B (y 0)) l * w.post l)) (Ideal.ofBits .f32 1149239296#32)

theorem cotangent_mean :
    k0_pay33 (F := Ideal) (rows A) (vec w.post) (rows fun r => d w (A r)) (sqB w A) k0_pay25 (rows B) = meanB w A B := by
  unfold k0_pay33
  rw [d_normed, cotangent_scaled]
  funext y
  obtain ⟨r, l, rfl⟩ : ∃ r l, y = ix2 r l := ⟨y 0, y 1, (ix2_eta y).symm⟩
  pointwise
  rfl

def ddB : Vec Ideal S256x1024 .bf16 := fun y => dd w (A (y 0)) (B (y 0)) (y 1)

theorem d_cotangent :
    k0_pay34 (F := Ideal) (factorB w A) (rows fun r => dn w (A r)) (dyPostB w A B) (meanB w A B) = ddB w A B := by
  funext y
  obtain ⟨r, l, rfl⟩ : ∃ r l, y = ix2 r l := ⟨y 0, y 1, (ix2_eta y).symm⟩
  pointwise [k0_pay34]
  rfl

/-! ## Back through the products -/

def duB (j : Fin 4) : Vec Ideal S256x1024 .f32 := fun y => ∑ l, dd w (A (y 0)) (B (y 0)) l * w.down (ix2 (col j (y 1)) l)
def dpreB (j : Fin 4) : Vec Ideal S256x1024 .bf16 := fun y => dpre w (A (y 0)) (B (y 0)) (col j (y 1))

def dhPart (j : Fin 4) (a b : Fin 1024 → EReal) (l : Fin 1024) : EReal := ∑ k, dpre w a b (col j k) * w.up (ix2 l (col j k))

theorem dh_parts (a b : Fin 1024 → EReal) (l : Fin 1024) :
    dh2 w a b l = dhPart w 0 a b l + dhPart w 1 a b l + dhPart w 2 a b l + dhPart w 3 a b l := sum_shards _

/-- The two halves of a shard's columns, joined. -/
theorem du_halves (j : Fin 4) (r : Fin 256) (l : Fin 1024) :
    (if h : l.val < 512 then ∑ x, ddB w A B (ix2 r x) * downLow w j (ix3 0 ⟨l.val, h⟩ x)
      else ∑ x, ddB w A B (ix2 r x) * downHigh w j (ix3 0 ⟨l.val - 512, by omega⟩ x)) = duB w A B j (ix2 r l) := by
  split
  · rfl
  · have e : high ⟨l.val - 512, by omega⟩ = l := Fin.ext (by show 512 + (l.val - 512) = l.val; omega)
    refine Finset.sum_congr rfl fun x _ => ?_
    show _ * w.down (ix2 (col j (high ⟨l.val - 512, _⟩)) x) = _ * w.down (ix2 (col j l) x)
    rw [e]
    rfl

theorem du_one (j : Fin 4) : k0_pay37 (F := Ideal) (factorB w A) (rows fun r => dn w (A r)) (dyPostB w A B) (meanB w A B)
    (downLow w j) (downHigh w j) = duB w A B j := by
  unfold k0_pay37
  rw [d_cotangent]
  funext y
  obtain ⟨r, l, rfl⟩ : ∃ r l, y = ix2 r l := ⟨y 0, y 1, (ix2_eta y).symm⟩
  pointwise
  exact du_halves w A B j r l

theorem dpre_zero : k0_pay35 (F := Ideal) (actB w A 0) (factorB w A) (rows fun r => dn w (A r)) (dyPostB w A B) (meanB w A B)
    (downLow w 0) (downHigh w 0) = dpreB w A B 0 := by
  unfold k0_pay35
  rw [d_cotangent]
  funext y
  obtain ⟨r, l, rfl⟩ : ∃ r l, y = ix2 r l := ⟨y 0, y 1, (ix2_eta y).symm⟩
  pointwise
  rw [du_halves]
  rfl

theorem dh_zero : k0_pay36 (F := Ideal) (actB w A 0) (factorB w A) (rows fun r => dn w (A r)) (dyPostB w A B) (meanB w A B)
    (downLow w 0) (downHigh w 0) (upShard w 0) = rows fun r => dhPart w 0 (A r) (B r) := by
  unfold k0_pay36
  rw [dpre_zero]
  funext y
  obtain ⟨r, l, rfl⟩ : ∃ r l, y = ix2 r l := ⟨y 0, y 1, (ix2_eta y).symm⟩
  pointwise
  rfl

theorem dpre_one : k0_pay39 (F := Ideal) (actB w A 1) (duB w A B 1) k0_pay38 = dpreB w A B 1 := by
  funext y
  obtain ⟨r, l, rfl⟩ : ∃ r l, y = ix2 r l := ⟨y 0, y 1, (ix2_eta y).symm⟩
  pointwise [k0_pay39, k0_pay38]
  rfl

theorem dpre_two : k0_pay40 (F := Ideal) (actB w A 2) (ddB w A B) (downLow w 2) (downHigh w 2) = dpreB w A B 2 := by
  funext y
  obtain ⟨r, l, rfl⟩ : ∃ r l, y = ix2 r l := ⟨y 0, y 1, (ix2_eta y).symm⟩
  pointwise [k0_pay40]
  rw [du_halves]
  rfl

theorem dh_three : k0_pay41 (F := Ideal) (actB w A 1) (actB w A 2) (ddB w A B) (rows fun r => dhPart w 0 (A r) (B r))
      (duB w A B 1) k0_pay38 (upShard w 1) (downLow w 2) (downHigh w 2) (upShard w 2)
    = rows fun r l => dhPart w 0 (A r) (B r) l + dhPart w 1 (A r) (B r) l + dhPart w 2 (A r) (B r) l := by
  unfold k0_pay41
  rw [dpre_one, dpre_two]
  funext y
  obtain ⟨r, l, rfl⟩ : ∃ r l, y = ix2 r l := ⟨y 0, y 1, (ix2_eta y).symm⟩
  pointwise
  rfl

theorem dpre_three : k0_pay1 (F := Ideal) (actB w A 3) (ddB w A B) (k0_pay42 (ddB w A B) (downLow w 3))
    (k0_pay43 (downHigh w 3)) (constant S256x512 .f32 0x00000000#32) = dpreB w A B 3 := by
  funext y
  obtain ⟨r, l, rfl⟩ : ∃ r l, y = ix2 r l := ⟨y 0, y 1, (ix2_eta y).symm⟩
  pointwise [k0_pay1, k0_pay42, k0_pay43]
  rw [du_halves]
  rfl

theorem dh_four : k0_pay2 (F := Ideal) (actB w A 3) (ddB w A B)
      (rows fun r l => dhPart w 0 (A r) (B r) l + dhPart w 1 (A r) (B r) l + dhPart w 2 (A r) (B r) l)
      (k0_pay42 (ddB w A B) (downLow w 3)) (k0_pay43 (downHigh w 3)) (constant S256x512 .f32 0x00000000#32) (upShard w 3)
    = rows fun r => dh2 w (A r) (B r) := by
  unfold k0_pay2
  rw [dpre_three]
  funext y
  obtain ⟨r, l, rfl⟩ : ∃ r l, y = ix2 r l := ⟨y 0, y 1, (ix2_eta y).symm⟩
  pointwise
  show _ = dh2 w (A r) (B r) l
  rw [dh_parts]
  rfl

theorem pre_step (acc : Vec Ideal S1x1024 .f32) (l : Fin 1024) :
    k0_pay3 (F := Ideal) (k0_pay9 (rows A)) (actB w A 3) (ddB w A B)
      (rows fun r l => dhPart w 0 (A r) (B r) l + dhPart w 1 (A r) (B r) l + dhPart w 2 (A r) (B r) l)
      (k0_pay42 (ddB w A B) (downLow w 3)) (k0_pay43 (downHigh w 3)) (constant S256x512 .f32 0x00000000#32) (upShard w 3)
      acc (ix2 0 l)
    = acc (ix2 0 l) + ∑ r, dh2 w (A r) (B r) l * (A r l * RealNorm.factor (A r)) := by
  unfold k0_pay3
  rw [dh_four, normed]
  pointwise
  rfl

theorem x_cotangent :
    k0_pay4 (F := Ideal) (vec w.pre) (k0_pay8 (rows A)) (k0_pay9 (rows A)) (actB w A 3) (rows fun r => dy w (A r) (B r))
      (ddB w A B) (rows fun r l => dhPart w 0 (A r) (B r) l + dhPart w 1 (A r) (B r) l + dhPart w 2 (A r) (B r) l)
      (k0_pay42 (ddB w A B) (downLow w 3)) (k0_pay43 (downHigh w 3)) (constant S256x512 .f32 0x00000000#32) (upShard w 3)
    = rows fun r => dx1 w (A r) (B r) := by
  unfold k0_pay4
  rw [dh_four, normed, norm_factor]
  funext y
  obtain ⟨r, l, rfl⟩ : ∃ r l, y = ix2 r l := ⟨y 0, y 1, (ix2_eta y).symm⟩
  pointwise
  rfl

end MlpBlock
-- ==== Proof.MlpKernel.lean ====
/- The arrays the channel mixer's call leaves.

   Its grid has eight points of 256 tokens each. A point writes its rows of five results and adds its rows to the loss and
   to the two norm weights' gradients, which are written back once, at the end. -/
module

public import proofs.«01_k».proof.Proof.MlpBlock

@[expose] public section

set_option maxRecDepth 16384

noncomputable section

open Idealize.ShloMosaic Idealize.ShloMosaic.TcCoe Idealize.SL.Sem
open Idealize.ShloMosaic.Pipeline (Dat)

namespace Cert.MlpIdeal.Val

open Cert.MlpIdeal Cert.MlpIdeal.Gen MlpSpec MlpBlock

variable (m : (ℓ : Loc nD τ sig) → Buf (Elt Ideal) ℓ)

/-- Where each window's block lies at point `t`. -/
theorem idx : ∀ t : Fin grid0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 3) = 0 ∧ win0_4.index t (1 : Fin 3) = 0 ∧ win0_4.index t (2 : Fin 3) = 0)
    ∧ (win0_5.index t (0 : Fin 3) = 0 ∧ win0_5.index t (1 : Fin 3) = 0 ∧ win0_5.index t (2 : Fin 3) = 0)
    ∧ (win0_6.index t (0 : Fin 3) = 0 ∧ win0_6.index t (1 : Fin 3) = 0 ∧ win0_6.index t (2 : Fin 3) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0) := by
  decide +kernel

/-- Row `r` of point `t`'s block. -/
def rowOf (t : Fin cfg0.N) (r : Fin 256) : Fin 2048 :=
  ⟨256 * t.val + r.val, by have h : t.val < 8 := lt_of_lt_of_eq t.isLt N_0; omega⟩

/-- The weights of a device, and the rows of the residual stream and of the target a point has. -/
def wt (c : Dev nD) : Weights := weights (m ((c : Thread nD τ).loc main_arg2)) (m ((c : Thread nD τ).loc main_arg3))
  (m ((c : Thread nD τ).loc main_arg4)) (m ((c : Thread nD τ).loc main_arg5))
def xs (c : Dev nD) (t : Fin cfg0.N) : Fin 256 → Fin 1024 → EReal := fun r => row (m ((c : Thread nD τ).loc main_arg0)) (rowOf t r)
def ts (c : Dev nD) (t : Fin cfg0.N) : Fin 256 → Fin 1024 → EReal := fun r => row (m ((c : Thread nD τ).loc main_arg1)) (rowOf t r)

/-! ## The operands -/

theorem up_operand (c : Dev nD) (j : Fin 4) (k l : Fin 1024) :
    V m c main_v2 (ix3 j k l) = (wt m c).up (ix2 k (col j l)) := by
  entry_read
  pointwise
  simp only [wt, weights]
  blk_ext [col]

theorem down_low_operand (c : Dev nD) (j : Fin 4) (k : Fin 512) (l : Fin 1024) :
    V m c main_v5 (ix3 j k l) = (wt m c).down (ix2 (col j (low k)) l) := by
  entry_read
  pointwise
  simp only [wt, weights]
  blk_ext [col, low]

theorem down_high_operand (c : Dev nD) (j : Fin 4) (k : Fin 512) (l : Fin 1024) :
    V m c main_v6 (ix3 j k l) = (wt m c).down (ix2 (col j (high k)) l) := by
  entry_read
  pointwise
  simp only [wt, weights]
  blk_ext [col, high]

theorem x_block (c : Dev nD) (t : Fin cfg0.N) : iblk m c 0 t = rows (xs m c t) := by
  funext y
  obtain ⟨r, l, rfl⟩ : ∃ r l, y = ix2 r l := ⟨y 0, y 1, (ix2_eta y).symm⟩
  simp only [rows, xs, row]
  blk_ext [iblk, V, idx t, rowOf]

theorem t_block (c : Dev nD) (t : Fin cfg0.N) : iblk m c 1 t = rows (ts m c t) := by
  funext y
  obtain ⟨r, l, rfl⟩ : ∃ r l, y = ix2 r l := ⟨y 0, y 1, (ix2_eta y).symm⟩
  simp only [rows, ts, row]
  blk_ext [iblk, V, idx t, rowOf]

theorem pre_block (c : Dev nD) (t : Fin cfg0.N) : iblk m c 2 t = vec (wt m c).pre := by
  funext y
  obtain ⟨r, l, rfl⟩ : ∃ r l, y = ix2 r l := ⟨y 0, y 1, (ix2_eta y).symm⟩
  simp only [vec, wt, weights]
  blk_ext [iblk, V, idx t]

theorem post_block (c : Dev nD) (t : Fin cfg0.N) : iblk m c 3 t = vec (wt m c).post := by
  funext y
  obtain ⟨r, l, rfl⟩ : ∃ r l, y = ix2 r l := ⟨y 0, y 1, (ix2_eta y).symm⟩
  simp only [vec, wt, weights]
  blk_ext [iblk, V, idx t]

theorem up_shard (c : Dev nD) (t : Fin cfg0.N) (j : Fin 4) (o : ℕ) (ho : o = j.val)
    (h : ∀ a, (![o, 0, 0] : Fin 3 → Nat) a + S1x1024x1024.size a ≤ S4x1024x1024.size a) :
    View.ld (iblk m c 4 t) (Rect.unit ![o, 0, 0] ![1, 1024, 1024] h) = upShard (wt m c) j := by
  subst ho
  rw [show iblk m c 4 t = V m c main_v2 from ?_]
  · funext y
    obtain ⟨i, k, l, rfl⟩ : ∃ i k l, y = ix3 i k l := ⟨y 0, y 1, y 2, (ix3_eta y).symm⟩
    refine Eq.trans (congrArg (V m c main_v2) (a₂ := ix3 j k l) ?_) (up_operand m c j k l)
    obtain rfl : i = 0 := Subsingleton.elim _ _
    funext a
    fin_cases a <;> (apply Fin.ext; rw [Rect.idx_unit_val]; simp)
  · funext y
    obtain ⟨i, k, l, rfl⟩ : ∃ i k l, y = ix3 i k l := ⟨y 0, y 1, y 2, (ix3_eta y).symm⟩
    unfold iblk
    generalize V m c main_v2 = X
    blk_ext [iblk, idx t]

theorem down_low (c : Dev nD) (t : Fin cfg0.N) (j : Fin 4) (o : ℕ) (ho : o = j.val)
    (h : ∀ a, (![o, 0, 0] : Fin 3 → Nat) a + S1x512x1024.size a ≤ S4x512x1024.size a) :
    View.ld (iblk m c 5 t) (Rect.unit ![o, 0, 0] ![1, 512, 1024] h) = downLow (wt m c) j := by
  subst ho
  rw [show iblk m c 5 t = V m c main_v5 from ?_]
  · funext y
    obtain ⟨i, k, l, rfl⟩ : ∃ i k l, y = ix3 i k l := ⟨y 0, y 1, y 2, (ix3_eta y).symm⟩
    refine Eq.trans (congrArg (V m c main_v5) (a₂ := ix3 j k l) ?_) (down_low_operand m c j k l)
    obtain rfl : i = 0 := Subsingleton.elim _ _
    funext a
    fin_cases a <;> (apply Fin.ext; rw [Rect.idx_unit_val]; simp)
  · funext y
    obtain ⟨i, k, l, rfl⟩ : ∃ i k l, y = ix3 i k l := ⟨y 0, y 1, y 2, (ix3_eta y).symm⟩
    unfold iblk
    generalize V m c main_v5 = X
    blk_ext [iblk, idx t]

theorem down_high (c : Dev nD) (t : Fin cfg0.N) (j : Fin 4) (o : ℕ) (ho : o = j.val)
    (h : ∀ a, (![o, 0, 0] : Fin 3 → Nat) a + S1x512x1024.size a ≤ S4x512x1024.size a) :
    View.ld (iblk m c 6 t) (Rect.unit ![o, 0, 0] ![1, 512, 1024] h) = downHigh (wt m c) j := by
  subst ho
  rw [show iblk m c 6 t = V m c main_v6 from ?_]
  · funext y
    obtain ⟨i, k, l, rfl⟩ : ∃ i k l, y = ix3 i k l := ⟨y 0, y 1, y 2, (ix3_eta y).symm⟩
    refine Eq.trans (congrArg (V m c main_v6) (a₂ := ix3 j k l) ?_) (down_high_operand m c j k l)
    obtain rfl : i = 0 := Subsingleton.elim _ _
    funext a
    fin_cases a <;> (apply Fin.ext; rw [Rect.idx_unit_val]; simp)
  · funext y
    obtain ⟨i, k, l, rfl⟩ : ∃ i k l, y = ix3 i k l := ⟨y 0, y 1, y 2, (ix3_eta y).symm⟩
    unfold iblk
    generalize V m c main_v6 = X
    blk_ext [iblk, idx t]

/-! ## What a point computes -/

/-- Four pieces of 1024 columns are the whole block. -/
theorem pieces (f : Fin 256 → Fin 4096 → EReal) (P : Fin 4 → Vec Ideal S256x1024 .bf16)
    (hP : ∀ j y, P j y = f (y 0) (col j (y 1))) : View.canon (Val := Elt Ideal) (s := S256x4096) (e := .bf16)
      [⟨Rect.unit ![0, 3072] ![256, 1024] inb_S256x4096_S256x1024_0_3072, P 3⟩,
        ⟨Rect.unit ![0, 2048] ![256, 1024] inb_S256x4096_S256x1024_0_2048, P 2⟩,
        ⟨Rect.unit ![0, 1024] ![256, 1024] inb_S256x4096_S256x1024_0_1024, P 1⟩,
        ⟨Rect.unit ![0, 0] ![256, 1024] inb_S256x4096_S256x1024_0_0, P 0⟩]
      = fun y => f (y 0) (y 1) := by
  funext y
  obtain ⟨r, l, rfl⟩ : ∃ r l, y = ix2 r l := ⟨y 0, y 1, (ix2_eta y).symm⟩
  canon_tiles x h
  all_goals (refine (hP _ x).trans (congrArg₂ f (Fin.ext h0.symm) (Fin.ext ?_)); rw [h1]; simp [col])

/-- The five blocks of rows. -/
theorem point (c : Dev nD) (t : Fin cfg0.N) :
    (outsAt0 m c t.val t.isLt).1 = (rows fun r => dx1 (wt m c) (xs m c t r) (ts m c t r))
    ∧ (outsAt0 m c t.val t.isLt).2.1 = (fun y => u (wt m c) (xs m c t (y 0)) (y 1))
    ∧ (outsAt0 m c t.val t.isLt).2.2.1 = ddB (wt m c) (xs m c t) (ts m c t)
    ∧ (outsAt0 m c t.val t.isLt).2.2.2.1 = h2B (wt m c) (xs m c t)
    ∧ (outsAt0 m c t.val t.isLt).2.2.2.2.1 = (fun y => dpre (wt m c) (xs m c t (y 0)) (ts m c t (y 0)) (y 1)) := by
  have hu := pieces (fun r => u (wt m c) (xs m c t r)) (uB (wt m c) (xs m c t)) fun _ _ => rfl
  have hp := pieces (fun r => dpre (wt m c) (xs m c t r) (ts m c t r)) (dpreB (wt m c) (xs m c t) (ts m c t)) fun _ _ => rfl
  by_cases h : t.val % 8 = 0
  · rw [outsAt0_A m c t h]
    refine ⟨?_, ?_, ?_, ?_, ?_⟩
    all_goals frame_out
    all_goals simp only [x_block, t_block, pre_block, post_block, up_shard m c t 0 0 rfl, up_shard m c t 1 1 rfl, up_shard m c t 2 2 rfl,
    up_shard m c t 3 3 rfl, down_low m c t 0 0 rfl, down_low m c t 1 1 rfl, down_low m c t 2 2 rfl, down_low m c t 3 3 rfl,
    down_high m c t 0 0 rfl, down_high m c t 1 1 rfl, down_high m c t 2 2 rfl, down_high m c t 3 3 rfl,
    scaled, u_zero, u_next, u_next', u_last, act_zero, act_next, act_next', act_last, d_two, d_four (wt m c) (xs m c t) _ rfl,
    d_squares (wt m c) (xs m c t) _ rfl, loss_cotangent, d_normed, d_factor, cotangent_scaled, cotangent_mean, d_cotangent,
    du_one, dpre_zero, dh_zero, dpre_one, dpre_two, dh_three, dpre_three, dh_four, x_cotangent, loss_step, post_step, pre_step]
    · exact hu
    · exact hp
  · rw [outsAt0_B m c t h]
    refine ⟨?_, ?_, ?_, ?_, ?_⟩
    all_goals frame_out
    all_goals simp only [x_block, t_block, pre_block, post_block, up_shard m c t 0 0 rfl, up_shard m c t 1 1 rfl, up_shard m c t 2 2 rfl,
    up_shard m c t 3 3 rfl, down_low m c t 0 0 rfl, down_low m c t 1 1 rfl, down_low m c t 2 2 rfl, down_low m c t 3 3 rfl,
    down_high m c t 0 0 rfl, down_high m c t 1 1 rfl, down_high m c t 2 2 rfl, down_high m c t 3 3 rfl,
    scaled, u_zero, u_next, u_next', u_last, act_zero, act_next, act_next', act_last, d_two, d_four (wt m c) (xs m c t) _ rfl,
    d_squares (wt m c) (xs m c t) _ rfl, loss_cotangent, d_normed, d_factor, cotangent_scaled, cotangent_mean, d_cotangent,
    du_one, dpre_zero, dh_zero, dpre_one, dpre_two, dh_three, dpre_three, dh_four, x_cotangent, loss_step, post_step, pre_step]
    · exact hu
    · exact hp

/-- What a point adds to the three sums. -/
def dpostPart (c : Dev nD) (t : Fin cfg0.N) (l : Fin 1024) : EReal :=
  ∑ r, dy (wt m c) (xs m c t r) (ts m c t r) l * dn (wt m c) (xs m c t r) l
def dpreNormPart (c : Dev nD) (t : Fin cfg0.N) (l : Fin 1024) : EReal :=
  ∑ r, dh2 (wt m c) (xs m c t r) (ts m c t r) l * (xs m c t r l * RealNorm.factor (xs m c t r))
def lossPart (c : Dev nD) (t : Fin cfg0.N) : EReal :=
  (∑ r, ∑ l, diff (wt m c) (xs m c t r) (ts m c t r) l * diff (wt m c) (xs m c t r) (ts m c t r) l) * halfPerEntry

theorem first (c : Dev nD) (t : Fin cfg0.N) (h : t.val % 8 = 0) :
    (∀ l, (outsAt0 m c t.val t.isLt).2.2.2.2.2.1 (ix2 0 l) = 0 + dpostPart m c t l)
    ∧ (∀ l, (outsAt0 m c t.val t.isLt).2.2.2.2.2.2.1 (ix2 0 l) = 0 + dpreNormPart m c t l)
    ∧ (∀ l, (outsAt0 m c t.val t.isLt).2.2.2.2.2.2.2 (ix2 0 l) = 0 + lossPart m c t) := by
  rw [outsAt0_A m c t h]
  refine ⟨fun l => ?_, fun l => ?_, fun l => ?_⟩
  all_goals frame_out
  all_goals simp only [x_block, t_block, pre_block, post_block, up_shard m c t 0 0 rfl, up_shard m c t 1 1 rfl, up_shard m c t 2 2 rfl,
    up_shard m c t 3 3 rfl, down_low m c t 0 0 rfl, down_low m c t 1 1 rfl, down_low m c t 2 2 rfl, down_low m c t 3 3 rfl,
    down_high m c t 0 0 rfl, down_high m c t 1 1 rfl, down_high m c t 2 2 rfl, down_high m c t 3 3 rfl,
    scaled, u_zero, u_next, u_next', u_last, act_zero, act_next, act_next', act_last, d_two, d_four (wt m c) (xs m c t) _ rfl,
    d_squares (wt m c) (xs m c t) _ rfl, loss_cotangent, d_normed, d_factor, cotangent_scaled, cotangent_mean, d_cotangent,
    du_one, dpre_zero, dh_zero, dpre_one, dpre_two, dh_three, dpre_three, dh_four, x_cotangent, loss_step, post_step, pre_step]
  all_goals (refine congrArg (· + _) ?_; pointwise [k0_pay5, k0_pay6, k0_pay7])

theorem next (c : Dev nD) (t : Fin cfg0.N) (h : ¬ t.val % 8 = 0) :
    (∀ l, (outsAt0 m c t.val t.isLt).2.2.2.2.2.1 (ix2 0 l)
      = (outsAt0 m c (t.val - 1) (by have := t.isLt; omega)).2.2.2.2.2.1 (ix2 0 l) + dpostPart m c t l)
    ∧ (∀ l, (outsAt0 m c t.val t.isLt).2.2.2.2.2.2.1 (ix2 0 l)
      = (outsAt0 m c (t.val - 1) (by have := t.isLt; omega)).2.2.2.2.2.2.1 (ix2 0 l) + dpreNormPart m c t l)
    ∧ (∀ l, (outsAt0 m c t.val t.isLt).2.2.2.2.2.2.2 (ix2 0 l)
      = (outsAt0 m c (t.val - 1) (by have := t.isLt; omega)).2.2.2.2.2.2.2 (ix2 0 l) + lossPart m c t) := by
  rw [outsAt0_B m c t h]
  refine ⟨fun l => ?_, fun l => ?_, fun l => ?_⟩
  all_goals frame_out
  all_goals simp only [x_block, t_block, pre_block, post_block, up_shard m c t 0 0 rfl, up_shard m c t 1 1 rfl, up_shard m c t 2 2 rfl,
    up_shard m c t 3 3 rfl, down_low m c t 0 0 rfl, down_low m c t 1 1 rfl, down_low m c t 2 2 rfl, down_low m c t 3 3 rfl,
    down_high m c t 0 0 rfl, down_high m c t 1 1 rfl, down_high m c t 2 2 rfl, down_high m c t 3 3 rfl,
    scaled, u_zero, u_next, u_next', u_last, act_zero, act_next, act_next', act_last, d_two, d_four (wt m c) (xs m c t) _ rfl,
    d_squares (wt m c) (xs m c t) _ rfl, loss_cotangent, d_normed, d_factor, cotangent_scaled, cotangent_mean, d_cotangent,
    du_one, dpre_zero, dh_zero, dpre_one, dpre_two, dh_three, dpre_three, dh_four, x_cotangent, loss_step, post_step, pre_step]
  all_goals rfl

/-! ## The arrays -/

theorem final_dx (c : Dev nD) : (dats m 0 c).arrAt 7 cfg0.N = dx1Of (wt m c) (m ((c : Thread nD τ).loc main_arg0)) (m ((c : Thread nD τ).loc main_arg1)) := by
  refine (dats m 0 c).arrAt_eq_of_covers 7 _ (by decide +kernel) fun t hf y => ?_
  blk_simp
  rw [after0_7]
  obtain ⟨r, l, rfl⟩ : ∃ r l, y = ix2 r l := ⟨y 0, y 1, (ix2_eta y).symm⟩
  rw [(point m c t).1]
  refine (show _ = (dx1Of (wt m c) (m ((c : Thread nD τ).loc main_arg0)) (m ((c : Thread nD τ).loc main_arg1))) (ix2 (rowOf t r) l) from rfl).trans ?_
  generalize dx1Of (wt m c) (m ((c : Thread nD τ).loc main_arg0)) (m ((c : Thread nD τ).loc main_arg1)) = X
  blk_ext [idx t, rowOf]

theorem final_u (c : Dev nD) : (dats m 0 c).arrAt 8 cfg0.N = uOf (wt m c) (m ((c : Thread nD τ).loc main_arg0)) := by
  refine (dats m 0 c).arrAt_eq_of_covers 8 _ (by decide +kernel) fun t hf y => ?_
  blk_simp
  rw [after0_8]
  obtain ⟨r, l, rfl⟩ : ∃ r l, y = ix2 r l := ⟨y 0, y 1, (ix2_eta y).symm⟩
  rw [(point m c t).2.1]
  refine (show _ = (uOf (wt m c) (m ((c : Thread nD τ).loc main_arg0))) (ix2 (rowOf t r) l) from rfl).trans ?_
  generalize uOf (wt m c) (m ((c : Thread nD τ).loc main_arg0)) = X
  blk_ext [idx t, rowOf]

theorem final_dd (c : Dev nD) : (dats m 0 c).arrAt 9 cfg0.N = ddOf (wt m c) (m ((c : Thread nD τ).loc main_arg0)) (m ((c : Thread nD τ).loc main_arg1)) := by
  refine (dats m 0 c).arrAt_eq_of_covers 9 _ (by decide +kernel) fun t hf y => ?_
  blk_simp
  rw [after0_9]
  obtain ⟨r, l, rfl⟩ : ∃ r l, y = ix2 r l := ⟨y 0, y 1, (ix2_eta y).symm⟩
  rw [(point m c t).2.2.1]
  refine (show _ = (ddOf (wt m c) (m ((c : Thread nD τ).loc main_arg0)) (m ((c : Thread nD τ).loc main_arg1))) (ix2 (rowOf t r) l) from rfl).trans ?_
  generalize ddOf (wt m c) (m ((c : Thread nD τ).loc main_arg0)) (m ((c : Thread nD τ).loc main_arg1)) = X
  blk_ext [idx t, rowOf]

theorem final_h2 (c : Dev nD) : (dats m 0 c).arrAt 10 cfg0.N = h2Of (wt m c) (m ((c : Thread nD τ).loc main_arg0)) := by
  refine (dats m 0 c).arrAt_eq_of_covers 10 _ (by decide +kernel) fun t hf y => ?_
  blk_simp
  rw [after0_10]
  obtain ⟨r, l, rfl⟩ : ∃ r l, y = ix2 r l := ⟨y 0, y 1, (ix2_eta y).symm⟩
  rw [(point m c t).2.2.2.1]
  refine (show _ = (h2Of (wt m c) (m ((c : Thread nD τ).loc main_arg0))) (ix2 (rowOf t r) l) from rfl).trans ?_
  generalize h2Of (wt m c) (m ((c : Thread nD τ).loc main_arg0)) = X
  blk_ext [idx t, rowOf]

theorem final_dpre (c : Dev nD) : (dats m 0 c).arrAt 11 cfg0.N = dpreOf (wt m c) (m ((c : Thread nD τ).loc main_arg0)) (m ((c : Thread nD τ).loc main_arg1)) := by
  refine (dats m 0 c).arrAt_eq_of_covers 11 _ (by decide +kernel) fun t hf y => ?_
  blk_simp
  rw [after0_11]
  obtain ⟨r, l, rfl⟩ : ∃ r l, y = ix2 r l := ⟨y 0, y 1, (ix2_eta y).symm⟩
  rw [(point m c t).2.2.2.2]
  refine (show _ = (dpreOf (wt m c) (m ((c : Thread nD τ).loc main_arg0)) (m ((c : Thread nD τ).loc main_arg1))) (ix2 (rowOf t r) l) from rfl).trans ?_
  generalize dpreOf (wt m c) (m ((c : Thread nD τ).loc main_arg0)) (m ((c : Thread nD τ).loc main_arg1)) = X
  blk_ext [idx t, rowOf]

theorem final_dpost (c : Dev nD) : (dats m 0 c).arrAt 12 cfg0.N
    = dpostOf (wt m c) (m ((c : Thread nD τ).loc main_arg0)) (m ((c : Thread nD τ).loc main_arg1)) := by
  refine (dats m 0 c).arrAt_eq_of_after_last 12 t0_7 (by decide +kernel) _ fun y => ?_
  blk_simp
  rw [after0_12]
  obtain ⟨l, rfl⟩ : ∃ l, y = ix2 0 l := ⟨y 1, by rw [← ix2_eta y]; congr 1; exact Subsingleton.elim _ _⟩
  refine (Pipeline.eq_sum_fin_of_reset_step_apply_last (fun n h l => (outsAt0 m c n h).2.2.2.2.2.1 (ix2 0 l)) 8 (fun _ => 0)
    (fun t l => dpostPart m c t l) (fun t h l => (first m c t h).1 l) (fun t h l => (next m c t h).1 l)
    (by decide) t0_7 rfl l).trans ?_
  rw [zero_add]
  refine Fin.sum_mul_add_congr (S := 8) (n := 256) fun t r hl => ?_
  have e : rowOf t r = ⟨t.val * 256 + r.val, hl⟩ := Fin.ext (by simp only [rowOf]; omega)
  rw [← e]
  rfl

theorem final_dpreNorm (c : Dev nD) : (dats m 0 c).arrAt 13 cfg0.N
    = dpreNormOf (wt m c) (m ((c : Thread nD τ).loc main_arg0)) (m ((c : Thread nD τ).loc main_arg1)) := by
  refine (dats m 0 c).arrAt_eq_of_after_last 13 t0_7 (by decide +kernel) _ fun y => ?_
  blk_simp
  rw [after0_13]
  obtain ⟨l, rfl⟩ : ∃ l, y = ix2 0 l := ⟨y 1, by rw [← ix2_eta y]; congr 1; exact Subsingleton.elim _ _⟩
  refine (Pipeline.eq_sum_fin_of_reset_step_apply_last (fun n h l => (outsAt0 m c n h).2.2.2.2.2.2.1 (ix2 0 l)) 8 (fun _ => 0)
    (fun t l => dpreNormPart m c t l) (fun t h l => (first m c t h).2.1 l) (fun t h l => (next m c t h).2.1 l)
    (by decide) t0_7 rfl l).trans ?_
  rw [zero_add]
  refine Fin.sum_mul_add_congr (S := 8) (n := 256) fun t r hl => ?_
  have e : rowOf t r = ⟨t.val * 256 + r.val, hl⟩ := Fin.ext (by simp only [rowOf]; omega)
  rw [← e]
  rfl

theorem final_loss (c : Dev nD) : (dats m 0 c).arrAt 14 cfg0.N
    = lossOf (wt m c) (m ((c : Thread nD τ).loc main_arg0)) (m ((c : Thread nD τ).loc main_arg1)) := by
  refine (dats m 0 c).arrAt_eq_of_after_last 14 t0_7 (by decide +kernel) _ fun y => ?_
  blk_simp
  rw [after0_14]
  obtain ⟨l, rfl⟩ : ∃ l, y = ix2 0 l := ⟨y 1, by rw [← ix2_eta y]; congr 1; exact Subsingleton.elim _ _⟩
  refine (Pipeline.eq_sum_fin_of_reset_step_apply_last (fun n h l => (outsAt0 m c n h).2.2.2.2.2.2.2 (ix2 0 l)) 8 (fun _ => 0)
    (fun t _ => lossPart m c t) (fun t h l => (first m c t h).2.2 l) (fun t h l => (next m c t h).2.2 l)
    (by decide) t0_7 rfl l).trans ?_
  rw [zero_add]
  rfl

end Cert.MlpIdeal.Val
-- ==== Proof.RealRow.lean ====
/- Which extended reals are reals: the operations of the two programs keep reals real, and on rows of reals the two ways
   to write the norm's derivative agree. -/
module

public import proofs.«01_k».proof.Proof.RealNorm

@[expose] public section

noncomputable section

open Idealize.ShloMosaic

namespace RealNorm

/-- An extended real that is a real. -/
def IsReal (a : EReal) : Prop := ∃ r : ℝ, a = (r : EReal)

theorem IsReal.coe (r : ℝ) : IsReal (r : EReal) := ⟨r, rfl⟩

theorem IsReal.zero : IsReal 0 := ⟨0, EReal.coe_zero.symm⟩

theorem IsReal.add {a b : EReal} : IsReal a → IsReal b → IsReal (a + b) := by
  rintro ⟨r, rfl⟩ ⟨s, rfl⟩
  exact ⟨r + s, (EReal.coe_add r s).symm⟩

theorem IsReal.sub {a b : EReal} : IsReal a → IsReal b → IsReal (a - b) := by
  rintro ⟨r, rfl⟩ ⟨s, rfl⟩
  exact ⟨r - s, (EReal.coe_sub r s).symm⟩

theorem IsReal.mul {a b : EReal} : IsReal a → IsReal b → IsReal (a * b) := by
  rintro ⟨r, rfl⟩ ⟨s, rfl⟩
  exact ⟨r * s, (EReal.coe_mul r s).symm⟩

theorem IsReal.max {a b : EReal} : IsReal a → IsReal b → IsReal (max a b) := by
  rintro ⟨r, rfl⟩ ⟨s, rfl⟩
  rcases max_choice (r : EReal) (s : EReal) with h | h <;> rw [h]
  · exact ⟨r, rfl⟩
  · exact ⟨s, rfl⟩

/-- A family of reals. -/
theorem reals {ι : Type} {a : ι → EReal} (h : ∀ i, IsReal (a i)) : ∃ A : ι → ℝ, a = fun i => (A i : EReal) := by
  choose A hA using h
  exact ⟨A, funext hA⟩

theorem IsReal.sum {ι : Type} [Fintype ι] {a : ι → EReal} (h : ∀ i, IsReal (a i)) : IsReal (∑ i, a i) := by
  obtain ⟨A, rfl⟩ := reals h
  exact ⟨∑ i, A i, coe_sum A⟩

theorem IsReal.factor {n : ℕ} {a : Fin n → EReal} (h : ∀ i, IsReal (a i)) : IsReal (factor a) := by
  obtain ⟨A, rfl⟩ := reals h
  exact ⟨_, factor_coe A⟩

theorem IsReal.bwd {n : ℕ} {a g : Fin n → EReal} (h : ∀ i, IsReal (a i)) (hg : ∀ i, IsReal (g i)) (l : Fin n) :
    IsReal (bwd a g l) := by
  obtain ⟨A, rfl⟩ := reals h
  obtain ⟨G, rfl⟩ := reals hg
  exact ⟨_, bwd_coe A G l⟩

/-- The norm's derivative on rows of reals, by the chain rule. -/
theorem bwd_chain {n : ℕ} {a g : Fin n → EReal} (h : ∀ i, IsReal (a i)) (hg : ∀ i, IsReal (g i)) (l : Fin n) :
    bwd a g l = g l * RealNorm.factor a + (a l * chain a g + chain a g * a l) := by
  obtain ⟨A, rfl⟩ := reals h
  obtain ⟨G, rfl⟩ := reals hg
  exact bwd_eq_chain A G l

end RealNorm
-- ==== Proof.MlpReference.lean ====
/- What the plain channel mixer computes, forward and by the chain rule backward, in the spec's terms. -/
module

public import proofs.«01_k».proof.Proof.MlpSpec
public import proofs.«01_k».proof.Proof.RealRow
public import proofs.«01_k».proof.Proof.Gen.MlpRefIdeal.Read

@[expose] public section

set_option maxRecDepth 16384

noncomputable section

open Idealize.ShloMosaic Idealize.ShloMosaic.TcCoe Idealize.SL.Sem

namespace MlpReference

open Cert.MlpRefIdeal Cert.MlpRefIdeal.Read MlpSpec

variable (x t : Mat 2048 1024) (g2 g3 : Mat 1 1024) (wu : Mat 1024 4096) (wd : Mat 4096 1024)

/-! ## Forward -/

theorem h2_stage : val_main_v16 (F := Ideal) x g2 = h2Of (weights g2 g3 wu wd) x := by
  funext y
  obtain ⟨r, l, rfl⟩ : ∃ r l, y = ix2 r l := ⟨y 0, y 1, (ix2_eta y).symm⟩
  pointwise [val_main_v16, val_main_v15, val_main_v14, val_main_v13, val_main_v9, val_main_v8, val_main_v7, val_main_v6,
    val_main_v5, val_main_v4, val_main_v3, val_main_v2, val_main_cst_1, val_main_cst_2, val_main_cst_3]
  rfl

theorem product_stage (r : Fin 2048) (k : Fin 4096) : val_main_v18 (F := Ideal) x g2 wu (ix2 r k)
    = ∑ l, h2 (weights g2 g3 wu wd) (row x r) l * wu (ix2 l k) := by
  unfold val_main_v18 val_main_v17
  rw [h2_stage x g2 g3 wu wd]
  pointwise [val_main_v0, val_main_cst]
  rfl

theorem act_stage (r : Fin 2048) (k : Fin 4096) : val_main_v19 (F := Ideal) x g2 wu (ix2 r k)
    = act (weights g2 g3 wu wd) (row x r) k := by
  unfold val_main_v19
  pointwise [val_main_call0_v0, val_main_call0_cst]
  rw [product_stage x g2 g3 wu wd]
  rfl

theorem u_stage : val_main_v23 (F := Ideal) x g2 wu = uOf (weights g2 g3 wu wd) x := by
  funext y
  obtain ⟨r, l, rfl⟩ : ∃ r l, y = ix2 r l := ⟨y 0, y 1, (ix2_eta y).symm⟩
  unfold val_main_v23
  pointwise
  rw [act_stage x g2 g3 wu wd]
  rfl

theorem d_stage : val_main_v27 (F := Ideal) x g2 wu wd = fun y => d (weights g2 g3 wu wd) (row x (y 0)) (y 1) := by
  unfold val_main_v27 val_main_v26
  rw [u_stage x g2 g3 wu wd]
  funext y
  obtain ⟨r, l, rfl⟩ : ∃ r l, y = ix2 r l := ⟨y 0, y 1, (ix2_eta y).symm⟩
  pointwise [val_main_v1, val_main_cst_0]
  rfl

theorem factor_stage (r : Fin 2048) : val_main_v35 (F := Ideal) x g2 wu wd (ix2 r 0)
    = RealNorm.factor (d (weights g2 g3 wu wd) (row x r)) := by
  pointwise [val_main_v35, val_main_v34, val_main_v33, val_main_v32, val_main_v31, val_main_v30, val_main_v29, val_main_v28,
    val_main_cst_8, val_main_cst_9, val_main_cst_10]
  rw [d_stage x g2 g3 wu wd]
  rfl

theorem dn_stage : val_main_v40 (F := Ideal) x g2 wu wd = fun y => dn (weights g2 g3 wu wd) (row x (y 0)) (y 1) := by
  funext y
  obtain ⟨r, l, rfl⟩ : ∃ r l, y = ix2 r l := ⟨y 0, y 1, (ix2_eta y).symm⟩
  pointwise [val_main_v40, val_main_v39]
  rw [factor_stage x g2 g3 wu wd, d_stage x g2 g3 wu wd]
  rfl

theorem diff_stage : val_main_v44 (F := Ideal) x t g2 g3 wu wd
    = fun y => diff (weights g2 g3 wu wd) (row x (y 0)) (row t (y 0)) (y 1) := by
  unfold val_main_v44 val_main_v43 val_main_v42
  rw [dn_stage x g2 g3 wu wd]
  funext y
  obtain ⟨r, l, rfl⟩ : ∃ r l, y = ix2 r l := ⟨y 0, y 1, (ix2_eta y).symm⟩
  pointwise [val_main_v41]
  rfl

/-! ## The constants of the loss -/

theorem ofBits_half : Ideal.ofBits .f32 1056964608#32 = ((1 / 2 : ℝ) : EReal) := by
  simp [Ideal.ofBits, Ideal.ieee]
  rw [← EReal.coe_mul]
  norm_num

theorem two_eq : two = ((2 : ℝ) : EReal) := by
  simp [two, Ideal.ofBits, Ideal.ieee]
  rw [← EReal.coe_mul]
  norm_num

theorem perEntry_eq : perEntry = ((1 / 1024 : ℝ) : EReal) := by
  simp [perEntry, Ideal.ofBits, Ideal.ieee]
  rw [← EReal.coe_mul]
  norm_num

theorem halfPerEntry_eq : halfPerEntry = ((1 / 2048 : ℝ) : EReal) := by
  simp [halfPerEntry, Ideal.ofBits, Ideal.ieee]
  rw [← EReal.coe_mul]
  norm_num

/-! ## Backward -/

theorem dy_stage : val_main_v58 (F := Ideal) x t g2 g3 wu wd
    = fun y => dy (weights g2 g3 wu wd) (row x (y 0)) (row t (y 0)) (y 1) := by
  unfold val_main_v58 val_main_v47
  rw [diff_stage]
  funext y
  obtain ⟨r, l, rfl⟩ : ∃ r l, y = ix2 r l := ⟨y 0, y 1, (ix2_eta y).symm⟩
  pointwise [val_main_v57, val_main_v56, val_main_v55, val_main_v54, val_main_v53, val_main_cst_16, val_main_cst_17,
    val_main_cst_18, val_main_cst_19, val_main_v46, val_main_cst_12]
  rw [← mul_assoc, ofBits_half, RealNorm.div_1024]
  change _ * two * _ = diff _ _ _ l * perEntry
  rw [two_eq, perEntry_eq, ← EReal.coe_mul, mul_comm]
  norm_num

theorem dpost_stage : val_main_v61 (F := Ideal) x t g2 g3 wu wd = dpostOf (weights g2 g3 wu wd) x t := by
  unfold val_main_v61 val_main_v60 val_main_v59
  rw [dn_stage x g2 g3 wu wd, dy_stage]
  funext y
  obtain ⟨l, rfl⟩ : ∃ l, y = ix2 0 l := ⟨y 1, by rw [← ix2_eta y]; congr 1; exact Subsingleton.elim _ _⟩
  pointwise [val_main_cst_20]
  exact Finset.sum_congr rfl fun r _ => mul_comm _ _

/-! ## At reals -/

section Real

variable {w : Weights} {a b : Fin 1024 → EReal}

open RealNorm (IsReal)

/-- The weights are reals. -/
structure RealWeights (w : Weights) : Prop where
  pre : ∀ l, IsReal (w.pre l)
  post : ∀ l, IsReal (w.post l)
  up : ∀ y, IsReal (w.up y)
  down : ∀ y, IsReal (w.down y)

variable (hw : RealWeights w) (ha : ∀ l, IsReal (a l)) (hb : ∀ l, IsReal (b l))
include hw ha

theorem h2_real (l : Fin 1024) : IsReal (h2 w a l) := ((ha l).mul (.factor ha)).mul (hw.pre l)
theorem act_real (k : Fin 4096) : IsReal (act w a k) := .max (.sum fun l => (h2_real hw ha l).mul (hw.up _)) .zero
theorem d_real (l : Fin 1024) : IsReal (d w a l) :=
  .sum fun k => ((act_real hw ha k).mul (act_real hw ha k)).mul (hw.down _)
theorem dn_real (l : Fin 1024) : IsReal (dn w a l) := (d_real hw ha l).mul (.factor (d_real hw ha))

include hb

theorem diff_real (l : Fin 1024) : IsReal (diff w a b l) := ((ha l).add ((dn_real hw ha l).mul (hw.post l))).sub (hb l)
theorem dyPost_real (l : Fin 1024) : IsReal (dy w a b l * w.post l) :=
  ((diff_real hw ha hb l).mul ⟨_, perEntry_eq⟩).mul (hw.post l)
theorem dd_real (l : Fin 1024) : IsReal (dd w a b l) := .bwd (d_real hw ha) (dyPost_real hw ha hb) l
theorem dpre_real (k : Fin 4096) : IsReal (dpre w a b k) :=
  (IsReal.sum fun l => (dd_real hw ha hb l).mul (hw.down _)).mul (.mul ⟨_, two_eq⟩ (act_real hw ha k))
theorem dhPre_real (l : Fin 1024) : IsReal (dh2 w a b l * w.pre l) :=
  (IsReal.sum fun k => (dpre_real hw ha hb k).mul (hw.up _)).mul (hw.pre l)

end Real

variable {x t g2 g3 wu wd} (hw : RealWeights (weights g2 g3 wu wd)) (hx : ∀ y, RealNorm.IsReal (x y)) (ht : ∀ y, RealNorm.IsReal (t y))
include hw hx ht

theorem dd_stage : val_main_v77 (F := Ideal) x t g2 g3 wu wd
    = fun y => dd (weights g2 g3 wu wd) (row x (y 0)) (row t (y 0)) (y 1) := by
  funext y
  obtain ⟨r, l, rfl⟩ : ∃ r l, y = ix2 r l := ⟨y 0, y 1, (ix2_eta y).symm⟩
  pointwise [val_main_v77, val_main_v76, val_main_v75, val_main_v74, val_main_v73, val_main_v72, val_main_v71, val_main_v70,
    val_main_v69, val_main_v68, val_main_v67, val_main_v66, val_main_v65, val_main_v64, val_main_v63, val_main_v62,
    val_main_v38, val_main_v37, val_main_v36, val_main_v35, val_main_v34, val_main_v33, val_main_v32, val_main_v31,
    val_main_v30, val_main_v29, val_main_v28, val_main_cst_8, val_main_cst_9, val_main_cst_10, val_main_cst_11,
    val_main_cst_21, val_main_cst_22, val_main_cst_23]
  simp only [Fin.sum_univ_one, d_stage x g2 g3 wu wd, dy_stage]
  refine Eq.trans ?_ (RealNorm.bwd_chain (d_real hw fun l => hx _) (dyPost_real hw (fun l => hx _) fun l => ht _) l).symm
  exact add_assoc _ _ _

theorem dpre_stage : val_main_v81 (F := Ideal) x t g2 g3 wu wd = dpreOf (weights g2 g3 wu wd) x t := by
  unfold val_main_v81 val_main_v79 val_main_v78
  rw [dd_stage hw hx ht]
  funext y
  obtain ⟨r, k, rfl⟩ : ∃ r l, y = ix2 r l := ⟨y 0, y 1, (ix2_eta y).symm⟩
  pointwise [val_main_v80, val_main_cst_24, val_main_v21, val_main_v20, val_main_cst_5, val_main_v25, val_main_v24,
    val_main_cst_7]
  rw [act_stage x g2 g3 wu wd, product_stage x g2 g3 wu wd]
  split
  · rfl
  · rename_i h
    have h0 : act (weights g2 g3 wu wd) (row x r) k = 0 := max_eq_right (not_lt.mp h)
    show (0 : EReal) = _ * (two * act (weights g2 g3 wu wd) (row x r) k)
    rw [h0, mul_zero, mul_zero]

theorem dh_stage : val_main_v82 (F := Ideal) x t g2 g3 wu wd
    = fun y => dh2 (weights g2 g3 wu wd) (row x (y 0)) (row t (y 0)) (y 1) := by
  unfold val_main_v82
  rw [dpre_stage hw hx ht]
  funext y
  obtain ⟨r, l, rfl⟩ : ∃ r l, y = ix2 r l := ⟨y 0, y 1, (ix2_eta y).symm⟩
  pointwise
  rfl

theorem dpreNorm_stage : val_main_v85 (F := Ideal) x t g2 g3 wu wd = dpreNormOf (weights g2 g3 wu wd) x t := by
  unfold val_main_v85 val_main_v84 val_main_v83
  rw [dh_stage hw hx ht]
  funext y
  obtain ⟨l, rfl⟩ : ∃ l, y = ix2 0 l := ⟨y 1, by rw [← ix2_eta y]; congr 1; exact Subsingleton.elim _ _⟩
  pointwise [val_main_cst_25, val_main_v14, val_main_v13, val_main_v9, val_main_v8, val_main_v7, val_main_v6,
    val_main_v5, val_main_v4, val_main_v3, val_main_v2, val_main_cst_1, val_main_cst_2, val_main_cst_3]
  exact Finset.sum_congr rfl fun r _ => mul_comm _ _

theorem dx_stage : val_main_v102 (F := Ideal) x t g2 g3 wu wd = dx1Of (weights g2 g3 wu wd) x t := by
  funext y
  obtain ⟨r, l, rfl⟩ : ∃ r l, y = ix2 r l := ⟨y 0, y 1, (ix2_eta y).symm⟩
  pointwise [val_main_v102, val_main_v101, val_main_v100, val_main_v99, val_main_v98, val_main_v97, val_main_v96,
    val_main_v95, val_main_v94, val_main_v93, val_main_v92, val_main_v91, val_main_v90, val_main_v89, val_main_v88,
    val_main_v87, val_main_v86, val_main_v12, val_main_v11, val_main_v10, val_main_v9, val_main_v8, val_main_v7, val_main_v6,
    val_main_v5, val_main_v4, val_main_v3, val_main_v2, val_main_cst_1, val_main_cst_2, val_main_cst_3, val_main_cst_4,
    val_main_cst_26, val_main_cst_27, val_main_cst_28]
  simp only [Fin.sum_univ_one, dh_stage hw hx ht, dy_stage]
  refine Eq.trans ?_ (congrArg (dy (weights g2 g3 wu wd) (row x r) (row t r) l + ·) (RealNorm.bwd_chain (fun l => hx _)
    (dhPre_real hw (fun l => hx _) fun l => ht _) l).symm)
  rw [← add_assoc, ← add_assoc]
  rfl

theorem loss_stage : val_main_v107 (F := Ideal) x t g2 g3 wu wd = lossOf (weights g2 g3 wu wd) x t := by
  funext y
  obtain ⟨r, l, rfl⟩ : ∃ r l, y = ix2 r l := ⟨y 0, y 1, (ix2_eta y).symm⟩
  pointwise [val_main_v107, val_main_v52, val_main_v51, val_main_v50, val_main_v49, val_main_v48, val_main_v45, val_main_cst_13,
    val_main_cst_14, val_main_cst_15, val_main_cst_16]
  simp only [diff_stage]
  obtain ⟨S, hS⟩ := RealNorm.reals (a := fun r => ∑ l, diff (weights g2 g3 wu wd) (row x r) (row t r) l
    * diff (weights g2 g3 wu wd) (row x r) (row t r) l) fun r => .sum fun l => .mul
      (diff_real hw (fun l => hx _) (fun l => ht _) l) (diff_real hw (fun l => hx _) (fun l => ht _) l)
  have hS (r : Fin 2048) : ∑ l, diff (weights g2 g3 wu wd) (row x r) (row t r) l
    * diff (weights g2 g3 wu wd) (row x r) (row t r) l = (S r : EReal) := congrFun hS r
  change Ideal.ofBits .f32 1056964608#32 * ∑ r, Ideal.div (∑ l, diff (weights g2 g3 wu wd) (row x r) (row t r) l
    * diff (weights g2 g3 wu wd) (row x r) (row t r) l) _ = _
  unfold lossOf
  simp only [hS, RealNorm.div_1024, RealNorm.coe_sum, ofBits_half, halfPerEntry_eq, ← EReal.coe_mul]
  refine congrArg _ ?_
  rw [← Finset.sum_mul, ← Finset.sum_mul, ← Fin.sum_mul_add_congr (S := 8) (n := 256) (f := S)
    (F := fun s r => S ⟨256 * s.val + r.val, by omega⟩) fun s r hl => congrArg S (Fin.ext (by
      show 256 * s.val + r.val = s.val * 256 + r.val; omega))]
  ring

end MlpReference
-- ==== Proof.MlpClaim.lean ====
/- The claim of the channel mixer's call: the kernel's run and the reference's leave the same arrays. -/
module

public import proofs.«01_k».proof.Defs
public import proofs.«01_k».proof.Proof.Gen.Pre_mlp_finite
public import proofs.«01_k».proof.Proof.MlpKernel
public import proofs.«01_k».proof.Proof.MlpReference
public import proofs.«01_k».proof.Proof.Gen.MlpRefIdeal.Run

@[expose] public section

noncomputable section

open Idealize.ShloMosaic Idealize.ShloMosaic.TcCoe Idealize.SL.Sem

namespace MlpClaim

open Cert Cert.MlpIdeal

theorem values : Cert.algebraic_MlpIdeal_MlpRefIdeal_pre_mlp_finite := by
  intro m g m' g' hp ha
  refine ⟨fun c => MlpSpec.dx1Of (Val.wt m c) (m ((c : Thread nD τ).loc main_arg0)) (m ((c : Thread nD τ).loc main_arg1)),
    fun c => MlpSpec.uOf (Val.wt m c) (m ((c : Thread nD τ).loc main_arg0)),
    fun c => MlpSpec.ddOf (Val.wt m c) (m ((c : Thread nD τ).loc main_arg0)) (m ((c : Thread nD τ).loc main_arg1)),
    fun c => MlpSpec.h2Of (Val.wt m c) (m ((c : Thread nD τ).loc main_arg0)),
    fun c => MlpSpec.dpreOf (Val.wt m c) (m ((c : Thread nD τ).loc main_arg0)) (m ((c : Thread nD τ).loc main_arg1)),
    fun c => MlpSpec.dpostOf (Val.wt m c) (m ((c : Thread nD τ).loc main_arg0)) (m ((c : Thread nD τ).loc main_arg1)),
    fun c => MlpSpec.dpreNormOf (Val.wt m c) (m ((c : Thread nD τ).loc main_arg0)) (m ((c : Thread nD τ).loc main_arg1)),
    fun c => MlpSpec.lossOf (Val.wt m c) (m ((c : Thread nD τ).loc main_arg0)) (m ((c : Thread nD τ).loc main_arg1)),
    ?_, ?_⟩
  · refine (θ_run _ _ _).mono (fun r h c => ?_) (MlpIdeal.Value.run_blocks m g)
    have h := h c
    rw [Val.final_dx, Val.final_u, Val.final_dd, Val.final_h2, Val.final_dpre, Val.final_dpost, Val.final_dpreNorm,
      Val.final_loss] at h
    exact h
  · refine (θ_run _ _ _).mono (fun r h c => ?_) (MlpRefIdeal.Value.run m' g')
    have hf := hp c
    obtain ⟨X, hX⟩ := RealNorm.exists_reals _ fun i => congrFun hf.1 i
    obtain ⟨T, hT⟩ := RealNorm.exists_reals _ fun i => congrFun hf.2.1 i
    obtain ⟨A, hA⟩ := RealNorm.exists_reals _ fun i => congrFun hf.2.2.1 i
    obtain ⟨B, hB⟩ := RealNorm.exists_reals _ fun i => congrFun hf.2.2.2.1 i
    obtain ⟨U, hU⟩ := RealNorm.exists_reals _ fun i => congrFun hf.2.2.2.2.1 i
    obtain ⟨D, hD⟩ := RealNorm.exists_reals _ fun i => congrFun hf.2.2.2.2.2 i
    have hw : MlpReference.RealWeights (Val.wt m c) :=
      ⟨fun l => ⟨_, congrFun hA _⟩, fun l => ⟨_, congrFun hB _⟩, fun y => ⟨_, congrFun hU y⟩, fun y => ⟨_, congrFun hD y⟩⟩
    have hx : ∀ y, RealNorm.IsReal (m ((c : Thread nD τ).loc main_arg0) y) := fun y => ⟨_, congrFun hX y⟩
    have ht : ∀ y, RealNorm.IsReal (m ((c : Thread nD τ).loc main_arg1) y) := fun y => ⟨_, congrFun hT y⟩
    have h := h c
    rw [MlpRefIdeal.Read.val_main_v102_eq, MlpRefIdeal.Read.val_main_v103_eq, MlpRefIdeal.Read.val_main_v104_eq,
      MlpRefIdeal.Read.val_main_v105_eq, MlpRefIdeal.Read.val_main_v106_eq, MlpRefIdeal.Read.val_main_v61_eq,
      MlpRefIdeal.Read.val_main_v85_eq, MlpRefIdeal.Read.val_main_v107_eq] at h
    obtain ⟨a0, a1, a2, a3, a4, a5⟩ := ha c
    refine ⟨h.1.trans ?_, h.2.1.trans ?_, h.2.2.1.trans ?_, h.2.2.2.1.trans ?_, h.2.2.2.2.1.trans ?_, h.2.2.2.2.2.1.trans ?_,
      h.2.2.2.2.2.2.1.trans ?_, h.2.2.2.2.2.2.2.1.trans ?_, h.2.2.2.2.2.2.2.2⟩
    all_goals simp only [a0, a1, a2, a3, a4, a5]
    · exact MlpReference.dx_stage hw hx ht
    · exact MlpReference.u_stage _ _ _ _ _
    · exact MlpReference.dd_stage hw hx ht
    · exact MlpReference.h2_stage _ _ _ _ _
    · exact MlpReference.dpre_stage hw hx ht
    · exact MlpReference.dpost_stage _ _ _ _ _ _
    · exact MlpReference.dpreNorm_stage hw hx ht
    · exact MlpReference.loss_stage hw hx ht

end MlpClaim
-- ==== Proof.Sigmoid.lean ====
/- The logistic function, written with the hyperbolic tangent and with the exponential. -/
module

public import proofs.«01_k».proof.Proof.RealRow

@[expose] public section

noncomputable section

open Idealize.ShloMosaic

namespace Sigmoid

def half : EReal := Ideal.ofBits .f32 1056964608#32

theorem half_eq : half = ((1 / 2 : ℝ) : EReal) := by
  simp [half, Ideal.ofBits, Ideal.ieee]
  rw [← EReal.coe_mul]
  norm_num

/-- The kernels' form. -/
def sig (x : EReal) : EReal := half * (Ideal.tanh (half * x) + 1)

theorem real_form (r : ℝ) : (1 / 2) * (Real.tanh (1 / 2 * r) + 1) = 1 / (1 + Real.exp (-r)) := by
  have e : Real.exp (-r) = Real.exp (-(1 / 2 * r)) / Real.exp (1 / 2 * r) := by
    rw [← Real.exp_sub]; congr 1; ring
  have h1 := Real.exp_pos (1 / 2 * r)
  have h2 := Real.exp_pos (-(1 / 2 * r))
  rw [Real.tanh_eq_sinh_div_cosh, Real.sinh_eq, Real.cosh_eq, e]
  field_simp
  ring

theorem sig_coe (r : ℝ) : sig (r : EReal) = ((1 / (1 + Real.exp (-r)) : ℝ) : EReal) := by
  rw [← real_form, sig, half_eq, ← EReal.coe_mul, Ideal.tanh_coe, ← EReal.coe_one, ← EReal.coe_add, ← EReal.coe_mul]

theorem sig_bot : sig ⊥ = 0 := by
  rw [sig, half_eq, EReal.coe_mul_bot_of_pos (by norm_num), Ideal.tanh_bot, ← EReal.coe_one, ← EReal.coe_neg, ← EReal.coe_add,
    ← EReal.coe_mul]
  norm_num

theorem sig_top : sig ⊤ = 1 := by
  rw [sig, half_eq, EReal.coe_mul_top_of_pos (by norm_num), Ideal.tanh_top, ← EReal.coe_one, ← EReal.coe_add, ← EReal.coe_mul]
  norm_num

/-- The form with the exponential. -/
theorem eq_exp (x : EReal) : Ideal.div 1 (1 + Ideal.exp (-x)) = sig x := by
  induction x with
  | bot =>
    rw [sig_bot, EReal.neg_bot, show Ideal.exp ⊤ = (⊤ : EReal) from rfl, ← EReal.coe_one, EReal.coe_add_top]
    simp [Ideal.div]
  | coe r =>
    have h : (0 : ℝ) < 1 + Real.exp (-r) := by positivity
    rw [sig_coe, ← EReal.coe_neg, Ideal.exp_coe, ← EReal.coe_one, ← EReal.coe_add, Ideal.div_coe h.ne', ← EReal.coe_mul, one_mul]
  | top =>
    rw [sig_top, EReal.neg_top, show Ideal.exp ⊥ = (0 : EReal) from rfl, add_zero]
    simp [Ideal.div]

theorem isReal (x : EReal) : RealNorm.IsReal (sig x) := by
  induction x with
  | bot => exact ⟨0, sig_bot⟩
  | coe r => exact ⟨_, sig_coe r⟩
  | top => exact ⟨1, sig_top⟩

end Sigmoid
-- ==== Proof.MergeBwdSpec.lean ====
/- What the merge's backward call computes, as a function of its arguments.

   A token has two gate rows, the two mixers' rows `a` and `b` and the cotangent `dx` of the residual stream. Forward, each
   mixer's row times its weight is scaled by the logistic function of its gate, the two are added (`merged`), and the sum
   times the output weight (`mix`) is normalised. Backward, `dmix` is the cotangent of `mix`, `dm` that of `merged`, and
   from these come the cotangents of the gates, of the two products, and of `a` and `b`; the weights' gradients are sums
   over the tokens. -/
module

public import proofs.«01_k».proof.Proof.Sigmoid

@[expose] public section

noncomputable section

open Idealize.ShloMosaic

namespace MergeBwdSpec

abbrev Mat (a b : ℕ) := (⟨2, ![a, b]⟩ : Shape).Idx → EReal

structure Weights where
  pa : Mat 512 1024
  pb : Mat 512 1024
  wo : Mat 1024 1024
  post : Fin 1024 → EReal

structure Token where
  ga : Fin 1024 → EReal
  gb : Fin 1024 → EReal
  a : Fin 512 → EReal
  b : Fin 512 → EReal
  dx : Fin 1024 → EReal

open Sigmoid (sig)

variable (w : Weights) (t : Token)

/-! ## One token, forward -/

def ya (k : Fin 1024) : EReal := ∑ i, t.a i * w.pa (ix2 i k)
def yb (k : Fin 1024) : EReal := ∑ i, t.b i * w.pb (ix2 i k)
def merged (k : Fin 1024) : EReal := sig (t.ga k) * ya w t k + sig (t.gb k) * yb w t k
def mix (l : Fin 1024) : EReal := ∑ k, merged w t k * w.wo (ix2 k l)
def mn (l : Fin 1024) : EReal := mix w t l * RealNorm.factor (mix w t)

/-! ## One token, backward -/

def dmix : Fin 1024 → EReal := RealNorm.bwd (mix w t) fun l => t.dx l * w.post l
def dm (k : Fin 1024) : EReal := ∑ l, dmix w t l * w.wo (ix2 k l)
def dya (k : Fin 1024) : EReal := dm w t k * sig (t.ga k)
def dyb (k : Fin 1024) : EReal := dm w t k * sig (t.gb k)
def dga (k : Fin 1024) : EReal := dm w t k * ya w t k * sig (t.ga k) * (1 - sig (t.ga k))
def dgb (k : Fin 1024) : EReal := dm w t k * yb w t k * sig (t.gb k) * (1 - sig (t.gb k))
def da (i : Fin 512) : EReal := ∑ k, dya w t k * w.pa (ix2 i k)
def db (i : Fin 512) : EReal := ∑ k, dyb w t k * w.pb (ix2 i k)

/-- The two gates' cotangents side by side, and the two mixers'. -/
def dgate (k : Fin 2048) : EReal := if h : k.val < 1024 then dga w t ⟨k.val, h⟩ else dgb w t ⟨k.val - 1024, by omega⟩
def dmixers (i : Fin 1024) : EReal := if h : i.val < 512 then da w t ⟨i.val, h⟩ else db w t ⟨i.val - 512, by omega⟩

/-! ## The arrays -/

def weights (pa pb : Mat 512 1024) (wo : Mat 1024 1024) (g : Mat 1 1024) : Weights := ⟨pa, pb, wo, fun l => g (ix2 0 l)⟩

def token (ga gb : Mat 2048 1024) (a b : Mat 2048 512) (dx : Mat 2048 1024) (r : Fin 2048) : Token :=
  ⟨fun l => ga (ix2 r l), fun l => gb (ix2 r l), fun l => a (ix2 r l), fun l => b (ix2 r l), fun l => dx (ix2 r l)⟩

/-- Column `k` of the `j`th quarter of the columns. -/
def col (j : Fin 4) (k : Fin 256) : Fin 1024 := ⟨256 * j.val + k.val, by omega⟩

variable (T : Fin 2048 → Token)

def dgateOf : Mat 2048 2048 := fun y => dgate w (T (y 0)) (y 1)
def dmixersOf : Mat 2048 1024 := fun y => dmixers w (T (y 0)) (y 1)
def dpostOf : Mat 1 1024 := fun y => ∑ r, (T r).dx (y 1) * mn w (T r) (y 1)
def dpa (i : Fin 512) (k : Fin 1024) : EReal := ∑ r, (T r).a i * dya w (T r) k
def dpb (i : Fin 512) (k : Fin 1024) : EReal := ∑ r, (T r).b i * dyb w (T r) k
def dpaOf : (⟨3, ![4, 512, 256]⟩ : Shape).Idx → EReal := fun y => dpa w T (y 1) (col (y 0) (y 2))
def dpbOf : (⟨3, ![4, 512, 256]⟩ : Shape).Idx → EReal := fun y => dpb w T (y 1) (col (y 0) (y 2))
def dwoOf : Mat 1024 1024 := fun y => ∑ r, merged w (T r) (y 0) * dmix w (T r) (y 1)

end MergeBwdSpec
-- ==== Proof.MergeBwdBlock.lean ====
/- What one point of the merge's backward call computes from its blocks.

   The two mixers' weights are read in four shards of 256 columns, and everything between `dm` and the products with the
   weights is computed a quarter of the columns at a time. -/
module

public import proofs.«01_k».proof.Proof.MergeBwdSpec
public import proofs.«01_k».proof.Proof.Gen.MergeBwdIdeal.Value

@[expose] public section

set_option maxRecDepth 16384

noncomputable section

open Idealize.ShloMosaic Idealize.ShloMosaic.TcCoe Idealize.SL.Sem

namespace MergeBwdBlock

open Cert.MergeBwdIdeal Cert.MergeBwdIdeal.Gen MergeBwdSpec
open Sigmoid (sig)

theorem sum_quarters (f : Fin 1024 → EReal) :
    ∑ k, f k = ∑ k, f (col 0 k) + ∑ k, f (col 1 k) + ∑ k, f (col 2 k) + ∑ k, f (col 3 k) := by
  refine (Fin.sum_mul_add_congr (S := 4) (n := 256) (F := fun j k => f (col j k)) fun j k hl => ?_).symm.trans
    (Fin.sum_univ_four _)
  exact congrArg f (Fin.ext (by simp only [col]; omega))

variable (w : Weights) (A : Fin 256 → Token)

/-! ## The blocks, as the rows they hold -/

def vec (g : Fin 1024 → EReal) : Vec Ideal S1x1024 .f32 := fun y => g (y 1)
def dxB : Vec Ideal S256x1024 .f32 := fun y => (A (y 0)).dx (y 1)
def mixB : Vec Ideal S256x1024 .f32 := fun y => mix w (A (y 0)) (y 1)
def mergedB : Vec Ideal S256x1024 .bf16 := fun y => merged w (A (y 0)) (y 1)
def aB : Vec Ideal S256x512 .bf16 := fun y => (A (y 0)).a (y 1)
def bB : Vec Ideal S256x512 .bf16 := fun y => (A (y 0)).b (y 1)
def gaB (j : Fin 4) : Vec Ideal S256x256 .f32 := fun y => (A (y 0)).ga (col j (y 1))
def gbB (j : Fin 4) : Vec Ideal S256x256 .f32 := fun y => (A (y 0)).gb (col j (y 1))
def paShard (j : Fin 4) : Vec Ideal S1x512x256 .bf16 := fun y => w.pa (ix2 (y 1) (col j (y 2)))
def pbShard (j : Fin 4) : Vec Ideal S1x512x256 .bf16 := fun y => w.pb (ix2 (y 1) (col j (y 2)))

def dmixB : Vec Ideal S256x1024 .bf16 := fun y => dmix w (A (y 0)) (y 1)
def dmAllB : Vec Ideal S256x1024 .f32 := fun y => dm w (A (y 0)) (y 1)
def dmB (j : Fin 4) : Vec Ideal S256x256 .f32 := fun y => dm w (A (y 0)) (col j (y 1))
def yaB (j : Fin 4) : Vec Ideal S256x256 .f32 := fun y => ya w (A (y 0)) (col j (y 1))
def ybB (j : Fin 4) : Vec Ideal S256x256 .f32 := fun y => yb w (A (y 0)) (col j (y 1))
def saB (j : Fin 4) : Vec Ideal S256x256 .f32 := fun y => sig ((A (y 0)).ga (col j (y 1)))
def dyaB (j : Fin 4) : Vec Ideal S256x256 .bf16 := fun y => dya w (A (y 0)) (col j (y 1))
def dybB (j : Fin 4) : Vec Ideal S256x256 .bf16 := fun y => dyb w (A (y 0)) (col j (y 1))
def dgaB (j : Fin 4) : Vec Ideal S256x256 .bf16 := fun y => dga w (A (y 0)) (col j (y 1))
def dgbB (j : Fin 4) : Vec Ideal S256x256 .bf16 := fun y => dgb w (A (y 0)) (col j (y 1))

/-! ## The norm, and the output weight -/

theorem post_step (acc : Vec Ideal S1x1024 .f32) : k0_pay22 (F := Ideal) (dxB A) (mixB w A) acc
    = fun y => acc y + ∑ r, (A r).dx (y 1) * mn w (A r) (y 1) := by
  funext y
  obtain ⟨l, rfl⟩ : ∃ l, y = ix2 0 l := ⟨y 1, by rw [← ix2_eta y]; congr 1; exact Subsingleton.elim _ _⟩
  pointwise [k0_pay22, k0_pay21, k0_pay20, k0_pay19]
  rfl

theorem mix_cotangent : k0_pay23 (F := Ideal) (dxB A) (mixB w A) (vec w.post) = dmixB w A := by
  funext y
  obtain ⟨r, l, rfl⟩ : ∃ r l, y = ix2 r l := ⟨y 0, y 1, (ix2_eta y).symm⟩
  pointwise [k0_pay23, k0_pay21, k0_pay20, k0_pay19]
  rfl

theorem out_step (acc : Vec Ideal S1024x1024 .f32) : k0_pay24 (F := Ideal) (dmixB w A) acc (mergedB w A)
    = fun y => acc y + ∑ r, merged w (A r) (y 0) * dmix w (A r) (y 1) := by
  funext y
  obtain ⟨r, l, rfl⟩ : ∃ r l, y = ix2 r l := ⟨y 0, y 1, (ix2_eta y).symm⟩
  pointwise [k0_pay24]
  rfl

theorem merged_cotangent (W : Vec Ideal S1024x1024 .bf16) (hW : W = w.wo) : k0_pay25 (F := Ideal) (dmixB w A) W = dmAllB w A := by
  subst hW
  funext y
  obtain ⟨r, l, rfl⟩ : ∃ r l, y = ix2 r l := ⟨y 0, y 1, (ix2_eta y).symm⟩
  pointwise [k0_pay25]
  rfl

theorem quarter_zero (W : Vec Ideal S1024x1024 .bf16) (hW : W = w.wo) : k0_pay30 (F := Ideal) (dmixB w A) W = dmB w A 0 := by
  unfold k0_pay30
  rw [merged_cotangent w A W hW]
  funext y
  obtain ⟨r, l, rfl⟩ : ∃ r l, y = ix2 r l := ⟨y 0, y 1, (ix2_eta y).symm⟩
  pointwise
  simp only [dmAllB, dmB]
  exact congrArg _ (Fin.ext (by simp [col]))

theorem quarter_one : k0_pay43 (F := Ideal) (dmAllB w A) = dmB w A 1 := by
  funext y
  obtain ⟨r, l, rfl⟩ : ∃ r l, y = ix2 r l := ⟨y 0, y 1, (ix2_eta y).symm⟩
  pointwise [k0_pay43]
  rfl

theorem quarter_two : k0_pay54 (F := Ideal) (dmAllB w A) = dmB w A 2 := by
  funext y
  obtain ⟨r, l, rfl⟩ : ∃ r l, y = ix2 r l := ⟨y 0, y 1, (ix2_eta y).symm⟩
  pointwise [k0_pay54]
  rfl

theorem quarter_three : k0_pay66 (F := Ideal) (dmAllB w A) = dmB w A 3 := by
  funext y
  obtain ⟨r, l, rfl⟩ : ∃ r l, y = ix2 r l := ⟨y 0, y 1, (ix2_eta y).symm⟩
  pointwise [k0_pay66]
  rfl

/-! ## The products' cotangents -/

theorem a_block : k0_pay26 (F := Ideal) (aB A) = aB A := by
  funext y
  obtain ⟨r, l, rfl⟩ : ∃ r l, y = ix2 r l := ⟨y 0, y 1, (ix2_eta y).symm⟩
  pointwise [k0_pay26]

theorem b_block : k0_pay27 (F := Ideal) (bB A) = bB A := by
  funext y
  obtain ⟨r, l, rfl⟩ : ∃ r l, y = ix2 r l := ⟨y 0, y 1, (ix2_eta y).symm⟩
  pointwise [k0_pay27]

theorem dya_zero (j : Fin 4) : k0_pay37 (F := Ideal) (dmB w A j) (k0_pay33 (gaB A j)) k0_pay34 = dyaB w A j := by
  funext y
  obtain ⟨r, l, rfl⟩ : ∃ r l, y = ix2 r l := ⟨y 0, y 1, (ix2_eta y).symm⟩
  pointwise [k0_pay37, k0_pay35, k0_pay33, k0_pay34]
  rfl

theorem dyb_zero (j : Fin 4) : k0_pay38 (F := Ideal) (dmB w A j) (gbB A j) = dybB w A j := by
  funext y
  obtain ⟨r, l, rfl⟩ : ∃ r l, y = ix2 r l := ⟨y 0, y 1, (ix2_eta y).symm⟩
  pointwise [k0_pay38, k0_pay36]
  rfl

theorem dya_one (j : Fin 4) : k0_pay46 (F := Ideal) (dmB w A j) (gaB A j) = dyaB w A j := by
  funext y
  obtain ⟨r, l, rfl⟩ : ∃ r l, y = ix2 r l := ⟨y 0, y 1, (ix2_eta y).symm⟩
  pointwise [k0_pay46, k0_pay44]
  rfl

theorem dyb_one (j : Fin 4) : k0_pay47 (F := Ideal) (dmB w A j) (gbB A j) = dybB w A j := by
  funext y
  obtain ⟨r, l, rfl⟩ : ∃ r l, y = ix2 r l := ⟨y 0, y 1, (ix2_eta y).symm⟩
  pointwise [k0_pay47, k0_pay45]
  rfl

theorem dya_two (j : Fin 4) : k0_pay60 (F := Ideal) (dmB w A j) (k0_pay57 (gaB A j)) = dyaB w A j := by
  funext y
  obtain ⟨r, l, rfl⟩ : ∃ r l, y = ix2 r l := ⟨y 0, y 1, (ix2_eta y).symm⟩
  pointwise [k0_pay60, k0_pay57]
  rfl

theorem dyb_two (j : Fin 4) : k0_pay61 (F := Ideal) (dmB w A j) (k0_pay58 (gbB A j)) (FloatOps.ofBits .f32 1065353216#32)
    = dybB w A j := by
  funext y
  obtain ⟨r, l, rfl⟩ : ∃ r l, y = ix2 r l := ⟨y 0, y 1, (ix2_eta y).symm⟩
  pointwise [k0_pay61, k0_pay59, k0_pay58]
  rfl

theorem dya_three (j : Fin 4) : k0_pay71 (F := Ideal) (dmB w A j) (gaB A j) = dyaB w A j := by
  funext y
  obtain ⟨r, l, rfl⟩ : ∃ r l, y = ix2 r l := ⟨y 0, y 1, (ix2_eta y).symm⟩
  pointwise [k0_pay71, k0_pay69]
  rfl

theorem dyb_three (j : Fin 4) : k0_pay72 (F := Ideal) (dmB w A j) (gbB A j) = dybB w A j := by
  funext y
  obtain ⟨r, l, rfl⟩ : ∃ r l, y = ix2 r l := ⟨y 0, y 1, (ix2_eta y).symm⟩
  pointwise [k0_pay72, k0_pay70]
  rfl

/-! ## The gates' cotangents -/

theorem dga_zero (j : Fin 4) : k0_pay39 (F := Ideal) (dmB w A j) (k0_pay31 (aB A) (paShard w j)) (k0_pay33 (gaB A j)) k0_pay34
    = dgaB w A j := by
  unfold k0_pay31
  rw [a_block]
  funext y
  obtain ⟨r, l, rfl⟩ : ∃ r l, y = ix2 r l := ⟨y 0, y 1, (ix2_eta y).symm⟩
  pointwise [k0_pay39, k0_pay35, k0_pay33, k0_pay34]
  rfl

theorem dgb_zero (j : Fin 4) : k0_pay40 (F := Ideal) (dmB w A j) (k0_pay32 (bB A) (pbShard w j)) (gbB A j) = dgbB w A j := by
  unfold k0_pay32
  rw [b_block]
  funext y
  obtain ⟨r, l, rfl⟩ : ∃ r l, y = ix2 r l := ⟨y 0, y 1, (ix2_eta y).symm⟩
  pointwise [k0_pay40, k0_pay36]
  rfl

theorem dga_one (j : Fin 4) : k0_pay48 (F := Ideal) (aB A) (dmB w A j) (paShard w j) (gaB A j) = dgaB w A j := by
  funext y
  obtain ⟨r, l, rfl⟩ : ∃ r l, y = ix2 r l := ⟨y 0, y 1, (ix2_eta y).symm⟩
  pointwise [k0_pay48, k0_pay44]
  rfl

theorem dgb_one (j : Fin 4) : k0_pay51 (F := Ideal) (k0_pay49 (bB A) (dmB w A j) (pbShard w j) (gbB A j)) (k0_pay50 (gbB A j))
    = dgbB w A j := by
  funext y
  obtain ⟨r, l, rfl⟩ : ∃ r l, y = ix2 r l := ⟨y 0, y 1, (ix2_eta y).symm⟩
  pointwise [k0_pay51, k0_pay49, k0_pay50, k0_pay45]
  rfl

theorem dga_two (j : Fin 4) : k0_pay62 (F := Ideal) (dmB w A j) (k0_pay55 (aB A) (paShard w j)) (k0_pay57 (gaB A j))
    = dgaB w A j := by
  funext y
  obtain ⟨r, l, rfl⟩ : ∃ r l, y = ix2 r l := ⟨y 0, y 1, (ix2_eta y).symm⟩
  pointwise [k0_pay62, k0_pay55, k0_pay57]
  rfl

theorem dgb_two (j : Fin 4) : k0_pay63 (F := Ideal) (dmB w A j) (k0_pay56 (bB A) (pbShard w j)) (k0_pay58 (gbB A j))
    (FloatOps.ofBits .f32 1065353216#32) = dgbB w A j := by
  funext y
  obtain ⟨r, l, rfl⟩ : ∃ r l, y = ix2 r l := ⟨y 0, y 1, (ix2_eta y).symm⟩
  pointwise [k0_pay63, k0_pay56, k0_pay58, k0_pay59]
  rfl

theorem dga_three (j : Fin 4) : k0_pay73 (F := Ideal) (dmB w A j) (k0_pay67 (aB A) (paShard w j)) (gaB A j) = dgaB w A j := by
  funext y
  obtain ⟨r, l, rfl⟩ : ∃ r l, y = ix2 r l := ⟨y 0, y 1, (ix2_eta y).symm⟩
  pointwise [k0_pay73, k0_pay67, k0_pay69]
  rfl

theorem dgb_three (j : Fin 4) : k0_pay74 (F := Ideal) (bB A) (dmB w A j) (k0_pay68 (pbShard w j)) (gbB A j) = dgbB w A j := by
  funext y
  obtain ⟨r, l, rfl⟩ : ∃ r l, y = ix2 r l := ⟨y 0, y 1, (ix2_eta y).symm⟩
  pointwise [k0_pay74, k0_pay68, k0_pay70]
  rfl

/-! ## The mixers' cotangents -/

def daPart (j : Fin 4) (t : Token) (i : Fin 512) : EReal := ∑ k, dya w t (col j k) * w.pa (ix2 i (col j k))
def dbPart (j : Fin 4) (t : Token) (i : Fin 512) : EReal := ∑ k, dyb w t (col j k) * w.pb (ix2 i (col j k))

theorem da_parts (t : Token) (i : Fin 512) : da w t i = daPart w 0 t i + daPart w 1 t i + daPart w 2 t i + daPart w 3 t i :=
  sum_quarters _
theorem db_parts (t : Token) (i : Fin 512) : db w t i = dbPart w 0 t i + dbPart w 1 t i + dbPart w 2 t i + dbPart w 3 t i :=
  sum_quarters _

def daB : Vec Ideal S256x512 .f32 := fun y => da w (A (y 0)) (y 1)
def dbB : Vec Ideal S256x512 .f32 := fun y => db w (A (y 0)) (y 1)

theorem da_four : k0_pay1 (F := Ideal)
      (k0_pay64 (k0_pay52 (k0_pay41 k0_pay28 (dmB w A 0) (k0_pay33 (gaB A 0)) k0_pay34 (paShard w 0)) (dyaB w A 1) (paShard w 1))
        (dmB w A 2) (k0_pay57 (gaB A 2)) (paShard w 2)) (dyaB w A 3) (paShard w 3) = daB w A := by
  unfold k0_pay64 k0_pay41
  rw [dya_zero, dya_two]
  funext y
  obtain ⟨r, l, rfl⟩ : ∃ r l, y = ix2 r l := ⟨y 0, y 1, (ix2_eta y).symm⟩
  pointwise [k0_pay1, k0_pay52, k0_pay28]
  show _ = da w (A r) l
  rw [da_parts]
  rfl

theorem db_four : k0_pay2 (F := Ideal)
      (k0_pay65 (k0_pay53 (k0_pay42 k0_pay29 (dmB w A 0) (gbB A 0) (pbShard w 0)) (dybB w A 1) (pbShard w 1))
        (dmB w A 2) (k0_pay58 (gbB A 2)) (FloatOps.ofBits .f32 1065353216#32) (pbShard w 2)) (dybB w A 3) (pbShard w 3)
    = dbB w A := by
  unfold k0_pay65 k0_pay42
  rw [dyb_zero, dyb_two]
  funext y
  obtain ⟨r, l, rfl⟩ : ∃ r l, y = ix2 r l := ⟨y 0, y 1, (ix2_eta y).symm⟩
  pointwise [k0_pay2, k0_pay53, k0_pay29]
  show _ = db w (A r) l
  rw [db_parts]
  rfl

/-! ## The mixers' weights -/

/-- Four quarters of the columns, joined. -/
theorem joined (f : Fin 1024 → EReal) (l : Fin 1024) :
    (if h : l.val < 256 then f (col 0 ⟨l.val, h⟩)
      else if h : l.val - 256 < 256 then f (col 1 ⟨l.val - 256, h⟩)
      else if h : l.val - 256 - 256 < 256 then f (col 2 ⟨l.val - 256 - 256, h⟩)
      else f (col 3 ⟨l.val - 256 - 256 - 256, by omega⟩)) = f l := by
  split_ifs
  all_goals exact congrArg f (Fin.ext (by simp [col]; try omega))

theorem pa_step (acc : Vec Ideal S512x1024 .f32) :
    k0_pay3 (F := Ideal) (aB A) (dyaB w A 0) (dyaB w A 1) (dyaB w A 2) (dyaB w A 3) acc
    = fun y => acc y + ∑ r, (A r).a (y 0) * dya w (A r) (y 1) := by
  funext y
  obtain ⟨i, l, rfl⟩ : ∃ r l, y = ix2 r l := ⟨y 0, y 1, (ix2_eta y).symm⟩
  pointwise [k0_pay3]
  exact congrArg (acc (ix2 i l) + ·) (Finset.sum_congr rfl fun r _ => congrArg ((A r).a i * ·) (joined (dya w (A r)) l))

theorem pb_step (acc : Vec Ideal S512x1024 .f32) :
    k0_pay4 (F := Ideal) (bB A) (dybB w A 0) (dybB w A 1) (dybB w A 2) (dybB w A 3) acc
    = fun y => acc y + ∑ r, (A r).b (y 0) * dyb w (A r) (y 1) := by
  funext y
  obtain ⟨i, l, rfl⟩ : ∃ r l, y = ix2 r l := ⟨y 0, y 1, (ix2_eta y).symm⟩
  pointwise [k0_pay4]
  exact congrArg (acc (ix2 i l) + ·) (Finset.sum_congr rfl fun r _ => congrArg ((A r).b i * ·) (joined (dyb w (A r)) l))

end MergeBwdBlock
-- ==== Proof.MergeBwdHost.lean ====
/- What the merge's backward call finds in its operands.

   The host computes the forward `merged` and `mix` from the arguments, lays the two gates and the two mixers' rows side by
   side, and cuts the two mixers' weights into four shards of 256 columns. Here each block a point reads is read back from
   the arguments. -/
module

public import proofs.«01_k».proof.Proof.MergeBwdBlock

@[expose] public section

set_option maxRecDepth 16384

noncomputable section

open Idealize.ShloMosaic Idealize.ShloMosaic.TcCoe Idealize.SL.Sem

namespace Cert.MergeBwdIdeal.Val

open Cert.MergeBwdIdeal Cert.MergeBwdIdeal.Gen MergeBwdSpec MergeBwdBlock

variable (m : (ℓ : Loc nD τ sig) → Buf (Elt Ideal) ℓ)

/-- Where each window's block lies at point `t`. -/
theorem idx : ∀ t : Fin grid0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 3) = 0 ∧ win0_5.index t (1 : Fin 3) = 0 ∧ win0_5.index t (2 : Fin 3) = 0)
    ∧ (win0_6.index t (0 : Fin 3) = 0 ∧ win0_6.index t (1 : Fin 3) = 0 ∧ win0_6.index t (2 : Fin 3) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0) := by
  decide +kernel

/-- Row `r` of point `t`'s block. -/
def rowOf (t : Fin cfg0.N) (r : Fin 256) : Fin 2048 :=
  ⟨256 * t.val + r.val, by have h : t.val < 8 := lt_of_lt_of_eq t.isLt N_0; omega⟩

/-- The weights of a device, its tokens, and the tokens a point has. -/
def wt (c : Dev nD) : Weights := weights (m ((c : Thread nD τ).loc main_arg4)) (m ((c : Thread nD τ).loc main_arg5))
  (m ((c : Thread nD τ).loc main_arg6)) (m ((c : Thread nD τ).loc main_arg7))
def tks (c : Dev nD) : Fin 2048 → Token := token (m ((c : Thread nD τ).loc main_arg0)) (m ((c : Thread nD τ).loc main_arg1))
  (m ((c : Thread nD τ).loc main_arg2)) (m ((c : Thread nD τ).loc main_arg3)) (m ((c : Thread nD τ).loc main_arg8))
def tk (c : Dev nD) (t : Fin cfg0.N) : Fin 256 → Token := fun r => tks m c (rowOf t r)

/-! ## The operands -/

theorem merged_operand (c : Dev nD) (r : Fin 2048) (k : Fin 1024) :
    V m c main_v27 (ix2 r k) = merged (wt m c) (tks m c r) k := by
  entry_read
  pointwise
  simp only [Sigmoid.eq_exp]
  rfl

theorem mix_operand (c : Dev nD) (r : Fin 2048) (l : Fin 1024) : V m c main_v17 (ix2 r l) = mix (wt m c) (tks m c r) l := by
  entry_read
  pointwise
  simp only [Sigmoid.eq_exp]
  rfl

theorem pa_operand (c : Dev nD) (j : Fin 4) (i : Fin 512) (k : Fin 256) :
    V m c main_v20 (ix3 j i k) = (wt m c).pa (ix2 i (col j k)) := by
  entry_read
  pointwise
  simp only [wt, weights]
  blk_ext [col]

theorem pb_operand (c : Dev nD) (j : Fin 4) (i : Fin 512) (k : Fin 256) :
    V m c main_v23 (ix3 j i k) = (wt m c).pb (ix2 i (col j k)) := by
  entry_read
  pointwise
  simp only [wt, weights]
  blk_ext [col]

theorem out_operand (c : Dev nD) : V m c main_v28 = (wt m c).wo := by
  funext y
  obtain ⟨r, l, rfl⟩ : ∃ r l, y = ix2 r l := ⟨y 0, y 1, (ix2_eta y).symm⟩
  entry_read
  pointwise
  rfl

theorem mixers_operand (c : Dev nD) (r : Fin 2048) (l : Fin 1024) : V m c main_v25 (ix2 r l)
    = if h : l.val < 512 then (tks m c r).a ⟨l.val, h⟩ else (tks m c r).b ⟨l.val - 512, by omega⟩ := by
  entry_read
  pointwise
  rfl

theorem gates_operand (c : Dev nD) (r : Fin 2048) (l : Fin 2048) : V m c main_v26 (ix2 r l)
    = if h : l.val < 1024 then (tks m c r).ga ⟨l.val, h⟩ else (tks m c r).gb ⟨l.val - 1024, by omega⟩ := by
  entry_read
  pointwise
  rfl

/-! ## The blocks -/

theorem dx_block (c : Dev nD) (t : Fin cfg0.N) : iblk m c 0 t = dxB (tk m c t) := by
  funext y
  obtain ⟨r, l, rfl⟩ : ∃ r l, y = ix2 r l := ⟨y 0, y 1, (ix2_eta y).symm⟩
  simp only [dxB, tk, tks, token]
  blk_ext [iblk, V, idx t, rowOf]

theorem post_block (c : Dev nD) (t : Fin cfg0.N) : iblk m c 8 t = vec (wt m c).post := by
  funext y
  obtain ⟨r, l, rfl⟩ : ∃ r l, y = ix2 r l := ⟨y 0, y 1, (ix2_eta y).symm⟩
  simp only [vec, wt, weights]
  blk_ext [iblk, V, idx t]

theorem mix_block (c : Dev nD) (t : Fin cfg0.N) : iblk m c 1 t = mixB (wt m c) (tk m c t) := by
  funext y
  obtain ⟨r, l, rfl⟩ : ∃ r l, y = ix2 r l := ⟨y 0, y 1, (ix2_eta y).symm⟩
  refine Eq.trans ?_ (mix_operand m c (rowOf t r) l)
  unfold iblk
  generalize V m c main_v17 = X
  blk_ext [idx t, rowOf]

theorem merged_block (c : Dev nD) (t : Fin cfg0.N) : iblk m c 4 t = mergedB (wt m c) (tk m c t) := by
  funext y
  obtain ⟨r, l, rfl⟩ : ∃ r l, y = ix2 r l := ⟨y 0, y 1, (ix2_eta y).symm⟩
  refine Eq.trans ?_ (merged_operand m c (rowOf t r) l)
  unfold iblk
  generalize V m c main_v27 = X
  blk_ext [idx t, rowOf]

theorem out_block (c : Dev nD) (t : Fin cfg0.N) : iblk m c 7 t = (wt m c).wo := by
  rw [← out_operand]
  funext y
  obtain ⟨r, l, rfl⟩ : ∃ r l, y = ix2 r l := ⟨y 0, y 1, (ix2_eta y).symm⟩
  unfold iblk
  generalize V m c main_v28 = X
  blk_ext [idx t]

theorem mixers_block (c : Dev nD) (t : Fin cfg0.N) :
    iblk m c 2 t = fun y => V m c main_v25 (ix2 (rowOf t (y 0)) (y 1)) := by
  funext y
  obtain ⟨r, l, rfl⟩ : ∃ r l, y = ix2 r l := ⟨y 0, y 1, (ix2_eta y).symm⟩
  unfold iblk
  generalize V m c main_v25 = X
  blk_ext [idx t, rowOf]

theorem gates_block (c : Dev nD) (t : Fin cfg0.N) :
    iblk m c 3 t = fun y => V m c main_v26 (ix2 (rowOf t (y 0)) (y 1)) := by
  funext y
  obtain ⟨r, l, rfl⟩ : ∃ r l, y = ix2 r l := ⟨y 0, y 1, (ix2_eta y).symm⟩
  unfold iblk
  generalize V m c main_v26 = X
  blk_ext [idx t, rowOf]

theorem a_load (c : Dev nD) (t : Fin cfg0.N) (h : ∀ a, (![0, 0] : Fin 2 → Nat) a + S256x512.size a ≤ S256x1024.size a) :
    View.ld (iblk m c 2 t) (Rect.unit ![0, 0] ![256, 512] h) = aB (tk m c t) := by
  rw [mixers_block]
  funext y
  obtain ⟨r, l, rfl⟩ : ∃ r l, y = ix2 r l := ⟨y 0, y 1, (ix2_eta y).symm⟩
  refine (View.ld_unit_apply_of _ _ _ h _ (ix2 r ⟨l.val, by omega⟩) fun a => by fin_cases a <;> simp).trans ?_
  exact (mixers_operand m c (rowOf t r) _).trans (dif_pos l.isLt)

theorem b_load (c : Dev nD) (t : Fin cfg0.N) (h : ∀ a, (![0, 512] : Fin 2 → Nat) a + S256x512.size a ≤ S256x1024.size a) :
    View.ld (iblk m c 2 t) (Rect.unit ![0, 512] ![256, 512] h) = bB (tk m c t) := by
  rw [mixers_block]
  funext y
  obtain ⟨r, l, rfl⟩ : ∃ r l, y = ix2 r l := ⟨y 0, y 1, (ix2_eta y).symm⟩
  refine (View.ld_unit_apply_of _ _ _ h _ (ix2 r ⟨512 + l.val, by omega⟩) fun a => by fin_cases a <;> simp).trans ?_
  refine (mixers_operand m c (rowOf t r) _).trans ((dif_neg (by simp)).trans ?_)
  exact congrArg (tk m c t r).b (Fin.ext (by simp))

theorem ga_load (c : Dev nD) (t : Fin cfg0.N) (j : Fin 4) (o : ℕ) (ho : o = 256 * j.val)
    (h : ∀ a, (![0, o] : Fin 2 → Nat) a + S256x256.size a ≤ S256x2048.size a) :
    View.ld (iblk m c 3 t) (Rect.unit ![0, o] ![256, 256] h) = gaB (tk m c t) j := by
  subst ho
  rw [gates_block]
  funext y
  obtain ⟨r, l, rfl⟩ : ∃ r l, y = ix2 r l := ⟨y 0, y 1, (ix2_eta y).symm⟩
  refine (View.ld_unit_apply_of _ _ _ h _ (ix2 r ⟨256 * j.val + l.val, by omega⟩) fun a => by fin_cases a <;> simp).trans ?_
  exact (gates_operand m c (rowOf t r) _).trans (dif_pos (show 256 * j.val + l.val < 1024 by omega))

theorem gb_load (c : Dev nD) (t : Fin cfg0.N) (j : Fin 4) (o : ℕ) (ho : o = 1024 + 256 * j.val)
    (h : ∀ a, (![0, o] : Fin 2 → Nat) a + S256x256.size a ≤ S256x2048.size a) :
    View.ld (iblk m c 3 t) (Rect.unit ![0, o] ![256, 256] h) = gbB (tk m c t) j := by
  subst ho
  rw [gates_block]
  funext y
  obtain ⟨r, l, rfl⟩ : ∃ r l, y = ix2 r l := ⟨y 0, y 1, (ix2_eta y).symm⟩
  refine (View.ld_unit_apply_of _ _ _ h _ (ix2 r ⟨1024 + 256 * j.val + l.val, by omega⟩) fun a => by
    fin_cases a <;> simp).trans ?_
  refine (gates_operand m c (rowOf t r) _).trans ((dif_neg (show ¬ 1024 + 256 * j.val + l.val < 1024 by omega)).trans ?_)
  exact congrArg (tk m c t r).gb (Fin.ext (show 1024 + 256 * j.val + l.val - 1024 = 256 * j.val + l.val by omega))

theorem pa_shard (c : Dev nD) (t : Fin cfg0.N) (j : Fin 4) (o : ℕ) (ho : o = j.val)
    (h : ∀ a, (![o, 0, 0] : Fin 3 → Nat) a + S1x512x256.size a ≤ S4x512x256.size a) :
    View.ld (iblk m c 5 t) (Rect.unit ![o, 0, 0] ![1, 512, 256] h) = paShard (wt m c) j := by
  subst ho
  rw [show iblk m c 5 t = V m c main_v20 from ?_]
  · funext y
    obtain ⟨i, k, l, rfl⟩ : ∃ i k l, y = ix3 i k l := ⟨y 0, y 1, y 2, (ix3_eta y).symm⟩
    refine Eq.trans (congrArg (V m c main_v20) (a₂ := ix3 j k l) ?_) (pa_operand m c j k l)
    obtain rfl : i = 0 := Subsingleton.elim _ _
    funext a
    fin_cases a <;> (apply Fin.ext; rw [Rect.idx_unit_val]; simp)
  · funext y
    obtain ⟨i, k, l, rfl⟩ : ∃ i k l, y = ix3 i k l := ⟨y 0, y 1, y 2, (ix3_eta y).symm⟩
    unfold iblk
    generalize V m c main_v20 = X
    blk_ext [iblk, idx t]

theorem pb_shard (c : Dev nD) (t : Fin cfg0.N) (j : Fin 4) (o : ℕ) (ho : o = j.val)
    (h : ∀ a, (![o, 0, 0] : Fin 3 → Nat) a + S1x512x256.size a ≤ S4x512x256.size a) :
    View.ld (iblk m c 6 t) (Rect.unit ![o, 0, 0] ![1, 512, 256] h) = pbShard (wt m c) j := by
  subst ho
  rw [show iblk m c 6 t = V m c main_v23 from ?_]
  · funext y
    obtain ⟨i, k, l, rfl⟩ : ∃ i k l, y = ix3 i k l := ⟨y 0, y 1, y 2, (ix3_eta y).symm⟩
    refine Eq.trans (congrArg (V m c main_v23) (a₂ := ix3 j k l) ?_) (pb_operand m c j k l)
    obtain rfl : i = 0 := Subsingleton.elim _ _
    funext a
    fin_cases a <;> (apply Fin.ext; rw [Rect.idx_unit_val]; simp)
  · funext y
    obtain ⟨i, k, l, rfl⟩ : ∃ i k l, y = ix3 i k l := ⟨y 0, y 1, y 2, (ix3_eta y).symm⟩
    unfold iblk
    generalize V m c main_v23 = X
    blk_ext [iblk, idx t]

end Cert.MergeBwdIdeal.Val
-- ==== Proof.MergeBwdKernel.lean ====
/- The arrays the merge's backward call leaves.

   Its grid has eight points of 256 tokens each. A point writes its rows of the gates' and the mixers' cotangents and adds
   its rows to the norm weight's gradient and to three scratch arrays, the weights' gradients, which the last point writes
   out. -/
module

public import proofs.«01_k».proof.Proof.MergeBwdHost
public import proofs.«01_k».proof.Proof.Reads

@[expose] public section

set_option maxRecDepth 16384

noncomputable section

open Idealize.ShloMosaic Idealize.ShloMosaic.TcCoe Idealize.SL.Sem
open Idealize.ShloMosaic.Pipeline (Dat)

namespace Cert.MergeBwdIdeal.Val

open Cert.MergeBwdIdeal Cert.MergeBwdIdeal.Gen MergeBwdSpec MergeBwdBlock

variable (m : (ℓ : Loc nD τ sig) → Buf (Elt Ideal) ℓ)

/-! ## Pieces joined -/

/-- Column `k` of the `j`th quarter of the first and of the second gate. -/
def gateA (j : Fin 4) (k : Fin 256) : Fin 2048 := ⟨256 * j.val + k.val, by omega⟩
def gateB (j : Fin 4) (k : Fin 256) : Fin 2048 := ⟨1024 + 256 * j.val + k.val, by omega⟩

/-- Eight pieces of 256 columns: the first gate's quarters, and the second's. -/
theorem gate_pieces (f : Fin 256 → Fin 2048 → EReal) (P Q : Fin 4 → Vec Ideal S256x256 .bf16)
    (hP : ∀ j y, P j y = f (y 0) (gateA j (y 1))) (hQ : ∀ j y, Q j y = f (y 0) (gateB j (y 1))) :
    View.canon (Val := Elt Ideal) (s := S256x2048) (e := .bf16)
      [⟨Rect.unit ![0, 1792] ![256, 256] inb_S256x2048_S256x256_0_1792, Q 3⟩,
        ⟨Rect.unit ![0, 768] ![256, 256] inb_S256x2048_S256x256_0_768, P 3⟩,
        ⟨Rect.unit ![0, 1536] ![256, 256] inb_S256x2048_S256x256_0_1536, Q 2⟩,
        ⟨Rect.unit ![0, 512] ![256, 256] inb_S256x2048_S256x256_0_512, P 2⟩,
        ⟨Rect.unit ![0, 1280] ![256, 256] inb_S256x2048_S256x256_0_1280, Q 1⟩,
        ⟨Rect.unit ![0, 256] ![256, 256] inb_S256x2048_S256x256_0_256, P 1⟩,
        ⟨Rect.unit ![0, 1024] ![256, 256] inb_S256x2048_S256x256_0_1024, Q 0⟩,
        ⟨Rect.unit ![0, 0] ![256, 256] inb_S256x2048_S256x256_0_0, P 0⟩] = fun y => f (y 0) (y 1) := by
  funext y
  obtain ⟨r, l, rfl⟩ : ∃ r l, y = ix2 r l := ⟨y 0, y 1, (ix2_eta y).symm⟩
  canon_tiles x h
  all_goals first
    | (refine (hP _ x).trans (congrArg₂ f (Fin.ext h0.symm) (Fin.ext ?_)); rw [h1]; simp [gateA]; done)
    | (refine (hQ _ x).trans (congrArg₂ f (Fin.ext h0.symm) (Fin.ext ?_)); rw [h1]; simp [gateB])

theorem mixer_pieces (f : Fin 256 → Fin 1024 → EReal) (P Q : Vec Ideal S256x512 .f32)
    (hP : ∀ y, P y = f (y 0) ⟨(y 1).val, lt_trans (y 1).isLt (by decide)⟩)
    (hQ : ∀ y, Q y = f (y 0) ⟨512 + (y 1).val, Nat.add_lt_add_left (y 1).isLt 512⟩) :
    View.canon (Val := Elt Ideal) (s := S256x1024) (e := .f32)
      [⟨Rect.unit ![0, 512] ![256, 512] inb_S256x1024_S256x512_0_512, Q⟩,
        ⟨Rect.unit ![0, 0] ![256, 512] inb_S256x1024_S256x512_0_0, P⟩] = fun y => f (y 0) (y 1) := by
  funext y
  obtain ⟨r, l, rfl⟩ : ∃ r l, y = ix2 r l := ⟨y 0, y 1, (ix2_eta y).symm⟩
  canon_tiles x h
  · refine (hQ x).trans (congrArg₂ f (Fin.ext h0.symm) (Fin.ext ?_)); rw [h1]
  · refine (hP x).trans (congrArg₂ f (Fin.ext h0.symm) (Fin.ext ?_)); rw [h1]

theorem dgate_first (w : Weights) (t : Token) (j : Fin 4) (k : Fin 256) : dgate w t (gateA j k) = dga w t (col j k) := by
  unfold dgate gateA
  rw [dif_pos (show 256 * j.val + k.val < 1024 by omega)]
  rfl

theorem dgate_second (w : Weights) (t : Token) (j : Fin 4) (k : Fin 256) : dgate w t (gateB j k) = dgb w t (col j k) := by
  unfold dgate gateB
  rw [dif_neg (show ¬ 1024 + 256 * j.val + k.val < 1024 by omega)]
  exact congrArg (dgb w t) (Fin.ext (show 1024 + 256 * j.val + k.val - 1024 = 256 * j.val + k.val by omega))

theorem dmixers_first (w : Weights) (t : Token) (i : Fin 512) : dmixers w t ⟨i.val, by omega⟩ = da w t i := by
  unfold dmixers
  rw [dif_pos i.isLt]

theorem dmixers_second (w : Weights) (t : Token) (i : Fin 512) : dmixers w t ⟨512 + i.val, by omega⟩ = db w t i := by
  unfold dmixers
  rw [dif_neg (show ¬ 512 + i.val < 512 by omega)]
  exact congrArg (db w t) (Fin.ext (show 512 + i.val - 512 = i.val by omega))

/-! ## What a point computes -/

/-- The two blocks of rows. -/
theorem point (c : Dev nD) (t : Fin cfg0.N) :
    (outsAt0 m c t.val t.isLt).1 = (fun y => dgate (wt m c) (tk m c t (y 0)) (y 1))
    ∧ (outsAt0 m c t.val t.isLt).2.1 = (fun y => dmixers (wt m c) (tk m c t (y 0)) (y 1)) := by
  have hg := gate_pieces (fun r => dgate (wt m c) (tk m c t r)) (dgaB (wt m c) (tk m c t)) (dgbB (wt m c) (tk m c t))
    (fun j y => (dgate_first _ _ j (y 1)).symm) (fun j y => (dgate_second _ _ j (y 1)).symm)
  have hm := mixer_pieces (fun r => dmixers (wt m c) (tk m c t r)) (daB (wt m c) (tk m c t)) (dbB (wt m c) (tk m c t))
    (fun y => (dmixers_first _ _ (y 1)).symm) (fun y => (dmixers_second _ _ (y 1)).symm)
  by_cases h0 : t.val % 8 = 0
  · have h1 : ¬ t.val % 8 = 7 := by omega
    rw [outsAt0_A m c t h0 h1]
    refine ⟨?_, ?_⟩
    all_goals frame_out
    all_goals simp only [dx_block, mix_block, merged_block, out_block, post_block, a_load, b_load,
    ga_load m c t 0 0 rfl, ga_load m c t 1 256 rfl, ga_load m c t 2 512 rfl, ga_load m c t 3 768 rfl,
    gb_load m c t 0 1024 rfl, gb_load m c t 1 1280 rfl, gb_load m c t 2 1536 rfl, gb_load m c t 3 1792 rfl,
    pa_shard m c t 0 0 rfl, pa_shard m c t 1 1 rfl, pa_shard m c t 2 2 rfl, pa_shard m c t 3 3 rfl,
    pb_shard m c t 0 0 rfl, pb_shard m c t 1 1 rfl, pb_shard m c t 2 2 rfl, pb_shard m c t 3 3 rfl,
    mix_cotangent, quarter_zero _ _ _ rfl, merged_cotangent _ _ _ rfl, quarter_one, quarter_two, quarter_three, a_block, b_block,
    dya_zero, dya_one, dya_two, dya_three, dyb_zero, dyb_one, dyb_two, dyb_three,
    dga_zero, dga_one, dga_two, dga_three, dgb_zero, dgb_one, dgb_two, dgb_three, da_four, db_four]
    · exact hg
    · exact hm
  · by_cases h1 : t.val % 8 = 7
    · rw [outsAt0_C m c t h0 h1]
      refine ⟨?_, ?_⟩
      all_goals frame_out
      all_goals simp only [dx_block, mix_block, merged_block, out_block, post_block, a_load, b_load,
    ga_load m c t 0 0 rfl, ga_load m c t 1 256 rfl, ga_load m c t 2 512 rfl, ga_load m c t 3 768 rfl,
    gb_load m c t 0 1024 rfl, gb_load m c t 1 1280 rfl, gb_load m c t 2 1536 rfl, gb_load m c t 3 1792 rfl,
    pa_shard m c t 0 0 rfl, pa_shard m c t 1 1 rfl, pa_shard m c t 2 2 rfl, pa_shard m c t 3 3 rfl,
    pb_shard m c t 0 0 rfl, pb_shard m c t 1 1 rfl, pb_shard m c t 2 2 rfl, pb_shard m c t 3 3 rfl,
    mix_cotangent, quarter_zero _ _ _ rfl, merged_cotangent _ _ _ rfl, quarter_one, quarter_two, quarter_three, a_block, b_block,
    dya_zero, dya_one, dya_two, dya_three, dyb_zero, dyb_one, dyb_two, dyb_three,
    dga_zero, dga_one, dga_two, dga_three, dgb_zero, dgb_one, dgb_two, dgb_three, da_four, db_four]
      · exact hg
      · exact hm
    · rw [outsAt0_B m c t h0 h1]
      refine ⟨?_, ?_⟩
      all_goals frame_out
      all_goals simp only [dx_block, mix_block, merged_block, out_block, post_block, a_load, b_load,
    ga_load m c t 0 0 rfl, ga_load m c t 1 256 rfl, ga_load m c t 2 512 rfl, ga_load m c t 3 768 rfl,
    gb_load m c t 0 1024 rfl, gb_load m c t 1 1280 rfl, gb_load m c t 2 1536 rfl, gb_load m c t 3 1792 rfl,
    pa_shard m c t 0 0 rfl, pa_shard m c t 1 1 rfl, pa_shard m c t 2 2 rfl, pa_shard m c t 3 3 rfl,
    pb_shard m c t 0 0 rfl, pb_shard m c t 1 1 rfl, pb_shard m c t 2 2 rfl, pb_shard m c t 3 3 rfl,
    mix_cotangent, quarter_zero _ _ _ rfl, merged_cotangent _ _ _ rfl, quarter_one, quarter_two, quarter_three, a_block, b_block,
    dya_zero, dya_one, dya_two, dya_three, dyb_zero, dyb_one, dyb_two, dyb_three,
    dga_zero, dga_one, dga_two, dga_three, dgb_zero, dgb_one, dgb_two, dgb_three, da_four, db_four]
      · exact hg
      · exact hm

/-- What a point adds to the four sums. -/
def postPart (c : Dev nD) (t : Fin cfg0.N) (l : Fin 1024) : EReal := ∑ r, (tk m c t r).dx l * mn (wt m c) (tk m c t r) l
def paPart (c : Dev nD) (t : Fin cfg0.N) (i : Fin 512) (k : Fin 1024) : EReal :=
  ∑ r, (tk m c t r).a i * dya (wt m c) (tk m c t r) k
def pbPart (c : Dev nD) (t : Fin cfg0.N) (i : Fin 512) (k : Fin 1024) : EReal :=
  ∑ r, (tk m c t r).b i * dyb (wt m c) (tk m c t r) k
def woPart (c : Dev nD) (t : Fin cfg0.N) (k l : Fin 1024) : EReal :=
  ∑ r, merged (wt m c) (tk m c t r) k * dmix (wt m c) (tk m c t r) l

theorem first (c : Dev nD) (t : Fin cfg0.N) (h0 : t.val % 8 = 0) :
    (∀ l, (outsAt0 m c t.val t.isLt).2.2.1 (ix2 0 l) = 0 + postPart m c t l)
    ∧ (∀ i k, (outsAt0 m c t.val t.isLt).2.2.2.2.2.2.1 (ix2 i k) = 0 + paPart m c t i k)
    ∧ (∀ i k, (outsAt0 m c t.val t.isLt).2.2.2.2.2.2.2.1 (ix2 i k) = 0 + pbPart m c t i k)
    ∧ (∀ k l, (outsAt0 m c t.val t.isLt).2.2.2.2.2.2.2.2 (ix2 k l) = 0 + woPart m c t k l) := by
  have h1 : ¬ t.val % 8 = 7 := by omega
  rw [outsAt0_A m c t h0 h1]
  refine ⟨fun l => ?_, fun i k => ?_, fun i k => ?_, fun k l => ?_⟩
  all_goals frame_out
  all_goals simp only [dx_block, mix_block, merged_block, out_block, post_block, a_load, b_load,
    ga_load m c t 0 0 rfl, ga_load m c t 1 256 rfl, ga_load m c t 2 512 rfl, ga_load m c t 3 768 rfl,
    gb_load m c t 0 1024 rfl, gb_load m c t 1 1280 rfl, gb_load m c t 2 1536 rfl, gb_load m c t 3 1792 rfl,
    pa_shard m c t 0 0 rfl, pa_shard m c t 1 1 rfl, pa_shard m c t 2 2 rfl, pa_shard m c t 3 3 rfl,
    pb_shard m c t 0 0 rfl, pb_shard m c t 1 1 rfl, pb_shard m c t 2 2 rfl, pb_shard m c t 3 3 rfl,
    mix_cotangent, quarter_zero _ _ _ rfl, merged_cotangent _ _ _ rfl, quarter_one, quarter_two, quarter_three, a_block, b_block,
    dya_zero, dya_one, dya_two, dya_three, dyb_zero, dyb_one, dyb_two, dyb_three, post_step, out_step, pa_step, pb_step]
  all_goals (refine congrArg (· + _) ?_; pointwise [k0_pay15, k0_pay16, k0_pay17, k0_pay18])

theorem next (c : Dev nD) (t : Fin cfg0.N) (h0 : ¬ t.val % 8 = 0) :
    (∀ l, (outsAt0 m c t.val t.isLt).2.2.1 (ix2 0 l)
      = (outsAt0 m c (t.val - 1) (by have := t.isLt; omega)).2.2.1 (ix2 0 l) + postPart m c t l)
    ∧ (∀ i k, (outsAt0 m c t.val t.isLt).2.2.2.2.2.2.1 (ix2 i k)
      = (outsAt0 m c (t.val - 1) (by have := t.isLt; omega)).2.2.2.2.2.2.1 (ix2 i k) + paPart m c t i k)
    ∧ (∀ i k, (outsAt0 m c t.val t.isLt).2.2.2.2.2.2.2.1 (ix2 i k)
      = (outsAt0 m c (t.val - 1) (by have := t.isLt; omega)).2.2.2.2.2.2.2.1 (ix2 i k) + pbPart m c t i k)
    ∧ (∀ k l, (outsAt0 m c t.val t.isLt).2.2.2.2.2.2.2.2 (ix2 k l)
      = (outsAt0 m c (t.val - 1) (by have := t.isLt; omega)).2.2.2.2.2.2.2.2 (ix2 k l) + woPart m c t k l) := by
  by_cases h1 : t.val % 8 = 7
  · rw [outsAt0_C m c t h0 h1]
    refine ⟨fun l => ?_, fun i k => ?_, fun i k => ?_, fun k l => ?_⟩
    all_goals frame_out
    all_goals simp only [dx_block, mix_block, merged_block, out_block, post_block, a_load, b_load,
    ga_load m c t 0 0 rfl, ga_load m c t 1 256 rfl, ga_load m c t 2 512 rfl, ga_load m c t 3 768 rfl,
    gb_load m c t 0 1024 rfl, gb_load m c t 1 1280 rfl, gb_load m c t 2 1536 rfl, gb_load m c t 3 1792 rfl,
    pa_shard m c t 0 0 rfl, pa_shard m c t 1 1 rfl, pa_shard m c t 2 2 rfl, pa_shard m c t 3 3 rfl,
    pb_shard m c t 0 0 rfl, pb_shard m c t 1 1 rfl, pb_shard m c t 2 2 rfl, pb_shard m c t 3 3 rfl,
    mix_cotangent, quarter_zero _ _ _ rfl, merged_cotangent _ _ _ rfl, quarter_one, quarter_two, quarter_three, a_block, b_block,
    dya_zero, dya_one, dya_two, dya_three, dyb_zero, dyb_one, dyb_two, dyb_three, post_step, out_step, pa_step, pb_step, read_unread_whole]
    all_goals rfl
  · rw [outsAt0_B m c t h0 h1]
    refine ⟨fun l => ?_, fun i k => ?_, fun i k => ?_, fun k l => ?_⟩
    all_goals frame_out
    all_goals simp only [dx_block, mix_block, merged_block, out_block, post_block, a_load, b_load,
    ga_load m c t 0 0 rfl, ga_load m c t 1 256 rfl, ga_load m c t 2 512 rfl, ga_load m c t 3 768 rfl,
    gb_load m c t 0 1024 rfl, gb_load m c t 1 1280 rfl, gb_load m c t 2 1536 rfl, gb_load m c t 3 1792 rfl,
    pa_shard m c t 0 0 rfl, pa_shard m c t 1 1 rfl, pa_shard m c t 2 2 rfl, pa_shard m c t 3 3 rfl,
    pb_shard m c t 0 0 rfl, pb_shard m c t 1 1 rfl, pb_shard m c t 2 2 rfl, pb_shard m c t 3 3 rfl,
    mix_cotangent, quarter_zero _ _ _ rfl, merged_cotangent _ _ _ rfl, quarter_one, quarter_two, quarter_three, a_block, b_block,
    dya_zero, dya_one, dya_two, dya_three, dyb_zero, dyb_one, dyb_two, dyb_three, post_step, out_step, pa_step, pb_step, read_unread_whole]
    all_goals rfl

/-! ## What the last point writes out -/

def quarter (X : Vec Ideal S512x1024 .f32) (j : Fin 4) : Vec Ideal S512x256 .f32 := fun y => X (ix2 (y 0) (col j (y 1)))
def shard (X : Vec Ideal S512x1024 .f32) (j : Fin 4) : Vec Ideal S1x512x256 .bf16 := fun y => X (ix2 (y 1) (col j (y 2)))

theorem quarter_load (X : Vec Ideal S512x1024 .f32) (j : Fin 4) (o : ℕ) (ho : o = 256 * j.val)
    (h : ∀ a, (![0, o] : Fin 2 → Nat) a + S512x256.size a ≤ S512x1024.size a) :
    View.ld X (Rect.unit ![0, o] ![512, 256] h) = quarter X j := by
  subst ho
  funext y
  obtain ⟨r, l, rfl⟩ : ∃ r l, y = ix2 r l := ⟨y 0, y 1, (ix2_eta y).symm⟩
  exact View.ld_unit_apply_of _ _ _ h _ (ix2 r (col j l)) fun a => by fin_cases a <;> simp [col]

theorem shard_zero (X : Vec Ideal S512x1024 .f32) (j : Fin 4) : k0_pay10 (F := Ideal) (quarter X j) = shard X j := by
  funext y
  obtain ⟨i, k, l, rfl⟩ : ∃ i k l, y = ix3 i k l := ⟨y 0, y 1, y 2, (ix3_eta y).symm⟩
  pointwise [k0_pay10]
  rfl

theorem shard_zero' (X : Vec Ideal S512x1024 .f32) (j : Fin 4) : k0_pay11 (F := Ideal) (quarter X j) = shard X j := shard_zero X j
theorem shard_one (X : Vec Ideal S512x1024 .f32) (j : Fin 4) : k0_pay12 (F := Ideal) (quarter X j) = shard X j := shard_zero X j
theorem shard_one' (X : Vec Ideal S512x1024 .f32) (j : Fin 4) : k0_pay13 (F := Ideal) (quarter X j) = shard X j := shard_zero X j
theorem shard_two (X : Vec Ideal S512x1024 .f32) (j : Fin 4) : k0_pay5 (F := Ideal) (k0_pay14 (quarter X j)) = shard X j :=
  shard_zero X j
theorem shard_two' (X : Vec Ideal S512x1024 .f32) (j : Fin 4) : k0_pay6 (F := Ideal) (quarter X j) = shard X j := shard_zero X j
theorem shard_three (X : Vec Ideal S512x1024 .f32) (j : Fin 4) : k0_pay7 (F := Ideal) (quarter X j) = shard X j := shard_zero X j
theorem shard_three' (X : Vec Ideal S512x1024 .f32) (j : Fin 4) : k0_pay8 (F := Ideal) (quarter X j) = shard X j := shard_zero X j

/-- Four shards are the whole array. -/
theorem shards (X : Vec Ideal S512x1024 .f32) :
    View.canon (Val := Elt Ideal) (s := S4x512x256) (e := .bf16)
      [⟨Rect.unit ![3, 0, 0] ![1, 512, 256] inb_S4x512x256_S1x512x256_3_0_0, shard X 3⟩,
        ⟨Rect.unit ![2, 0, 0] ![1, 512, 256] inb_S4x512x256_S1x512x256_2_0_0, shard X 2⟩,
        ⟨Rect.unit ![1, 0, 0] ![1, 512, 256] inb_S4x512x256_S1x512x256_1_0_0, shard X 1⟩,
        ⟨Rect.unit ![0, 0, 0] ![1, 512, 256] inb_S4x512x256_S1x512x256_0_0_0, shard X 0⟩]
      = fun y => X (ix2 (y 1) (col (y 0) (y 2))) := by
  funext y
  obtain ⟨i, k, l, rfl⟩ : ∃ i k l, y = ix3 i k l := ⟨y 0, y 1, y 2, (ix3_eta y).symm⟩
  canon_tiles x h
  all_goals
    (refine congrArg X (congrArg₂ ix2 (Fin.ext h1.symm) (Fin.ext ?_))
     show 256 * _ + (x 2).val = 256 * (ix3 i k l 0).val + (ix3 i k l 2).val
     rw [h0, h2]
     simp)

theorem stored (X : Vec Ideal S512x1024 .f32) :
    View.canon (Val := Elt Ideal) (s := S512x1024) (e := .f32) [⟨Rect.unit ![0, 0] ![512, 1024] inb_S512x1024_S512x1024_0_0, X⟩] = X :=
  View.canon_cons_unit_lit inb_S512x1024_S512x1024_0_0 X [] (by decide)

theorem last (c : Dev nD) (t : Fin cfg0.N) (h0 : ¬ t.val % 8 = 0) (h1 : t.val % 8 = 7) :
    (outsAt0 m c t.val t.isLt).2.2.2.1 = (fun y => (outsAt0 m c t.val t.isLt).2.2.2.2.2.2.1 (ix2 (y 1) (col (y 0) (y 2))))
    ∧ (outsAt0 m c t.val t.isLt).2.2.2.2.1
      = (fun y => (outsAt0 m c t.val t.isLt).2.2.2.2.2.2.2.1 (ix2 (y 1) (col (y 0) (y 2))))
    ∧ (outsAt0 m c t.val t.isLt).2.2.2.2.2.1 = (outsAt0 m c t.val t.isLt).2.2.2.2.2.2.2.2 := by
  rw [outsAt0_C m c t h0 h1]
  refine ⟨?_, ?_, ?_⟩
  all_goals frame_out
  all_goals simp only [dx_block, mix_block, merged_block, out_block, post_block, a_load, b_load,
    ga_load m c t 0 0 rfl, ga_load m c t 1 256 rfl, ga_load m c t 2 512 rfl, ga_load m c t 3 768 rfl,
    gb_load m c t 0 1024 rfl, gb_load m c t 1 1280 rfl, gb_load m c t 2 1536 rfl, gb_load m c t 3 1792 rfl,
    pa_shard m c t 0 0 rfl, pa_shard m c t 1 1 rfl, pa_shard m c t 2 2 rfl, pa_shard m c t 3 3 rfl,
    pb_shard m c t 0 0 rfl, pb_shard m c t 1 1 rfl, pb_shard m c t 2 2 rfl, pb_shard m c t 3 3 rfl,
    mix_cotangent, quarter_zero _ _ _ rfl, merged_cotangent _ _ _ rfl, quarter_one, quarter_two, quarter_three, a_block, b_block,
    dya_zero, dya_one, dya_two, dya_three, dyb_zero, dyb_one, dyb_two, dyb_three, post_step, out_step, pa_step, pb_step, read_unread_whole, Reads.readCov_ld, stored,
    quarter_load _ 0 0 rfl, quarter_load _ 1 256 rfl, quarter_load _ 2 512 rfl, quarter_load _ 3 768 rfl,
    shard_zero, shard_zero', shard_one, shard_one', shard_two, shard_two', shard_three, shard_three']
  · exact shards _
  · exact shards _
  · rfl

/-! ## The arrays -/

theorem final_dgate (c : Dev nD) : (dats m 0 c).arrAt 9 cfg0.N = dgateOf (wt m c) (tks m c) := by
  refine (dats m 0 c).arrAt_eq_of_covers 9 _ (by decide +kernel) fun t hf y => ?_
  blk_simp
  rw [after0_9]
  obtain ⟨r, l, rfl⟩ : ∃ r l, y = ix2 r l := ⟨y 0, y 1, (ix2_eta y).symm⟩
  rw [(point m c t).1]
  refine (show _ = (dgateOf (wt m c) (tks m c)) (ix2 (rowOf t r) l) from rfl).trans ?_
  generalize dgateOf (wt m c) (tks m c) = X
  blk_ext [idx t, rowOf]

theorem final_dmixers (c : Dev nD) : (dats m 0 c).arrAt 10 cfg0.N = dmixersOf (wt m c) (tks m c) := by
  refine (dats m 0 c).arrAt_eq_of_covers 10 _ (by decide +kernel) fun t hf y => ?_
  blk_simp
  rw [after0_10]
  obtain ⟨r, l, rfl⟩ : ∃ r l, y = ix2 r l := ⟨y 0, y 1, (ix2_eta y).symm⟩
  rw [(point m c t).2]
  refine (show _ = (dmixersOf (wt m c) (tks m c)) (ix2 (rowOf t r) l) from rfl).trans ?_
  generalize dmixersOf (wt m c) (tks m c) = X
  blk_ext [idx t, rowOf]

/-- Eight points of 256 tokens are all the tokens. -/
theorem sum_points (f : Fin 2048 → EReal) : ∑ t : Fin 8, ∑ r : Fin 256, f (rowOf (t.cast N_0.symm) r) = ∑ r, f r := by
  refine Fin.sum_mul_add_congr (S := 8) (n := 256) fun t r hl => congrArg f (Fin.ext ?_)
  show 256 * t.val + r.val = t.val * 256 + r.val
  omega

theorem final_dpost (c : Dev nD) : (dats m 0 c).arrAt 11 cfg0.N = dpostOf (wt m c) (tks m c) := by
  refine (dats m 0 c).arrAt_eq_of_after_last 11 t0_7 (by decide +kernel) _ fun y => ?_
  blk_simp
  rw [after0_11]
  obtain ⟨l, rfl⟩ : ∃ l, y = ix2 0 l := ⟨y 1, by rw [← ix2_eta y]; congr 1; exact Subsingleton.elim _ _⟩
  refine (Pipeline.eq_sum_fin_of_reset_step_apply_last (fun n h l => (outsAt0 m c n h).2.2.1 (ix2 0 l)) 8 (fun _ => 0)
    (fun t l => postPart m c t l) (fun t h l => (first m c t h).1 l) (fun t h l => (next m c t h).1 l)
    (by decide) t0_7 rfl l).trans ?_
  rw [zero_add]
  exact sum_points fun r => (tks m c r).dx l * mn (wt m c) (tks m c r) l

theorem last_pa (c : Dev nD) (i : Fin 512) (k : Fin 1024) :
    (outsAt0 m c t0_7.val t0_7.isLt).2.2.2.2.2.2.1 (ix2 i k) = dpa (wt m c) (tks m c) i k := by
  refine (Pipeline.eq_sum_fin_of_reset_step_apply_last
    (fun n h (y : Fin 512 × Fin 1024) => (outsAt0 m c n h).2.2.2.2.2.2.1 (ix2 y.1 y.2)) 8 (fun _ => 0)
    (fun t y => paPart m c t y.1 y.2) (fun t h y => (first m c t h).2.1 y.1 y.2) (fun t h y => (next m c t h).2.1 y.1 y.2)
    (by decide) t0_7 rfl (i, k)).trans ?_
  rw [zero_add]
  exact sum_points fun r => (tks m c r).a i * dya (wt m c) (tks m c r) k

theorem last_pb (c : Dev nD) (i : Fin 512) (k : Fin 1024) :
    (outsAt0 m c t0_7.val t0_7.isLt).2.2.2.2.2.2.2.1 (ix2 i k) = dpb (wt m c) (tks m c) i k := by
  refine (Pipeline.eq_sum_fin_of_reset_step_apply_last
    (fun n h (y : Fin 512 × Fin 1024) => (outsAt0 m c n h).2.2.2.2.2.2.2.1 (ix2 y.1 y.2)) 8 (fun _ => 0)
    (fun t y => pbPart m c t y.1 y.2) (fun t h y => (first m c t h).2.2.1 y.1 y.2)
    (fun t h y => (next m c t h).2.2.1 y.1 y.2) (by decide) t0_7 rfl (i, k)).trans ?_
  rw [zero_add]
  exact sum_points fun r => (tks m c r).b i * dyb (wt m c) (tks m c r) k

theorem last_wo (c : Dev nD) (k l : Fin 1024) :
    (outsAt0 m c t0_7.val t0_7.isLt).2.2.2.2.2.2.2.2 (ix2 k l) = dwoOf (wt m c) (tks m c) (ix2 k l) := by
  refine (Pipeline.eq_sum_fin_of_reset_step_apply_last
    (fun n h (y : Fin 1024 × Fin 1024) => (outsAt0 m c n h).2.2.2.2.2.2.2.2 (ix2 y.1 y.2)) 8 (fun _ => 0)
    (fun t y => woPart m c t y.1 y.2) (fun t h y => (first m c t h).2.2.2 y.1 y.2)
    (fun t h y => (next m c t h).2.2.2 y.1 y.2) (by decide) t0_7 rfl (k, l)).trans ?_
  rw [zero_add]
  exact sum_points fun r => merged (wt m c) (tks m c r) k * dmix (wt m c) (tks m c r) l

theorem final_dpa (c : Dev nD) : (dats m 0 c).arrAt 12 cfg0.N = dpaOf (wt m c) (tks m c) := by
  refine (dats m 0 c).arrAt_eq_of_after_last 12 t0_7 (by decide +kernel) _ fun y => ?_
  blk_simp
  rw [after0_12, (last m c t0_7 (by decide) (by decide)).1]
  exact last_pa m c _ _

theorem final_dpb (c : Dev nD) : (dats m 0 c).arrAt 13 cfg0.N = dpbOf (wt m c) (tks m c) := by
  refine (dats m 0 c).arrAt_eq_of_after_last 13 t0_7 (by decide +kernel) _ fun y => ?_
  blk_simp
  rw [after0_13, (last m c t0_7 (by decide) (by decide)).2.1]
  exact last_pb m c _ _

theorem final_dwo (c : Dev nD) : (dats m 0 c).arrAt 14 cfg0.N = dwoOf (wt m c) (tks m c) := by
  refine (dats m 0 c).arrAt_eq_of_after_last 14 t0_7 (by decide +kernel) _ fun y => ?_
  blk_simp
  rw [after0_14, (last m c t0_7 (by decide) (by decide)).2.2]
  obtain ⟨k, l, rfl⟩ : ∃ r l, y = ix2 r l := ⟨y 0, y 1, (ix2_eta y).symm⟩
  exact last_wo m c k l

end Cert.MergeBwdIdeal.Val
-- ==== Proof.MergeBwdReference.lean ====
/- What the plain merge computes, forward and by the chain rule backward, in the spec's terms. -/
module

public import proofs.«01_k».proof.Proof.MergeBwdSpec
public import proofs.«01_k».proof.Proof.Gen.MergeBwdRefIdeal.Read

@[expose] public section

set_option maxRecDepth 16384

noncomputable section

open Idealize.ShloMosaic Idealize.ShloMosaic.TcCoe Idealize.SL.Sem

namespace MergeBwdReference

open Cert.MergeBwdRefIdeal Cert.MergeBwdRefIdeal.Read MergeBwdSpec
open Sigmoid (sig)
open RealNorm (IsReal)

variable (ga gb : Mat 2048 1024) (a b : Mat 2048 512) (pa pb : Mat 512 1024) (wo : Mat 1024 1024) (g : Mat 1 1024)
  (dx : Mat 2048 1024)

/-! ## Forward -/

theorem ya_stage : val_main_v0 (F := Ideal) a pa = fun y => ya (weights pa pb wo g) (token ga gb a b dx (y 0)) (y 1) := by
  funext y
  obtain ⟨r, l, rfl⟩ : ∃ r l, y = ix2 r l := ⟨y 0, y 1, (ix2_eta y).symm⟩
  pointwise [val_main_v0]
  rfl

theorem yb_stage : val_main_v1 (F := Ideal) b pb = fun y => yb (weights pa pb wo g) (token ga gb a b dx (y 0)) (y 1) := by
  funext y
  obtain ⟨r, l, rfl⟩ : ∃ r l, y = ix2 r l := ⟨y 0, y 1, (ix2_eta y).symm⟩
  pointwise [val_main_v1]
  rfl

theorem sa_stage : val_main_v7 (F := Ideal) ga = fun y => sig (ga y) := by
  funext y
  obtain ⟨r, l, rfl⟩ : ∃ r l, y = ix2 r l := ⟨y 0, y 1, (ix2_eta y).symm⟩
  pointwise [val_main_v7, val_main_v6, val_main_v5, val_main_v4, val_main_v3, val_main_v2, val_main_cst, val_main_cst_0]
  exact Sigmoid.eq_exp _

theorem sb_stage : val_main_v17 (F := Ideal) gb = fun y => sig (gb y) := by
  funext y
  obtain ⟨r, l, rfl⟩ : ∃ r l, y = ix2 r l := ⟨y 0, y 1, (ix2_eta y).symm⟩
  pointwise [val_main_v17, val_main_v16, val_main_v15, val_main_v14, val_main_v13, val_main_v12, val_main_cst_2, val_main_cst_3]
  exact Sigmoid.eq_exp _

theorem merged_stage : val_main_v22 (F := Ideal) ga gb a b pa pb
    = fun y => merged (weights pa pb wo g) (token ga gb a b dx (y 0)) (y 1) := by
  unfold val_main_v22 val_main_v21 val_main_v11
  rw [sa_stage, sb_stage, ya_stage ga gb a b pa pb wo g dx, yb_stage ga gb a b pa pb wo g dx]
  funext y
  obtain ⟨r, l, rfl⟩ : ∃ r l, y = ix2 r l := ⟨y 0, y 1, (ix2_eta y).symm⟩
  pointwise
  rfl

theorem mix_stage : val_main_v23 (F := Ideal) ga gb a b pa pb wo
    = fun y => mix (weights pa pb wo g) (token ga gb a b dx (y 0)) (y 1) := by
  unfold val_main_v23
  rw [merged_stage ga gb a b pa pb wo g dx]
  funext y
  obtain ⟨r, l, rfl⟩ : ∃ r l, y = ix2 r l := ⟨y 0, y 1, (ix2_eta y).symm⟩
  pointwise
  rfl

theorem mn_stage : val_main_v36 (F := Ideal) ga gb a b pa pb wo
    = fun y => mn (weights pa pb wo g) (token ga gb a b dx (y 0)) (y 1) := by
  funext y
  obtain ⟨r, l, rfl⟩ : ∃ r l, y = ix2 r l := ⟨y 0, y 1, (ix2_eta y).symm⟩
  pointwise [val_main_v36, val_main_v35, val_main_v31, val_main_v30, val_main_v29, val_main_v28, val_main_v27, val_main_v26,
    val_main_v25, val_main_v24, val_main_cst_5, val_main_cst_6, val_main_cst_7]
  rw [mix_stage ga gb a b pa pb wo g dx]
  rfl

theorem dpost_stage : val_main_v41 (F := Ideal) ga gb a b pa pb wo dx
    = dpostOf (weights pa pb wo g) (token ga gb a b dx) := by
  unfold val_main_v41 val_main_v40 val_main_v39
  rw [mn_stage ga gb a b pa pb wo g dx]
  funext y
  obtain ⟨l, rfl⟩ : ∃ l, y = ix2 0 l := ⟨y 1, by rw [← ix2_eta y]; congr 1; exact Subsingleton.elim _ _⟩
  pointwise [val_main_cst_9]
  exact Finset.sum_congr rfl fun r _ => mul_comm _ _

/-! ## Backward, at reals -/

/-- The weights, and a token's rows and cotangent, are reals. Nothing is asked of the gates: the logistic function of any
    extended real is a real. -/
structure RealWeights (w : Weights) : Prop where
  pa : ∀ y, IsReal (w.pa y)
  pb : ∀ y, IsReal (w.pb y)
  wo : ∀ y, IsReal (w.wo y)
  post : ∀ l, IsReal (w.post l)

structure RealToken (t : Token) : Prop where
  a : ∀ i, IsReal (t.a i)
  b : ∀ i, IsReal (t.b i)
  dx : ∀ l, IsReal (t.dx l)

theorem mix_real {w : Weights} {t : Token} (hw : RealWeights w) (ht : RealToken t) (l : Fin 1024) : IsReal (mix w t l) :=
  .sum fun k => .mul (.add (.mul (Sigmoid.isReal _) (.sum fun i => (ht.a i).mul (hw.pa _)))
    (.mul (Sigmoid.isReal _) (.sum fun i => (ht.b i).mul (hw.pb _)))) (hw.wo _)

variable {ga gb a b pa pb wo g dx} (hw : RealWeights (weights pa pb wo g)) (ht : ∀ r, RealToken (token ga gb a b dx r))
include hw ht

theorem dmix_stage : val_main_v57 (F := Ideal) ga gb a b pa pb wo g dx
    = fun y => dmix (weights pa pb wo g) (token ga gb a b dx (y 0)) (y 1) := by
  funext y
  obtain ⟨r, l, rfl⟩ : ∃ r l, y = ix2 r l := ⟨y 0, y 1, (ix2_eta y).symm⟩
  pointwise [val_main_v57, val_main_v56, val_main_v55, val_main_v54, val_main_v53, val_main_v52, val_main_v51, val_main_v50,
    val_main_v49, val_main_v48, val_main_v47, val_main_v46, val_main_v45, val_main_v44, val_main_v43, val_main_v42,
    val_main_v34, val_main_v33, val_main_v32, val_main_v31, val_main_v30, val_main_v29, val_main_v28, val_main_v27,
    val_main_v26, val_main_v25, val_main_v24, val_main_cst_5, val_main_cst_6, val_main_cst_7, val_main_cst_8,
    val_main_cst_10, val_main_cst_11, val_main_cst_12]
  simp only [Fin.sum_univ_one, mix_stage ga gb a b pa pb wo g dx]
  refine Eq.trans ?_ (RealNorm.bwd_chain (mix_real hw (ht r)) (fun l => ((ht r).dx l).mul (hw.post l)) l).symm
  exact add_assoc _ _ _

theorem dm_stage : val_main_v60 (F := Ideal) ga gb a b pa pb wo g dx
    = fun y => dm (weights pa pb wo g) (token ga gb a b dx (y 0)) (y 1) := by
  unfold val_main_v60
  rw [dmix_stage hw ht]
  funext y
  obtain ⟨r, l, rfl⟩ : ∃ r l, y = ix2 r l := ⟨y 0, y 1, (ix2_eta y).symm⟩
  pointwise
  rfl

theorem dwo_stage : val_main_v82 (F := Ideal) ga gb a b pa pb wo g dx
    = dwoOf (weights pa pb wo g) (token ga gb a b dx) := by
  unfold val_main_v82 val_main_v59 val_main_v58
  rw [dmix_stage hw ht, merged_stage ga gb a b pa pb wo g dx]
  funext y
  obtain ⟨r, l, rfl⟩ : ∃ r l, y = ix2 r l := ⟨y 0, y 1, (ix2_eta y).symm⟩
  pointwise
  exact Finset.sum_congr rfl fun r _ => mul_comm _ _

theorem dya_stage : val_main_v64 (F := Ideal) ga gb a b pa pb wo g dx
    = fun y => dya (weights pa pb wo g) (token ga gb a b dx (y 0)) (y 1) := by
  unfold val_main_v64
  rw [dm_stage hw ht, sa_stage]
  funext y
  obtain ⟨r, l, rfl⟩ : ∃ r l, y = ix2 r l := ⟨y 0, y 1, (ix2_eta y).symm⟩
  pointwise
  exact mul_comm _ _

theorem dyb_stage : val_main_v61 (F := Ideal) ga gb a b pa pb wo g dx
    = fun y => dyb (weights pa pb wo g) (token ga gb a b dx (y 0)) (y 1) := by
  unfold val_main_v61
  rw [dm_stage hw ht, sb_stage]
  funext y
  obtain ⟨r, l, rfl⟩ : ∃ r l, y = ix2 r l := ⟨y 0, y 1, (ix2_eta y).symm⟩
  pointwise
  exact mul_comm _ _

theorem dga_stage : val_main_v66 (F := Ideal) ga gb a b pa pb wo g dx
    = fun y => dga (weights pa pb wo g) (token ga gb a b dx (y 0)) (y 1) := by
  unfold val_main_v66 val_main_v65 val_main_v10 val_main_v9
  rw [dm_stage hw ht, sa_stage, ya_stage ga gb a b pa pb wo g dx]
  funext y
  obtain ⟨r, l, rfl⟩ : ∃ r l, y = ix2 r l := ⟨y 0, y 1, (ix2_eta y).symm⟩
  pointwise [val_main_v8, val_main_cst_1]
  exact (mul_assoc _ _ _).symm

theorem dgb_stage : val_main_v63 (F := Ideal) ga gb a b pa pb wo g dx
    = fun y => dgb (weights pa pb wo g) (token ga gb a b dx (y 0)) (y 1) := by
  unfold val_main_v63 val_main_v62 val_main_v20 val_main_v19
  rw [dm_stage hw ht, sb_stage, yb_stage ga gb a b pa pb wo g dx]
  funext y
  obtain ⟨r, l, rfl⟩ : ∃ r l, y = ix2 r l := ⟨y 0, y 1, (ix2_eta y).symm⟩
  pointwise [val_main_v18, val_main_cst_4]
  exact (mul_assoc _ _ _).symm

theorem dgate_stage : val_main_v74 (F := Ideal) ga gb a b pa pb wo g dx
    = dgateOf (weights pa pb wo g) (token ga gb a b dx) := by
  unfold val_main_v74 val_main_v73
  rw [dga_stage hw ht, dgb_stage hw ht]
  funext y
  obtain ⟨r, l, rfl⟩ : ∃ r l, y = ix2 r l := ⟨y 0, y 1, (ix2_eta y).symm⟩
  pointwise
  rfl

theorem dmixers_stage : val_main_v75 (F := Ideal) ga gb a b pa pb wo g dx
    = dmixersOf (weights pa pb wo g) (token ga gb a b dx) := by
  unfold val_main_v75 val_main_v72 val_main_v69
  rw [dya_stage hw ht, dyb_stage hw ht]
  funext y
  obtain ⟨r, l, rfl⟩ : ∃ r l, y = ix2 r l := ⟨y 0, y 1, (ix2_eta y).symm⟩
  pointwise
  rfl

theorem dpa_stage : val_main_v78 (F := Ideal) ga gb a b pa pb wo g dx
    = dpaOf (weights pa pb wo g) (token ga gb a b dx) := by
  unfold val_main_v78 val_main_v77 val_main_v76 val_main_v71 val_main_v70
  rw [dya_stage hw ht]
  funext y
  obtain ⟨j, i, k, rfl⟩ : ∃ i k l, y = ix3 i k l := ⟨y 0, y 1, y 2, (ix3_eta y).symm⟩
  pointwise
  show _ = ∑ r, a (ix2 r i) * dya (weights pa pb wo g) (token ga gb a b dx r) (col j k)
  refine Finset.sum_congr rfl fun r _ => (mul_comm _ (a (ix2 r i))).trans ?_
  congr 2
  exact Fin.ext (show j.val * 256 + k.val = 256 * j.val + k.val by omega)

theorem dpb_stage : val_main_v81 (F := Ideal) ga gb a b pa pb wo g dx
    = dpbOf (weights pa pb wo g) (token ga gb a b dx) := by
  unfold val_main_v81 val_main_v80 val_main_v79 val_main_v68 val_main_v67
  rw [dyb_stage hw ht]
  funext y
  obtain ⟨j, i, k, rfl⟩ : ∃ i k l, y = ix3 i k l := ⟨y 0, y 1, y 2, (ix3_eta y).symm⟩
  pointwise
  show _ = ∑ r, b (ix2 r i) * dyb (weights pa pb wo g) (token ga gb a b dx r) (col j k)
  refine Finset.sum_congr rfl fun r _ => (mul_comm _ (b (ix2 r i))).trans ?_
  congr 2
  exact Fin.ext (show j.val * 256 + k.val = 256 * j.val + k.val by omega)

end MergeBwdReference
-- ==== Proof.MergeBwdClaim.lean ====
/- The claim of the merge's backward call: the kernel's run and the reference's leave the same arrays. -/
module

public import proofs.«01_k».proof.Defs
public import proofs.«01_k».proof.Proof.Gen.Pre_merge_bwd_finite
public import proofs.«01_k».proof.Proof.MergeBwdKernel
public import proofs.«01_k».proof.Proof.MergeBwdReference
public import proofs.«01_k».proof.Proof.Gen.MergeBwdRefIdeal.Run

@[expose] public section

noncomputable section

open Idealize.ShloMosaic Idealize.ShloMosaic.TcCoe Idealize.SL.Sem

namespace MergeBwdClaim

open Cert Cert.MergeBwdIdeal

theorem values : Cert.algebraic_MergeBwdIdeal_MergeBwdRefIdeal_pre_merge_bwd_finite := by
  intro m g m' g' hp ha
  refine ⟨fun c => MergeBwdSpec.dgateOf (Val.wt m c) (Val.tks m c),
    fun c => MergeBwdSpec.dmixersOf (Val.wt m c) (Val.tks m c),
    fun c => MergeBwdSpec.dpostOf (Val.wt m c) (Val.tks m c),
    fun c => MergeBwdSpec.dpaOf (Val.wt m c) (Val.tks m c),
    fun c => MergeBwdSpec.dpbOf (Val.wt m c) (Val.tks m c),
    fun c => MergeBwdSpec.dwoOf (Val.wt m c) (Val.tks m c), ?_, ?_⟩
  · refine (θ_run _ _ _).mono (fun r h c => ?_) (MergeBwdIdeal.Value.run_blocks m g)
    have h := h c
    rw [Val.final_dgate, Val.final_dmixers, Val.final_dpost, Val.final_dpa, Val.final_dpb, Val.final_dwo] at h
    exact h
  · refine (θ_run _ _ _).mono (fun r h c => ?_) (MergeBwdRefIdeal.Value.run m' g')
    have hf := hp c
    obtain ⟨A, hA⟩ := RealNorm.exists_reals _ fun i => congrFun hf.1 i
    obtain ⟨B, hB⟩ := RealNorm.exists_reals _ fun i => congrFun hf.2.1 i
    obtain ⟨P, hP⟩ := RealNorm.exists_reals _ fun i => congrFun hf.2.2.1 i
    obtain ⟨Q, hQ⟩ := RealNorm.exists_reals _ fun i => congrFun hf.2.2.2.1 i
    obtain ⟨O, hO⟩ := RealNorm.exists_reals _ fun i => congrFun hf.2.2.2.2.1 i
    obtain ⟨G, hG⟩ := RealNorm.exists_reals _ fun i => congrFun hf.2.2.2.2.2.1 i
    obtain ⟨D, hD⟩ := RealNorm.exists_reals _ fun i => congrFun hf.2.2.2.2.2.2 i
    have hw : MergeBwdReference.RealWeights (Val.wt m c) :=
      ⟨fun y => ⟨_, congrFun hP y⟩, fun y => ⟨_, congrFun hQ y⟩, fun y => ⟨_, congrFun hO y⟩, fun l => ⟨_, congrFun hG _⟩⟩
    have ht : ∀ r, MergeBwdReference.RealToken (Val.tks m c r) := fun r =>
      ⟨fun i => ⟨_, congrFun hA _⟩, fun i => ⟨_, congrFun hB _⟩, fun l => ⟨_, congrFun hD _⟩⟩
    have h := h c
    rw [MergeBwdRefIdeal.Read.val_main_v74_eq, MergeBwdRefIdeal.Read.val_main_v75_eq, MergeBwdRefIdeal.Read.val_main_v41_eq, MergeBwdRefIdeal.Read.val_main_v78_eq, MergeBwdRefIdeal.Read.val_main_v81_eq, MergeBwdRefIdeal.Read.val_main_v82_eq] at h
    obtain ⟨a0, a1, a2, a3, a4, a5, a6, a7, a8⟩ := ha c
    refine ⟨h.1.trans ?_, h.2.1.trans ?_, h.2.2.1.trans ?_, h.2.2.2.1.trans ?_, h.2.2.2.2.1.trans ?_, h.2.2.2.2.2.1.trans ?_,
      h.2.2.2.2.2.2⟩
    all_goals simp only [a0, a1, a2, a3, a4, a5, a6, a7, a8]
    · exact MergeBwdReference.dgate_stage hw ht
    · exact MergeBwdReference.dmixers_stage hw ht
    · exact MergeBwdReference.dpost_stage _ _ _ _ _ _ _ _ _
    · exact MergeBwdReference.dpa_stage hw ht
    · exact MergeBwdReference.dpb_stage hw ht
    · exact MergeBwdReference.dwo_stage hw ht

end MergeBwdClaim
-- ==== Proof.InProjSpec.lean ====
/- What the input projection's forward call computes, as a function of its arguments.

   The input's rows are normalised and scaled, `h = x r g`, and projected, `h W`. The call keeps the projection's columns in
   an order of its own: those of the two mixers, with the 128 from column 1536 on moved to the end, and the gates' apart. -/
module

public import proofs.«01_k».proof.Proof.RealNorm

@[expose] public section

noncomputable section

open Idealize.ShloMosaic

namespace InProjSpec

abbrev Mat (a b : ℕ) := (⟨2, ![a, b]⟩ : Shape).Idx → EReal

/-- The normalised input, scaled by the norm's weight. -/
def h (x : Mat 2048 1024) (g : Mat 1 1024) (r : Fin 2048) (l : Fin 1024) : EReal :=
  x (ix2 r l) * RealNorm.factor (fun k => x (ix2 r k)) * g (ix2 0 l)

/-- The projection. -/
def proj (x : Mat 2048 1024) (g : Mat 1 1024) (w : Mat 1024 4624) (r : Fin 2048) (k : Fin 4624) : EReal :=
  ∑ l : Fin 1024, h x g r l * w (ix2 l k)

/-- The projection's column that the call keeps as column `k` of the mixers' array. -/
def col (k : Fin 2688) : Fin 4624 :=
  if k.val < 1536 then ⟨k.val, by omega⟩ else if k.val < 2560 then ⟨k.val + 16, by omega⟩ else ⟨k.val - 1024, by omega⟩

/-- The mixers' columns, the gates', and the normalised input. -/
def mix (x : Mat 2048 1024) (g : Mat 1 1024) (w : Mat 1024 4624) : Mat 2048 2688 := fun y => proj x g w (y 0) (col (y 1))
def gates (x : Mat 2048 1024) (g : Mat 1 1024) (w : Mat 1024 4624) : Mat 2048 2048 := fun y =>
  proj x g w (y 0) ⟨2576 + (y 1).val, by have e : (y 1).val < 2048 := (y 1).isLt; omega⟩
def input (x : Mat 2048 1024) (g : Mat 1 1024) : Mat 2048 1024 := fun y => h x g (y 0) (y 1)

end InProjSpec
-- ==== Proof.InProjKernel.lean ====
/- The arrays the input projection's forward call leaves.

   Its grid has eight points of 256 rows each. The first point joins the weight's shards in a scratch buffer and every
   point reads them there; a point writes its rows of the three arrays, the mixers' in three stretches of columns. -/
module

public import proofs.«01_k».proof.Proof.InProjSpec
public import proofs.«01_k».proof.Proof.Reads
public import proofs.«01_k».proof.Proof.Gen.InProjIdeal.Value
public import Idealize.ShloMosaic.Lib.Pipeline.ValueKit
public import Idealize.ShloMosaic.Lib.Pointwise
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InProjIdeal.Val

open Cert.InProjIdeal Cert.InProjIdeal.Gen InProjSpec

variable (m : (ℓ : Loc nD τ sig) → Buf (Elt Ideal) ℓ)

/-- Where each window's block lies at point `t`. -/
theorem idx : ∀ t : Fin grid0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 3) = 0 ∧ win0_2.index t (1 : Fin 3) = 0 ∧ win0_2.index t (2 : Fin 3) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0) := by
  decide +kernel

/-- Row `r` of point `t`'s block. -/
def rowOf (t : Fin cfg0.N) (r : Fin 256) : Fin 2048 :=
  ⟨256 * t.val + r.val, by have h : t.val < 8 := lt_of_lt_of_eq t.isLt N_0; omega⟩

/-! ## The joined weight -/

/-- The weight's operand: shard `a`, row `r` is the weight's column `1156 a + r`. -/
theorem w_operand (c : Dev nD) (a : Fin 4) (r : Fin 1156) (l : Fin 1024) :
    V m c main_v2 (ix3 a r l) = m ((c : Thread nD τ).loc main_arg2) (ix2 l ⟨1156 * a + r, by omega⟩) := by
  entry_read
  pointwise
  blk_point

/-- The transposed weight with its four shards one under the other. -/
def joined (w : S4x1156x1024.Idx → EReal) : S4624x1024.Idx → EReal := fun y =>
  w (ix3 ⟨(y 0).val / 1156, by have h : (y 0).val < 4624 := (y 0).isLt; omega⟩
    ⟨(y 0).val % 1156, Nat.mod_lt _ (by decide)⟩ ⟨(y 1).val, (y 1).isLt⟩)

/-- The four copies of the first grid point leave the shards joined. -/
theorem copies_join (b : S4x1156x1024.Idx → EReal) : View.canon (Val := Elt Ideal) (s := S4624x1024) (e := .bf16)
      [⟨Rect.unit ![3468, 0] ![1156, 1024] inb_S4624x1024_S1156x1024_3468_0, k0_pay5 (F := Ideal)
          (View.ld (Val := Elt Ideal) (e' := .bf16) (S := S4x1156x1024) b (Rect.unit ![3, 0, 0] ![1, 1156, 1024] inb_S4x1156x1024_S1x1156x1024_3_0_0))⟩,
        ⟨Rect.unit ![2312, 0] ![1156, 1024] inb_S4624x1024_S1156x1024_2312_0, k0_pay4 (F := Ideal)
          (View.ld (Val := Elt Ideal) (e' := .bf16) (S := S4x1156x1024) b (Rect.unit ![2, 0, 0] ![1, 1156, 1024] inb_S4x1156x1024_S1x1156x1024_2_0_0))⟩,
        ⟨Rect.unit ![1156, 0] ![1156, 1024] inb_S4624x1024_S1156x1024_1156_0, k0_pay3 (F := Ideal)
          (View.ld (Val := Elt Ideal) (e' := .bf16) (S := S4x1156x1024) b (Rect.unit ![1, 0, 0] ![1, 1156, 1024] inb_S4x1156x1024_S1x1156x1024_1_0_0))⟩,
        ⟨Rect.unit ![0, 0] ![1156, 1024] inb_S4624x1024_S1156x1024_0_0, k0_pay2 (F := Ideal)
          (View.ld (Val := Elt Ideal) (e' := .bf16) (S := S4x1156x1024) b (Rect.unit ![0, 0, 0] ![1, 1156, 1024] inb_S4x1156x1024_S1x1156x1024_0_0_0))⟩]
      = joined b := by
  funext y
  obtain_idx i : S4x1156x1024 := [(y 0 : ℕ) / 1156, (y 0 : ℕ) % 1156, (y 1 : ℕ)] with hi
  have e : joined b y = b i := by
    unfold joined
    congr 1
    blk_ext
  rw [e]
  canon_tiles x h
  all_goals (open_payloads; pointwise; blk_ext)

/-- The joined weight at an index of it is the weight, transposed. -/
theorem joined_apply (c : Dev nD) (k : Fin 4624) (l : Fin 1024) (i : S4624x1024.Idx) (hi : i = ix2 k l) :
    joined (V m c main_v2) i = m ((c : Thread nD τ).loc main_arg2) (ix2 l k) := by
  subst hi
  unfold joined
  refine (w_operand m c _ _ _).trans (congrArg _ ?_)
  blk_ext

theorem shards_block (c : Dev nD) (t : Fin cfg0.N) : iblk m c 2 t = V m c main_v2 := by
  funext y
  blk_ext [iblk, idx t]

/-- Every point finds and leaves the joined weight. -/
theorem scratch_eq (c : Dev nD) : ∀ (n : ℕ) (h : n < cfg0.N), (outsAt0 m c n h).2.2.2 = joined (V m c main_v2) := by
  intro n
  induction n with
  | zero =>
    intro h
    rw [outsAt0_A m c ⟨0, h⟩ rfl]
    frame_out
    rw [← shards_block m c ⟨0, h⟩]
    exact copies_join _
  | succ n ih =>
    intro h
    have h8 : n + 1 < 8 := lt_of_lt_of_eq h N_0
    have hn : ¬ (n + 1) % 8 = 0 := by omega
    rw [outsAt0_B m c ⟨n + 1, h⟩ hn]
    dsimp only
    unfold sout0_B_0
    exact ih _

/-! ## One block -/

theorem x_block (c : Dev nD) (t : Fin cfg0.N) (r : Fin 256) (l : Fin 1024) :
    iblk m c 0 t (ix2 r l) = m ((c : Thread nD τ).loc main_arg0) (ix2 (rowOf t r) l) := by
  blk_ext [iblk, V, idx t, rowOf]

theorem g_block (c : Dev nD) (t : Fin cfg0.N) (l : Fin 1024) :
    iblk m c 1 t (ix2 0 l) = m ((c : Thread nD τ).loc main_arg1) (ix2 0 l) := by
  blk_ext [iblk, V, idx t]

/-- The block of the normalised input. -/
theorem h_block (c : Dev nD) (t : Fin cfg0.N) : k0_pay6 (F := Ideal) (iblk m c 0 t) (iblk m c 1 t) =
    fun y => h (m ((c : Thread nD τ).loc main_arg0)) (m ((c : Thread nD τ).loc main_arg1)) (rowOf t (y 0)) (y 1) := by
  funext y
  obtain ⟨r, l, rfl⟩ : ∃ r l, y = ix2 r l := ⟨y 0, y 1, (ix2_eta y).symm⟩
  pointwise [k0_pay6]
  simp only [x_block, g_block]
  rfl

theorem input_block (c : Dev nD) (t : Fin cfg0.N) (r : Fin 256) (l : Fin 1024) :
    (outsAt0 m c t.val t.isLt).2.2.1 (ix2 r l) = input (m ((c : Thread nD τ).loc main_arg0))
      (m ((c : Thread nD τ).loc main_arg1)) (ix2 (rowOf t r) l) := by
  by_cases h : t.val % 8 = 0
  on_goal 1 => rw [outsAt0_A m c t h]
  on_goal 2 => rw [outsAt0_B m c t h]
  all_goals
    frame_out
    rw [h_block]
    rfl

theorem gates_block (c : Dev nD) (t : Fin cfg0.N) (r : Fin 256) (l : Fin 2048) :
    (outsAt0 m c t.val t.isLt).2.1 (ix2 r l) = gates (m ((c : Thread nD τ).loc main_arg0))
      (m ((c : Thread nD τ).loc main_arg1)) (m ((c : Thread nD τ).loc main_arg2)) (ix2 (rowOf t r) l) := by
  by_cases h : t.val % 8 = 0
  on_goal 1 =>
    rw [outsAt0_A m c t h]
    frame_out
    rw [Reads.readCov_ld, copies_join, shards_block, h_block]
  on_goal 2 =>
    rw [outsAt0_B m c t h]
    frame_out
    rw [scratch_eq, read_unread_whole, h_block]
  all_goals
    pointwise [k0_pay1]
    simp only [joined_apply m c ⟨2576 + l.val, by omega⟩ _ _ rfl]
    rfl

/-- The three stretches of the mixers' columns. -/
theorem mix_first (c : Dev nD) (t : Fin cfg0.N) (r : Fin 256) (k : Fin 1536) :
    k0_pay7 (F := Ideal) (iblk m c 0 t) (iblk m c 1 t) (View.ld (Val := Elt Ideal) (e' := .bf16) (S := S4624x1024)
        (joined (V m c main_v2)) (Rect.unit ![0, 0] ![1536, 1024] inb_S4624x1024_S1536x1024_0_0)) (ix2 r k)
      = proj (m ((c : Thread nD τ).loc main_arg0)) (m ((c : Thread nD τ).loc main_arg1)) (m ((c : Thread nD τ).loc main_arg2))
        (rowOf t r) ⟨k.val, by omega⟩ := by
  unfold k0_pay7
  rw [h_block]
  pointwise
  simp only [joined_apply m c ⟨k.val, by omega⟩ _ _ rfl]
  rfl

theorem mix_second (c : Dev nD) (t : Fin cfg0.N) (r : Fin 256) (k : Fin 1024) :
    k0_pay8 (F := Ideal) (iblk m c 0 t) (iblk m c 1 t) (View.ld (Val := Elt Ideal) (e' := .bf16) (S := S4624x1024)
        (joined (V m c main_v2)) (Rect.unit ![1552, 0] ![1024, 1024] inb_S4624x1024_S1024x1024_1552_0)) (ix2 r k)
      = proj (m ((c : Thread nD τ).loc main_arg0)) (m ((c : Thread nD τ).loc main_arg1)) (m ((c : Thread nD τ).loc main_arg2))
        (rowOf t r) ⟨1552 + k.val, by omega⟩ := by
  unfold k0_pay8
  rw [h_block]
  pointwise
  simp only [joined_apply m c ⟨1552 + k.val, by omega⟩ _ _ rfl]
  rfl

theorem mix_third (c : Dev nD) (t : Fin cfg0.N) (r : Fin 256) (k : Fin 128) :
    k0_pay9 (F := Ideal) (iblk m c 0 t) (iblk m c 1 t) (View.ld (Val := Elt Ideal) (e' := .bf16) (S := S4624x1024)
        (joined (V m c main_v2)) (Rect.unit ![1536, 0] ![128, 1024] inb_S4624x1024_S128x1024_1536_0)) (ix2 r k)
      = proj (m ((c : Thread nD τ).loc main_arg0)) (m ((c : Thread nD τ).loc main_arg1)) (m ((c : Thread nD τ).loc main_arg2))
        (rowOf t r) ⟨1536 + k.val, by omega⟩ := by
  unfold k0_pay9
  rw [h_block]
  pointwise
  simp only [joined_apply m c ⟨1536 + k.val, by omega⟩ _ _ rfl]
  rfl

/-- The three stretches together. -/
theorem mix_stretches (c : Dev nD) (t : Fin cfg0.N) (r : Fin 256) (l : Fin 2688) :
    View.canon (Val := Elt Ideal) (s := S256x2688) (e := .f32)
      [⟨Rect.unit ![0, 2560] ![256, 128] inb_S256x2688_S256x128_0_2560, k0_pay9 (F := Ideal) (iblk m c 0 t) (iblk m c 1 t)
          (View.ld (Val := Elt Ideal) (e' := .bf16) (S := S4624x1024) (joined (V m c main_v2)) (Rect.unit ![1536, 0] ![128, 1024] inb_S4624x1024_S128x1024_1536_0))⟩,
        ⟨Rect.unit ![0, 1536] ![256, 1024] inb_S256x2688_S256x1024_0_1536, k0_pay8 (F := Ideal) (iblk m c 0 t) (iblk m c 1 t)
          (View.ld (Val := Elt Ideal) (e' := .bf16) (S := S4624x1024) (joined (V m c main_v2)) (Rect.unit ![1552, 0] ![1024, 1024] inb_S4624x1024_S1024x1024_1552_0))⟩,
        ⟨Rect.unit ![0, 0] ![256, 1536] inb_S256x2688_S256x1536_0_0, k0_pay7 (F := Ideal) (iblk m c 0 t) (iblk m c 1 t)
          (View.ld (Val := Elt Ideal) (e' := .bf16) (S := S4624x1024) (joined (V m c main_v2)) (Rect.unit ![0, 0] ![1536, 1024] inb_S4624x1024_S1536x1024_0_0))⟩]
      (ix2 r l) = mix (m ((c : Thread nD τ).loc main_arg0)) (m ((c : Thread nD τ).loc main_arg1))
        (m ((c : Thread nD τ).loc main_arg2)) (ix2 (rowOf t r) l) := by
  canon_tiles x hx using View.cover_of_tiledBy _ ![256, 128] (by sl_kernel_rfl) _
  · rw [show x = ix2 r (x 1) from (ix2_eta x).symm.trans (congrArg₂ ix2 (Fin.ext hx0.symm) rfl)]
    refine (mix_third m c t r _).trans ?_
    have e : l.val = _ := hx1
    refine congrArg (proj _ _ _ _) (Fin.ext ?_)
    show _ = (col l).val
    unfold col
    split_ifs <;> simp only <;> omega
  · rw [show x = ix2 r (x 1) from (ix2_eta x).symm.trans (congrArg₂ ix2 (Fin.ext hx0.symm) rfl)]
    refine (mix_second m c t r _).trans ?_
    have e : l.val = _ := hx1
    refine congrArg (proj _ _ _ _) (Fin.ext ?_)
    show _ = (col l).val
    unfold col
    split_ifs <;> simp only <;> omega
  · rw [show x = ix2 r (x 1) from (ix2_eta x).symm.trans (congrArg₂ ix2 (Fin.ext hx0.symm) rfl)]
    refine (mix_first m c t r _).trans ?_
    have e : l.val = _ := hx1
    refine congrArg (proj _ _ _ _) (Fin.ext ?_)
    show _ = (col l).val
    unfold col
    split_ifs <;> simp only <;> omega

theorem mix_block (c : Dev nD) (t : Fin cfg0.N) (r : Fin 256) (l : Fin 2688) :
    (outsAt0 m c t.val t.isLt).1 (ix2 r l) = mix (m ((c : Thread nD τ).loc main_arg0))
      (m ((c : Thread nD τ).loc main_arg1)) (m ((c : Thread nD τ).loc main_arg2)) (ix2 (rowOf t r) l) := by
  by_cases h : t.val % 8 = 0
  · rw [outsAt0_A m c t h]
    frame_out
    rw [Reads.readCov_ld, Reads.readCov_ld, Reads.readCov_ld, copies_join, shards_block]
    exact mix_stretches m c t r l
  · rw [outsAt0_B m c t h]
    frame_out
    rw [scratch_eq, read_unread_whole]
    exact mix_stretches m c t r l

/-! ## The arrays -/

theorem final_mix (c : Dev nD) : (dats m 0 c).arrAt 3 cfg0.N = mix (m ((c : Thread nD τ).loc main_arg0))
    (m ((c : Thread nD τ).loc main_arg1)) (m ((c : Thread nD τ).loc main_arg2)) := by
  refine (dats m 0 c).arrAt_eq_of_covers 3 _ (by decide +kernel) fun t hf y => ?_
  blk_simp
  rw [after0_3]
  obtain ⟨r, l, rfl⟩ : ∃ r l, y = ix2 r l := ⟨y 0, y 1, (ix2_eta y).symm⟩
  rw [mix_block]
  blk_ext [idx t, rowOf]

theorem final_gates (c : Dev nD) : (dats m 0 c).arrAt 4 cfg0.N = gates (m ((c : Thread nD τ).loc main_arg0))
    (m ((c : Thread nD τ).loc main_arg1)) (m ((c : Thread nD τ).loc main_arg2)) := by
  refine (dats m 0 c).arrAt_eq_of_covers 4 _ (by decide +kernel) fun t hf y => ?_
  blk_simp
  rw [after0_4]
  obtain ⟨r, l, rfl⟩ : ∃ r l, y = ix2 r l := ⟨y 0, y 1, (ix2_eta y).symm⟩
  rw [gates_block]
  blk_ext [idx t, rowOf]

theorem final_input (c : Dev nD) : (dats m 0 c).arrAt 5 cfg0.N = input (m ((c : Thread nD τ).loc main_arg0))
    (m ((c : Thread nD τ).loc main_arg1)) := by
  refine (dats m 0 c).arrAt_eq_of_covers 5 _ (by decide +kernel) fun t hf y => ?_
  blk_simp
  rw [after0_5]
  obtain ⟨r, l, rfl⟩ : ∃ r l, y = ix2 r l := ⟨y 0, y 1, (ix2_eta y).symm⟩
  rw [input_block]
  blk_ext [idx t, rowOf]

end Cert.InProjIdeal.Val
-- ==== Proof.InProjReference.lean ====
/- What the reference of the input projection's forward call computes: the same three arrays, one operation at a time. -/
module

public import proofs.«01_k».proof.Proof.InProjSpec
public import proofs.«01_k».proof.Proof.Gen.InProjRefIdeal.Read

@[expose] public section

set_option maxRecDepth 16384

noncomputable section

open Idealize.ShloMosaic Idealize.ShloMosaic.TcCoe Idealize.SL.Sem

namespace InProjReference

open Cert.InProjRefIdeal Cert.InProjRefIdeal.Read InProjSpec

variable (x : Mat 2048 1024) (g : Mat 1 1024) (w : Mat 1024 4624)

theorem input_reference : val_main_v18 (F := Ideal) x g = input x g := by
  funext y
  obtain ⟨r, l, rfl⟩ : ∃ r l, y = ix2 r l := ⟨y 0, y 1, (ix2_eta y).symm⟩
  pointwise [val_main_v18, val_main_v11, val_main_v10, val_main_v9, val_main_v8, val_main_v7, val_main_v6, val_main_v5,
    val_main_cst_1, val_main_v4, val_main_v3, val_main_cst_0, val_main_v2, val_main_v1, val_main_cst, val_main_v0]
  rfl

theorem proj_reference (r : Fin 2048) (k : Fin 4624) : val_main_v12 (F := Ideal) x g w (ix2 r k) = proj x g w r k := by
  pointwise [val_main_v12, val_main_v11, val_main_v10, val_main_v9, val_main_v8, val_main_v7, val_main_v6, val_main_v5,
    val_main_cst_1, val_main_v4, val_main_v3, val_main_cst_0, val_main_v2, val_main_v1, val_main_cst, val_main_v0]
  rfl

theorem gates_reference : val_main_v17 (F := Ideal) x g w = gates x g w := by
  funext y
  obtain ⟨r, l, rfl⟩ : ∃ r l, y = ix2 r l := ⟨y 0, y 1, (ix2_eta y).symm⟩
  pointwise [val_main_v17]
  exact proj_reference x g w r _

theorem mix_reference : val_main_v16 (F := Ideal) x g w = mix x g w := by
  funext y
  obtain ⟨r, k, rfl⟩ : ∃ r k, y = ix2 r k := ⟨y 0, y 1, (ix2_eta y).symm⟩
  pointwise [val_main_v16, val_main_v15, val_main_v14, val_main_v13]
  show _ = proj x g w r (col k)
  by_cases h₁ : k.val < 1536
  · rw [dif_pos h₁]
    refine (proj_reference x g w r _).trans (congrArg _ (Fin.ext ?_))
    unfold col
    rw [if_pos h₁]
  · by_cases h₂ : k.val < 2560
    · rw [dif_neg h₁, dif_pos (by omega)]
      refine (proj_reference x g w r _).trans (congrArg _ (Fin.ext ?_))
      unfold col
      rw [if_neg h₁, if_pos h₂]
      simp only
      omega
    · rw [dif_neg h₁, dif_neg (by omega)]
      refine (proj_reference x g w r _).trans (congrArg _ (Fin.ext ?_))
      unfold col
      rw [if_neg h₁, if_neg h₂]
      simp only
      omega

end InProjReference
-- ==== Proof.InProjClaim.lean ====
/- The claim of the input projection's forward call: the kernel's run and the reference's leave the same arrays. -/
module

public import proofs.«01_k».proof.Defs
public import proofs.«01_k».proof.Proof.InProjKernel
public import proofs.«01_k».proof.Proof.InProjReference
public import proofs.«01_k».proof.Proof.Gen.InProjRefIdeal.Run

@[expose] public section

noncomputable section

open Idealize.ShloMosaic Idealize.ShloMosaic.TcCoe Idealize.SL.Sem

namespace InProjClaim

open Cert Cert.InProjIdeal

theorem values : Cert.algebraic_InProjIdeal_InProjRefIdeal := by
  intro m g m' g' _ ha
  refine ⟨fun c => InProjSpec.mix (m ((c : Thread nD τ).loc main_arg0)) (m ((c : Thread nD τ).loc main_arg1))
      (m ((c : Thread nD τ).loc main_arg2)),
    fun c => InProjSpec.gates (m ((c : Thread nD τ).loc main_arg0)) (m ((c : Thread nD τ).loc main_arg1))
      (m ((c : Thread nD τ).loc main_arg2)),
    fun c => InProjSpec.input (m ((c : Thread nD τ).loc main_arg0)) (m ((c : Thread nD τ).loc main_arg1)), ?_, ?_⟩
  · refine (θ_run _ _ _).mono (fun r h c => ?_) (InProjIdeal.Value.run_blocks m g)
    have h := h c
    rw [InProjIdeal.Val.final_mix, InProjIdeal.Val.final_gates, InProjIdeal.Val.final_input] at h
    exact h
  · refine (θ_run _ _ _).mono (fun r h c => ?_) (InProjRefIdeal.Value.run m' g')
    have h := h c
    rw [InProjRefIdeal.Read.val_main_v16_eq, InProjRefIdeal.Read.val_main_v17_eq, InProjRefIdeal.Read.val_main_v18_eq] at h
    obtain ⟨a0, a1, a2⟩ := ha c
    refine ⟨h.1.trans ?_, h.2.1.trans ?_, h.2.2.1.trans ?_, h.2.2.2⟩
    · rw [a0, a1, a2]
      exact InProjReference.mix_reference _ _ _
    · rw [a0, a1, a2]
      exact InProjReference.gates_reference _ _ _
    · rw [a0, a1]
      exact InProjReference.input_reference _ _

end InProjClaim
-- ==== Proof.DwUpSpec.lean ====
/- The product a weight's gradient is, `hᵀ d`, its columns in four shards. -/
module

public import Idealize.ShloMosaic.Lib.Pipeline.ValueKit
public import Idealize.ShloMosaic.Lib.Pointwise

@[expose] public section

noncomputable section

open Idealize.ShloMosaic

namespace DwUpSpec

abbrev Mat (a b : ℕ) := (⟨2, ![a, b]⟩ : Shape).Idx → EReal

def dw (h : Mat 2048 1024) (d : Mat 2048 4096) : (⟨3, ![4, 1024, 1024]⟩ : Shape).Idx → EReal := fun y =>
  ∑ t : Fin 2048, h (ix2 t (y 1)) * d (ix2 t ⟨1024 * (y 0).val + (y 2).val, by
    have a : (y 0).val < 4 := (y 0).isLt
    have b : (y 2).val < 1024 := (y 2).isLt
    omega⟩)

end DwUpSpec
-- ==== Proof.DwUpKernel.lean ====
/- The array the weight gradient's call leaves: each of its four grid points writes one shard, a product of the whole first
   operand with the shard's columns of the second. -/
module

public import proofs.«01_k».proof.Proof.DwUpSpec
public import proofs.«01_k».proof.Proof.Gen.DwUpIdeal.Value
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DwUpIdeal.Val

open Cert.DwUpIdeal Cert.DwUpIdeal.Gen DwUpSpec

variable (m : (ℓ : Loc nD τ sig) → Buf (Elt Ideal) ℓ)

/-- Where each window's block lies at point `t`. -/
theorem idx : ∀ t : Fin grid0.N,
    (win0_0.index t (0 : Fin 2) = 0 ∧ win0_0.index t (1 : Fin 2) = 0)
    ∧ (win0_1.index t (0 : Fin 2) = 0 ∧ win0_1.index t (1 : Fin 2) = t.val)
    ∧ (win0_2.index t (0 : Fin 3) = t.val ∧ win0_2.index t (1 : Fin 3) = 0 ∧ win0_2.index t (2 : Fin 3) = 0) := by
  decide +kernel

/-- Column `l` of point `t`'s shard, and the shard. -/
def colOf (t : Fin cfg0.N) (l : Fin 1024) : Fin 4096 :=
  ⟨1024 * t.val + l.val, by have h : t.val < 4 := lt_of_lt_of_eq t.isLt N_0; omega⟩
def shard (t : Fin cfg0.N) : Fin 4 := ⟨t.val, lt_of_lt_of_eq t.isLt N_0⟩

theorem h_block (c : Dev nD) (t : Fin cfg0.N) (r : Fin 2048) (l : Fin 1024) :
    iblk m c 0 t (ix2 r l) = m ((c : Thread nD τ).loc main_arg0) (ix2 r l) := by
  have e : V m c main_v0 (ix2 r l) = m ((c : Thread nD τ).loc main_arg0) (ix2 r l) := by
    entry_read
    pointwise
  refine Eq.trans ?_ e
  blk_ext [iblk, idx t]

theorem d_block (c : Dev nD) (t : Fin cfg0.N) (r : Fin 2048) (l : Fin 1024) :
    iblk m c 1 t (ix2 r l) = m ((c : Thread nD τ).loc main_arg1) (ix2 r (colOf t l)) := by
  have e : V m c main_v1 (ix2 r (colOf t l)) = m ((c : Thread nD τ).loc main_arg1) (ix2 r (colOf t l)) := by
    entry_read
    pointwise
  refine Eq.trans ?_ e
  blk_ext [iblk, idx t, colOf]

theorem dw_block (c : Dev nD) (t : Fin cfg0.N) (a : Fin 1) (k l : Fin 1024) :
    out0_2 (iblk m c 0 t) (iblk m c 1 t) (ix3 a k l) = dw (m ((c : Thread nD τ).loc main_arg0))
      (m ((c : Thread nD τ).loc main_arg1)) (ix3 (shard t) k l) := by
  unfold out0_2
  frame_out
  pointwise [k0_pay1]
  simp only [h_block, d_block]
  rfl

theorem final_dw (c : Dev nD) : (dats m 0 c).arrAt 2 cfg0.N = dw (m ((c : Thread nD τ).loc main_arg0))
    (m ((c : Thread nD τ).loc main_arg1)) := by
  refine (dats m 0 c).arrAt_eq_of_covers 2 _ (by decide +kernel) fun t hf y => ?_
  blk_simp
  rw [after0_2]
  obtain ⟨a, k, l, rfl⟩ : ∃ a k l, y = ix3 a k l := ⟨y 0, y 1, y 2, (ix3_eta y).symm⟩
  rw [dw_block]
  blk_ext [idx t, shard]

end Cert.DwUpIdeal.Val
-- ==== Proof.DwUpReference.lean ====
/- What the reference of the weight gradient's call computes: the product, cut and transposed. -/
module

public import proofs.«01_k».proof.Proof.DwUpSpec
public import proofs.«01_k».proof.Proof.Gen.DwUpRefIdeal.Read

@[expose] public section

set_option maxRecDepth 16384

noncomputable section

open Idealize.ShloMosaic Idealize.ShloMosaic.TcCoe Idealize.SL.Sem

namespace DwUpReference

open Cert.DwUpRefIdeal Cert.DwUpRefIdeal.Read DwUpSpec

theorem dw_reference (h : Mat 2048 1024) (d : Mat 2048 4096) : val_main_v4 (F := Ideal) h d = dw h d := by
  funext y
  obtain ⟨s, k, l, rfl⟩ : ∃ s k l, y = ix3 s k l := ⟨y 0, y 1, y 2, (ix3_eta y).symm⟩
  pointwise [val_main_v4, val_main_v3, val_main_v2, val_main_v1, val_main_v0]
  refine Finset.sum_congr rfl fun t _ => congrArg₂ _ rfl (congrArg d ?_)
  blk_ext

end DwUpReference
-- ==== Proof.DwUpClaim.lean ====
/- The claim of the weight gradient's call: the kernel's run and the reference's leave the same array. -/
module

public import proofs.«01_k».proof.Defs
public import proofs.«01_k».proof.Proof.DwUpKernel
public import proofs.«01_k».proof.Proof.DwUpReference
public import proofs.«01_k».proof.Proof.Gen.DwUpRefIdeal.Run

@[expose] public section

noncomputable section

open Idealize.ShloMosaic Idealize.ShloMosaic.TcCoe Idealize.SL.Sem

namespace DwUpClaim

open Cert Cert.DwUpIdeal

theorem values : Cert.algebraic_DwUpIdeal_DwUpRefIdeal := by
  intro m g m' g' _ ha
  refine ⟨fun c => DwUpSpec.dw (m ((c : Thread nD τ).loc main_arg0)) (m ((c : Thread nD τ).loc main_arg1)), ?_, ?_⟩
  · refine (θ_run _ _ _).mono (fun r h c => ?_) (DwUpIdeal.Value.run_blocks m g)
    have h := h c
    rw [DwUpIdeal.Val.final_dw] at h
    exact h
  · refine (θ_run _ _ _).mono (fun r h c => ?_) (DwUpRefIdeal.Value.run m' g')
    have h := h c
    rw [DwUpRefIdeal.Read.val_main_v4_eq] at h
    obtain ⟨a0, a1⟩ := ha c
    refine ⟨h.1.trans ?_, h.2⟩
    rw [a0, a1]
    exact DwUpReference.dw_reference _ _

end DwUpClaim
-- ==== Proof.AdamwSpec.lean ====
/- One step of the optimiser on one entry: the two moments, and the change of the weight. -/
module

public import Idealize.ShloMosaic.Lib.Pipeline.ValueKit
public import Idealize.ShloMosaic.Lib.Pointwise

@[expose] public section

noncomputable section

open Idealize.ShloMosaic

namespace AdamwSpec

/-- The step's constants, as the words the programs hold: the two decays and what is left of one, the two corrections at step
    ten, the offset of the denominator, the weight decay, and the negated learning rate. -/
def keep1 : EReal := Ideal.ofBits .f32 0x3F666666#32
def take1 : EReal := Ideal.ofBits .f32 0x3DCCCCCD#32
def keep2 : EReal := Ideal.ofBits .f32 0x3F7FBE77#32
def take2 : EReal := Ideal.ofBits .f32 0x3A83126F#32
def correct1 : EReal := Ideal.ofBits .f32 0x3F26BD02#32
def correct2 : EReal := Ideal.ofBits .f32 0x3C231ACC#32
def offset : EReal := Ideal.ofBits .f32 0x322BCC77#32
def decay : EReal := Ideal.ofBits .f32 0x3C23D70A#32
def rate : EReal := Ideal.ofBits .f32 0xBA83126F#32

def moment1 (g m : EReal) : EReal := keep1 * m + take1 * g
def moment2 (g v : EReal) : EReal := keep2 * v + take2 * (g * g)
def change (g w m v : EReal) : EReal :=
  rate * (Ideal.div (Ideal.div (moment1 g m) correct1)
    (Ideal.sqrt (Ideal.div (moment2 g v) correct2) + offset) + decay * w)

end AdamwSpec
-- ==== Proof.AdamwBigKernel.lean ====
/- The arrays the optimiser's call on the large weights leaves. Its eight grid points each step one slab of rows of every
   weight, gradient and moments alike, so entry for entry each array is the step's formula. -/
module

public import proofs.«01_k».proof.Proof.AdamwSpec
public import proofs.«01_k».proof.Proof.Gen.AdamwBigIdeal.Value
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AdamwBigIdeal.Val

open Cert.AdamwBigIdeal Cert.AdamwBigIdeal.Gen AdamwSpec

variable (m : (ℓ : Loc nD τ sig) → Buf (Elt Ideal) ℓ)

/-! ## The merge's output weight: its gradient handed on, its change, its two moments. -/

theorem final_12 (c : Dev nD) : (dats m 0 c).arrAt 12 cfg0.N = fun i =>
    m ((c : Thread nD τ).loc main_arg0) i := by
  refine (dats m 0 c).arrAt_eq_of_covers 12 _ (by decide +kernel) fun t hf y => ?_
  blk_simp
  rw [after0_12]
  unfold out0_12
  frame_out
  rfl

theorem final_13 (c : Dev nD) : (dats m 0 c).arrAt 13 cfg0.N = fun i =>
    change (m ((c : Thread nD τ).loc main_arg0) i) (m ((c : Thread nD τ).loc main_arg3) i)
      (m ((c : Thread nD τ).loc main_arg6) i) (m ((c : Thread nD τ).loc main_arg9) i) := by
  refine (dats m 0 c).arrAt_eq_of_covers 13 _ (by decide +kernel) fun t hf y => ?_
  blk_simp
  rw [after0_13]
  unfold out0_13
  frame_out
  rfl

theorem final_14 (c : Dev nD) : (dats m 0 c).arrAt 14 cfg0.N = fun i =>
    moment1 (m ((c : Thread nD τ).loc main_arg0) i) (m ((c : Thread nD τ).loc main_arg6) i) := by
  refine (dats m 0 c).arrAt_eq_of_covers 14 _ (by decide +kernel) fun t hf y => ?_
  blk_simp
  rw [after0_14]
  unfold out0_14
  frame_out
  rfl

theorem final_15 (c : Dev nD) : (dats m 0 c).arrAt 15 cfg0.N = fun i =>
    moment2 (m ((c : Thread nD τ).loc main_arg0) i) (m ((c : Thread nD τ).loc main_arg9) i) := by
  refine (dats m 0 c).arrAt_eq_of_covers 15 _ (by decide +kernel) fun t hf y => ?_
  blk_simp
  rw [after0_15]
  unfold out0_15
  frame_out
  rfl

/-! ## The channel mixer's first weight: its gradient handed on, its change, its two moments. -/

theorem final_16 (c : Dev nD) : (dats m 0 c).arrAt 16 cfg0.N = fun i =>
    m ((c : Thread nD τ).loc main_arg1) i := by
  refine (dats m 0 c).arrAt_eq_of_covers 16 _ (by decide +kernel) fun t hf y => ?_
  blk_simp
  rw [after0_16]
  unfold out0_16
  frame_out
  rfl

theorem final_17 (c : Dev nD) : (dats m 0 c).arrAt 17 cfg0.N = fun i =>
    change (m ((c : Thread nD τ).loc main_arg1) i) (m ((c : Thread nD τ).loc main_arg4) i) (m ((c : Thread nD τ).loc main_arg7) i) (m ((c : Thread nD τ).loc main_arg10) i) := by
  refine (dats m 0 c).arrAt_eq_of_covers 17 _ (by decide +kernel) fun t hf y => ?_
  blk_simp
  rw [after0_17]
  unfold out0_17
  frame_out
  rfl

theorem final_18 (c : Dev nD) : (dats m 0 c).arrAt 18 cfg0.N = fun i =>
    moment1 (m ((c : Thread nD τ).loc main_arg1) i) (m ((c : Thread nD τ).loc main_arg7) i) := by
  refine (dats m 0 c).arrAt_eq_of_covers 18 _ (by decide +kernel) fun t hf y => ?_
  blk_simp
  rw [after0_18]
  unfold out0_18
  frame_out
  rfl

theorem final_19 (c : Dev nD) : (dats m 0 c).arrAt 19 cfg0.N = fun i =>
    moment2 (m ((c : Thread nD τ).loc main_arg1) i) (m ((c : Thread nD τ).loc main_arg10) i) := by
  refine (dats m 0 c).arrAt_eq_of_covers 19 _ (by decide +kernel) fun t hf y => ?_
  blk_simp
  rw [after0_19]
  unfold out0_19
  frame_out
  rfl

/-! ## The channel mixer's second weight: its gradient handed on, its change, its two moments. -/

theorem final_20 (c : Dev nD) : (dats m 0 c).arrAt 20 cfg0.N = fun i =>
    m ((c : Thread nD τ).loc main_arg2) i := by
  refine (dats m 0 c).arrAt_eq_of_covers 20 _ (by decide +kernel) fun t hf y => ?_
  blk_simp
  rw [after0_20]
  unfold out0_20
  frame_out
  rfl

theorem final_21 (c : Dev nD) : (dats m 0 c).arrAt 21 cfg0.N = fun i =>
    change (m ((c : Thread nD τ).loc main_arg2) i) (m ((c : Thread nD τ).loc main_arg5) i) (m ((c : Thread nD τ).loc main_arg8) i) (m ((c : Thread nD τ).loc main_arg11) i) := by
  refine (dats m 0 c).arrAt_eq_of_covers 21 _ (by decide +kernel) fun t hf y => ?_
  blk_simp
  rw [after0_21]
  unfold out0_21
  frame_out
  rfl

theorem final_22 (c : Dev nD) : (dats m 0 c).arrAt 22 cfg0.N = fun i =>
    moment1 (m ((c : Thread nD τ).loc main_arg2) i) (m ((c : Thread nD τ).loc main_arg8) i) := by
  refine (dats m 0 c).arrAt_eq_of_covers 22 _ (by decide +kernel) fun t hf y => ?_
  blk_simp
  rw [after0_22]
  unfold out0_22
  frame_out
  rfl

theorem final_23 (c : Dev nD) : (dats m 0 c).arrAt 23 cfg0.N = fun i =>
    moment2 (m ((c : Thread nD τ).loc main_arg2) i) (m ((c : Thread nD τ).loc main_arg11) i) := by
  refine (dats m 0 c).arrAt_eq_of_covers 23 _ (by decide +kernel) fun t hf y => ?_
  blk_simp
  rw [after0_23]
  unfold out0_23
  frame_out
  rfl

end Cert.AdamwBigIdeal.Val
-- ==== Proof.AdamwBigReference.lean ====
/- What the reference of the optimiser's call on the large weights computes, entry by entry. -/
module

public import proofs.«01_k».proof.Proof.AdamwSpec
public import proofs.«01_k».proof.Proof.Gen.AdamwBigRefIdeal.Read

@[expose] public section

noncomputable section

open Idealize.ShloMosaic Idealize.ShloMosaic.TcCoe Idealize.SL.Sem

namespace AdamwBigReference

open Cert.AdamwBigRefIdeal Cert.AdamwBigRefIdeal.Read AdamwSpec

abbrev Wide := S256x1024.Idx → EReal
abbrev Square := S1024x1024.Idx → EReal

theorem moment1_0 (g m : Wide) : val_main_v4 (F := Ideal) g m = fun i => moment1 (g i) (m i) := rfl
theorem moment2_0 (g v : Wide) : val_main_v10 (F := Ideal) g v = fun i => moment2 (g i) (v i) := rfl
theorem change_0 (g w m v : Wide) : val_main_v23 (F := Ideal) g w m v = fun i => change (g i) (w i) (m i) (v i) := rfl

theorem moment1_1 (g m : Square) : val_main_v28 (F := Ideal) g m = fun i => moment1 (g i) (m i) := rfl
theorem moment2_1 (g v : Square) : val_main_v34 (F := Ideal) g v = fun i => moment2 (g i) (v i) := rfl
theorem change_1 (g w m v : Square) : val_main_v47 (F := Ideal) g w m v = fun i => change (g i) (w i) (m i) (v i) := rfl

theorem moment1_2 (g m : Square) : val_main_v52 (F := Ideal) g m = fun i => moment1 (g i) (m i) := rfl
theorem moment2_2 (g v : Square) : val_main_v58 (F := Ideal) g v = fun i => moment2 (g i) (v i) := rfl
theorem change_2 (g w m v : Square) : val_main_v71 (F := Ideal) g w m v = fun i => change (g i) (w i) (m i) (v i) := rfl

end AdamwBigReference
-- ==== Proof.AdamwBigClaim.lean ====
/- The claim of the optimiser's call on the large weights: the kernel's run and the reference's leave the same arrays. -/
module

public import proofs.«01_k».proof.Defs
public import proofs.«01_k».proof.Proof.AdamwBigKernel
public import proofs.«01_k».proof.Proof.AdamwBigReference
public import proofs.«01_k».proof.Proof.Gen.AdamwBigRefIdeal.Run

@[expose] public section

noncomputable section

open Idealize.ShloMosaic Idealize.ShloMosaic.TcCoe Idealize.SL.Sem

namespace AdamwBigClaim

open Cert Cert.AdamwBigIdeal AdamwBigIdeal.Val

set_option maxHeartbeats 1000000 in
theorem values : Cert.algebraic_AdamwBigIdeal_AdamwBigRefIdeal := by
  intro m g m' g' _ ha
  refine ⟨_, _, _, _, _, _, _, _, _, _, _, _, AdamwBigIdeal.Value.run_blocks m g, ?_⟩
  refine (θ_run _ _ _).mono (fun r h c => ?_) (AdamwBigRefIdeal.Value.run m' g')
  have h := h c
  obtain ⟨a0, a1, a2, a3, a4, a5, a6, a7, a8, a9, a10, a11⟩ := ha c
  obtain ⟨h0, h1, h2, h3, h4, h5, h6, h7, h8, h9, h10, h11, kept⟩ := h
  refine ⟨h0.trans ?_, h1.trans ?_, h2.trans ?_, h3.trans ?_, h4.trans ?_, h5.trans ?_, h6.trans ?_, h7.trans ?_, h8.trans ?_, h9.trans ?_, h10.trans ?_, h11.trans ?_, kept⟩
  · rw [final_12, a0]
  · rw [final_13, a0, a3, a6, a9]
    exact AdamwBigReference.change_0 _ _ _ _
  · rw [final_14, a0, a6]
    exact AdamwBigReference.moment1_0 _ _
  · rw [final_15, a0, a9]
    exact AdamwBigReference.moment2_0 _ _
  · rw [final_16, a1]
  · rw [final_17, a1, a4, a7, a10]
    exact AdamwBigReference.change_1 _ _ _ _
  · rw [final_18, a1, a7]
    exact AdamwBigReference.moment1_1 _ _
  · rw [final_19, a1, a10]
    exact AdamwBigReference.moment2_1 _ _
  · rw [final_20, a2]
  · rw [final_21, a2, a5, a8, a11]
    exact AdamwBigReference.change_2 _ _ _ _
  · rw [final_22, a2, a8]
    exact AdamwBigReference.moment1_2 _ _
  · rw [final_23, a2, a11]
    exact AdamwBigReference.moment2_2 _ _

end AdamwBigClaim
-- ==== Proof.AdamwSmallKernel.lean ====
/- The arrays the optimiser's call on the small weights leaves. It has one grid point, which steps every weight whole. -/
module

public import proofs.«01_k».proof.Proof.AdamwSpec
public import proofs.«01_k».proof.Proof.Gen.AdamwSmallIdeal.Value
public import Idealize.ShloMosaic.Lib.Claim
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.AdamwSmallIdeal.Val

open Cert.AdamwSmallIdeal Cert.AdamwSmallIdeal.Gen AdamwSpec

variable (m : (ℓ : Loc nD τ sig) → Buf (Elt Ideal) ℓ)

/-! ## The changes of the three weights. -/

theorem final_12 (c : Dev nD) : (dats m 0 c).arrAt 12 cfg0.N = fun i =>
    change (m ((c : Thread nD τ).loc main_arg3) i) (m ((c : Thread nD τ).loc main_arg0) i)
      (m ((c : Thread nD τ).loc main_arg6) i) (m ((c : Thread nD τ).loc main_arg9) i) := by
  refine (dats m 0 c).arrAt_eq_of_covers 12 _ (by decide +kernel) fun t hf y => ?_
  blk_simp
  rw [after0_12]
  unfold out0_12
  frame_out
  rfl

theorem final_13 (c : Dev nD) : (dats m 0 c).arrAt 13 cfg0.N = fun i =>
    change (m ((c : Thread nD τ).loc main_arg4) i) (m ((c : Thread nD τ).loc main_arg1) i) (m ((c : Thread nD τ).loc main_arg7) i) (m ((c : Thread nD τ).loc main_arg10) i) := by
  refine (dats m 0 c).arrAt_eq_of_covers 13 _ (by decide +kernel) fun t hf y => ?_
  blk_simp
  rw [after0_13]
  unfold out0_13
  frame_out
  rfl

theorem final_14 (c : Dev nD) : (dats m 0 c).arrAt 14 cfg0.N = fun i =>
    change (m ((c : Thread nD τ).loc main_arg5) i) (m ((c : Thread nD τ).loc main_arg2) i) (m ((c : Thread nD τ).loc main_arg8) i) (m ((c : Thread nD τ).loc main_arg11) i) := by
  refine (dats m 0 c).arrAt_eq_of_covers 14 _ (by decide +kernel) fun t hf y => ?_
  blk_simp
  rw [after0_14]
  unfold out0_14
  frame_out
  rfl

/-! ## The first moments. -/

theorem final_15 (c : Dev nD) : (dats m 0 c).arrAt 15 cfg0.N = fun i =>
    moment1 (m ((c : Thread nD τ).loc main_arg3) i) (m ((c : Thread nD τ).loc main_arg6) i) := by
  refine (dats m 0 c).arrAt_eq_of_covers 15 _ (by decide +kernel) fun t hf y => ?_
  blk_simp
  rw [after0_15]
  unfold out0_15
  frame_out
  rfl

theorem final_16 (c : Dev nD) : (dats m 0 c).arrAt 16 cfg0.N = fun i =>
    moment1 (m ((c : Thread nD τ).loc main_arg4) i) (m ((c : Thread nD τ).loc main_arg7) i) := by
  refine (dats m 0 c).arrAt_eq_of_covers 16 _ (by decide +kernel) fun t hf y => ?_
  blk_simp
  rw [after0_16]
  unfold out0_16
  frame_out
  rfl

theorem final_17 (c : Dev nD) : (dats m 0 c).arrAt 17 cfg0.N = fun i =>
    moment1 (m ((c : Thread nD τ).loc main_arg5) i) (m ((c : Thread nD τ).loc main_arg8) i) := by
  refine (dats m 0 c).arrAt_eq_of_covers 17 _ (by decide +kernel) fun t hf y => ?_
  blk_simp
  rw [after0_17]
  unfold out0_17
  frame_out
  rfl

/-! ## The second moments. -/

theorem final_18 (c : Dev nD) : (dats m 0 c).arrAt 18 cfg0.N = fun i =>
    moment2 (m ((c : Thread nD τ).loc main_arg3) i) (m ((c : Thread nD τ).loc main_arg9) i) := by
  refine (dats m 0 c).arrAt_eq_of_covers 18 _ (by decide +kernel) fun t hf y => ?_
  blk_simp
  rw [after0_18]
  unfold out0_18
  frame_out
  rfl

theorem final_19 (c : Dev nD) : (dats m 0 c).arrAt 19 cfg0.N = fun i =>
    moment2 (m ((c : Thread nD τ).loc main_arg4) i) (m ((c : Thread nD τ).loc main_arg10) i) := by
  refine (dats m 0 c).arrAt_eq_of_covers 19 _ (by decide +kernel) fun t hf y => ?_
  blk_simp
  rw [after0_19]
  unfold out0_19
  frame_out
  rfl

theorem final_20 (c : Dev nD) : (dats m 0 c).arrAt 20 cfg0.N = fun i =>
    moment2 (m ((c : Thread nD τ).loc main_arg5) i) (m ((c : Thread nD τ).loc main_arg11) i) := by
  refine (dats m 0 c).arrAt_eq_of_covers 20 _ (by decide +kernel) fun t hf y => ?_
  blk_simp
  rw [after0_20]
  unfold out0_20
  frame_out
  rfl

end Cert.AdamwSmallIdeal.Val
-- ==== Proof.AdamwSmallReference.lean ====
/- What the reference of the optimiser's call on the small weights computes, entry by entry. -/
module

public import proofs.«01_k».proof.Proof.AdamwSpec
public import proofs.«01_k».proof.Proof.Gen.AdamwSmallRefIdeal.Read

@[expose] public section

noncomputable section

open Idealize.ShloMosaic Idealize.ShloMosaic.TcCoe Idealize.SL.Sem

namespace AdamwSmallReference

open Cert.AdamwSmallRefIdeal Cert.AdamwSmallRefIdeal.Read AdamwSpec

abbrev Query := S16x128.Idx → EReal
abbrev Gates := S8x384.Idx → EReal
abbrev Conv := S1x4x128.Idx → EReal

theorem moment1_0 (g m : Query) : val_main_v4 (F := Ideal) g m = fun i => moment1 (g i) (m i) := rfl
theorem moment2_0 (g v : Query) : val_main_v10 (F := Ideal) g v = fun i => moment2 (g i) (v i) := rfl
theorem change_0 (w g m v : Query) : val_main_v23 (F := Ideal) w g m v = fun i => change (g i) (w i) (m i) (v i) := rfl

theorem moment1_1 (g m : Gates) : val_main_v28 (F := Ideal) g m = fun i => moment1 (g i) (m i) := rfl
theorem moment2_1 (g v : Gates) : val_main_v34 (F := Ideal) g v = fun i => moment2 (g i) (v i) := rfl
theorem change_1 (w g m v : Gates) : val_main_v47 (F := Ideal) w g m v = fun i => change (g i) (w i) (m i) (v i) := rfl

theorem moment1_2 (g m : Conv) : val_main_v52 (F := Ideal) g m = fun i => moment1 (g i) (m i) := rfl
theorem moment2_2 (g v : Conv) : val_main_v58 (F := Ideal) g v = fun i => moment2 (g i) (v i) := rfl
theorem change_2 (w g m v : Conv) : val_main_v71 (F := Ideal) w g m v = fun i => change (g i) (w i) (m i) (v i) := rfl

end AdamwSmallReference
-- ==== Proof.AdamwSmallClaim.lean ====
/- The claim of the optimiser's call on the small weights: the kernel's run and the reference's leave the same arrays. -/
module

public import proofs.«01_k».proof.Defs
public import proofs.«01_k».proof.Proof.AdamwSmallKernel
public import proofs.«01_k».proof.Proof.AdamwSmallReference
public import proofs.«01_k».proof.Proof.Gen.AdamwSmallRefIdeal.Run

@[expose] public section

noncomputable section

open Idealize.ShloMosaic Idealize.ShloMosaic.TcCoe Idealize.SL.Sem

namespace AdamwSmallClaim

open Cert Cert.AdamwSmallIdeal AdamwSmallIdeal.Val

set_option maxHeartbeats 1000000 in
theorem values : Cert.algebraic_AdamwSmallIdeal_AdamwSmallRefIdeal := by
  intro m g m' g' _ ha
  refine ⟨_, _, _, _, _, _, _, _, _, AdamwSmallIdeal.Value.run_blocks m g, ?_⟩
  refine (θ_run _ _ _).mono (fun r h c => ?_) (AdamwSmallRefIdeal.Value.run m' g')
  have h := h c
  obtain ⟨a0, a1, a2, a3, a4, a5, a6, a7, a8, a9, a10, a11⟩ := ha c
  obtain ⟨h0, h1, h2, h3, h4, h5, h6, h7, h8, kept⟩ := h
  refine ⟨h0.trans ?_, h1.trans ?_, h2.trans ?_, h3.trans ?_, h4.trans ?_, h5.trans ?_, h6.trans ?_, h7.trans ?_, h8.trans ?_, kept⟩
  · rw [final_12, a0, a3, a6, a9]
    exact AdamwSmallReference.change_0 _ _ _ _
  · rw [final_13, a1, a4, a7, a10]
    exact AdamwSmallReference.change_1 _ _ _ _
  · rw [final_14, a2, a5, a8, a11]
    exact AdamwSmallReference.change_2 _ _ _ _
  · rw [final_15, a3, a6]
    exact AdamwSmallReference.moment1_0 _ _
  · rw [final_16, a4, a7]
    exact AdamwSmallReference.moment1_1 _ _
  · rw [final_17, a5, a8]
    exact AdamwSmallReference.moment1_2 _ _
  · rw [final_18, a3, a9]
    exact AdamwSmallReference.moment2_0 _ _
  · rw [final_19, a4, a10]
    exact AdamwSmallReference.moment2_1 _ _
  · rw [final_20, a5, a11]
    exact AdamwSmallReference.moment2_2 _ _

end AdamwSmallClaim
-- ==== Proof.lean ====
/- The claims of `Cert.Claim`, put together: the frames are the generated ones but for two calls whose frames are proved by
   hand, the references' frames are read off their runs, nothing was rewritten between a program and its idealisation, and each
   value claim is proved in its own module. -/
module

public import proofs.«01_k».proof.Defs
public import proofs.«01_k».proof.Proof.Gen.DwIn
public import proofs.«01_k».proof.Proof.Gen.DwInIdeal
public import proofs.«01_k».proof.Proof.Gen.DwInIdeal.Frame
public import proofs.«01_k».proof.Proof.Gen.DwInRefIdeal
public import proofs.«01_k».proof.Proof.Gen.DwInRefIdeal.Read
public import proofs.«01_k».proof.Proof.Gen.DwInRefIdeal.Run
public import proofs.«01_k».proof.Proof.DwInClaim
public import proofs.«01_k».proof.Proof.Gen.MixerFwd
public import proofs.«01_k».proof.Proof.Gen.MixerFwdIdeal
public import proofs.«01_k».proof.Proof.MixerFwdClaim
public import proofs.«01_k».proof.Proof.Gen.InProjBwd
public import proofs.«01_k».proof.Proof.Gen.InProjBwd.Frame
public import proofs.«01_k».proof.Proof.Gen.InProjBwdIdeal
public import proofs.«01_k».proof.Proof.Gen.InProjBwdIdeal.Frame
public import proofs.«01_k».proof.Proof.Gen.Pre_in_proj_bwd_finite
public import proofs.«01_k».proof.Proof.Gen.InProjBwdIdeal.Value
public import proofs.«01_k».proof.Proof.Gen.InProjBwdRefIdeal.Read
public import proofs.«01_k».proof.Proof.InProjBwdClaim
public import proofs.«01_k».proof.Proof.Gen.InProjBwdRefIdeal
public import proofs.«01_k».proof.Proof.Gen.InProjBwdRefIdeal.Run
public import proofs.«01_k».proof.Proof.Gen.Mlp
public import proofs.«01_k».proof.Proof.Gen.Mlp.Frame
public import proofs.«01_k».proof.Proof.Gen.MlpIdeal
public import proofs.«01_k».proof.Proof.Gen.MlpIdeal.Frame
public import proofs.«01_k».proof.Proof.Gen.Pre_mlp_finite
public import proofs.«01_k».proof.Proof.Gen.MlpIdeal.Value
public import proofs.«01_k».proof.Proof.Gen.MlpRefIdeal.Read
public import proofs.«01_k».proof.Proof.MlpClaim
public import proofs.«01_k».proof.Proof.Gen.MlpRefIdeal
public import proofs.«01_k».proof.Proof.Gen.MlpRefIdeal.Run
public import proofs.«01_k».proof.Proof.Gen.MergeBwd
public import proofs.«01_k».proof.Proof.Gen.MergeBwd.Frame
public import proofs.«01_k».proof.Proof.Gen.MergeBwdIdeal
public import proofs.«01_k».proof.Proof.Gen.MergeBwdIdeal.Frame
public import proofs.«01_k».proof.Proof.Gen.Pre_merge_bwd_finite
public import proofs.«01_k».proof.Proof.Gen.MergeBwdIdeal.Value
public import proofs.«01_k».proof.Proof.Gen.MergeBwdRefIdeal.Read
public import proofs.«01_k».proof.Proof.MergeBwdClaim
public import proofs.«01_k».proof.Proof.Gen.MergeBwdRefIdeal
public import proofs.«01_k».proof.Proof.Gen.MergeBwdRefIdeal.Run
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal.Read
public import proofs.«01_k».proof.Proof.InProjClaim
public import proofs.«01_k».proof.Proof.Gen.InProjRefIdeal
public import proofs.«01_k».proof.Proof.Gen.InProjRefIdeal.Run
public import proofs.«01_k».proof.Proof.Gen.DwUp
public import proofs.«01_k».proof.Proof.Gen.DwUp.Frame
public import proofs.«01_k».proof.Proof.Gen.DwUpIdeal
public import proofs.«01_k».proof.Proof.Gen.DwUpIdeal.Frame
public import proofs.«01_k».proof.Proof.Gen.DwUpIdeal.Value
public import proofs.«01_k».proof.Proof.Gen.DwUpRefIdeal.Read
public import proofs.«01_k».proof.Proof.DwUpClaim
public import proofs.«01_k».proof.Proof.Gen.DwUpRefIdeal
public import proofs.«01_k».proof.Proof.Gen.DwUpRefIdeal.Run
public import proofs.«01_k».proof.Proof.Gen.AdamwBig
public import proofs.«01_k».proof.Proof.Gen.AdamwBig.Frame
public import proofs.«01_k».proof.Proof.Gen.AdamwBigIdeal
public import proofs.«01_k».proof.Proof.Gen.AdamwBigIdeal.Frame
public import proofs.«01_k».proof.Proof.Gen.AdamwBigIdeal.Value
public import proofs.«01_k».proof.Proof.Gen.AdamwBigRefIdeal.Read
public import proofs.«01_k».proof.Proof.AdamwBigClaim
public import proofs.«01_k».proof.Proof.Gen.AdamwBigRefIdeal
public import proofs.«01_k».proof.Proof.Gen.AdamwBigRefIdeal.Run
public import proofs.«01_k».proof.Proof.Gen.AdamwSmall
public import proofs.«01_k».proof.Proof.Gen.AdamwSmall.Frame
public import proofs.«01_k».proof.Proof.Gen.AdamwSmallIdeal
public import proofs.«01_k».proof.Proof.Gen.AdamwSmallIdeal.Frame
public import proofs.«01_k».proof.Proof.Gen.AdamwSmallIdeal.Value
public import proofs.«01_k».proof.Proof.Gen.AdamwSmallRefIdeal.Read
public import proofs.«01_k».proof.Proof.AdamwSmallClaim
public import proofs.«01_k».proof.Proof.Gen.AdamwSmallRefIdeal
public import proofs.«01_k».proof.Proof.Gen.AdamwSmallRefIdeal.Run
public import Idealize.ShloMosaic.Lib.Quiescent
public import Idealize.ShloMosaic.Adequacy
public import Idealize.ShloMosaic.Init

@[expose] public section

noncomputable section

namespace Cert.Proof

open Idealize.ShloMosaic Idealize.SL.Sem

/-- The reference's run, read at its arguments; it has no semaphore. -/
theorem inProjBwdReference_frame : Cert.quiescent_InProjBwdRefIdeal := fun m ρ _ =>
  (θ_run Cert.InProjBwdRefIdeal.defs _ _).mono (fun r h => ⟨fun c => (h c).2.2,
      sem_eq_zero_of_no_sems (by decide) r.2⟩)
    (Cert.InProjBwdRefIdeal.Value.run (F := Ideal) m ρ)

/-- The reference's run, read at its arguments; it has no semaphore. -/
theorem mlpReference_frame : Cert.quiescent_MlpRefIdeal := fun m ρ _ =>
  (θ_run Cert.MlpRefIdeal.defs _ _).mono (fun r h => ⟨fun c => (h c).2.2.2.2.2.2.2.2,
      sem_eq_zero_of_no_sems (by decide) r.2⟩)
    (Cert.MlpRefIdeal.Value.run (F := Ideal) m ρ)

/-- The reference's run, read at its arguments; it has no semaphore. -/
theorem mergeBwdReference_frame : Cert.quiescent_MergeBwdRefIdeal := fun m ρ _ =>
  (θ_run Cert.MergeBwdRefIdeal.defs _ _).mono (fun r h => ⟨fun c => (h c).2.2.2.2.2.2,
      sem_eq_zero_of_no_sems (by decide) r.2⟩)
    (Cert.MergeBwdRefIdeal.Value.run (F := Ideal) m ρ)

/-- The reference's run, read at its arguments; it has no semaphore. -/
theorem inProjReference_frame : Cert.quiescent_InProjRefIdeal := fun m ρ _ =>
  (θ_run Cert.InProjRefIdeal.defs _ _).mono (fun r h => ⟨fun c => (h c).2.2.2,
      sem_eq_zero_of_no_sems (by decide) r.2⟩)
    (Cert.InProjRefIdeal.Value.run (F := Ideal) m ρ)

/-- The reference's run, read at its arguments; it has no semaphore. -/
theorem dwUpReference_frame : Cert.quiescent_DwUpRefIdeal := fun m ρ _ =>
  (θ_run Cert.DwUpRefIdeal.defs _ _).mono (fun r h => ⟨fun c => (h c).2,
      sem_eq_zero_of_no_sems (by decide) r.2⟩)
    (Cert.DwUpRefIdeal.Value.run (F := Ideal) m ρ)

/-- The reference's run, read at its arguments; it has no semaphore. -/
theorem adamwBigReference_frame : Cert.quiescent_AdamwBigRefIdeal := fun m ρ _ =>
  (θ_run Cert.AdamwBigRefIdeal.defs _ _).mono (fun r h => ⟨fun c => (h c).2.2.2.2.2.2.2.2.2.2.2.2,
      sem_eq_zero_of_no_sems (by decide) r.2⟩)
    (Cert.AdamwBigRefIdeal.Value.run (F := Ideal) m ρ)

/-- The reference's run, read at its arguments; it has no semaphore. -/
theorem adamwSmallReference_frame : Cert.quiescent_AdamwSmallRefIdeal := fun m ρ _ =>
  (θ_run Cert.AdamwSmallRefIdeal.defs _ _).mono (fun r h => ⟨fun c => (h c).2.2.2.2.2.2.2.2.2,
      sem_eq_zero_of_no_sems (by decide) r.2⟩)
    (Cert.AdamwSmallRefIdeal.Value.run (F := Ideal) m ρ)

theorem claim : Cert.Claim := ⟨
  Cert.InProjBwd.Gen.facts,
  Cert.InProjBwdIdeal.Gen.facts,
  Cert.InProjBwdRefIdeal.Gen.facts,
  Cert.Mlp.Gen.facts,
  Cert.MlpIdeal.Gen.facts,
  Cert.MlpRefIdeal.Gen.facts,
  Cert.MergeBwd.Gen.facts,
  Cert.MergeBwdIdeal.Gen.facts,
  Cert.MergeBwdRefIdeal.Gen.facts,
  Cert.InProj.Gen.facts,
  Cert.InProjIdeal.Gen.facts,
  Cert.InProjRefIdeal.Gen.facts,
  Cert.DwUp.Gen.facts,
  Cert.DwUpIdeal.Gen.facts,
  Cert.DwUpRefIdeal.Gen.facts,
  Cert.AdamwBig.Gen.facts,
  Cert.AdamwBigIdeal.Gen.facts,
  Cert.AdamwBigRefIdeal.Gen.facts,
  Cert.AdamwSmall.Gen.facts,
  Cert.AdamwSmallIdeal.Gen.facts,
  Cert.AdamwSmallRefIdeal.Gen.facts,
  Cert.DwIn.Gen.facts,
  Cert.DwInIdeal.Gen.facts,
  Cert.DwInRefIdeal.Gen.facts,
  Cert.MixerFwd.Gen.facts,
  Cert.MixerFwdIdeal.Gen.facts,
  Cert.Pre_in_proj_bwd_finite.Gen.facts,
  Cert.Pre_mlp_finite.Gen.facts,
  Cert.Pre_merge_bwd_finite.Gen.facts,
  fun m ρ _ => Cert.InProjBwd.Gen.frame m ρ,
  fun m ρ _ => Cert.InProjBwdIdeal.Gen.frame m ρ,
  fun m ρ _ => Cert.InProjBwdIdeal.Gen.frame m ρ,
  inProjBwdReference_frame,
  fun m ρ _ => inProjBwdReference_frame m ρ trivial,
  fun m ρ _ => Cert.Mlp.Gen.frame m ρ,
  fun m ρ _ => Cert.MlpIdeal.Gen.frame m ρ,
  fun m ρ _ => Cert.MlpIdeal.Gen.frame m ρ,
  mlpReference_frame,
  fun m ρ _ => mlpReference_frame m ρ trivial,
  fun m ρ _ => Cert.MergeBwd.Gen.frame m ρ,
  fun m ρ _ => Cert.MergeBwdIdeal.Gen.frame m ρ,
  fun m ρ _ => Cert.MergeBwdIdeal.Gen.frame m ρ,
  mergeBwdReference_frame,
  fun m ρ _ => mergeBwdReference_frame m ρ trivial,
  fun m ρ _ => Cert.InProj.Gen.frame m ρ,
  fun m ρ _ => Cert.InProjIdeal.Gen.frame m ρ,
  inProjReference_frame,
  fun m ρ _ => Cert.DwUp.Gen.frame m ρ,
  fun m ρ _ => Cert.DwUpIdeal.Gen.frame m ρ,
  dwUpReference_frame,
  fun m ρ _ => Cert.AdamwBig.Gen.frame m ρ,
  fun m ρ _ => Cert.AdamwBigIdeal.Gen.frame m ρ,
  adamwBigReference_frame,
  fun m ρ _ => Cert.AdamwSmall.Gen.frame m ρ,
  fun m ρ _ => Cert.AdamwSmallIdeal.Gen.frame m ρ,
  adamwSmallReference_frame,
  DwInClaim.frame_machine,
  DwInClaim.frame_ideal,
  DwInClaim.frame_reference,
  MixerFwdClaim.frame_machine,
  MixerFwdClaim.frame_ideal,
  trivial, InProjBwdClaim.values, trivial, MlpClaim.values, trivial, MergeBwdClaim.values, trivial, InProjClaim.values, trivial, DwUpClaim.values, trivial, AdamwBigClaim.values, trivial, AdamwSmallClaim.values,
  trivial, DwInClaim.values,
  trivial⟩

end Cert.Proof

end
